-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Up [hPre_experts_in_range : Cert.Pre_experts_in_range.Facts] (m : (ℓ : Loc Cert.Up.nD Cert.Up.τ Cert.Up.sig) → Buf (Elt Bits) ℓ) : Prop :=
  ∀ c : Dev Cert.Up.nD,
    (Cert.Pre_experts_in_range.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4))) = (fun _ => 1#1)

def Pre_UpIdeal [hPre_experts_in_range : Cert.Pre_experts_in_range.Facts] (m : (ℓ : Loc Cert.UpIdeal.nD Cert.UpIdeal.τ Cert.UpIdeal.sig) → Buf (Elt Ideal) ℓ) : Prop :=
  ∀ c : Dev Cert.UpIdeal.nD,
    (Cert.Pre_experts_in_range.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))) = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_experts_in_range [hPre_experts_in_range : Cert.Pre_experts_in_range.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_experts_in_range.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4))) = (fun _ => 1#1)

def Pre_Down [hPre_down_experts_in_range : Cert.Pre_down_experts_in_range.Facts] (m : (ℓ : Loc Cert.Down.nD Cert.Down.τ Cert.Down.sig) → Buf (Elt Bits) ℓ) : Prop :=
  ∀ c : Dev Cert.Down.nD,
    (Cert.Pre_down_experts_in_range.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3))) = (fun _ => 1#1)

def Pre_DownIdeal [hPre_down_experts_in_range : Cert.Pre_down_experts_in_range.Facts] (m : (ℓ : Loc Cert.DownIdeal.nD Cert.DownIdeal.τ Cert.DownIdeal.sig) → Buf (Elt Ideal) ℓ) : Prop :=
  ∀ c : Dev Cert.DownIdeal.nD,
    (Cert.Pre_down_experts_in_range.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))) = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_down_experts_in_range [hPre_down_experts_in_range : Cert.Pre_down_experts_in_range.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_down_experts_in_range.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutAb (m : (ℓ : Loc Cert.OutAb.nD Cert.OutAb.τ Cert.OutAb.sig) → Buf (Elt Bits) ℓ) : Prop :=
  True

def Pre_OutAbIdeal (m : (ℓ : Loc Cert.OutAbIdeal.nD Cert.OutAbIdeal.τ Cert.OutAbIdeal.sig) → Buf (Elt Ideal) ℓ) : Prop :=
  True

def Pre_OutAbRefIdeal (m : (ℓ : Loc Cert.OutAbRefIdeal.nD Cert.OutAbRefIdeal.τ Cert.OutAbRefIdeal.sig) → Buf (Elt Ideal) ℓ) : Prop :=
  True

def Pre_Ab (m : (ℓ : Loc Cert.Ab.nD Cert.Ab.τ Cert.Ab.sig) → Buf (Elt Bits) ℓ) : Prop :=
  True

def Pre_AbIdeal (m : (ℓ : Loc Cert.AbIdeal.nD Cert.AbIdeal.τ Cert.AbIdeal.sig) → Buf (Elt Ideal) ℓ) : Prop :=
  True

def Pre_AbRefIdeal (m : (ℓ : Loc Cert.AbRefIdeal.nD Cert.AbRefIdeal.τ Cert.AbRefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinIdeal_win_finite [hPre_win_finite : Cert.Pre_win_finite.Facts] (m : (ℓ : Loc Cert.WinIdeal.nD Cert.WinIdeal.τ Cert.WinIdeal.sig) → Buf (Elt Ideal) ℓ) : Prop :=
  ∀ c : Dev Cert.WinIdeal.nD,
    (Cert.Pre_win_finite.fn (F := Ideal) (m ((c.tc : Thread Cert.WinIdeal.nD Cert.WinIdeal.τ).loc Cert.WinIdeal.main_arg0)) (m ((c.tc : Thread Cert.WinIdeal.nD Cert.WinIdeal.τ).loc Cert.WinIdeal.main_arg1)) (m ((c.tc : Thread Cert.WinIdeal.nD Cert.WinIdeal.τ).loc Cert.WinIdeal.main_arg2))).1 = (fun _ => 1#1)
    ∧ (Cert.Pre_win_finite.fn (F := Ideal) (m ((c.tc : Thread Cert.WinIdeal.nD Cert.WinIdeal.τ).loc Cert.WinIdeal.main_arg0)) (m ((c.tc : Thread Cert.WinIdeal.nD Cert.WinIdeal.τ).loc Cert.WinIdeal.main_arg1)) (m ((c.tc : Thread Cert.WinIdeal.nD Cert.WinIdeal.τ).loc Cert.WinIdeal.main_arg2))).2 = (fun _ => 1#1)

def Pre_WinRefIdeal (m : (ℓ : Loc Cert.WinRefIdeal.nD Cert.WinRefIdeal.τ Cert.WinRefIdeal.sig) → Buf (Elt Ideal) ℓ) : Prop :=
  True

def Pre_WinRefIdeal_win_finite [hPre_win_finite : Cert.Pre_win_finite.Facts] (m : (ℓ : Loc Cert.WinRefIdeal.nD Cert.WinRefIdeal.τ Cert.WinRefIdeal.sig) → Buf (Elt Ideal) ℓ) : Prop :=
  ∀ c : Dev Cert.WinRefIdeal.nD,
    (Cert.Pre_win_finite.fn (F := Ideal) (m ((c.tc : Thread Cert.WinRefIdeal.nD Cert.WinRefIdeal.τ).loc Cert.WinRefIdeal.main_arg0)) (m ((c.tc : Thread Cert.WinRefIdeal.nD Cert.WinRefIdeal.τ).loc Cert.WinRefIdeal.main_arg1)) (m ((c.tc : Thread Cert.WinRefIdeal.nD Cert.WinRefIdeal.τ).loc Cert.WinRefIdeal.main_arg2))).1 = (fun _ => 1#1)
    ∧ (Cert.Pre_win_finite.fn (F := Ideal) (m ((c.tc : Thread Cert.WinRefIdeal.nD Cert.WinRefIdeal.τ).loc Cert.WinRefIdeal.main_arg0)) (m ((c.tc : Thread Cert.WinRefIdeal.nD Cert.WinRefIdeal.τ).loc Cert.WinRefIdeal.main_arg1)) (m ((c.tc : Thread Cert.WinRefIdeal.nD Cert.WinRefIdeal.τ).loc Cert.WinRefIdeal.main_arg2))).2 = (fun _ => 1#1)

def Pre_Cmp (m : (ℓ : Loc Cert.Cmp.nD Cert.Cmp.τ Cert.Cmp.sig) → Buf (Elt Bits) ℓ) : Prop :=
  True

def Pre_CmpIdeal (m : (ℓ : Loc Cert.CmpIdeal.nD Cert.CmpIdeal.τ Cert.CmpIdeal.sig) → Buf (Elt Ideal) ℓ) : Prop :=
  True

def Pre_CmpIdeal_cmp_finite [hPre_cmp_finite : Cert.Pre_cmp_finite.Facts] (m : (ℓ : Loc Cert.CmpIdeal.nD Cert.CmpIdeal.τ Cert.CmpIdeal.sig) → Buf (Elt Ideal) ℓ) : Prop :=
  ∀ c : Dev Cert.CmpIdeal.nD,
    (Cert.Pre_cmp_finite.fn (F := Ideal) (m ((c.tc : Thread Cert.CmpIdeal.nD Cert.CmpIdeal.τ).loc Cert.CmpIdeal.main_arg0)) (m ((c.tc : Thread Cert.CmpIdeal.nD Cert.CmpIdeal.τ).loc Cert.CmpIdeal.main_arg1)) (m ((c.tc : Thread Cert.CmpIdeal.nD Cert.CmpIdeal.τ).loc Cert.CmpIdeal.main_arg2)) (m ((c.tc : Thread Cert.CmpIdeal.nD Cert.CmpIdeal.τ).loc Cert.CmpIdeal.main_arg3)) (m ((c.tc : Thread Cert.CmpIdeal.nD Cert.CmpIdeal.τ).loc Cert.CmpIdeal.main_arg4)) (m ((c.tc : Thread Cert.CmpIdeal.nD Cert.CmpIdeal.τ).loc Cert.CmpIdeal.main_arg5))).1 = (fun _ => 1#1)
    ∧ (Cert.Pre_cmp_finite.fn (F := Ideal) (m ((c.tc : Thread Cert.CmpIdeal.nD Cert.CmpIdeal.τ).loc Cert.CmpIdeal.main_arg0)) (m ((c.tc : Thread Cert.CmpIdeal.nD Cert.CmpIdeal.τ).loc Cert.CmpIdeal.main_arg1)) (m ((c.tc : Thread Cert.CmpIdeal.nD Cert.CmpIdeal.τ).loc Cert.CmpIdeal.main_arg2)) (m ((c.tc : Thread Cert.CmpIdeal.nD Cert.CmpIdeal.τ).loc Cert.CmpIdeal.main_arg3)) (m ((c.tc : Thread Cert.CmpIdeal.nD Cert.CmpIdeal.τ).loc Cert.CmpIdeal.main_arg4)) (m ((c.tc : Thread Cert.CmpIdeal.nD Cert.CmpIdeal.τ).loc Cert.CmpIdeal.main_arg5))).2.1 = (fun _ => 1#1)
    ∧ (Cert.Pre_cmp_finite.fn (F := Ideal) (m ((c.tc : Thread Cert.CmpIdeal.nD Cert.CmpIdeal.τ).loc Cert.CmpIdeal.main_arg0)) (m ((c.tc : Thread Cert.CmpIdeal.nD Cert.CmpIdeal.τ).loc Cert.CmpIdeal.main_arg1)) (m ((c.tc : Thread Cert.CmpIdeal.nD Cert.CmpIdeal.τ).loc Cert.CmpIdeal.main_arg2)) (m ((c.tc : Thread Cert.CmpIdeal.nD Cert.CmpIdeal.τ).loc Cert.CmpIdeal.main_arg3)) (m ((c.tc : Thread Cert.CmpIdeal.nD Cert.CmpIdeal.τ).loc Cert.CmpIdeal.main_arg4)) (m ((c.tc : Thread Cert.CmpIdeal.nD Cert.CmpIdeal.τ).loc Cert.CmpIdeal.main_arg5))).2.2 = (fun _ => 1#1)

def Pre_CmpRefIdeal (m : (ℓ : Loc Cert.CmpRefIdeal.nD Cert.CmpRefIdeal.τ Cert.CmpRefIdeal.sig) → Buf (Elt Ideal) ℓ) : Prop :=
  True

def Pre_CmpRefIdeal_cmp_finite [hPre_cmp_finite : Cert.Pre_cmp_finite.Facts] (m : (ℓ : Loc Cert.CmpRefIdeal.nD Cert.CmpRefIdeal.τ Cert.CmpRefIdeal.sig) → Buf (Elt Ideal) ℓ) : Prop :=
  ∀ c : Dev Cert.CmpRefIdeal.nD,
    (Cert.Pre_cmp_finite.fn (F := Ideal) (m ((c.tc : Thread Cert.CmpRefIdeal.nD Cert.CmpRefIdeal.τ).loc Cert.CmpRefIdeal.main_arg0)) (m ((c.tc : Thread Cert.CmpRefIdeal.nD Cert.CmpRefIdeal.τ).loc Cert.CmpRefIdeal.main_arg1)) (m ((c.tc : Thread Cert.CmpRefIdeal.nD Cert.CmpRefIdeal.τ).loc Cert.CmpRefIdeal.main_arg2)) (m ((c.tc : Thread Cert.CmpRefIdeal.nD Cert.CmpRefIdeal.τ).loc Cert.CmpRefIdeal.main_arg3)) (m ((c.tc : Thread Cert.CmpRefIdeal.nD Cert.CmpRefIdeal.τ).loc Cert.CmpRefIdeal.main_arg4)) (m ((c.tc : Thread Cert.CmpRefIdeal.nD Cert.CmpRefIdeal.τ).loc Cert.CmpRefIdeal.main_arg5))).1 = (fun _ => 1#1)
    ∧ (Cert.Pre_cmp_finite.fn (F := Ideal) (m ((c.tc : Thread Cert.CmpRefIdeal.nD Cert.CmpRefIdeal.τ).loc Cert.CmpRefIdeal.main_arg0)) (m ((c.tc : Thread Cert.CmpRefIdeal.nD Cert.CmpRefIdeal.τ).loc Cert.CmpRefIdeal.main_arg1)) (m ((c.tc : Thread Cert.CmpRefIdeal.nD Cert.CmpRefIdeal.τ).loc Cert.CmpRefIdeal.main_arg2)) (m ((c.tc : Thread Cert.CmpRefIdeal.nD Cert.CmpRefIdeal.τ).loc Cert.CmpRefIdeal.main_arg3)) (m ((c.tc : Thread Cert.CmpRefIdeal.nD Cert.CmpRefIdeal.τ).loc Cert.CmpRefIdeal.main_arg4)) (m ((c.tc : Thread Cert.CmpRefIdeal.nD Cert.CmpRefIdeal.τ).loc Cert.CmpRefIdeal.main_arg5))).2.1 = (fun _ => 1#1)
    ∧ (Cert.Pre_cmp_finite.fn (F := Ideal) (m ((c.tc : Thread Cert.CmpRefIdeal.nD Cert.CmpRefIdeal.τ).loc Cert.CmpRefIdeal.main_arg0)) (m ((c.tc : Thread Cert.CmpRefIdeal.nD Cert.CmpRefIdeal.τ).loc Cert.CmpRefIdeal.main_arg1)) (m ((c.tc : Thread Cert.CmpRefIdeal.nD Cert.CmpRefIdeal.τ).loc Cert.CmpRefIdeal.main_arg2)) (m ((c.tc : Thread Cert.CmpRefIdeal.nD Cert.CmpRefIdeal.τ).loc Cert.CmpRefIdeal.main_arg3)) (m ((c.tc : Thread Cert.CmpRefIdeal.nD Cert.CmpRefIdeal.τ).loc Cert.CmpRefIdeal.main_arg4)) (m ((c.tc : Thread Cert.CmpRefIdeal.nD Cert.CmpRefIdeal.τ).loc Cert.CmpRefIdeal.main_arg5))).2.2 = (fun _ => 1#1)

def Pre_CastIn (m : (ℓ : Loc Cert.CastIn.nD Cert.CastIn.τ Cert.CastIn.sig) → Buf (Elt Bits) ℓ) : Prop :=
  True

def Pre_CastInIdeal (m : (ℓ : Loc Cert.CastInIdeal.nD Cert.CastInIdeal.τ Cert.CastInIdeal.sig) → Buf (Elt Ideal) ℓ) : Prop :=
  True

def Pre_CastInRefIdeal (m : (ℓ : Loc Cert.CastInRefIdeal.nD Cert.CastInRefIdeal.τ Cert.CastInRefIdeal.sig) → Buf (Elt Ideal) ℓ) : Prop :=
  True

def Pre_CastOut (m : (ℓ : Loc Cert.CastOut.nD Cert.CastOut.τ Cert.CastOut.sig) → Buf (Elt Bits) ℓ) : Prop :=
  True

def Pre_CastOutIdeal (m : (ℓ : Loc Cert.CastOutIdeal.nD Cert.CastOutIdeal.τ Cert.CastOutIdeal.sig) → Buf (Elt Ideal) ℓ) : Prop :=
  True

def Pre_CastOutRefIdeal (m : (ℓ : Loc Cert.CastOutRefIdeal.nD Cert.CastOutRefIdeal.τ Cert.CastOutRefIdeal.sig) → Buf (Elt Ideal) ℓ) : Prop :=
  True

def Pre_Ln (m : (ℓ : Loc Cert.Ln.nD Cert.Ln.τ Cert.Ln.sig) → Buf (Elt Bits) ℓ) : Prop :=
  True

def Pre_LnIdeal (m : (ℓ : Loc Cert.LnIdeal.nD Cert.LnIdeal.τ Cert.LnIdeal.sig) → Buf (Elt Ideal) ℓ) : Prop :=
  True

def Pre_LnRefIdeal (m : (ℓ : Loc Cert.LnRefIdeal.nD Cert.LnRefIdeal.τ Cert.LnRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_Up [hUp : Cert.Up.Facts] [hPre_experts_in_range : Cert.Pre_experts_in_range.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] [hPre_experts_in_range : Cert.Pre_experts_in_range.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_UpRefIdeal_pre_experts_in_range [hUpRefIdeal : Cert.UpRefIdeal.Facts] [hPre_experts_in_range : Cert.Pre_experts_in_range.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_experts_in_range m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_Down [hDown : Cert.Down.Facts] [hPre_down_experts_in_range : Cert.Pre_down_experts_in_range.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] [hPre_down_experts_in_range : Cert.Pre_down_experts_in_range.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_DownRefIdeal_pre_down_experts_in_range [hDownRefIdeal : Cert.DownRefIdeal.Facts] [hPre_down_experts_in_range : Cert.Pre_down_experts_in_range.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_down_experts_in_range m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_OutAb [hOutAb : Cert.OutAb.Facts] : Prop :=
  ∀ (m : (ℓ : Loc Cert.OutAb.nD Cert.OutAb.τ Cert.OutAb.sig) → Buf (Elt Bits) ℓ) (g : Dev Cert.OutAb.nD → PrngReg), Pre_OutAb m →
    θ_run (Cert.OutAb.defs (F := Bits)) (onTc (τ := Cert.OutAb.τ) (Cert.OutAb.main (F := Bits))) ⟨m, fun _ => 0, g⟩ (fun r => (∀ c : Dev Cert.OutAb.nD,
      r.2.mem ((c.tc : Thread Cert.OutAb.nD Cert.OutAb.τ).loc Cert.OutAb.main_arg0) = m ((c.tc : Thread Cert.OutAb.nD Cert.OutAb.τ).loc Cert.OutAb.main_arg0)
      ∧ r.2.mem ((c.tc : Thread Cert.OutAb.nD Cert.OutAb.τ).loc Cert.OutAb.main_arg1) = m ((c.tc : Thread Cert.OutAb.nD Cert.OutAb.τ).loc Cert.OutAb.main_arg1)
      ∧ r.2.mem ((c.tc : Thread Cert.OutAb.nD Cert.OutAb.τ).loc Cert.OutAb.main_arg2) = m ((c.tc : Thread Cert.OutAb.nD Cert.OutAb.τ).loc Cert.OutAb.main_arg2))
      ∧ r.2.sem = fun _ => 0)

def quiescent_OutAbIdeal [hOutAbIdeal : Cert.OutAbIdeal.Facts] : Prop :=
  ∀ (m : (ℓ : Loc Cert.OutAbIdeal.nD Cert.OutAbIdeal.τ Cert.OutAbIdeal.sig) → Buf (Elt Ideal) ℓ) (g : Dev Cert.OutAbIdeal.nD → PrngReg), Pre_OutAbIdeal m →
    θ_run (Cert.OutAbIdeal.defs (F := Ideal)) (onTc (τ := Cert.OutAbIdeal.τ) (Cert.OutAbIdeal.main (F := Ideal))) ⟨m, fun _ => 0, g⟩ (fun r => (∀ c : Dev Cert.OutAbIdeal.nD,
      r.2.mem ((c.tc : Thread Cert.OutAbIdeal.nD Cert.OutAbIdeal.τ).loc Cert.OutAbIdeal.main_arg0) = m ((c.tc : Thread Cert.OutAbIdeal.nD Cert.OutAbIdeal.τ).loc Cert.OutAbIdeal.main_arg0)
      ∧ r.2.mem ((c.tc : Thread Cert.OutAbIdeal.nD Cert.OutAbIdeal.τ).loc Cert.OutAbIdeal.main_arg1) = m ((c.tc : Thread Cert.OutAbIdeal.nD Cert.OutAbIdeal.τ).loc Cert.OutAbIdeal.main_arg1)
      ∧ r.2.mem ((c.tc : Thread Cert.OutAbIdeal.nD Cert.OutAbIdeal.τ).loc Cert.OutAbIdeal.main_arg2) = m ((c.tc : Thread Cert.OutAbIdeal.nD Cert.OutAbIdeal.τ).loc Cert.OutAbIdeal.main_arg2))
      ∧ r.2.sem = fun _ => 0)

def quiescent_OutAbRefIdeal [hOutAbRefIdeal : Cert.OutAbRefIdeal.Facts] : Prop :=
  ∀ (m : (ℓ : Loc Cert.OutAbRefIdeal.nD Cert.OutAbRefIdeal.τ Cert.OutAbRefIdeal.sig) → Buf (Elt Ideal) ℓ) (g : Dev Cert.OutAbRefIdeal.nD → PrngReg), Pre_OutAbRefIdeal m →
    θ_run (Cert.OutAbRefIdeal.defs (F := Ideal)) (onTc (τ := Cert.OutAbRefIdeal.τ) (Cert.OutAbRefIdeal.main (F := Ideal))) ⟨m, fun _ => 0, g⟩ (fun r => (∀ c : Dev Cert.OutAbRefIdeal.nD,
      r.2.mem ((c.tc : Thread Cert.OutAbRefIdeal.nD Cert.OutAbRefIdeal.τ).loc Cert.OutAbRefIdeal.main_arg0) = m ((c.tc : Thread Cert.OutAbRefIdeal.nD Cert.OutAbRefIdeal.τ).loc Cert.OutAbRefIdeal.main_arg0)
      ∧ r.2.mem ((c.tc : Thread Cert.OutAbRefIdeal.nD Cert.OutAbRefIdeal.τ).loc Cert.OutAbRefIdeal.main_arg1) = m ((c.tc : Thread Cert.OutAbRefIdeal.nD Cert.OutAbRefIdeal.τ).loc Cert.OutAbRefIdeal.main_arg1)
      ∧ r.2.mem ((c.tc : Thread Cert.OutAbRefIdeal.nD Cert.OutAbRefIdeal.τ).loc Cert.OutAbRefIdeal.main_arg2) = m ((c.tc : Thread Cert.OutAbRefIdeal.nD Cert.OutAbRefIdeal.τ).loc Cert.OutAbRefIdeal.main_arg2))
      ∧ r.2.sem = fun _ => 0)

def quiescent_Ab [hAb : Cert.Ab.Facts] : Prop :=
  ∀ (m : (ℓ : Loc Cert.Ab.nD Cert.Ab.τ Cert.Ab.sig) → Buf (Elt Bits) ℓ) (g : Dev Cert.Ab.nD → PrngReg), Pre_Ab m →
    θ_run (Cert.Ab.defs (F := Bits)) (onTc (τ := Cert.Ab.τ) (Cert.Ab.main (F := Bits))) ⟨m, fun _ => 0, g⟩ (fun r => (∀ c : Dev Cert.Ab.nD,
      r.2.mem ((c.tc : Thread Cert.Ab.nD Cert.Ab.τ).loc Cert.Ab.main_arg0) = m ((c.tc : Thread Cert.Ab.nD Cert.Ab.τ).loc Cert.Ab.main_arg0)
      ∧ r.2.mem ((c.tc : Thread Cert.Ab.nD Cert.Ab.τ).loc Cert.Ab.main_arg1) = m ((c.tc : Thread Cert.Ab.nD Cert.Ab.τ).loc Cert.Ab.main_arg1))
      ∧ r.2.sem = fun _ => 0)

def quiescent_AbIdeal [hAbIdeal : Cert.AbIdeal.Facts] : Prop :=
  ∀ (m : (ℓ : Loc Cert.AbIdeal.nD Cert.AbIdeal.τ Cert.AbIdeal.sig) → Buf (Elt Ideal) ℓ) (g : Dev Cert.AbIdeal.nD → PrngReg), Pre_AbIdeal m →
    θ_run (Cert.AbIdeal.defs (F := Ideal)) (onTc (τ := Cert.AbIdeal.τ) (Cert.AbIdeal.main (F := Ideal))) ⟨m, fun _ => 0, g⟩ (fun r => (∀ c : Dev Cert.AbIdeal.nD,
      r.2.mem ((c.tc : Thread Cert.AbIdeal.nD Cert.AbIdeal.τ).loc Cert.AbIdeal.main_arg0) = m ((c.tc : Thread Cert.AbIdeal.nD Cert.AbIdeal.τ).loc Cert.AbIdeal.main_arg0)
      ∧ r.2.mem ((c.tc : Thread Cert.AbIdeal.nD Cert.AbIdeal.τ).loc Cert.AbIdeal.main_arg1) = m ((c.tc : Thread Cert.AbIdeal.nD Cert.AbIdeal.τ).loc Cert.AbIdeal.main_arg1))
      ∧ r.2.sem = fun _ => 0)

def quiescent_AbRefIdeal [hAbRefIdeal : Cert.AbRefIdeal.Facts] : Prop :=
  ∀ (m : (ℓ : Loc Cert.AbRefIdeal.nD Cert.AbRefIdeal.τ Cert.AbRefIdeal.sig) → Buf (Elt Ideal) ℓ) (g : Dev Cert.AbRefIdeal.nD → PrngReg), Pre_AbRefIdeal m →
    θ_run (Cert.AbRefIdeal.defs (F := Ideal)) (onTc (τ := Cert.AbRefIdeal.τ) (Cert.AbRefIdeal.main (F := Ideal))) ⟨m, fun _ => 0, g⟩ (fun r => (∀ c : Dev Cert.AbRefIdeal.nD,
      r.2.mem ((c.tc : Thread Cert.AbRefIdeal.nD Cert.AbRefIdeal.τ).loc Cert.AbRefIdeal.main_arg0) = m ((c.tc : Thread Cert.AbRefIdeal.nD Cert.AbRefIdeal.τ).loc Cert.AbRefIdeal.main_arg0)
      ∧ r.2.mem ((c.tc : Thread Cert.AbRefIdeal.nD Cert.AbRefIdeal.τ).loc Cert.AbRefIdeal.main_arg1) = m ((c.tc : Thread Cert.AbRefIdeal.nD Cert.AbRefIdeal.τ).loc Cert.AbRefIdeal.main_arg1))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1)
      ∧ r.2.mem ((c.tc : Thread Cert.Win.nD Cert.Win.τ).loc Cert.Win.main_arg2) = m ((c.tc : Thread Cert.Win.nD Cert.Win.τ).loc Cert.Win.main_arg2))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2))
      ∧ r.2.sem = fun _ => 0)

def quiescent_WinIdeal_pre_win_finite [hWinIdeal : Cert.WinIdeal.Facts] [hPre_win_finite : Cert.Pre_win_finite.Facts] : Prop :=
  ∀ (m : (ℓ : Loc Cert.WinIdeal.nD Cert.WinIdeal.τ Cert.WinIdeal.sig) → Buf (Elt Ideal) ℓ) (g : Dev Cert.WinIdeal.nD → PrngReg), Pre_WinIdeal_win_finite m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2))
      ∧ r.2.sem = fun _ => 0)

def quiescent_WinRefIdeal_pre_win_finite [hWinRefIdeal : Cert.WinRefIdeal.Facts] [hPre_win_finite : Cert.Pre_win_finite.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal_win_finite m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2))
      ∧ r.2.sem = fun _ => 0)

def quiescent_Cmp [hCmp : Cert.Cmp.Facts] : Prop :=
  ∀ (m : (ℓ : Loc Cert.Cmp.nD Cert.Cmp.τ Cert.Cmp.sig) → Buf (Elt Bits) ℓ) (g : Dev Cert.Cmp.nD → PrngReg), Pre_Cmp m →
    θ_run (Cert.Cmp.defs (F := Bits)) (onTc (τ := Cert.Cmp.τ) (Cert.Cmp.main (F := Bits))) ⟨m, fun _ => 0, g⟩ (fun r => (∀ c : Dev Cert.Cmp.nD,
      r.2.mem ((c.tc : Thread Cert.Cmp.nD Cert.Cmp.τ).loc Cert.Cmp.main_arg0) = m ((c.tc : Thread Cert.Cmp.nD Cert.Cmp.τ).loc Cert.Cmp.main_arg0)
      ∧ r.2.mem ((c.tc : Thread Cert.Cmp.nD Cert.Cmp.τ).loc Cert.Cmp.main_arg1) = m ((c.tc : Thread Cert.Cmp.nD Cert.Cmp.τ).loc Cert.Cmp.main_arg1)
      ∧ r.2.mem ((c.tc : Thread Cert.Cmp.nD Cert.Cmp.τ).loc Cert.Cmp.main_arg2) = m ((c.tc : Thread Cert.Cmp.nD Cert.Cmp.τ).loc Cert.Cmp.main_arg2)
      ∧ r.2.mem ((c.tc : Thread Cert.Cmp.nD Cert.Cmp.τ).loc Cert.Cmp.main_arg3) = m ((c.tc : Thread Cert.Cmp.nD Cert.Cmp.τ).loc Cert.Cmp.main_arg3)
      ∧ r.2.mem ((c.tc : Thread Cert.Cmp.nD Cert.Cmp.τ).loc Cert.Cmp.main_arg4) = m ((c.tc : Thread Cert.Cmp.nD Cert.Cmp.τ).loc Cert.Cmp.main_arg4)
      ∧ r.2.mem ((c.tc : Thread Cert.Cmp.nD Cert.Cmp.τ).loc Cert.Cmp.main_arg5) = m ((c.tc : Thread Cert.Cmp.nD Cert.Cmp.τ).loc Cert.Cmp.main_arg5))
      ∧ r.2.sem = fun _ => 0)

def quiescent_CmpIdeal [hCmpIdeal : Cert.CmpIdeal.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
      ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
      ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4)
      ∧ r.2.mem ((c.tc : Thread Cert.CmpIdeal.nD Cert.CmpIdeal.τ).loc Cert.CmpIdeal.main_arg5) = m ((c.tc : Thread Cert.CmpIdeal.nD Cert.CmpIdeal.τ).loc Cert.CmpIdeal.main_arg5))
      ∧ r.2.sem = fun _ => 0)

def quiescent_CmpIdeal_pre_cmp_finite [hCmpIdeal : Cert.CmpIdeal.Facts] [hPre_cmp_finite : Cert.Pre_cmp_finite.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal_cmp_finite m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
      ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
      ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4)
      ∧ r.2.mem ((c.tc : Thread Cert.CmpIdeal.nD Cert.CmpIdeal.τ).loc Cert.CmpIdeal.main_arg5) = m ((c.tc : Thread Cert.CmpIdeal.nD Cert.CmpIdeal.τ).loc Cert.CmpIdeal.main_arg5))
      ∧ r.2.sem = fun _ => 0)

def quiescent_CmpRefIdeal [hCmpRefIdeal : Cert.CmpRefIdeal.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2)
      ∧ r.2.mem ((c.tc : Thread Cert.CmpRefIdeal.nD Cert.CmpRefIdeal.τ).loc Cert.CmpRefIdeal.main_arg3) = m ((c.tc : Thread Cert.CmpRefIdeal.nD Cert.CmpRefIdeal.τ).loc Cert.CmpRefIdeal.main_arg3)
      ∧ r.2.mem ((c.tc : Thread Cert.CmpRefIdeal.nD Cert.CmpRefIdeal.τ).loc Cert.CmpRefIdeal.main_arg4) = m ((c.tc : Thread Cert.CmpRefIdeal.nD Cert.CmpRefIdeal.τ).loc Cert.CmpRefIdeal.main_arg4)
      ∧ r.2.mem ((c.tc : Thread Cert.CmpRefIdeal.nD Cert.CmpRefIdeal.τ).loc Cert.CmpRefIdeal.main_arg5) = m ((c.tc : Thread Cert.CmpRefIdeal.nD Cert.CmpRefIdeal.τ).loc Cert.CmpRefIdeal.main_arg5))
      ∧ r.2.sem = fun _ => 0)

def quiescent_CmpRefIdeal_pre_cmp_finite [hCmpRefIdeal : Cert.CmpRefIdeal.Facts] [hPre_cmp_finite : Cert.Pre_cmp_finite.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal_cmp_finite m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2)
      ∧ r.2.mem ((c.tc : Thread Cert.CmpRefIdeal.nD Cert.CmpRefIdeal.τ).loc Cert.CmpRefIdeal.main_arg3) = m ((c.tc : Thread Cert.CmpRefIdeal.nD Cert.CmpRefIdeal.τ).loc Cert.CmpRefIdeal.main_arg3)
      ∧ r.2.mem ((c.tc : Thread Cert.CmpRefIdeal.nD Cert.CmpRefIdeal.τ).loc Cert.CmpRefIdeal.main_arg4) = m ((c.tc : Thread Cert.CmpRefIdeal.nD Cert.CmpRefIdeal.τ).loc Cert.CmpRefIdeal.main_arg4)
      ∧ r.2.mem ((c.tc : Thread Cert.CmpRefIdeal.nD Cert.CmpRefIdeal.τ).loc Cert.CmpRefIdeal.main_arg5) = m ((c.tc : Thread Cert.CmpRefIdeal.nD Cert.CmpRefIdeal.τ).loc Cert.CmpRefIdeal.main_arg5))
      ∧ r.2.sem = fun _ => 0)

def quiescent_CastIn [hCastIn : Cert.CastIn.Facts] : Prop :=
  ∀ (m : (ℓ : Loc Cert.CastIn.nD Cert.CastIn.τ Cert.CastIn.sig) → Buf (Elt Bits) ℓ) (g : Dev Cert.CastIn.nD → PrngReg), Pre_CastIn m →
    θ_run (Cert.CastIn.defs (F := Bits)) (onTc (τ := Cert.CastIn.τ) (Cert.CastIn.main (F := Bits))) ⟨m, fun _ => 0, g⟩ (fun r => (∀ c : Dev Cert.CastIn.nD,
      r.2.mem ((c.tc : Thread Cert.CastIn.nD Cert.CastIn.τ).loc Cert.CastIn.main_arg0) = m ((c.tc : Thread Cert.CastIn.nD Cert.CastIn.τ).loc Cert.CastIn.main_arg0))
      ∧ r.2.sem = fun _ => 0)

def quiescent_CastInIdeal [hCastInIdeal : Cert.CastInIdeal.Facts] : Prop :=
  ∀ (m : (ℓ : Loc Cert.CastInIdeal.nD Cert.CastInIdeal.τ Cert.CastInIdeal.sig) → Buf (Elt Ideal) ℓ) (g : Dev Cert.CastInIdeal.nD → PrngReg), Pre_CastInIdeal m →
    θ_run (Cert.CastInIdeal.defs (F := Ideal)) (onTc (τ := Cert.CastInIdeal.τ) (Cert.CastInIdeal.main (F := Ideal))) ⟨m, fun _ => 0, g⟩ (fun r => (∀ c : Dev Cert.CastInIdeal.nD,
      r.2.mem ((c.tc : Thread Cert.CastInIdeal.nD Cert.CastInIdeal.τ).loc Cert.CastInIdeal.main_arg0) = m ((c.tc : Thread Cert.CastInIdeal.nD Cert.CastInIdeal.τ).loc Cert.CastInIdeal.main_arg0))
      ∧ r.2.sem = fun _ => 0)

def quiescent_CastInRefIdeal [hCastInRefIdeal : Cert.CastInRefIdeal.Facts] : Prop :=
  ∀ (m : (ℓ : Loc Cert.CastInRefIdeal.nD Cert.CastInRefIdeal.τ Cert.CastInRefIdeal.sig) → Buf (Elt Ideal) ℓ) (g : Dev Cert.CastInRefIdeal.nD → PrngReg), Pre_CastInRefIdeal m →
    θ_run (Cert.CastInRefIdeal.defs (F := Ideal)) (onTc (τ := Cert.CastInRefIdeal.τ) (Cert.CastInRefIdeal.main (F := Ideal))) ⟨m, fun _ => 0, g⟩ (fun r => (∀ c : Dev Cert.CastInRefIdeal.nD,
      r.2.mem ((c.tc : Thread Cert.CastInRefIdeal.nD Cert.CastInRefIdeal.τ).loc Cert.CastInRefIdeal.main_arg0) = m ((c.tc : Thread Cert.CastInRefIdeal.nD Cert.CastInRefIdeal.τ).loc Cert.CastInRefIdeal.main_arg0))
      ∧ r.2.sem = fun _ => 0)

def quiescent_CastOut [hCastOut : Cert.CastOut.Facts] : Prop :=
  ∀ (m : (ℓ : Loc Cert.CastOut.nD Cert.CastOut.τ Cert.CastOut.sig) → Buf (Elt Bits) ℓ) (g : Dev Cert.CastOut.nD → PrngReg), Pre_CastOut m →
    θ_run (Cert.CastOut.defs (F := Bits)) (onTc (τ := Cert.CastOut.τ) (Cert.CastOut.main (F := Bits))) ⟨m, fun _ => 0, g⟩ (fun r => (∀ c : Dev Cert.CastOut.nD,
      r.2.mem ((c.tc : Thread Cert.CastOut.nD Cert.CastOut.τ).loc Cert.CastOut.main_arg0) = m ((c.tc : Thread Cert.CastOut.nD Cert.CastOut.τ).loc Cert.CastOut.main_arg0))
      ∧ r.2.sem = fun _ => 0)

def quiescent_CastOutIdeal [hCastOutIdeal : Cert.CastOutIdeal.Facts] : Prop :=
  ∀ (m : (ℓ : Loc Cert.CastOutIdeal.nD Cert.CastOutIdeal.τ Cert.CastOutIdeal.sig) → Buf (Elt Ideal) ℓ) (g : Dev Cert.CastOutIdeal.nD → PrngReg), Pre_CastOutIdeal m →
    θ_run (Cert.CastOutIdeal.defs (F := Ideal)) (onTc (τ := Cert.CastOutIdeal.τ) (Cert.CastOutIdeal.main (F := Ideal))) ⟨m, fun _ => 0, g⟩ (fun r => (∀ c : Dev Cert.CastOutIdeal.nD,
      r.2.mem ((c.tc : Thread Cert.CastOutIdeal.nD Cert.CastOutIdeal.τ).loc Cert.CastOutIdeal.main_arg0) = m ((c.tc : Thread Cert.CastOutIdeal.nD Cert.CastOutIdeal.τ).loc Cert.CastOutIdeal.main_arg0))
      ∧ r.2.sem = fun _ => 0)

def quiescent_CastOutRefIdeal [hCastOutRefIdeal : Cert.CastOutRefIdeal.Facts] : Prop :=
  ∀ (m : (ℓ : Loc Cert.CastOutRefIdeal.nD Cert.CastOutRefIdeal.τ Cert.CastOutRefIdeal.sig) → Buf (Elt Ideal) ℓ) (g : Dev Cert.CastOutRefIdeal.nD → PrngReg), Pre_CastOutRefIdeal m →
    θ_run (Cert.CastOutRefIdeal.defs (F := Ideal)) (onTc (τ := Cert.CastOutRefIdeal.τ) (Cert.CastOutRefIdeal.main (F := Ideal))) ⟨m, fun _ => 0, g⟩ (fun r => (∀ c : Dev Cert.CastOutRefIdeal.nD,
      r.2.mem ((c.tc : Thread Cert.CastOutRefIdeal.nD Cert.CastOutRefIdeal.τ).loc Cert.CastOutRefIdeal.main_arg0) = m ((c.tc : Thread Cert.CastOutRefIdeal.nD Cert.CastOutRefIdeal.τ).loc Cert.CastOutRefIdeal.main_arg0))
      ∧ r.2.sem = fun _ => 0)

def quiescent_Ln [hLn : Cert.Ln.Facts] : Prop :=
  ∀ (m : (ℓ : Loc Cert.Ln.nD Cert.Ln.τ Cert.Ln.sig) → Buf (Elt Bits) ℓ) (g : Dev Cert.Ln.nD → PrngReg), Pre_Ln m →
    θ_run (Cert.Ln.defs (F := Bits)) (onTc (τ := Cert.Ln.τ) (Cert.Ln.main (F := Bits))) ⟨m, fun _ => 0, g⟩ (fun r => (∀ c : Dev Cert.Ln.nD,
      r.2.mem ((c.tc : Thread Cert.Ln.nD Cert.Ln.τ).loc Cert.Ln.main_arg0) = m ((c.tc : Thread Cert.Ln.nD Cert.Ln.τ).loc Cert.Ln.main_arg0)
      ∧ r.2.mem ((c.tc : Thread Cert.Ln.nD Cert.Ln.τ).loc Cert.Ln.main_arg1) = m ((c.tc : Thread Cert.Ln.nD Cert.Ln.τ).loc Cert.Ln.main_arg1)
      ∧ r.2.mem ((c.tc : Thread Cert.Ln.nD Cert.Ln.τ).loc Cert.Ln.main_arg2) = m ((c.tc : Thread Cert.Ln.nD Cert.Ln.τ).loc Cert.Ln.main_arg2)
      ∧ r.2.mem ((c.tc : Thread Cert.Ln.nD Cert.Ln.τ).loc Cert.Ln.main_arg3) = m ((c.tc : Thread Cert.Ln.nD Cert.Ln.τ).loc Cert.Ln.main_arg3)
      ∧ r.2.mem ((c.tc : Thread Cert.Ln.nD Cert.Ln.τ).loc Cert.Ln.main_arg4) = m ((c.tc : Thread Cert.Ln.nD Cert.Ln.τ).loc Cert.Ln.main_arg4)
      ∧ r.2.mem ((c.tc : Thread Cert.Ln.nD Cert.Ln.τ).loc Cert.Ln.main_arg5) = m ((c.tc : Thread Cert.Ln.nD Cert.Ln.τ).loc Cert.Ln.main_arg5))
      ∧ r.2.sem = fun _ => 0)

def quiescent_LnIdeal [hLnIdeal : Cert.LnIdeal.Facts] : Prop :=
  ∀ (m : (ℓ : Loc Cert.LnIdeal.nD Cert.LnIdeal.τ Cert.LnIdeal.sig) → Buf (Elt Ideal) ℓ) (g : Dev Cert.LnIdeal.nD → PrngReg), Pre_LnIdeal m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
      ∧ r.2.mem ((c.tc : Thread Cert.LnIdeal.nD Cert.LnIdeal.τ).loc Cert.LnIdeal.main_arg3) = m ((c.tc : Thread Cert.LnIdeal.nD Cert.LnIdeal.τ).loc Cert.LnIdeal.main_arg3)
      ∧ r.2.mem ((c.tc : Thread Cert.LnIdeal.nD Cert.LnIdeal.τ).loc Cert.LnIdeal.main_arg4) = m ((c.tc : Thread Cert.LnIdeal.nD Cert.LnIdeal.τ).loc Cert.LnIdeal.main_arg4)
      ∧ r.2.mem ((c.tc : Thread Cert.LnIdeal.nD Cert.LnIdeal.τ).loc Cert.LnIdeal.main_arg5) = m ((c.tc : Thread Cert.LnIdeal.nD Cert.LnIdeal.τ).loc Cert.LnIdeal.main_arg5))
      ∧ r.2.sem = fun _ => 0)

def quiescent_LnRefIdeal [hLnRefIdeal : Cert.LnRefIdeal.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2)
      ∧ r.2.mem ((c.tc : Thread Cert.LnRefIdeal.nD Cert.LnRefIdeal.τ).loc Cert.LnRefIdeal.main_arg3) = m ((c.tc : Thread Cert.LnRefIdeal.nD Cert.LnRefIdeal.τ).loc Cert.LnRefIdeal.main_arg3)
      ∧ r.2.mem ((c.tc : Thread Cert.LnRefIdeal.nD Cert.LnRefIdeal.τ).loc Cert.LnRefIdeal.main_arg4) = m ((c.tc : Thread Cert.LnRefIdeal.nD Cert.LnRefIdeal.τ).loc Cert.LnRefIdeal.main_arg4)
      ∧ r.2.mem ((c.tc : Thread Cert.LnRefIdeal.nD Cert.LnRefIdeal.τ).loc Cert.LnRefIdeal.main_arg5) = m ((c.tc : Thread Cert.LnRefIdeal.nD Cert.LnRefIdeal.τ).loc Cert.LnRefIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Qkv_QkvIdeal : Prop :=
  IdealRules.named_const.Statement Cert.QkvIdeal.κ "q_scale" .f32 0x3E0293EE#32 (((Real.sqrt 128)⁻¹ * (Real.log 2)⁻¹ : ℝ) : EReal)

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v16) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_Up_UpIdeal : Prop :=
  True

def algebraic_UpIdeal_UpRefIdeal [hUpIdeal : Cert.UpIdeal.Facts] [hUpRefIdeal : Cert.UpRefIdeal.Facts] [hPre_experts_in_range : Cert.Pre_experts_in_range.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v26) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_Down_DownIdeal : Prop :=
  True

def algebraic_DownIdeal_DownRefIdeal [hDownIdeal : Cert.DownIdeal.Facts] [hDownRefIdeal : Cert.DownRefIdeal.Facts] [hPre_down_experts_in_range : Cert.Pre_down_experts_in_range.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v23) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v4) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_OutAb_OutAbIdeal : Prop :=
  True

def algebraic_OutAbIdeal_OutAbRefIdeal [hOutAbIdeal : Cert.OutAbIdeal.Facts] [hOutAbRefIdeal : Cert.OutAbRefIdeal.Facts] : Prop :=
  ∀ (m : (ℓ : Loc Cert.OutAbIdeal.nD Cert.OutAbIdeal.τ Cert.OutAbIdeal.sig) → Buf (Elt Ideal) ℓ) (g : Dev Cert.OutAbIdeal.nD → PrngReg)
    (m' : (ℓ : Loc Cert.OutAbRefIdeal.nD Cert.OutAbRefIdeal.τ Cert.OutAbRefIdeal.sig) → Buf (Elt Ideal) ℓ) (g' : Dev Cert.OutAbRefIdeal.nD → PrngReg), Pre_OutAbIdeal m →
    (∀ c : Dev Cert.OutAbIdeal.nD,
      m' ((c.tc : Thread Cert.OutAbRefIdeal.nD Cert.OutAbRefIdeal.τ).loc Cert.OutAbRefIdeal.main_arg0) = m ((c.tc : Thread Cert.OutAbIdeal.nD Cert.OutAbIdeal.τ).loc Cert.OutAbIdeal.main_arg0)
      ∧ m' ((c.tc : Thread Cert.OutAbRefIdeal.nD Cert.OutAbRefIdeal.τ).loc Cert.OutAbRefIdeal.main_arg1) = m ((c.tc : Thread Cert.OutAbIdeal.nD Cert.OutAbIdeal.τ).loc Cert.OutAbIdeal.main_arg1)
      ∧ m' ((c.tc : Thread Cert.OutAbRefIdeal.nD Cert.OutAbRefIdeal.τ).loc Cert.OutAbRefIdeal.main_arg2) = m ((c.tc : Thread Cert.OutAbIdeal.nD Cert.OutAbIdeal.τ).loc Cert.OutAbIdeal.main_arg2)) →
    ∃ (v0 : (c : Dev Cert.OutAbIdeal.nD) → Buf (Elt Ideal) ((c.tc : Thread Cert.OutAbIdeal.nD Cert.OutAbIdeal.τ).loc Cert.OutAbIdeal.main_v0)),
      θ_run (Cert.OutAbIdeal.defs (F := Ideal)) (onTc (τ := Cert.OutAbIdeal.τ) (Cert.OutAbIdeal.main (F := Ideal))) ⟨m, fun _ => 0, g⟩ (fun r => ∀ c : Dev Cert.OutAbIdeal.nD,
          r.2.mem ((c.tc : Thread Cert.OutAbIdeal.nD Cert.OutAbIdeal.τ).loc Cert.OutAbIdeal.main_v0) = v0 c
          ∧ r.2.mem ((c.tc : Thread Cert.OutAbIdeal.nD Cert.OutAbIdeal.τ).loc Cert.OutAbIdeal.main_arg0) = m ((c.tc : Thread Cert.OutAbIdeal.nD Cert.OutAbIdeal.τ).loc Cert.OutAbIdeal.main_arg0)
          ∧ r.2.mem ((c.tc : Thread Cert.OutAbIdeal.nD Cert.OutAbIdeal.τ).loc Cert.OutAbIdeal.main_arg1) = m ((c.tc : Thread Cert.OutAbIdeal.nD Cert.OutAbIdeal.τ).loc Cert.OutAbIdeal.main_arg1)
          ∧ r.2.mem ((c.tc : Thread Cert.OutAbIdeal.nD Cert.OutAbIdeal.τ).loc Cert.OutAbIdeal.main_arg2) = m ((c.tc : Thread Cert.OutAbIdeal.nD Cert.OutAbIdeal.τ).loc Cert.OutAbIdeal.main_arg2))
      ∧ θ_run (Cert.OutAbRefIdeal.defs (F := Ideal)) (onTc (τ := Cert.OutAbRefIdeal.τ) (Cert.OutAbRefIdeal.main (F := Ideal))) ⟨m', fun _ => 0, g'⟩ (fun r => ∀ c : Dev Cert.OutAbRefIdeal.nD,
          r.2.mem ((c.tc : Thread Cert.OutAbRefIdeal.nD Cert.OutAbRefIdeal.τ).loc Cert.OutAbRefIdeal.main_v8) = v0 c
          ∧ r.2.mem ((c.tc : Thread Cert.OutAbRefIdeal.nD Cert.OutAbRefIdeal.τ).loc Cert.OutAbRefIdeal.main_arg0) = m' ((c.tc : Thread Cert.OutAbRefIdeal.nD Cert.OutAbRefIdeal.τ).loc Cert.OutAbRefIdeal.main_arg0)
          ∧ r.2.mem ((c.tc : Thread Cert.OutAbRefIdeal.nD Cert.OutAbRefIdeal.τ).loc Cert.OutAbRefIdeal.main_arg1) = m' ((c.tc : Thread Cert.OutAbRefIdeal.nD Cert.OutAbRefIdeal.τ).loc Cert.OutAbRefIdeal.main_arg1)
          ∧ r.2.mem ((c.tc : Thread Cert.OutAbRefIdeal.nD Cert.OutAbRefIdeal.τ).loc Cert.OutAbRefIdeal.main_arg2) = m' ((c.tc : Thread Cert.OutAbRefIdeal.nD Cert.OutAbRefIdeal.τ).loc Cert.OutAbRefIdeal.main_arg2))

def preserves_Ab_AbIdeal : Prop :=
  True

def algebraic_AbIdeal_AbRefIdeal [hAbIdeal : Cert.AbIdeal.Facts] [hAbRefIdeal : Cert.AbRefIdeal.Facts] : Prop :=
  ∀ (m : (ℓ : Loc Cert.AbIdeal.nD Cert.AbIdeal.τ Cert.AbIdeal.sig) → Buf (Elt Ideal) ℓ) (g : Dev Cert.AbIdeal.nD → PrngReg)
    (m' : (ℓ : Loc Cert.AbRefIdeal.nD Cert.AbRefIdeal.τ Cert.AbRefIdeal.sig) → Buf (Elt Ideal) ℓ) (g' : Dev Cert.AbRefIdeal.nD → PrngReg), Pre_AbIdeal m →
    (∀ c : Dev Cert.AbIdeal.nD,
      m' ((c.tc : Thread Cert.AbRefIdeal.nD Cert.AbRefIdeal.τ).loc Cert.AbRefIdeal.main_arg0) = m ((c.tc : Thread Cert.AbIdeal.nD Cert.AbIdeal.τ).loc Cert.AbIdeal.main_arg0)
      ∧ m' ((c.tc : Thread Cert.AbRefIdeal.nD Cert.AbRefIdeal.τ).loc Cert.AbRefIdeal.main_arg1) = m ((c.tc : Thread Cert.AbIdeal.nD Cert.AbIdeal.τ).loc Cert.AbIdeal.main_arg1)) →
    ∃ (v0 : (c : Dev Cert.AbIdeal.nD) → Buf (Elt Ideal) ((c.tc : Thread Cert.AbIdeal.nD Cert.AbIdeal.τ).loc Cert.AbIdeal.main_v0)),
      θ_run (Cert.AbIdeal.defs (F := Ideal)) (onTc (τ := Cert.AbIdeal.τ) (Cert.AbIdeal.main (F := Ideal))) ⟨m, fun _ => 0, g⟩ (fun r => ∀ c : Dev Cert.AbIdeal.nD,
          r.2.mem ((c.tc : Thread Cert.AbIdeal.nD Cert.AbIdeal.τ).loc Cert.AbIdeal.main_v0) = v0 c
          ∧ r.2.mem ((c.tc : Thread Cert.AbIdeal.nD Cert.AbIdeal.τ).loc Cert.AbIdeal.main_arg0) = m ((c.tc : Thread Cert.AbIdeal.nD Cert.AbIdeal.τ).loc Cert.AbIdeal.main_arg0)
          ∧ r.2.mem ((c.tc : Thread Cert.AbIdeal.nD Cert.AbIdeal.τ).loc Cert.AbIdeal.main_arg1) = m ((c.tc : Thread Cert.AbIdeal.nD Cert.AbIdeal.τ).loc Cert.AbIdeal.main_arg1))
      ∧ θ_run (Cert.AbRefIdeal.defs (F := Ideal)) (onTc (τ := Cert.AbRefIdeal.τ) (Cert.AbRefIdeal.main (F := Ideal))) ⟨m', fun _ => 0, g'⟩ (fun r => ∀ c : Dev Cert.AbRefIdeal.nD,
          r.2.mem ((c.tc : Thread Cert.AbRefIdeal.nD Cert.AbRefIdeal.τ).loc Cert.AbRefIdeal.main_v5) = v0 c
          ∧ r.2.mem ((c.tc : Thread Cert.AbRefIdeal.nD Cert.AbRefIdeal.τ).loc Cert.AbRefIdeal.main_arg0) = m' ((c.tc : Thread Cert.AbRefIdeal.nD Cert.AbRefIdeal.τ).loc Cert.AbRefIdeal.main_arg0)
          ∧ r.2.mem ((c.tc : Thread Cert.AbRefIdeal.nD Cert.AbRefIdeal.τ).loc Cert.AbRefIdeal.main_arg1) = m' ((c.tc : Thread Cert.AbRefIdeal.nD Cert.AbRefIdeal.τ).loc Cert.AbRefIdeal.main_arg1))

def preserves_Win_WinIdeal : Prop :=
  IdealRules.named_const.Statement Cert.WinIdeal.κ "mask" .f32 0xF149F2CA#32 ⊥

def algebraic_WinIdeal_WinRefIdeal_pre_win_finite [hWinIdeal : Cert.WinIdeal.Facts] [hWinRefIdeal : Cert.WinRefIdeal.Facts] [hPre_win_finite : Cert.Pre_win_finite.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal_win_finite m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)
      ∧ m' ((c.tc : Thread Cert.WinRefIdeal.nD Cert.WinRefIdeal.τ).loc Cert.WinRefIdeal.main_arg2) = m ((c.tc : Thread Cert.WinIdeal.nD Cert.WinIdeal.τ).loc Cert.WinIdeal.main_arg2)) →
    ∃ (v0 : (c : Dev Cert.WinIdeal.nD) → Buf (Elt Ideal) ((c.tc : Thread Cert.WinIdeal.nD Cert.WinIdeal.τ).loc Cert.WinIdeal.main_v15)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v15) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
          ∧ r.2.mem ((c.tc : Thread Cert.WinIdeal.nD Cert.WinIdeal.τ).loc Cert.WinIdeal.main_arg2) = m ((c.tc : Thread Cert.WinIdeal.nD Cert.WinIdeal.τ).loc Cert.WinIdeal.main_arg2))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v110) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1)
          ∧ r.2.mem ((c.tc : Thread Cert.WinRefIdeal.nD Cert.WinRefIdeal.τ).loc Cert.WinRefIdeal.main_arg2) = m' ((c.tc : Thread Cert.WinRefIdeal.nD Cert.WinRefIdeal.τ).loc Cert.WinRefIdeal.main_arg2))

def preserves_Cmp_CmpIdeal : Prop :=
  True

def algebraic_CmpIdeal_CmpRefIdeal_pre_cmp_finite [hCmpIdeal : Cert.CmpIdeal.Facts] [hCmpRefIdeal : Cert.CmpRefIdeal.Facts] [hPre_cmp_finite : Cert.Pre_cmp_finite.Facts] : Prop :=
  ∀ (m : (ℓ : Loc Cert.CmpIdeal.nD Cert.CmpIdeal.τ Cert.CmpIdeal.sig) → Buf (Elt Ideal) ℓ) (g : Dev Cert.CmpIdeal.nD → PrngReg)
    (m' : (ℓ : Loc Cert.CmpRefIdeal.nD Cert.CmpRefIdeal.τ Cert.CmpRefIdeal.sig) → Buf (Elt Ideal) ℓ) (g' : Dev Cert.CmpRefIdeal.nD → PrngReg), Pre_CmpIdeal_cmp_finite m →
    (∀ c : Dev Cert.CmpIdeal.nD,
      m' ((c.tc : Thread Cert.CmpRefIdeal.nD Cert.CmpRefIdeal.τ).loc Cert.CmpRefIdeal.main_arg0) = m ((c.tc : Thread Cert.CmpIdeal.nD Cert.CmpIdeal.τ).loc Cert.CmpIdeal.main_arg0)
      ∧ m' ((c.tc : Thread Cert.CmpRefIdeal.nD Cert.CmpRefIdeal.τ).loc Cert.CmpRefIdeal.main_arg1) = m ((c.tc : Thread Cert.CmpIdeal.nD Cert.CmpIdeal.τ).loc Cert.CmpIdeal.main_arg1)
      ∧ m' ((c.tc : Thread Cert.CmpRefIdeal.nD Cert.CmpRefIdeal.τ).loc Cert.CmpRefIdeal.main_arg2) = m ((c.tc : Thread Cert.CmpIdeal.nD Cert.CmpIdeal.τ).loc Cert.CmpIdeal.main_arg2)
      ∧ m' ((c.tc : Thread Cert.CmpRefIdeal.nD Cert.CmpRefIdeal.τ).loc Cert.CmpRefIdeal.main_arg3) = m ((c.tc : Thread Cert.CmpIdeal.nD Cert.CmpIdeal.τ).loc Cert.CmpIdeal.main_arg3)
      ∧ m' ((c.tc : Thread Cert.CmpRefIdeal.nD Cert.CmpRefIdeal.τ).loc Cert.CmpRefIdeal.main_arg4) = m ((c.tc : Thread Cert.CmpIdeal.nD Cert.CmpIdeal.τ).loc Cert.CmpIdeal.main_arg4)
      ∧ m' ((c.tc : Thread Cert.CmpRefIdeal.nD Cert.CmpRefIdeal.τ).loc Cert.CmpRefIdeal.main_arg5) = m ((c.tc : Thread Cert.CmpIdeal.nD Cert.CmpIdeal.τ).loc Cert.CmpIdeal.main_arg5)) →
    ∃ (v0 : (c : Dev Cert.CmpIdeal.nD) → Buf (Elt Ideal) ((c.tc : Thread Cert.CmpIdeal.nD Cert.CmpIdeal.τ).loc Cert.CmpIdeal.main_v7)),
      θ_run (Cert.CmpIdeal.defs (F := Ideal)) (onTc (τ := Cert.CmpIdeal.τ) (Cert.CmpIdeal.main (F := Ideal))) ⟨m, fun _ => 0, g⟩ (fun r => ∀ c : Dev Cert.CmpIdeal.nD,
          r.2.mem ((c.tc : Thread Cert.CmpIdeal.nD Cert.CmpIdeal.τ).loc Cert.CmpIdeal.main_v7) = v0 c
          ∧ r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
          ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
          ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
          ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
          ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4)
          ∧ r.2.mem ((c.tc : Thread Cert.CmpIdeal.nD Cert.CmpIdeal.τ).loc Cert.CmpIdeal.main_arg5) = m ((c.tc : Thread Cert.CmpIdeal.nD Cert.CmpIdeal.τ).loc Cert.CmpIdeal.main_arg5))
      ∧ θ_run (Cert.CmpRefIdeal.defs (F := Ideal)) (onTc (τ := Cert.CmpRefIdeal.τ) (Cert.CmpRefIdeal.main (F := Ideal))) ⟨m', fun _ => 0, g'⟩ (fun r => ∀ c : Dev Cert.CmpRefIdeal.nD,
          r.2.mem ((c.tc : Thread Cert.CmpRefIdeal.nD Cert.CmpRefIdeal.τ).loc Cert.CmpRefIdeal.main_v32) = v0 c
          ∧ r.2.mem ((c.tc : Thread Cert.CmpRefIdeal.nD Cert.CmpRefIdeal.τ).loc Cert.CmpRefIdeal.main_arg0) = m' ((c.tc : Thread Cert.CmpRefIdeal.nD Cert.CmpRefIdeal.τ).loc Cert.CmpRefIdeal.main_arg0)
          ∧ r.2.mem ((c.tc : Thread Cert.CmpRefIdeal.nD Cert.CmpRefIdeal.τ).loc Cert.CmpRefIdeal.main_arg1) = m' ((c.tc : Thread Cert.CmpRefIdeal.nD Cert.CmpRefIdeal.τ).loc Cert.CmpRefIdeal.main_arg1)
          ∧ r.2.mem ((c.tc : Thread Cert.CmpRefIdeal.nD Cert.CmpRefIdeal.τ).loc Cert.CmpRefIdeal.main_arg2) = m' ((c.tc : Thread Cert.CmpRefIdeal.nD Cert.CmpRefIdeal.τ).loc Cert.CmpRefIdeal.main_arg2)
          ∧ r.2.mem ((c.tc : Thread Cert.CmpRefIdeal.nD Cert.CmpRefIdeal.τ).loc Cert.CmpRefIdeal.main_arg3) = m' ((c.tc : Thread Cert.CmpRefIdeal.nD Cert.CmpRefIdeal.τ).loc Cert.CmpRefIdeal.main_arg3)
          ∧ r.2.mem ((c.tc : Thread Cert.CmpRefIdeal.nD Cert.CmpRefIdeal.τ).loc Cert.CmpRefIdeal.main_arg4) = m' ((c.tc : Thread Cert.CmpRefIdeal.nD Cert.CmpRefIdeal.τ).loc Cert.CmpRefIdeal.main_arg4)
          ∧ r.2.mem ((c.tc : Thread Cert.CmpRefIdeal.nD Cert.CmpRefIdeal.τ).loc Cert.CmpRefIdeal.main_arg5) = m' ((c.tc : Thread Cert.CmpRefIdeal.nD Cert.CmpRefIdeal.τ).loc Cert.CmpRefIdeal.main_arg5))

def preserves_CastIn_CastInIdeal : Prop :=
  IdealRules.named_const.Statement Cert.CastInIdeal.κ "q_scale" .f32 0x3E0293EE#32 (((Real.sqrt 128)⁻¹ * (Real.log 2)⁻¹ : ℝ) : EReal)

def algebraic_CastInIdeal_CastInRefIdeal [hCastInIdeal : Cert.CastInIdeal.Facts] [hCastInRefIdeal : Cert.CastInRefIdeal.Facts] : Prop :=
  ∀ (m : (ℓ : Loc Cert.CastInIdeal.nD Cert.CastInIdeal.τ Cert.CastInIdeal.sig) → Buf (Elt Ideal) ℓ) (g : Dev Cert.CastInIdeal.nD → PrngReg)
    (m' : (ℓ : Loc Cert.CastInRefIdeal.nD Cert.CastInRefIdeal.τ Cert.CastInRefIdeal.sig) → Buf (Elt Ideal) ℓ) (g' : Dev Cert.CastInRefIdeal.nD → PrngReg), Pre_CastInIdeal m →
    (∀ c : Dev Cert.CastInIdeal.nD,
      m' ((c.tc : Thread Cert.CastInRefIdeal.nD Cert.CastInRefIdeal.τ).loc Cert.CastInRefIdeal.main_arg0) = m ((c.tc : Thread Cert.CastInIdeal.nD Cert.CastInIdeal.τ).loc Cert.CastInIdeal.main_arg0)) →
    ∃ (v0 : (c : Dev Cert.CastInIdeal.nD) → Buf (Elt Ideal) ((c.tc : Thread Cert.CastInIdeal.nD Cert.CastInIdeal.τ).loc Cert.CastInIdeal.main_v0)),
      θ_run (Cert.CastInIdeal.defs (F := Ideal)) (onTc (τ := Cert.CastInIdeal.τ) (Cert.CastInIdeal.main (F := Ideal))) ⟨m, fun _ => 0, g⟩ (fun r => ∀ c : Dev Cert.CastInIdeal.nD,
          r.2.mem ((c.tc : Thread Cert.CastInIdeal.nD Cert.CastInIdeal.τ).loc Cert.CastInIdeal.main_v0) = v0 c
          ∧ r.2.mem ((c.tc : Thread Cert.CastInIdeal.nD Cert.CastInIdeal.τ).loc Cert.CastInIdeal.main_arg0) = m ((c.tc : Thread Cert.CastInIdeal.nD Cert.CastInIdeal.τ).loc Cert.CastInIdeal.main_arg0))
      ∧ θ_run (Cert.CastInRefIdeal.defs (F := Ideal)) (onTc (τ := Cert.CastInRefIdeal.τ) (Cert.CastInRefIdeal.main (F := Ideal))) ⟨m', fun _ => 0, g'⟩ (fun r => ∀ c : Dev Cert.CastInRefIdeal.nD,
          r.2.mem ((c.tc : Thread Cert.CastInRefIdeal.nD Cert.CastInRefIdeal.τ).loc Cert.CastInRefIdeal.main_v18) = v0 c
          ∧ r.2.mem ((c.tc : Thread Cert.CastInRefIdeal.nD Cert.CastInRefIdeal.τ).loc Cert.CastInRefIdeal.main_arg0) = m' ((c.tc : Thread Cert.CastInRefIdeal.nD Cert.CastInRefIdeal.τ).loc Cert.CastInRefIdeal.main_arg0))

def preserves_CastOut_CastOutIdeal : Prop :=
  True

def algebraic_CastOutIdeal_CastOutRefIdeal [hCastOutIdeal : Cert.CastOutIdeal.Facts] [hCastOutRefIdeal : Cert.CastOutRefIdeal.Facts] : Prop :=
  ∀ (m : (ℓ : Loc Cert.CastOutIdeal.nD Cert.CastOutIdeal.τ Cert.CastOutIdeal.sig) → Buf (Elt Ideal) ℓ) (g : Dev Cert.CastOutIdeal.nD → PrngReg)
    (m' : (ℓ : Loc Cert.CastOutRefIdeal.nD Cert.CastOutRefIdeal.τ Cert.CastOutRefIdeal.sig) → Buf (Elt Ideal) ℓ) (g' : Dev Cert.CastOutRefIdeal.nD → PrngReg), Pre_CastOutIdeal m →
    (∀ c : Dev Cert.CastOutIdeal.nD,
      m' ((c.tc : Thread Cert.CastOutRefIdeal.nD Cert.CastOutRefIdeal.τ).loc Cert.CastOutRefIdeal.main_arg0) = m ((c.tc : Thread Cert.CastOutIdeal.nD Cert.CastOutIdeal.τ).loc Cert.CastOutIdeal.main_arg0)) →
    ∃ (v0 : (c : Dev Cert.CastOutIdeal.nD) → Buf (Elt Ideal) ((c.tc : Thread Cert.CastOutIdeal.nD Cert.CastOutIdeal.τ).loc Cert.CastOutIdeal.main_v0)),
      θ_run (Cert.CastOutIdeal.defs (F := Ideal)) (onTc (τ := Cert.CastOutIdeal.τ) (Cert.CastOutIdeal.main (F := Ideal))) ⟨m, fun _ => 0, g⟩ (fun r => ∀ c : Dev Cert.CastOutIdeal.nD,
          r.2.mem ((c.tc : Thread Cert.CastOutIdeal.nD Cert.CastOutIdeal.τ).loc Cert.CastOutIdeal.main_v0) = v0 c
          ∧ r.2.mem ((c.tc : Thread Cert.CastOutIdeal.nD Cert.CastOutIdeal.τ).loc Cert.CastOutIdeal.main_arg0) = m ((c.tc : Thread Cert.CastOutIdeal.nD Cert.CastOutIdeal.τ).loc Cert.CastOutIdeal.main_arg0))
      ∧ θ_run (Cert.CastOutRefIdeal.defs (F := Ideal)) (onTc (τ := Cert.CastOutRefIdeal.τ) (Cert.CastOutRefIdeal.main (F := Ideal))) ⟨m', fun _ => 0, g'⟩ (fun r => ∀ c : Dev Cert.CastOutRefIdeal.nD,
          r.2.mem ((c.tc : Thread Cert.CastOutRefIdeal.nD Cert.CastOutRefIdeal.τ).loc Cert.CastOutRefIdeal.main_v2) = v0 c
          ∧ r.2.mem ((c.tc : Thread Cert.CastOutRefIdeal.nD Cert.CastOutRefIdeal.τ).loc Cert.CastOutRefIdeal.main_arg0) = m' ((c.tc : Thread Cert.CastOutRefIdeal.nD Cert.CastOutRefIdeal.τ).loc Cert.CastOutRefIdeal.main_arg0))

def preserves_Ln_LnIdeal : Prop :=
  True

def algebraic_LnIdeal_LnRefIdeal [hLnIdeal : Cert.LnIdeal.Facts] [hLnRefIdeal : Cert.LnRefIdeal.Facts] : Prop :=
  ∀ (m : (ℓ : Loc Cert.LnIdeal.nD Cert.LnIdeal.τ Cert.LnIdeal.sig) → Buf (Elt Ideal) ℓ) (g : Dev Cert.LnIdeal.nD → PrngReg)
    (m' : (ℓ : Loc Cert.LnRefIdeal.nD Cert.LnRefIdeal.τ Cert.LnRefIdeal.sig) → Buf (Elt Ideal) ℓ) (g' : Dev Cert.LnRefIdeal.nD → PrngReg), Pre_LnIdeal m →
    (∀ c : Dev Cert.LnIdeal.nD,
      m' ((c.tc : Thread Cert.LnRefIdeal.nD Cert.LnRefIdeal.τ).loc Cert.LnRefIdeal.main_arg0) = m ((c.tc : Thread Cert.LnIdeal.nD Cert.LnIdeal.τ).loc Cert.LnIdeal.main_arg0)
      ∧ m' ((c.tc : Thread Cert.LnRefIdeal.nD Cert.LnRefIdeal.τ).loc Cert.LnRefIdeal.main_arg1) = m ((c.tc : Thread Cert.LnIdeal.nD Cert.LnIdeal.τ).loc Cert.LnIdeal.main_arg1)
      ∧ m' ((c.tc : Thread Cert.LnRefIdeal.nD Cert.LnRefIdeal.τ).loc Cert.LnRefIdeal.main_arg2) = m ((c.tc : Thread Cert.LnIdeal.nD Cert.LnIdeal.τ).loc Cert.LnIdeal.main_arg2)
      ∧ m' ((c.tc : Thread Cert.LnRefIdeal.nD Cert.LnRefIdeal.τ).loc Cert.LnRefIdeal.main_arg3) = m ((c.tc : Thread Cert.LnIdeal.nD Cert.LnIdeal.τ).loc Cert.LnIdeal.main_arg3)
      ∧ m' ((c.tc : Thread Cert.LnRefIdeal.nD Cert.LnRefIdeal.τ).loc Cert.LnRefIdeal.main_arg4) = m ((c.tc : Thread Cert.LnIdeal.nD Cert.LnIdeal.τ).loc Cert.LnIdeal.main_arg4)
      ∧ m' ((c.tc : Thread Cert.LnRefIdeal.nD Cert.LnRefIdeal.τ).loc Cert.LnRefIdeal.main_arg5) = m ((c.tc : Thread Cert.LnIdeal.nD Cert.LnIdeal.τ).loc Cert.LnIdeal.main_arg5)) →
    ∃ (v0 : (c : Dev Cert.LnIdeal.nD) → Buf (Elt Ideal) ((c.tc : Thread Cert.LnIdeal.nD Cert.LnIdeal.τ).loc Cert.LnIdeal.main_v4_0)) (v1 : (c : Dev Cert.LnIdeal.nD) → Buf (Elt Ideal) ((c.tc : Thread Cert.LnIdeal.nD Cert.LnIdeal.τ).loc Cert.LnIdeal.main_v4_1)),
      θ_run (Cert.LnIdeal.defs (F := Ideal)) (onTc (τ := Cert.LnIdeal.τ) (Cert.LnIdeal.main (F := Ideal))) ⟨m, fun _ => 0, g⟩ (fun r => ∀ c : Dev Cert.LnIdeal.nD,
          r.2.mem ((c.tc : Thread Cert.LnIdeal.nD Cert.LnIdeal.τ).loc Cert.LnIdeal.main_v4_0) = v0 c
          ∧ r.2.mem ((c.tc : Thread Cert.LnIdeal.nD Cert.LnIdeal.τ).loc Cert.LnIdeal.main_v4_1) = v1 c
          ∧ r.2.mem ((c.tc : Thread Cert.LnIdeal.nD Cert.LnIdeal.τ).loc Cert.LnIdeal.main_arg0) = m ((c.tc : Thread Cert.LnIdeal.nD Cert.LnIdeal.τ).loc Cert.LnIdeal.main_arg0)
          ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
          ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
          ∧ r.2.mem ((c.tc : Thread Cert.LnIdeal.nD Cert.LnIdeal.τ).loc Cert.LnIdeal.main_arg3) = m ((c.tc : Thread Cert.LnIdeal.nD Cert.LnIdeal.τ).loc Cert.LnIdeal.main_arg3)
          ∧ r.2.mem ((c.tc : Thread Cert.LnIdeal.nD Cert.LnIdeal.τ).loc Cert.LnIdeal.main_arg4) = m ((c.tc : Thread Cert.LnIdeal.nD Cert.LnIdeal.τ).loc Cert.LnIdeal.main_arg4)
          ∧ r.2.mem ((c.tc : Thread Cert.LnIdeal.nD Cert.LnIdeal.τ).loc Cert.LnIdeal.main_arg5) = m ((c.tc : Thread Cert.LnIdeal.nD Cert.LnIdeal.τ).loc Cert.LnIdeal.main_arg5))
      ∧ θ_run (Cert.LnRefIdeal.defs (F := Ideal)) (onTc (τ := Cert.LnRefIdeal.τ) (Cert.LnRefIdeal.main (F := Ideal))) ⟨m', fun _ => 0, g'⟩ (fun r => ∀ c : Dev Cert.LnRefIdeal.nD,
          r.2.mem ((c.tc : Thread Cert.LnRefIdeal.nD Cert.LnRefIdeal.τ).loc Cert.LnRefIdeal.main_v26) = v0 c
          ∧ r.2.mem ((c.tc : Thread Cert.LnRefIdeal.nD Cert.LnRefIdeal.τ).loc Cert.LnRefIdeal.main_v27) = v1 c
          ∧ r.2.mem ((c.tc : Thread Cert.LnRefIdeal.nD Cert.LnRefIdeal.τ).loc Cert.LnRefIdeal.main_arg0) = m' ((c.tc : Thread Cert.LnRefIdeal.nD Cert.LnRefIdeal.τ).loc Cert.LnRefIdeal.main_arg0)
          ∧ r.2.mem ((c.tc : Thread Cert.LnRefIdeal.nD Cert.LnRefIdeal.τ).loc Cert.LnRefIdeal.main_arg1) = m' ((c.tc : Thread Cert.LnRefIdeal.nD Cert.LnRefIdeal.τ).loc Cert.LnRefIdeal.main_arg1)
          ∧ r.2.mem ((c.tc : Thread Cert.LnRefIdeal.nD Cert.LnRefIdeal.τ).loc Cert.LnRefIdeal.main_arg2) = m' ((c.tc : Thread Cert.LnRefIdeal.nD Cert.LnRefIdeal.τ).loc Cert.LnRefIdeal.main_arg2)
          ∧ r.2.mem ((c.tc : Thread Cert.LnRefIdeal.nD Cert.LnRefIdeal.τ).loc Cert.LnRefIdeal.main_arg3) = m' ((c.tc : Thread Cert.LnRefIdeal.nD Cert.LnRefIdeal.τ).loc Cert.LnRefIdeal.main_arg3)
          ∧ r.2.mem ((c.tc : Thread Cert.LnRefIdeal.nD Cert.LnRefIdeal.τ).loc Cert.LnRefIdeal.main_arg4) = m' ((c.tc : Thread Cert.LnRefIdeal.nD Cert.LnRefIdeal.τ).loc Cert.LnRefIdeal.main_arg4)
          ∧ r.2.mem ((c.tc : Thread Cert.LnRefIdeal.nD Cert.LnRefIdeal.τ).loc Cert.LnRefIdeal.main_arg5) = m' ((c.tc : Thread Cert.LnRefIdeal.nD Cert.LnRefIdeal.τ).loc Cert.LnRefIdeal.main_arg5))

def Claim : Prop :=
  ∃ (hKernel : Cert.Kernel.Facts) (hKernelIdeal : Cert.KernelIdeal.Facts) (hReferenceIdeal : Cert.ReferenceIdeal.Facts) (hQkv : Cert.Qkv.Facts) (hQkvIdeal : Cert.QkvIdeal.Facts) (hQkvRefIdeal : Cert.QkvRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hOutAb : Cert.OutAb.Facts) (hOutAbIdeal : Cert.OutAbIdeal.Facts) (hOutAbRefIdeal : Cert.OutAbRefIdeal.Facts) (hAb : Cert.Ab.Facts) (hAbIdeal : Cert.AbIdeal.Facts) (hAbRefIdeal : Cert.AbRefIdeal.Facts) (hWin : Cert.Win.Facts) (hWinIdeal : Cert.WinIdeal.Facts) (hWinRefIdeal : Cert.WinRefIdeal.Facts) (hCmp : Cert.Cmp.Facts) (hCmpIdeal : Cert.CmpIdeal.Facts) (hCmpRefIdeal : Cert.CmpRefIdeal.Facts) (hCastIn : Cert.CastIn.Facts) (hCastInIdeal : Cert.CastInIdeal.Facts) (hCastInRefIdeal : Cert.CastInRefIdeal.Facts) (hCastOut : Cert.CastOut.Facts) (hCastOutIdeal : Cert.CastOutIdeal.Facts) (hCastOutRefIdeal : Cert.CastOutRefIdeal.Facts) (hLn : Cert.Ln.Facts) (hLnIdeal : Cert.LnIdeal.Facts) (hLnRefIdeal : Cert.LnRefIdeal.Facts) (hPre_finite : Cert.Pre_finite.Facts) (hPre_experts_in_range : Cert.Pre_experts_in_range.Facts) (hPre_down_experts_in_range : Cert.Pre_down_experts_in_range.Facts) (hPre_win_finite : Cert.Pre_win_finite.Facts) (hPre_cmp_finite : Cert.Pre_cmp_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Qkv (hQkv := hQkv)
    ∧ quiescent_QkvIdeal (hQkvIdeal := hQkvIdeal)
    ∧ quiescent_QkvRefIdeal (hQkvRefIdeal := hQkvRefIdeal)
    ∧ quiescent_Up (hUp := hUp) (hPre_experts_in_range := hPre_experts_in_range)
    ∧ quiescent_UpIdeal (hUpIdeal := hUpIdeal) (hPre_experts_in_range := hPre_experts_in_range)
    ∧ quiescent_UpRefIdeal (hUpRefIdeal := hUpRefIdeal)
    ∧ quiescent_UpRefIdeal_pre_experts_in_range (hUpRefIdeal := hUpRefIdeal) (hPre_experts_in_range := hPre_experts_in_range)
    ∧ quiescent_Down (hDown := hDown) (hPre_down_experts_in_range := hPre_down_experts_in_range)
    ∧ quiescent_DownIdeal (hDownIdeal := hDownIdeal) (hPre_down_experts_in_range := hPre_down_experts_in_range)
    ∧ quiescent_DownRefIdeal (hDownRefIdeal := hDownRefIdeal)
    ∧ quiescent_DownRefIdeal_pre_down_experts_in_range (hDownRefIdeal := hDownRefIdeal) (hPre_down_experts_in_range := hPre_down_experts_in_range)
    ∧ quiescent_Out (hOut := hOut)
    ∧ quiescent_OutIdeal (hOutIdeal := hOutIdeal)
    ∧ quiescent_OutRefIdeal (hOutRefIdeal := hOutRefIdeal)
    ∧ quiescent_OutAb (hOutAb := hOutAb)
    ∧ quiescent_OutAbIdeal (hOutAbIdeal := hOutAbIdeal)
    ∧ quiescent_OutAbRefIdeal (hOutAbRefIdeal := hOutAbRefIdeal)
    ∧ quiescent_Ab (hAb := hAb)
    ∧ quiescent_AbIdeal (hAbIdeal := hAbIdeal)
    ∧ quiescent_AbRefIdeal (hAbRefIdeal := hAbRefIdeal)
    ∧ quiescent_Win (hWin := hWin)
    ∧ quiescent_WinIdeal (hWinIdeal := hWinIdeal)
    ∧ quiescent_WinIdeal_pre_win_finite (hWinIdeal := hWinIdeal) (hPre_win_finite := hPre_win_finite)
    ∧ quiescent_WinRefIdeal (hWinRefIdeal := hWinRefIdeal)
    ∧ quiescent_WinRefIdeal_pre_win_finite (hWinRefIdeal := hWinRefIdeal) (hPre_win_finite := hPre_win_finite)
    ∧ quiescent_Cmp (hCmp := hCmp)
    ∧ quiescent_CmpIdeal (hCmpIdeal := hCmpIdeal)
    ∧ quiescent_CmpIdeal_pre_cmp_finite (hCmpIdeal := hCmpIdeal) (hPre_cmp_finite := hPre_cmp_finite)
    ∧ quiescent_CmpRefIdeal (hCmpRefIdeal := hCmpRefIdeal)
    ∧ quiescent_CmpRefIdeal_pre_cmp_finite (hCmpRefIdeal := hCmpRefIdeal) (hPre_cmp_finite := hPre_cmp_finite)
    ∧ quiescent_CastIn (hCastIn := hCastIn)
    ∧ quiescent_CastInIdeal (hCastInIdeal := hCastInIdeal)
    ∧ quiescent_CastInRefIdeal (hCastInRefIdeal := hCastInRefIdeal)
    ∧ quiescent_CastOut (hCastOut := hCastOut)
    ∧ quiescent_CastOutIdeal (hCastOutIdeal := hCastOutIdeal)
    ∧ quiescent_CastOutRefIdeal (hCastOutRefIdeal := hCastOutRefIdeal)
    ∧ quiescent_Ln (hLn := hLn)
    ∧ quiescent_LnIdeal (hLnIdeal := hLnIdeal)
    ∧ quiescent_LnRefIdeal (hLnRefIdeal := hLnRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Qkv_QkvIdeal
    ∧ algebraic_QkvIdeal_QkvRefIdeal (hQkvIdeal := hQkvIdeal) (hQkvRefIdeal := hQkvRefIdeal)
    ∧ preserves_Up_UpIdeal
    ∧ algebraic_UpIdeal_UpRefIdeal (hUpIdeal := hUpIdeal) (hUpRefIdeal := hUpRefIdeal) (hPre_experts_in_range := hPre_experts_in_range)
    ∧ preserves_Down_DownIdeal
    ∧ algebraic_DownIdeal_DownRefIdeal (hDownIdeal := hDownIdeal) (hDownRefIdeal := hDownRefIdeal) (hPre_down_experts_in_range := hPre_down_experts_in_range)
    ∧ preserves_Out_OutIdeal
    ∧ algebraic_OutIdeal_OutRefIdeal (hOutIdeal := hOutIdeal) (hOutRefIdeal := hOutRefIdeal)
    ∧ preserves_OutAb_OutAbIdeal
    ∧ algebraic_OutAbIdeal_OutAbRefIdeal (hOutAbIdeal := hOutAbIdeal) (hOutAbRefIdeal := hOutAbRefIdeal)
    ∧ preserves_Ab_AbIdeal
    ∧ algebraic_AbIdeal_AbRefIdeal (hAbIdeal := hAbIdeal) (hAbRefIdeal := hAbRefIdeal)
    ∧ preserves_Win_WinIdeal
    ∧ algebraic_WinIdeal_WinRefIdeal_pre_win_finite (hWinIdeal := hWinIdeal) (hWinRefIdeal := hWinRefIdeal) (hPre_win_finite := hPre_win_finite)
    ∧ preserves_Cmp_CmpIdeal
    ∧ algebraic_CmpIdeal_CmpRefIdeal_pre_cmp_finite (hCmpIdeal := hCmpIdeal) (hCmpRefIdeal := hCmpRefIdeal) (hPre_cmp_finite := hPre_cmp_finite)
    ∧ preserves_CastIn_CastInIdeal
    ∧ algebraic_CastInIdeal_CastInRefIdeal (hCastInIdeal := hCastInIdeal) (hCastInRefIdeal := hCastInRefIdeal)
    ∧ preserves_CastOut_CastOutIdeal
    ∧ algebraic_CastOutIdeal_CastOutRefIdeal (hCastOutIdeal := hCastOutIdeal) (hCastOutRefIdeal := hCastOutRefIdeal)
    ∧ preserves_Ln_LnIdeal
    ∧ algebraic_LnIdeal_LnRefIdeal (hLnIdeal := hLnIdeal) (hLnRefIdeal := hLnRefIdeal)
-- ==== Pre_cmp_finite.lean ====
abbrev S2x8192x128 : Shape := ⟨3, ![2, 8192, 128]⟩
abbrev S2x32x128 : Shape := ⟨3, ![2, 32, 128]⟩
abbrev S2x4096x256 : Shape := ⟨3, ![2, 4096, 256]⟩
abbrev S2x256 : Shape := ⟨2, ![2, 256]⟩
abbrev S2x256x128 : Shape := ⟨3, ![2, 256, 128]⟩
abbrev S2x128 : Shape := ⟨2, ![2, 128]⟩
abbrev S_ : Shape := ⟨0, ![]⟩

class Facts : Prop where
  bcast_S_S2x8192x128 : S_.BroadcastsInDim S2x8192x128 (![] : Fin 0 → Fin S2x8192x128.rank)
  reducesTo_S2x8192x128_S_d0_1_2 : S2x8192x128.ReducesTo [0, 1, 2] S_
  h_S_ : 0 < S_.numel
  bcast_S_S2x32x128 : S_.BroadcastsInDim S2x32x128 (![] : Fin 0 → Fin S2x32x128.rank)
  reducesTo_S2x32x128_S_d0_1_2 : S2x32x128.ReducesTo [0, 1, 2] S_
  bcast_S_S2x4096x256 : S_.BroadcastsInDim S2x4096x256 (![] : Fin 0 → Fin S2x4096x256.rank)
  reducesTo_S2x4096x256_S_d0_1_2 : S2x4096x256.ReducesTo [0, 1, 2] S_

variable [Facts]

def fn {F : FTy → Type} [FloatOps F] (main_arg0 : FVec F S2x8192x128 .bf16) (main_arg1 : FVec F S2x32x128 .f32) (main_arg2 : FVec F S2x4096x256 .f32) (main_arg3 : FVec F S2x256 .f32) (main_arg4 : FVec F S2x256x128 .f32) (main_arg5 : FVec F S2x128 .f32) : IVec S_ 1 × IVec S_ 1 × IVec S_ 1 :=
  let main_v0 : FVec F S2x8192x128 .bf16 := Host.absf main_arg0
  let main_cst : FVec F S_ .bf16 := constant S_ .bf16 0x7F80#16
  let main_v1 : FVec F S2x8192x128 .bf16 := broadcastInDim S2x8192x128 ![] bcast_S_S2x8192x128 main_cst
  let main_v2 : IVec S2x8192x128 1 := cmpf .olt main_v0 main_v1
  let main_c : IVec S_ 1 := constantI S_ 1 1#1
  let main_v3 : IVec S_ 1 := (fun x v => Host.reduce IntOp.andi x v reducesTo_S2x8192x128_S_d0_1_2 h_S_) main_v2 main_c
  let main_v4 : FVec F S2x32x128 .f32 := Host.absf main_arg1
  let main_cst_0 : FVec F S_ .f32 := constant S_ .f32 0x7F800000#32
  let main_v5 : FVec F S2x32x128 .f32 := broadcastInDim S2x32x128 ![] bcast_S_S2x32x128 main_cst_0
  let main_v6 : IVec S2x32x128 1 := cmpf .olt main_v4 main_v5
  let main_c_1 : IVec S_ 1 := constantI S_ 1 1#1
  let main_v7 : IVec S_ 1 := (fun x v => Host.reduce IntOp.andi x v reducesTo_S2x32x128_S_d0_1_2 h_S_) main_v6 main_c_1
  let main_v8 : FVec F S2x4096x256 .f32 := Host.absf main_arg2
  let main_cst_2 : FVec F S_ .f32 := constant S_ .f32 0x7F800000#32
  let main_v9 : FVec F S2x4096x256 .f32 := broadcastInDim S2x4096x256 ![] bcast_S_S2x4096x256 main_cst_2
  let main_v10 : IVec S2x4096x256 1 := cmpf .olt main_v8 main_v9
  let main_c_3 : IVec S_ 1 := constantI S_ 1 1#1
  let main_v11 : IVec S_ 1 := (fun x v => Host.reduce IntOp.andi x v reducesTo_S2x4096x256_S_d0_1_2 h_S_) main_v10 main_c_3
  (main_v3, main_v7, main_v11)
-- ==== Pre_down_experts_in_range.lean ====
abbrev S20480x768 : Shape := ⟨2, ![20480, 768]⟩
abbrev S4x16x768x4096 : Shape := ⟨4, ![4, 16, 768, 4096]⟩
abbrev S80 : Shape := ⟨1, ![80]⟩
abbrev S1 : Shape := ⟨1, ![1]⟩
abbrev S_ : Shape := ⟨0, ![]⟩

class Facts : Prop where
  bcast_S_S80 : S_.BroadcastsInDim S80 (![] : Fin 0 → Fin S80.rank)

variable [Facts]

def fn {F : FTy → Type} [FloatOps F] (main_arg0 : FVec F S20480x768 .bf16) (main_arg1 : FVec F S4x16x768x4096 .f32) (main_arg2 : IVec S80 32) (main_arg3 : IVec S1 32) : IVec S80 1 :=
  let main_c : IVec S_ 32 := constantI S_ 32 0#32
  let main_v0 : IVec S80 32 := broadcastInDim S80 ![] bcast_S_S80 main_c
  let main_v1 : IVec S80 1 := cmpi .sge main_arg2 main_v0
  let main_c_0 : IVec S_ 32 := constantI S_ 32 16#32
  let main_v2 : IVec S80 32 := broadcastInDim S80 ![] bcast_S_S80 main_c_0
  let main_v3 : IVec S80 1 := cmpi .slt main_arg2 main_v2
  let main_v4 : IVec S80 1 := andi main_v1 main_v3
  main_v4
-- ==== Pre_experts_in_range.lean ====
abbrev S20480x4096 : Shape := ⟨2, ![20480, 4096]⟩
abbrev S20480x768 : Shape := ⟨2, ![20480, 768]⟩
abbrev S4x16x4096x768 : Shape := ⟨4, ![4, 16, 4096, 768]⟩
abbrev S80 : Shape := ⟨1, ![80]⟩
abbrev S1 : Shape := ⟨1, ![1]⟩
abbrev S_ : Shape := ⟨0, ![]⟩

class Facts : Prop where
  bcast_S_S80 : S_.BroadcastsInDim S80 (![] : Fin 0 → Fin S80.rank)

variable [Facts]

def fn {F : FTy → Type} [FloatOps F] (main_arg0 : FVec F S20480x4096 .bf16) (main_arg1 : FVec F S20480x768 .f32) (main_arg2 : FVec F S4x16x4096x768 .f32) (main_arg3 : IVec S80 32) (main_arg4 : IVec S1 32) : IVec S80 1 :=
  let main_c : IVec S_ 32 := constantI S_ 32 0#32
  let main_v0 : IVec S80 32 := broadcastInDim S80 ![] bcast_S_S80 main_c
  let main_v1 : IVec S80 1 := cmpi .sge main_arg3 main_v0
  let main_c_0 : IVec S_ 32 := constantI S_ 32 16#32
  let main_v2 : IVec S80 32 := broadcastInDim S80 ![] bcast_S_S80 main_c_0
  let main_v3 : IVec S80 1 := cmpi .slt main_arg3 main_v2
  let main_v4 : IVec S80 1 := andi main_v1 main_v3
  main_v4
-- ==== Pre_finite.lean ====
abbrev S44x8192x128 : Shape := ⟨3, ![44, 8192, 128]⟩
abbrev S16 : Shape := ⟨1, ![16]⟩
abbrev S_ : Shape := ⟨0, ![]⟩

class Facts : Prop where
  bcast_S_S44x8192x128 : S_.BroadcastsInDim S44x8192x128 (![] : Fin 0 → Fin S44x8192x128.rank)
  reducesTo_S44x8192x128_S_d0_1_2 : S44x8192x128.ReducesTo [0, 1, 2] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S44x8192x128 .f32) (main_arg1 : FVec F S16 .f32) (main_arg2 : FVec F S16 .f32) : IVec S_ 1 × IVec S_ 1 × IVec S_ 1 :=
  let main_v0 : FVec F S44x8192x128 .f32 := Host.absf main_arg0
  let main_cst : FVec F S_ .f32 := constant S_ .f32 0x7F800000#32
  let main_v1 : FVec F S44x8192x128 .f32 := broadcastInDim S44x8192x128 ![] bcast_S_S44x8192x128 main_cst
  let main_v2 : IVec S44x8192x128 1 := cmpf .olt main_v0 main_v1
  let main_c : IVec S_ 1 := constantI S_ 1 1#1
  let main_v3 : IVec S_ 1 := (fun x v => Host.reduce IntOp.andi x v reducesTo_S44x8192x128_S_d0_1_2 h_S_) main_v2 main_c
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : FVec F S16 .f32 := Host.absf main_arg2
  let main_cst_2 : FVec F S_ .f32 := constant S_ .f32 0x7F800000#32
  let main_v9 : FVec F S16 .f32 := broadcastInDim S16 ![] bcast_S_S16 main_cst_2
  let main_v10 : IVec S16 1 := cmpf .olt main_v8 main_v9
  let main_c_3 : IVec S_ 1 := constantI S_ 1 1#1
  let main_v11 : IVec S_ 1 := (fun x v => Host.reduce IntOp.andi x v reducesTo_S16_S_d0 h_S_) main_v10 main_c_3
  (main_v3, main_v7, main_v11)
-- ==== Pre_win_finite.lean ====
abbrev S44x8192x128 : Shape := ⟨3, ![44, 8192, 128]⟩
abbrev S16 : Shape := ⟨1, ![16]⟩
abbrev S16x8192x128 : Shape := ⟨3, ![16, 8192, 128]⟩
abbrev S_ : Shape := ⟨0, ![]⟩

class Facts : Prop where
  bcast_S_S44x8192x128 : S_.BroadcastsInDim S44x8192x128 (![] : Fin 0 → Fin S44x8192x128.rank)
  reducesTo_S44x8192x128_S_d0_1_2 : S44x8192x128.ReducesTo [0, 1, 2] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S44x8192x128 .f32) (main_arg1 : FVec F S16 .f32) (main_arg2 : FVec F S16x8192x128 .f32) : IVec S_ 1 × IVec S_ 1 :=
  let main_v0 : FVec F S44x8192x128 .f32 := Host.absf main_arg0
  let main_cst : FVec F S_ .f32 := constant S_ .f32 0x7F800000#32
  let main_v1 : FVec F S44x8192x128 .f32 := broadcastInDim S44x8192x128 ![] bcast_S_S44x8192x128 main_cst
  let main_v2 : IVec S44x8192x128 1 := cmpf .olt main_v0 main_v1
  let main_c : IVec S_ 1 := constantI S_ 1 1#1
  let main_v3 : IVec S_ 1 := (fun x v => Host.reduce IntOp.andi x v reducesTo_S44x8192x128_S_d0_1_2 h_S_) main_v2 main_c
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  (main_v3, main_v7)
-- ==== Kernel.lean ====
abbrev S44x8192x128 : Shape := ⟨3, ![44, 8192, 128]⟩
abbrev S16 : Shape := ⟨1, ![16]⟩
abbrev S32x8192x128 : Shape := ⟨3, ![32, 8192, 128]⟩
abbrev S_ : Shape := ⟨0, ![]⟩
abbrev S12x8192x128 : Shape := ⟨3, ![12, 8192, 128]⟩
abbrev S16x8192x128 : Shape := ⟨3, ![16, 8192, 128]⟩
abbrev S8x1024x128 : Shape := ⟨3, ![8, 1024, 128]⟩
abbrev S1x1024x128 : Shape := ⟨3, ![1, 1024, 128]⟩
abbrev S1x128x128 : Shape := ⟨3, ![1, 128, 128]⟩
abbrev S1152x128 : Shape := ⟨2, ![1152, 128]⟩
abbrev S128x128 : Shape := ⟨2, ![128, 128]⟩
abbrev S1024x128 : Shape := ⟨2, ![1024, 128]⟩
abbrev S128x256 : Shape := ⟨2, ![128, 256]⟩
abbrev S256x128 : Shape := ⟨2, ![256, 128]⟩
abbrev S8x128x128 : Shape := ⟨3, ![8, 128, 128]⟩
abbrev S1024x256 : Shape := ⟨2, ![1024, 256]⟩
abbrev S1 : Shape := ⟨1, ![1]⟩
abbrev S128 : Shape := ⟨1, ![128]⟩
abbrev S128x1 : Shape := ⟨2, ![128, 1]⟩

abbrev nBuf : Space → Nat
  | .hbm => 29
  | .vmem => 14
  | .smem => 2
  | _ => 0

abbrev bufTy : (tb : Table) → Fin (tcTables nBuf tb) → BufTy
  | .hbm, ⟨0, _⟩ => ⟨S44x8192x128, .f32⟩
  | .hbm, ⟨1, _⟩ => ⟨S16, .f32⟩
  | .hbm, ⟨2, _⟩ => ⟨S16, .f32⟩
  | .hbm, ⟨3, _⟩ => ⟨S32x8192x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S32x8192x128, .f32⟩
  | .hbm, ⟨12, _⟩ => ⟨S32x8192x128, .f32⟩
  | .hbm, ⟨13, _⟩ => ⟨S12x8192x128, .f32⟩
  | .hbm, ⟨14, _⟩ => ⟨S44x8192x128, .f32⟩
  | .hbm, ⟨15, _⟩ => ⟨S44x8192x128, .bf16⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S16x8192x128, .bf16⟩
  | .local _ .vmem, ⟨0, _⟩ => ⟨S8x1024x128, .bf16⟩
  | .local _ .vmem, ⟨1, _⟩ => ⟨S8x1024x128, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x128x128, .bf16⟩
  | .local _ .vmem, ⟨5, _⟩ => ⟨S1x128x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x128x128, .bf16⟩
  | .local _ .vmem, ⟨9, _⟩ => ⟨S1x128x128, .bf16⟩
  | .local _ .vmem, ⟨10, _⟩ => ⟨S8x1024x128, .bf16⟩
  | .local _ .vmem, ⟨11, _⟩ => ⟨S8x1024x128, .bf16⟩
  | .local _ .vmem, ⟨12, _⟩ => ⟨S1152x128, .bf16⟩
  | .local _ .vmem, ⟨13, _⟩ => ⟨S1152x128, .bf16⟩
  | .local _ .smem, ⟨0, _⟩ => ⟨S16, .f32⟩
  | .local _ .smem, ⟨1, _⟩ => ⟨S16, .f32⟩
  | _, _ => ⟨S44x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_cst_5 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_19 : BitVec 32 := 0#32
  let c8_i32 : BitVec 32 := 8#32
  let v33 : BitVec 32 := Scalar.addi c0_i32_19 c8_i32
  let c1_i32 : BitVec 32 := 1#32
  ⟨c0_i32_19, v33, c1_i32⟩
def k0_mult1 (k0_t1 : Fin k0_t1_loop.trips) : BitVec 32 :=
  let c0_i32_19 : BitVec 32 := 0#32
  let c1_i32 : BitVec 32 := 1#32
  let arg12 : BitVec 32 := Scf.iv c0_i32_19 c1_i32 k0_t1
  let c128_i32_21 : BitVec 32 := 128#32
  let v34 : BitVec 32 := Scalar.muli arg12 c128_i32_21
  v34
def k0_off1 (k0_t1 : Fin k0_t1_loop.trips) : Fin 2 → Nat :=
  let c0_i32_19 : BitVec 32 := 0#32
  let c1_i32 : BitVec 32 := 1#32
  let arg12 : BitVec 32 := Scf.iv c0_i32_19 c1_i32 k0_t1
  let c128_i32_21 : BitVec 32 := 128#32
  let v34 : BitVec 32 := Scalar.muli arg12 c128_i32_21
  let v35 : BitVec 32 := v34
  let v43 : Index := Scalar.indexCast v35
  let c0_24 : Index := 0#32
  ![v43.toNat, 0]
def k0_off2 (k0_t1 : Fin k0_t1_loop.trips) : Fin 3 → Nat :=
  let c0_26 : Index := 0#32
  let c0_i32_19 : BitVec 32 := 0#32
  let c1_i32 : BitVec 32 := 1#32
  let arg12 : BitVec 32 := Scf.iv c0_i32_19 c1_i32 k0_t1
  let c128_i32_21 : BitVec 32 := 128#32
  let v34 : BitVec 32 := Scalar.muli arg12 c128_i32_21
  let v35 : BitVec 32 := v34
  let v47 : Index := Scalar.indexCast v35
  let c0_27 : Index := 0#32
  ![0, v47.toNat, 0]
def k0_off3 (i : grid0.Coords) (c0_i32_30 : BitVec 32) : Fin 1 → Nat :=
  let arg0 : BitVec 32 := BitVec.ofNat 32 (i 0).val
  let c8_i32_29 : BitVec 32 := 8#32
  let v52 : BitVec 32 := Scalar.muli arg0 c8_i32_29
  let v53 : BitVec 32 := Scalar.addi v52 c0_i32_30
  let v55 : Index := Scalar.indexCast v53
  ![v55.toNat]
def k0_off4 (k0_t1 : Fin k0_t1_loop.trips) : Fin 3 → Nat :=
  let c0_64 : Index := 0#32
  let c0_i32_19 : BitVec 32 := 0#32
  let c1_i32 : BitVec 32 := 1#32
  let arg12 : BitVec 32 := Scf.iv c0_i32_19 c1_i32 k0_t1
  let c128_i32_21 : BitVec 32 := 128#32
  let v34 : BitVec 32 := Scalar.muli arg12 c128_i32_21
  let v35 : BitVec 32 := v34
  let v250 : Index := Scalar.indexCast v35
  let c0_65 : Index := 0#32
  ![0, v250.toNat, 0]
def k0_off5 (k0_t1 : Fin k0_t1_loop.trips) : Fin 3 → Nat :=
  let c1 : Index := 1#32
  let c0_i32_19 : BitVec 32 := 0#32
  let c1_i32 : BitVec 32 := 1#32
  let arg12 : BitVec 32 := Scf.iv c0_i32_19 c1_i32 k0_t1
  let c128_i32_21 : BitVec 32 := 128#32
  let v34 : BitVec 32 := Scalar.muli arg12 c128_i32_21
  let v35 : BitVec 32 := v34
  let v258 : Index := Scalar.indexCast v35
  let c0_66 : Index := 0#32
  ![1, v258.toNat, 0]
def k0_off6 (k0_t1 : Fin k0_t1_loop.trips) : Fin 3 → Nat :=
  let c2 : Index := 2#32
  let c0_i32_19 : BitVec 32 := 0#32
  let c1_i32 : BitVec 32 := 1#32
  let arg12 : BitVec 32 := Scf.iv c0_i32_19 c1_i32 k0_t1
  let c128_i32_21 : BitVec 32 := 128#32
  let v34 : BitVec 32 := Scalar.muli arg12 c128_i32_21
  let v35 : BitVec 32 := v34
  let v266 : Index := Scalar.indexCast v35
  let c0_67 : Index := 0#32
  ![2, v266.toNat, 0]
def k0_off7 (k0_t1 : Fin k0_t1_loop.trips) : Fin 3 → Nat :=
  let c3 : Index := 3#32
  let c0_i32_19 : BitVec 32 := 0#32
  let c1_i32 : BitVec 32 := 1#32
  let arg12 : BitVec 32 := Scf.iv c0_i32_19 c1_i32 k0_t1
  let c128_i32_21 : BitVec 32 := 128#32
  let v34 : BitVec 32 := Scalar.muli arg12 c128_i32_21
  let v35 : BitVec 32 := v34
  let v274 : Index := Scalar.indexCast v35
  let c0_68 : Index := 0#32
  ![3, v274.toNat, 0]
def k0_off8 (k0_t1 : Fin k0_t1_loop.trips) : Fin 3 → Nat :=
  let c4 : Index := 4#32
  let c0_i32_19 : BitVec 32 := 0#32
  let c1_i32 : BitVec 32 := 1#32
  let arg12 : BitVec 32 := Scf.iv c0_i32_19 c1_i32 k0_t1
  let c128_i32_21 : BitVec 32 := 128#32
  let v34 : BitVec 32 := Scalar.muli arg12 c128_i32_21
  let v35 : BitVec 32 := v34
  let v282 : Index := Scalar.indexCast v35
  let c0_69 : Index := 0#32
  ![4, v282.toNat, 0]
def k0_off9 (k0_t1 : Fin k0_t1_loop.trips) : Fin 3 → Nat :=
  let c5 : Index := 5#32
  let c0_i32_19 : BitVec 32 := 0#32
  let c1_i32 : BitVec 32 := 1#32
  let arg12 : BitVec 32 := Scf.iv c0_i32_19 c1_i32 k0_t1
  let c128_i32_21 : BitVec 32 := 128#32
  let v34 : BitVec 32 := Scalar.muli arg12 c128_i32_21
  let v35 : BitVec 32 := v34
  let v290 : Index := Scalar.indexCast v35
  let c0_70 : Index := 0#32
  ![5, v290.toNat, 0]
def k0_off10 (k0_t1 : Fin k0_t1_loop.trips) : Fin 3 → Nat :=
  let c6 : Index := 6#32
  let c0_i32_19 : BitVec 32 := 0#32
  let c1_i32 : BitVec 32 := 1#32
  let arg12 : BitVec 32 := Scf.iv c0_i32_19 c1_i32 k0_t1
  let c128_i32_21 : BitVec 32 := 128#32
  let v34 : BitVec 32 := Scalar.muli arg12 c128_i32_21
  let v35 : BitVec 32 := v34
  let v298 : Index := Scalar.indexCast v35
  let c0_71 : Index := 0#32
  ![6, v298.toNat, 0]
def k0_off11 (k0_t1 : Fin k0_t1_loop.trips) : Fin 3 → Nat :=
  let c7 : Index := 7#32
  let c0_i32_19 : BitVec 32 := 0#32
  let c1_i32 : BitVec 32 := 1#32
  let arg12 : BitVec 32 := Scf.iv c0_i32_19 c1_i32 k0_t1
  let c128_i32_21 : BitVec 32 := 128#32
  let v34 : BitVec 32 := Scalar.muli arg12 c128_i32_21
  let v35 : BitVec 32 := v34
  let v306 : Index := Scalar.indexCast v35
  let c0_72 : Index := 0#32
  ![7, v306.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c8_i32 : BitVec 32 := 8#32
  let v1 : BitVec 32 := Scalar.muli arg1 c8_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v0.toNat, v3.toNat, c0_i32_0.toNat]

def cc0_transform_5 (i : grid0.Coords) : Fin 3 → Nat :=
  let arg0 : BitVec 32 := BitVec.ofNat 32 (i 0).val
  let arg1 : BitVec 32 := BitVec.ofNat 32 (i 1).val
  let c34_i32 : BitVec 32 := 34#32
  let v0 : BitVec 32 := Scalar.addi c34_i32 arg0
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c34_i32 : BitVec 32 := 34#32
  let v0 : BitVec 32 := Scalar.addi c34_i32 arg0
  let c8_i32 : BitVec 32 := 8#32
  let v1 : BitVec 32 := Scalar.muli arg1 c8_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v0.toNat, v3.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S44x8192x128 : Shape := ⟨3, ![44, 8192, 128]⟩
abbrev S16 : Shape := ⟨1, ![16]⟩
abbrev S16x8192x128 : Shape := ⟨3, ![16, 8192, 128]⟩
abbrev S8192x16x128 : Shape := ⟨3, ![8192, 16, 128]⟩
abbrev S1x8192x16x128 : Shape := ⟨4, ![1, 8192, 16, 128]⟩
abbrev S2x8192x128 : Shape := ⟨3, ![2, 8192, 128]⟩
abbrev S8192x2x128 : Shape := ⟨3, ![8192, 2, 128]⟩
abbrev S1x8192x2x128 : Shape := ⟨4, ![1, 8192, 2, 128]⟩
abbrev S1x64x128x2x8x128 : Shape := ⟨6, ![1, 64, 128, 2, 8, 128]⟩
abbrev S1x64x128x2x128 : Shape := ⟨5, ![1, 64, 128, 2, 128]⟩
abbrev S_ : Shape := ⟨0, ![]⟩
abbrev S1x1x128x2x128 : Shape := ⟨5, ![1, 1, 128, 2, 128]⟩
abbrev S1x65x128x2x128 : Shape := ⟨5, ![1, 65, 128, 2, 128]⟩
abbrev S1x64x256x2x128 : Shape := ⟨5, ![1, 64, 256, 2, 128]⟩
abbrev S1x2x64x256x128x8 : Shape := ⟨6, ![1, 2, 64, 256, 128, 8]⟩
abbrev S1x2x8x64x128x256 : Shape := ⟨6, ![1, 2, 8, 64, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1 : Shape := ⟨2, ![64, 1]⟩
abbrev S64x256 : Shape := ⟨2, ![64, 256]⟩
abbrev S1x128x256 : Shape := ⟨3, ![1, 128, 256]⟩
abbrev S64x1x256 : Shape := ⟨3, ![64, 1, 256]⟩
abbrev S64x128x256 : Shape := ⟨3, ![64, 128, 256]⟩
abbrev S2x8x1x1x1 : Shape := ⟨5, ![2, 8, 1, 1, 1]⟩
abbrev S1x1x1x128x256 : Shape := ⟨5, ![1, 1, 1, 128, 256]⟩
abbrev S2x8x1x128x256 : Shape := ⟨5, ![2, 8, 1, 128, 256]⟩
abbrev S1x2x8x1x128x256 : Shape := ⟨6, ![1, 2, 8, 1, 128, 256]⟩
abbrev S1x2x8x64x128 : Shape := ⟨5, ![1, 2, 8, 64, 128]⟩
abbrev S1x2x8x64x128x1 : Shape := ⟨6, ![1, 2, 8, 64, 128, 1]⟩
abbrev S1x64x2x128x8x128 : Shape := ⟨6, ![1, 64, 2, 128, 8, 128]⟩
abbrev S1x64x128x2x8 : Shape := ⟨5, ![1, 64, 128, 2, 8]⟩
abbrev S1x8192x16 : Shape := ⟨3, ![1, 8192, 16]⟩
abbrev S1x1x16 : Shape := ⟨3, ![1, 1, 16]⟩
abbrev S1x8192x16x1 : Shape := ⟨4, ![1, 8192, 16, 1]⟩

abbrev nBuf : Space → Nat
  | .hbm => 122
  | .vmem => 0
  | .smem => 0
  | _ => 0

abbrev bufTy : (tb : Table) → Fin (tcTables nBuf tb) → BufTy
  | .hbm, ⟨0, _⟩ => ⟨S44x8192x128, .f32⟩
  | .hbm, ⟨1, _⟩ => ⟨S16, .f32⟩
  | .hbm, ⟨2, _⟩ => ⟨S16, .f32⟩
  | .hbm, ⟨3, _⟩ => ⟨S16x8192x128, .f32⟩
  | .hbm, ⟨4, _⟩ => ⟨S8192x16x128, .f32⟩
  | .hbm, ⟨5, _⟩ => ⟨S1x8192x16x128, .f32⟩
  | .hbm, ⟨6, _⟩ => ⟨S2x8192x128, .f32⟩
  | .hbm, ⟨7, _⟩ => ⟨S8192x2x128, .f32⟩
  | .hbm, ⟨8, _⟩ => ⟨S1x8192x2x128, .f32⟩
  | .hbm, ⟨9, _⟩ => ⟨S2x8192x128, .f32⟩
  | .hbm, ⟨10, _⟩ => ⟨S8192x2x128, .f32⟩
  | .hbm, ⟨11, _⟩ => ⟨S1x8192x2x128, .f32⟩
  | .hbm, ⟨12, _⟩ => ⟨S1x64x128x2x8x128, .f32⟩
  | .hbm, ⟨13, _⟩ => ⟨S1x64x128x2x128, .f32⟩
  | .hbm, ⟨14, _⟩ => ⟨S_, .f32⟩
  | .hbm, ⟨15, _⟩ => ⟨S1x1x128x2x128, .f32⟩
  | .hbm, ⟨16, _⟩ => ⟨S1x65x128x2x128, .f32⟩
  | .hbm, ⟨17, _⟩ => ⟨S1x64x128x2x128, .f32⟩
  | .hbm, ⟨18, _⟩ => ⟨S1x64x128x2x128, .f32⟩
  | .hbm, ⟨19, _⟩ => ⟨S1x64x256x2x128, .f32⟩
  | .hbm, ⟨20, _⟩ => ⟨S1x64x128x2x128, .f32⟩
  | .hbm, ⟨21, _⟩ => ⟨S_, .f32⟩
  | .hbm, ⟨22, _⟩ => ⟨S1x1x128x2x128, .f32⟩
  | .hbm, ⟨23, _⟩ => ⟨S1x65x128x2x128, .f32⟩
  | .hbm, ⟨24, _⟩ => ⟨S1x64x128x2x128, .f32⟩
  | .hbm, ⟨25, _⟩ => ⟨S1x64x128x2x128, .f32⟩
  | .hbm, ⟨26, _⟩ => ⟨S1x64x256x2x128, .f32⟩
  | .hbm, ⟨27, _⟩ => ⟨S1x2x64x256x128x8, .f32⟩
  | .hbm, ⟨28, _⟩ => ⟨S1x2x8x64x128x256, .f32⟩
  | .hbm, ⟨29, _⟩ => ⟨S_, .f32⟩
  | .hbm, ⟨30, _⟩ => ⟨S_, .f32⟩
  | .hbm, ⟨31, _⟩ => ⟨S1x2x8x64x128x256, .f32⟩
  | .hbm, ⟨32, _⟩ => ⟨S1x2x8x64x128x256, .f32⟩
  | .hbm, ⟨33, _⟩ => ⟨S128, .i32⟩
  | .hbm, ⟨34, _⟩ => ⟨S128x1, .i32⟩
  | .hbm, ⟨35, _⟩ => ⟨S_, .i32⟩
  | .hbm, ⟨36, _⟩ => ⟨S128x1, .i32⟩
  | .hbm, ⟨37, _⟩ => ⟨S128x1, .i32⟩
  | .hbm, ⟨38, _⟩ => ⟨S256, .i32⟩
  | .hbm, ⟨39, _⟩ => ⟨S1x256, .i32⟩
  | .hbm, ⟨40, _⟩ => ⟨S128x256, .i32⟩
  | .hbm, ⟨41, _⟩ => ⟨S128x256, .i32⟩
  | .hbm, ⟨42, _⟩ => ⟨S128x256, .i32⟩
  | .hbm, ⟨43, _⟩ => ⟨S64, .i32⟩
  | .hbm, ⟨44, _⟩ => ⟨S64x1, .i32⟩
  | .hbm, ⟨45, _⟩ => ⟨S_, .i32⟩
  | .hbm, ⟨46, _⟩ => ⟨S64x1, .i32⟩
  | .hbm, ⟨47, _⟩ => ⟨S64x1, .i32⟩
  | .hbm, ⟨48, _⟩ => ⟨S_, .i32⟩
  | .hbm, ⟨49, _⟩ => ⟨S64x1, .i32⟩
  | .hbm, ⟨50, _⟩ => ⟨S64x1, .i32⟩
  | .hbm, ⟨51, _⟩ => ⟨S256, .i32⟩
  | .hbm, ⟨52, _⟩ => ⟨S1x256, .i32⟩
  | .hbm, ⟨53, _⟩ => ⟨S64x256, .i32⟩
  | .hbm, ⟨54, _⟩ => ⟨S64x256, .i32⟩
  | .hbm, ⟨55, _⟩ => ⟨S64x256, .i32⟩
  | .hbm, ⟨56, _⟩ => ⟨S_, .i32⟩
  | .hbm, ⟨57, _⟩ => ⟨S128x256, .i32⟩
  | .hbm, ⟨58, _⟩ => ⟨S128x256, .i1⟩
  | .hbm, ⟨59, _⟩ => ⟨S_, .i32⟩
  | .hbm, ⟨60, _⟩ => ⟨S128x256, .i32⟩
  | .hbm, ⟨61, _⟩ => ⟨S128x256, .i1⟩
  | .hbm, ⟨62, _⟩ => ⟨S128x256, .i1⟩
  | .hbm, ⟨63, _⟩ => ⟨S1x128x256, .i1⟩
  | .hbm, ⟨64, _⟩ => ⟨S_, .i32⟩
  | .hbm, ⟨65, _⟩ => ⟨S64x256, .i32⟩
  | .hbm, ⟨66, _⟩ => ⟨S64x256, .i1⟩
  | .hbm, ⟨67, _⟩ => ⟨S64x1x256, .i1⟩
  | .hbm, ⟨68, _⟩ => ⟨S64x128x256, .i1⟩
  | .hbm, ⟨69, _⟩ => ⟨S64x128x256, .i1⟩
  | .hbm, ⟨70, _⟩ => ⟨S64x128x256, .i1⟩
  | .hbm, ⟨71, _⟩ => ⟨S2x8x1x1x1, .f32⟩
  | .hbm, ⟨72, _⟩ => ⟨S2x8x1x1x1, .f32⟩
  | .hbm, ⟨73, _⟩ => ⟨S128x256, .f32⟩
  | .hbm, ⟨74, _⟩ => ⟨S1x1x1x128x256, .f32⟩
  | .hbm, ⟨75, _⟩ => ⟨S2x8x1x128x256, .f32⟩
  | .hbm, ⟨76, _⟩ => ⟨S2x8x1x128x256, .f32⟩
  | .hbm, ⟨77, _⟩ => ⟨S2x8x1x128x256, .f32⟩
  | .hbm, ⟨78, _⟩ => ⟨S1x2x8x1x128x256, .f32⟩
  | .hbm, ⟨79, _⟩ => ⟨S1x2x8x64x128x256, .f32⟩
  | .hbm, ⟨80, _⟩ => ⟨S1x2x8x64x128x256, .f32⟩
  | .hbm, ⟨81, _⟩ => ⟨S_, .f32⟩
  | .hbm, ⟨82, _⟩ => ⟨S_, .f32⟩
  | .hbm, ⟨83, _⟩ => ⟨S1x2x8x64x128x256, .i1⟩
  | .hbm, ⟨84, _⟩ => ⟨S1x2x8x64x128x256, .f32⟩
  | .hbm, ⟨85, _⟩ => ⟨S1x2x8x64x128x256, .f32⟩
  | .hbm, ⟨86, _⟩ => ⟨S_, .f32⟩
  | .hbm, ⟨87, _⟩ => ⟨S1x2x8x64x128, .f32⟩
  | .hbm, ⟨88, _⟩ => ⟨S1x2x8x64x128x1, .f32⟩
  | .hbm, ⟨89, _⟩ => ⟨S1x2x8x64x128x256, .f32⟩
  | .hbm, ⟨90, _⟩ => ⟨S1x2x8x64x128x256, .f32⟩
  | .hbm, ⟨91, _⟩ => ⟨S1x2x8x64x128x256, .f32⟩
  | .hbm, ⟨92, _⟩ => ⟨S_, .f32⟩
  | .hbm, ⟨93, _⟩ => ⟨S1x2x8x64x128, .f32⟩
  | .hbm, ⟨94, _⟩ => ⟨S1x2x8x64x128, .f32⟩
  | .hbm, ⟨95, _⟩ => ⟨S1x2x8x64x128, .f32⟩
  | .hbm, ⟨96, _⟩ => ⟨S1x2x8x64x128x1, .f32⟩
  | .hbm, ⟨97, _⟩ => ⟨S1x2x8x64x128x256, .f32⟩
  | .hbm, ⟨98, _⟩ => ⟨S1x2x8x64x128x256, .f32⟩
  | .hbm, ⟨99, _⟩ => ⟨S1x2x8x64x128x256, .f32⟩
  | .hbm, ⟨100, _⟩ => ⟨S1x64x2x128x8x128, .f32⟩
  | .hbm, ⟨101, _⟩ => ⟨S1x64x128x2x8x128, .f32⟩
  | .hbm, ⟨102, _⟩ => ⟨S1x8192x16x128, .f32⟩
  | .hbm, ⟨103, _⟩ => ⟨S1x64x128x2x8, .f32⟩
  | .hbm, ⟨104, _⟩ => ⟨S1x8192x16, .f32⟩
  | .hbm, ⟨105, _⟩ => ⟨S1x1x16, .f32⟩
  | .hbm, ⟨106, _⟩ => ⟨S1x8192x16, .f32⟩
  | .hbm, ⟨107, _⟩ => ⟨S1x8192x16, .f32⟩
  | .hbm, ⟨108, _⟩ => ⟨S1x8192x16, .f32⟩
  | .hbm, ⟨109, _⟩ => ⟨S1x8192x16, .f32⟩
  | .hbm, ⟨110, _⟩ => ⟨S_, .f32⟩
  | .hbm, ⟨111, _⟩ => ⟨S1x8192x16, .f32⟩
  | .hbm, ⟨112, _⟩ => ⟨S1x8192x16, .f32⟩
  | .hbm, ⟨113, _⟩ => ⟨S_, .f32⟩
  | .hbm, ⟨114, _⟩ => ⟨S1x8192x16, .f32⟩
  | .hbm, ⟨115, _⟩ => ⟨S1x8192x16, .f32⟩
  | .hbm, ⟨116, _⟩ => ⟨S1x8192x16x1, .f32⟩
  | .hbm, ⟨117, _⟩ => ⟨S1x8192x16x128, .f32⟩
  | .hbm, ⟨118, _⟩ => ⟨S1x8192x16x128, .f32⟩
  | .hbm, ⟨119, _⟩ => ⟨S8192x16x128, .f32⟩
  | .hbm, ⟨120, _⟩ => ⟨S16x8192x128, .f32⟩
  | .hbm, ⟨121, _⟩ => ⟨S16x8192x128, .bf16⟩
  | _, _ => ⟨S44x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_c_2 : Ref sig .tc := ⟨.hbm, 45, rfl⟩
abbrev main_v38 : Ref sig .tc := ⟨.hbm, 46, rfl⟩
abbrev main_v39 : Ref sig .tc := ⟨.hbm, 47, rfl⟩
abbrev main_c_3 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_c_4 : Ref sig .tc := ⟨.hbm, 56, rfl⟩
abbrev main_v47 : Ref sig .tc := ⟨.hbm, 57, rfl⟩
abbrev main_v48 : Ref sig .tc := ⟨.hbm, 58, rfl⟩
abbrev main_c_5 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_c_6 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_cst_7 : Ref sig .tc := ⟨.hbm, 81, rfl⟩
abbrev main_call0_v0 : Ref sig .tc := ⟨.hbm, 82, rfl⟩
abbrev main_call0_v1 : Ref sig .tc := ⟨.hbm, 83, rfl⟩
abbrev main_call0_v2 : Ref sig .tc := ⟨.hbm, 84, rfl⟩
abbrev main_v69 : Ref sig .tc := ⟨.hbm, 85, rfl⟩
abbrev main_cst_8 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_9 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_cst_10 : Ref sig .tc := ⟨.hbm, 110, rfl⟩
abbrev main_v92 : Ref sig .tc := ⟨.hbm, 111, rfl⟩
abbrev main_v93 : Ref sig .tc := ⟨.hbm, 112, rfl⟩
abbrev main_cst_11 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩

abbrev nD : Nat := 1
abbrev τ : Topo := Topo.v7x

variable {F : FTy → Type} [FloatOps F]
-- ==== Qkv.lean ====
abbrev S8192x4096 : Shape := ⟨2, ![8192, 4096]⟩
abbrev S2x4096x12288 : Shape := ⟨3, ![2, 4096, 12288]⟩
abbrev S96x8192x128 : Shape := ⟨3, ![96, 8192, 128]⟩
abbrev S1024x4096 : Shape := ⟨2, ![1024, 4096]⟩
abbrev S1x4096x512 : Shape := ⟨3, ![1, 4096, 512]⟩
abbrev S4x1024x128 : Shape := ⟨3, ![4, 1024, 128]⟩
abbrev S4096x512 : Shape := ⟨2, ![4096, 512]⟩
abbrev S1024x512 : Shape := ⟨2, ![1024, 512]⟩
abbrev S1024x128 : Shape := ⟨2, ![1024, 128]⟩
abbrev S1x1024x128 : Shape := ⟨3, ![1, 1024, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S2x4096x12288, .f32⟩
  | .hbm, ⟨2, _⟩ => ⟨S96x8192x128, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S4x1024x128, .f32⟩
  | .local _ .vmem, ⟨5, _⟩ => ⟨S4x1024x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvIdeal.lean ====
variable {F : FTy → Type} [FloatOps F] [Named F]
def κ : String → Option EReal := fun
  | "q_scale" => some (((Real.sqrt 128)⁻¹ * (Real.log 2)⁻¹ : ℝ) : EReal)
  | _ => none
-- ==== QkvRefIdeal.lean ====
abbrev S8192x4096 : Shape := ⟨2, ![8192, 4096]⟩
abbrev S2x4096x12288 : Shape := ⟨3, ![2, 4096, 12288]⟩
abbrev S1x4096x12288 : Shape := ⟨3, ![1, 4096, 12288]⟩
abbrev S4096x12288 : Shape := ⟨2, ![4096, 12288]⟩
abbrev S8192x12288 : Shape := ⟨2, ![8192, 12288]⟩
abbrev S8192x96x128 : Shape := ⟨3, ![8192, 96, 128]⟩
abbrev S96x8192x128 : Shape := ⟨3, ![96, 8192, 128]⟩
abbrev S96 : Shape := ⟨1, ![96]⟩
abbrev S_ : Shape := ⟨0, ![]⟩
abbrev S96x1x1 : Shape := ⟨3, ![96, 1, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x12288, .f32⟩
  | .hbm, ⟨2, _⟩ => ⟨S8192x4096, .f32⟩
  | .hbm, ⟨3, _⟩ => ⟨S1x4096x12288, .f32⟩
  | .hbm, ⟨4, _⟩ => ⟨S4096x12288, .f32⟩
  | .hbm, ⟨5, _⟩ => ⟨S8192x12288, .f32⟩
  | .hbm, ⟨6, _⟩ => ⟨S8192x96x128, .f32⟩
  | .hbm, ⟨7, _⟩ => ⟨S96x8192x128, .f32⟩
  | .hbm, ⟨8, _⟩ => ⟨S96, .i32⟩
  | .hbm, ⟨9, _⟩ => ⟨S_, .i32⟩
  | .hbm, ⟨10, _⟩ => ⟨S96, .i32⟩
  | .hbm, ⟨11, _⟩ => ⟨S96, .i1⟩
  | .hbm, ⟨12, _⟩ => ⟨S96x1x1, .i1⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S96x8192x128, .f32⟩
  | .hbm, ⟨21, _⟩ => ⟨S96x8192x128, .f32⟩
  | .hbm, ⟨22, _⟩ => ⟨S96x8192x128, .i1⟩
  | .hbm, ⟨23, _⟩ => ⟨S96x8192x128, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Up.lean ====
abbrev S20480x4096 : Shape := ⟨2, ![20480, 4096]⟩
abbrev S20480x768 : Shape := ⟨2, ![20480, 768]⟩
abbrev S4x16x4096x768 : Shape := ⟨4, ![4, 16, 4096, 768]⟩
abbrev S80 : Shape := ⟨1, ![80]⟩
abbrev S1 : Shape := ⟨1, ![1]⟩
abbrev S64x4096x768 : Shape := ⟨3, ![64, 4096, 768]⟩
abbrev S256x4096 : Shape := ⟨2, ![256, 4096]⟩
abbrev S256x768 : Shape := ⟨2, ![256, 768]⟩
abbrev S1x4096x768 : Shape := ⟨3, ![1, 4096, 768]⟩
abbrev S4096x768 : Shape := ⟨2, ![4096, 768]⟩

abbrev nBuf : Space → Nat
  | .hbm => 5
  | .vmem => 8
  | .smem => 2
  | _ => 0

abbrev bufTy : (tb : Table) → Fin (tcTables nBuf tb) → BufTy
  | .hbm, ⟨0, _⟩ => ⟨S20480x4096, .bf16⟩
  | .hbm, ⟨1, _⟩ => ⟨S20480x768, .f32⟩
  | .hbm, ⟨2, _⟩ => ⟨S4x16x4096x768, .f32⟩
  | .hbm, ⟨3, _⟩ => ⟨S64x4096x768, .f32⟩
  | .hbm, ⟨4, _⟩ => ⟨S20480x768, .bf16⟩
  | .local _ .vmem, ⟨0, _⟩ => ⟨S256x4096, .bf16⟩
  | .local _ .vmem, ⟨1, _⟩ => ⟨S256x4096, .bf16⟩
  | .local _ .vmem, ⟨2, _⟩ => ⟨S256x768, .f32⟩
  | .local _ .vmem, ⟨3, _⟩ => ⟨S256x768, .f32⟩
  | .local _ .vmem, ⟨4, _⟩ => ⟨S1x4096x768, .f32⟩
  | .local _ .vmem, ⟨5, _⟩ => ⟨S1x4096x768, .f32⟩
  | .local _ .vmem, ⟨6, _⟩ => ⟨S256x768, .bf16⟩
  | .local _ .vmem, ⟨7, _⟩ => ⟨S256x768, .bf16⟩
  | .local _ .smem, ⟨0, _⟩ => ⟨S80, .i32⟩
  | .local _ .smem, ⟨1, _⟩ => ⟨S1, .i32⟩
  | _, _ => ⟨S20480x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_arg3 : Ref sig .tc := ⟨.smem, 0, rfl⟩
abbrev main_arg4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![80], ![false]⟩

abbrev pre0 : Pipeline.Prefetch sig := ⟨2, ![main_arg3.idx, main_arg4.idx], fun | 0 => main_arg3.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S80.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S80) ![v0.toNat] S1.size (k0_off1_inb i)) numel1_S1
  let c16_i32 : BitVec 32 := 16#32
  let v2 : BitVec 32 := Scalar.addi c16_i32 v1
  let c0_i32 : BitVec 32 := 0#32
  let c0_i32_0 : BitVec 32 := 0#32
  let c0_i32_1 : BitVec 32 := 0#32
  ![v2.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== UpRefIdeal.lean ====
abbrev S20480x4096 : Shape := ⟨2, ![20480, 4096]⟩
abbrev S20480x768 : Shape := ⟨2, ![20480, 768]⟩
abbrev S4x16x4096x768 : Shape := ⟨4, ![4, 16, 4096, 768]⟩
abbrev S80 : Shape := ⟨1, ![80]⟩
abbrev S1 : Shape := ⟨1, ![1]⟩
abbrev S80x256 : Shape := ⟨2, ![80, 256]⟩
abbrev S20480 : Shape := ⟨1, ![20480]⟩
abbrev S_ : Shape := ⟨0, ![]⟩
abbrev S1x16x4096x768 : Shape := ⟨4, ![1, 16, 4096, 768]⟩
abbrev S16x4096x768 : Shape := ⟨3, ![16, 4096, 768]⟩
abbrev S20480x16x768 : Shape := ⟨3, ![20480, 16, 768]⟩
abbrev S20480x1 : Shape := ⟨2, ![20480, 1]⟩
abbrev S16 : Shape := ⟨1, ![16]⟩
abbrev S1x16 : Shape := ⟨2, ![1, 16]⟩
abbrev S20480x16 : Shape := ⟨2, ![20480, 16]⟩
abbrev S20480x16x1 : Shape := ⟨3, ![20480, 16, 1]⟩
abbrev S20480x1x768 : Shape := ⟨3, ![20480, 1, 768]⟩

abbrev nBuf : Space → Nat
  | .hbm => 41
  | .vmem => 0
  | .smem => 0
  | _ => 0

abbrev bufTy : (tb : Table) → Fin (tcTables nBuf tb) → BufTy
  | .hbm, ⟨0, _⟩ => ⟨S20480x4096, .bf16⟩
  | .hbm, ⟨1, _⟩ => ⟨S20480x768, .f32⟩
  | .hbm, ⟨2, _⟩ => ⟨S4x16x4096x768, .f32⟩
  | .hbm, ⟨3, _⟩ => ⟨S80, .i32⟩
  | .hbm, ⟨4, _⟩ => ⟨S1, .i32⟩
  | .hbm, ⟨5, _⟩ => ⟨S80x256, .i32⟩
  | .hbm, ⟨6, _⟩ => ⟨S20480, .i32⟩
  | .hbm, ⟨7, _⟩ => ⟨S80, .i32⟩
  | .hbm, ⟨8, _⟩ => ⟨S_, .i32⟩
  | .hbm, ⟨9, _⟩ => ⟨S80, .i32⟩
  | .hbm, ⟨10, _⟩ => ⟨S80, .i1⟩
  | .hbm, ⟨11, _⟩ => ⟨S80x256, .i1⟩
  | .hbm, ⟨12, _⟩ => ⟨S20480, .i1⟩
  | .hbm, ⟨13, _⟩ => ⟨S20480x4096, .f32⟩
  | .hbm, ⟨14, _⟩ => ⟨S1x16x4096x768, .f32⟩
  | .hbm, ⟨15, _⟩ => ⟨S16x4096x768, .f32⟩
  | .hbm, ⟨16, _⟩ => ⟨S20480x16x768, .f32⟩
  | .hbm, ⟨17, _⟩ => ⟨S20480x1, .i32⟩
  | .hbm, ⟨18, _⟩ => ⟨S16, .i32⟩
  | .hbm, ⟨19, _⟩ => ⟨S1x16, .i32⟩
  | .hbm, ⟨20, _⟩ => ⟨S20480x16, .i32⟩
  | .hbm, ⟨21, _⟩ => ⟨S20480x16, .i32⟩
  | .hbm, ⟨22, _⟩ => ⟨S20480x16, .i1⟩
  | .hbm, ⟨23, _⟩ => ⟨S20480x16x1, .i1⟩
  | .hbm, ⟨24, _⟩ => ⟨S20480x1x768, .f32⟩
  | .hbm, ⟨25, _⟩ => ⟨S20480x16x768, .f32⟩
  | .hbm, ⟨26, _⟩ => ⟨S20480x16x768, .f32⟩
  | .hbm, ⟨27, _⟩ => ⟨S_, .f32⟩
  | .hbm, ⟨28, _⟩ => ⟨S_, .f32⟩
  | .hbm, ⟨29, _⟩ => ⟨S20480x16x768, .i1⟩
  | .hbm, ⟨30, _⟩ => ⟨S20480x16x768, .f32⟩
  | .hbm, ⟨31, _⟩ => ⟨S20480x16x768, .f32⟩
  | .hbm, ⟨32, _⟩ => ⟨S_, .f32⟩
  | .hbm, ⟨33, _⟩ => ⟨S20480x768, .f32⟩
  | .hbm, ⟨34, _⟩ => ⟨S20480x1, .i1⟩
  | .hbm, ⟨35, _⟩ => ⟨S_, .f32⟩
  | .hbm, ⟨36, _⟩ => ⟨S_, .f32⟩
  | .hbm, ⟨37, _⟩ => ⟨S20480x768, .i1⟩
  | .hbm, ⟨38, _⟩ => ⟨S20480x768, .f32⟩
  | .hbm, ⟨39, _⟩ => ⟨S20480x768, .f32⟩
  | .hbm, ⟨40, _⟩ => ⟨S20480x768, .bf16⟩
  | _, _ => ⟨S20480x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v22 : Ref sig .tc := ⟨.hbm, 31, rfl⟩
abbrev main_cst_0 : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Down.lean ====
abbrev S20480x768 : Shape := ⟨2, ![20480, 768]⟩
abbrev S4x16x768x4096 : Shape := ⟨4, ![4, 16, 768, 4096]⟩
abbrev S80 : Shape := ⟨1, ![80]⟩
abbrev S1 : Shape := ⟨1, ![1]⟩
abbrev S64x768x4096 : Shape := ⟨3, ![64, 768, 4096]⟩
abbrev S20480x4096 : Shape := ⟨2, ![20480, 4096]⟩
abbrev S256x768 : Shape := ⟨2, ![256, 768]⟩
abbrev S1x768x4096 : Shape := ⟨3, ![1, 768, 4096]⟩
abbrev S256x4096 : Shape := ⟨2, ![256, 4096]⟩
abbrev S768x4096 : Shape := ⟨2, ![768, 4096]⟩

abbrev nBuf : Space → Nat
  | .hbm => 4
  | .vmem => 6
  | .smem => 2
  | _ => 0

abbrev bufTy : (tb : Table) → Fin (tcTables nBuf tb) → BufTy
  | .hbm, ⟨0, _⟩ => ⟨S20480x768, .bf16⟩
  | .hbm, ⟨1, _⟩ => ⟨S4x16x768x4096, .f32⟩
  | .hbm, ⟨2, _⟩ => ⟨S64x768x4096, .f32⟩
  | .hbm, ⟨3, _⟩ => ⟨S20480x4096, .bf16⟩
  | .local _ .vmem, ⟨0, _⟩ => ⟨S256x768, .bf16⟩
  | .local _ .vmem, ⟨1, _⟩ => ⟨S256x768, .bf16⟩
  | .local _ .vmem, ⟨2, _⟩ => ⟨S1x768x4096, .f32⟩
  | .local _ .vmem, ⟨3, _⟩ => ⟨S1x768x4096, .f32⟩
  | .local _ .vmem, ⟨4, _⟩ => ⟨S256x4096, .bf16⟩
  | .local _ .vmem, ⟨5, _⟩ => ⟨S256x4096, .bf16⟩
  | .local _ .smem, ⟨0, _⟩ => ⟨S80, .i32⟩
  | .local _ .smem, ⟨1, _⟩ => ⟨S1, .i32⟩
  | _, _ => ⟨S20480x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![80], ![false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S80.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S80) ![v0.toNat] S1.size (k0_off1_inb i)) numel1_S1
  let c16_i32 : BitVec 32 := 16#32
  let v2 : BitVec 32 := Scalar.addi c16_i32 v1
  let c0_i32 : BitVec 32 := 0#32
  let c0_i32_0 : BitVec 32 := 0#32
  let c0_i32_1 : BitVec 32 := 0#32
  ![v2.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x768x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DownRefIdeal.lean ====
abbrev S20480x768 : Shape := ⟨2, ![20480, 768]⟩
abbrev S4x16x768x4096 : Shape := ⟨4, ![4, 16, 768, 4096]⟩
abbrev S80 : Shape := ⟨1, ![80]⟩
abbrev S1 : Shape := ⟨1, ![1]⟩
abbrev S80x256 : Shape := ⟨2, ![80, 256]⟩
abbrev S20480 : Shape := ⟨1, ![20480]⟩
abbrev S_ : Shape := ⟨0, ![]⟩
abbrev S20480x1 : Shape := ⟨2, ![20480, 1]⟩
abbrev S16 : Shape := ⟨1, ![16]⟩
abbrev S1x16 : Shape := ⟨2, ![1, 16]⟩
abbrev S20480x16 : Shape := ⟨2, ![20480, 16]⟩
abbrev S20480x16x1 : Shape := ⟨3, ![20480, 16, 1]⟩
abbrev S20480x1x768 : Shape := ⟨3, ![20480, 1, 768]⟩
abbrev S20480x16x768 : Shape := ⟨3, ![20480, 16, 768]⟩
abbrev S1x16x768x4096 : Shape := ⟨4, ![1, 16, 768, 4096]⟩
abbrev S16x768x4096 : Shape := ⟨3, ![16, 768, 4096]⟩
abbrev S20480x4096 : Shape := ⟨2, ![20480, 4096]⟩

abbrev nBuf : Space → Nat
  | .hbm => 37
  | .vmem => 0
  | .smem => 0
  | _ => 0

abbrev bufTy : (tb : Table) → Fin (tcTables nBuf tb) → BufTy
  | .hbm, ⟨0, _⟩ => ⟨S20480x768, .bf16⟩
  | .hbm, ⟨1, _⟩ => ⟨S4x16x768x4096, .f32⟩
  | .hbm, ⟨2, _⟩ => ⟨S80, .i32⟩
  | .hbm, ⟨3, _⟩ => ⟨S1, .i32⟩
  | .hbm, ⟨4, _⟩ => ⟨S80x256, .i32⟩
  | .hbm, ⟨5, _⟩ => ⟨S20480, .i32⟩
  | .hbm, ⟨6, _⟩ => ⟨S80, .i32⟩
  | .hbm, ⟨7, _⟩ => ⟨S_, .i32⟩
  | .hbm, ⟨8, _⟩ => ⟨S80, .i32⟩
  | .hbm, ⟨9, _⟩ => ⟨S80, .i1⟩
  | .hbm, ⟨10, _⟩ => ⟨S80x256, .i1⟩
  | .hbm, ⟨11, _⟩ => ⟨S20480, .i1⟩
  | .hbm, ⟨12, _⟩ => ⟨S20480x1, .i32⟩
  | .hbm, ⟨13, _⟩ => ⟨S16, .i32⟩
  | .hbm, ⟨14, _⟩ => ⟨S1x16, .i32⟩
  | .hbm, ⟨15, _⟩ => ⟨S20480x16, .i32⟩
  | .hbm, ⟨16, _⟩ => ⟨S20480x16, .i32⟩
  | .hbm, ⟨17, _⟩ => ⟨S20480x16, .i1⟩
  | .hbm, ⟨18, _⟩ => ⟨S20480x16x1, .i1⟩
  | .hbm, ⟨19, _⟩ => ⟨S20480x768, .f32⟩
  | .hbm, ⟨20, _⟩ => ⟨S20480x1x768, .f32⟩
  | .hbm, ⟨21, _⟩ => ⟨S_, .f32⟩
  | .hbm, ⟨22, _⟩ => ⟨S_, .f32⟩
  | .hbm, ⟨23, _⟩ => ⟨S20480x16x768, .i1⟩
  | .hbm, ⟨24, _⟩ => ⟨S20480x16x768, .f32⟩
  | .hbm, ⟨25, _⟩ => ⟨S20480x16x768, .f32⟩
  | .hbm, ⟨26, _⟩ => ⟨S20480x16x768, .f32⟩
  | .hbm, ⟨27, _⟩ => ⟨S1x16x768x4096, .f32⟩
  | .hbm, ⟨28, _⟩ => ⟨S16x768x4096, .f32⟩
  | .hbm, ⟨29, _⟩ => ⟨S20480x4096, .f32⟩
  | .hbm, ⟨30, _⟩ => ⟨S20480x1, .i1⟩
  | .hbm, ⟨31, _⟩ => ⟨S_, .f32⟩
  | .hbm, ⟨32, _⟩ => ⟨S_, .f32⟩
  | .hbm, ⟨33, _⟩ => ⟨S20480x4096, .i1⟩
  | .hbm, ⟨34, _⟩ => ⟨S20480x4096, .f32⟩
  | .hbm, ⟨35, _⟩ => ⟨S20480x4096, .f32⟩
  | .hbm, ⟨36, _⟩ => ⟨S20480x4096, .bf16⟩
  | _, _ => ⟨S20480x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Out.lean ====
abbrev S32x8192x128 : Shape := ⟨3, ![32, 8192, 128]⟩
abbrev S4096x4096 : Shape := ⟨2, ![4096, 4096]⟩
abbrev S8192x4096 : Shape := ⟨2, ![8192, 4096]⟩
abbrev S32x1024x128 : Shape := ⟨3, ![32, 1024, 128]⟩
abbrev S4096x512 : Shape := ⟨2, ![4096, 512]⟩
abbrev S1024x512 : Shape := ⟨2, ![1024, 512]⟩
abbrev S1x1024x128 : Shape := ⟨3, ![1, 1024, 128]⟩
abbrev S1024x128 : Shape := ⟨2, ![1024, 128]⟩
abbrev S1024x4096 : Shape := ⟨2, ![1024, 4096]⟩

abbrev nBuf : Space → Nat
  | .hbm => 3
  | .vmem => 6
  | .smem => 0
  | _ => 0

abbrev bufTy : (tb : Table) → Fin (tcTables nBuf tb) → BufTy
  | .hbm, ⟨0, _⟩ => ⟨S32x8192x128, .bf16⟩
  | .hbm, ⟨1, _⟩ => ⟨S4096x4096, .bf16⟩
  | .hbm, ⟨2, _⟩ => ⟨S8192x4096, .f32⟩
  | .local _ .vmem, ⟨0, _⟩ => ⟨S32x1024x128, .bf16⟩
  | .local _ .vmem, ⟨1, _⟩ => ⟨S32x1024x128, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S32x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S32x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutRefIdeal.lean ====
abbrev S32x8192x128 : Shape := ⟨3, ![32, 8192, 128]⟩
abbrev S4096x4096 : Shape := ⟨2, ![4096, 4096]⟩
abbrev S8192x32x128 : Shape := ⟨3, ![8192, 32, 128]⟩
abbrev S8192x4096 : Shape := ⟨2, ![8192, 4096]⟩

abbrev nBuf : Space → Nat
  | .hbm => 7
  | .vmem => 0
  | .smem => 0
  | _ => 0

abbrev bufTy : (tb : Table) → Fin (tcTables nBuf tb) → BufTy
  | .hbm, ⟨0, _⟩ => ⟨S32x8192x128, .bf16⟩
  | .hbm, ⟨1, _⟩ => ⟨S4096x4096, .bf16⟩
  | .hbm, ⟨2, _⟩ => ⟨S32x8192x128, .f32⟩
  | .hbm, ⟨3, _⟩ => ⟨S8192x32x128, .f32⟩
  | .hbm, ⟨4, _⟩ => ⟨S8192x4096, .f32⟩
  | .hbm, ⟨5, _⟩ => ⟨S4096x4096, .f32⟩
  | .hbm, ⟨6, _⟩ => ⟨S8192x4096, .f32⟩
  | _, _ => ⟨S32x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutAb.lean ====
abbrev S16x8192x128 : Shape := ⟨3, ![16, 8192, 128]⟩
abbrev S4096x4096 : Shape := ⟨2, ![4096, 4096]⟩
abbrev S8192x4096 : Shape := ⟨2, ![8192, 4096]⟩
abbrev S16x1024x128 : Shape := ⟨3, ![16, 1024, 128]⟩
abbrev S4096x512 : Shape := ⟨2, ![4096, 512]⟩
abbrev S1024x512 : Shape := ⟨2, ![1024, 512]⟩
abbrev S1x1024x128 : Shape := ⟨3, ![1, 1024, 128]⟩
abbrev S1024x128 : Shape := ⟨2, ![1024, 128]⟩
abbrev S1024x4096 : Shape := ⟨2, ![1024, 4096]⟩

abbrev nBuf : Space → Nat
  | .hbm => 4
  | .vmem => 8
  | .smem => 0
  | _ => 0

abbrev bufTy : (tb : Table) → Fin (tcTables nBuf tb) → BufTy
  | .hbm, ⟨0, _⟩ => ⟨S16x8192x128, .bf16⟩
  | .hbm, ⟨1, _⟩ => ⟨S16x8192x128, .bf16⟩
  | .hbm, ⟨2, _⟩ => ⟨S4096x4096, .bf16⟩
  | .hbm, ⟨3, _⟩ => ⟨S8192x4096, .f32⟩
  | .local _ .vmem, ⟨0, _⟩ => ⟨S16x1024x128, .bf16⟩
  | .local _ .vmem, ⟨1, _⟩ => ⟨S16x1024x128, .bf16⟩
  | .local _ .vmem, ⟨2, _⟩ => ⟨S16x1024x128, .bf16⟩
  | .local _ .vmem, ⟨3, _⟩ => ⟨S16x1024x128, .bf16⟩
  | .local _ .vmem, ⟨4, _⟩ => ⟨S4096x512, .bf16⟩
  | .local _ .vmem, ⟨5, _⟩ => ⟨S4096x512, .bf16⟩
  | .local _ .vmem, ⟨6, _⟩ => ⟨S1024x512, .f32⟩
  | .local _ .vmem, ⟨7, _⟩ => ⟨S1024x512, .f32⟩
  | _, _ => ⟨S16x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutAbRefIdeal.lean ====
abbrev S16x8192x128 : Shape := ⟨3, ![16, 8192, 128]⟩
abbrev S4096x4096 : Shape := ⟨2, ![4096, 4096]⟩
abbrev S8192x16x128 : Shape := ⟨3, ![8192, 16, 128]⟩
abbrev S8192x2048 : Shape := ⟨2, ![8192, 2048]⟩
abbrev S8192x4096 : Shape := ⟨2, ![8192, 4096]⟩

abbrev nBuf : Space → Nat
  | .hbm => 12
  | .vmem => 0
  | .smem => 0
  | _ => 0

abbrev bufTy : (tb : Table) → Fin (tcTables nBuf tb) → BufTy
  | .hbm, ⟨0, _⟩ => ⟨S16x8192x128, .bf16⟩
  | .hbm, ⟨1, _⟩ => ⟨S16x8192x128, .bf16⟩
  | .hbm, ⟨2, _⟩ => ⟨S4096x4096, .bf16⟩
  | .hbm, ⟨3, _⟩ => ⟨S16x8192x128, .f32⟩
  | .hbm, ⟨4, _⟩ => ⟨S8192x16x128, .f32⟩
  | .hbm, ⟨5, _⟩ => ⟨S8192x2048, .f32⟩
  | .hbm, ⟨6, _⟩ => ⟨S16x8192x128, .f32⟩
  | .hbm, ⟨7, _⟩ => ⟨S8192x16x128, .f32⟩
  | .hbm, ⟨8, _⟩ => ⟨S8192x2048, .f32⟩
  | .hbm, ⟨9, _⟩ => ⟨S8192x4096, .f32⟩
  | .hbm, ⟨10, _⟩ => ⟨S4096x4096, .f32⟩
  | .hbm, ⟨11, _⟩ => ⟨S8192x4096, .f32⟩
  | _, _ => ⟨S16x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Ab.lean ====
abbrev S8192x4096 : Shape := ⟨2, ![8192, 4096]⟩
abbrev S4096x5632 : Shape := ⟨2, ![4096, 5632]⟩
abbrev S44x8192x128 : Shape := ⟨3, ![44, 8192, 128]⟩
abbrev S1024x4096 : Shape := ⟨2, ![1024, 4096]⟩
abbrev S4096x512 : Shape := ⟨2, ![4096, 512]⟩
abbrev S4x1024x128 : Shape := ⟨3, ![4, 1024, 128]⟩
abbrev S1024x512 : Shape := ⟨2, ![1024, 512]⟩
abbrev S1024x128 : Shape := ⟨2, ![1024, 128]⟩
abbrev S1x1024x128 : Shape := ⟨3, ![1, 1024, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x5632, .bf16⟩
  | .hbm, ⟨2, _⟩ => ⟨S44x8192x128, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S4x1024x128, .bf16⟩
  | .local _ .vmem, ⟨5, _⟩ => ⟨S4x1024x128, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AbRefIdeal.lean ====
abbrev S8192x4096 : Shape := ⟨2, ![8192, 4096]⟩
abbrev S4096x5632 : Shape := ⟨2, ![4096, 5632]⟩
abbrev S8192x5632 : Shape := ⟨2, ![8192, 5632]⟩
abbrev S8192x44x128 : Shape := ⟨3, ![8192, 44, 128]⟩
abbrev S44x8192x128 : Shape := ⟨3, ![44, 8192, 128]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x5632, .bf16⟩
  | .hbm, ⟨2, _⟩ => ⟨S8192x4096, .f32⟩
  | .hbm, ⟨3, _⟩ => ⟨S4096x5632, .f32⟩
  | .hbm, ⟨4, _⟩ => ⟨S8192x5632, .f32⟩
  | .hbm, ⟨5, _⟩ => ⟨S8192x44x128, .f32⟩
  | .hbm, ⟨6, _⟩ => ⟨S44x8192x128, .f32⟩
  | .hbm, ⟨7, _⟩ => ⟨S44x8192x128, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Win.lean ====
abbrev S44x8192x128 : Shape := ⟨3, ![44, 8192, 128]⟩
abbrev S16 : Shape := ⟨1, ![16]⟩
abbrev S16x8192x128 : Shape := ⟨3, ![16, 8192, 128]⟩
abbrev S32x8192x128 : Shape := ⟨3, ![32, 8192, 128]⟩
abbrev S_ : Shape := ⟨0, ![]⟩
abbrev S12x8192x128 : Shape := ⟨3, ![12, 8192, 128]⟩
abbrev S16x512x128 : Shape := ⟨3, ![16, 512, 128]⟩
abbrev S1x512x128 : Shape := ⟨3, ![1, 512, 128]⟩
abbrev S1024x128 : Shape := ⟨2, ![1024, 128]⟩
abbrev S512x128 : Shape := ⟨2, ![512, 128]⟩
abbrev S128x640 : Shape := ⟨2, ![128, 640]⟩
abbrev S640x128 : Shape := ⟨2, ![640, 128]⟩
abbrev S16x128x128 : Shape := ⟨3, ![16, 128, 128]⟩
abbrev S2048x128 : Shape := ⟨2, ![2048, 128]⟩
abbrev S2048x640 : Shape := ⟨2, ![2048, 640]⟩
abbrev S1 : Shape := ⟨1, ![1]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩

abbrev nBuf : Space → Nat
  | .hbm => 25
  | .vmem => 18
  | .smem => 2
  | _ => 0

abbrev bufTy : (tb : Table) → Fin (tcTables nBuf tb) → BufTy
  | .hbm, ⟨0, _⟩ => ⟨S44x8192x128, .f32⟩
  | .hbm, ⟨1, _⟩ => ⟨S16, .f32⟩
  | .hbm, ⟨2, _⟩ => ⟨S16x8192x128, .f32⟩
  | .hbm, ⟨3, _⟩ => ⟨S32x8192x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S32x8192x128, .f32⟩
  | .hbm, ⟨12, _⟩ => ⟨S32x8192x128, .f32⟩
  | .hbm, ⟨13, _⟩ => ⟨S12x8192x128, .f32⟩
  | .hbm, ⟨14, _⟩ => ⟨S44x8192x128, .f32⟩
  | .hbm, ⟨15, _⟩ => ⟨S44x8192x128, .bf16⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16x8192x128, .bf16⟩
  | .local _ .vmem, ⟨0, _⟩ => ⟨S16x512x128, .bf16⟩
  | .local _ .vmem, ⟨1, _⟩ => ⟨S16x512x128, .bf16⟩
  | .local _ .vmem, ⟨2, _⟩ => ⟨S1x512x128, .bf16⟩
  | .local _ .vmem, ⟨3, _⟩ => ⟨S1x512x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x512x128, .bf16⟩
  | .local _ .vmem, ⟨7, _⟩ => ⟨S1x512x128, .bf16⟩
  | .local _ .vmem, ⟨8, _⟩ => ⟨S1x512x128, .bf16⟩
  | .local _ .vmem, ⟨9, _⟩ => ⟨S1x512x128, .bf16⟩
  | .local _ .vmem, ⟨10, _⟩ => ⟨S1x512x128, .bf16⟩
  | .local _ .vmem, ⟨11, _⟩ => ⟨S1x512x128, .bf16⟩
  | .local _ .vmem, ⟨12, _⟩ => ⟨S16x512x128, .f32⟩
  | .local _ .vmem, ⟨13, _⟩ => ⟨S16x512x128, .f32⟩
  | .local _ .vmem, ⟨14, _⟩ => ⟨S16x512x128, .bf16⟩
  | .local _ .vmem, ⟨15, _⟩ => ⟨S16x512x128, .bf16⟩
  | .local _ .vmem, ⟨16, _⟩ => ⟨S1024x128, .bf16⟩
  | .local _ .vmem, ⟨17, _⟩ => ⟨S1024x128, .bf16⟩
  | .local _ .smem, ⟨0, _⟩ => ⟨S16, .f32⟩
  | .local _ .smem, ⟨1, _⟩ => ⟨S16, .f32⟩
  | _, _ => ⟨S44x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![1, 16], ![false, false]⟩

@[reducible] def k0_t1_loop : Scf.Loop 32 :=
  let c0_i32_19 : BitVec 32 := 0#32
  let c4_i32 : BitVec 32 := 4#32
  let v33 : BitVec 32 := Scalar.addi c0_i32_19 c4_i32
  let c1_i32 : BitVec 32 := 1#32
  ⟨c0_i32_19, v33, c1_i32⟩
def k0_mult1 (k0_t1 : Fin k0_t1_loop.trips) : BitVec 32 :=
  let c0_i32_19 : BitVec 32 := 0#32
  let c1_i32 : BitVec 32 := 1#32
  let arg14 : BitVec 32 := Scf.iv c0_i32_19 c1_i32 k0_t1
  let c128_i32 : BitVec 32 := 128#32
  let v34 : BitVec 32 := Scalar.muli arg14 c128_i32
  v34
def k0_off1 (k0_t1 : Fin k0_t1_loop.trips) : Fin 2 → Nat :=
  let c0_i32_19 : BitVec 32 := 0#32
  let c1_i32 : BitVec 32 := 1#32
  let arg14 : BitVec 32 := Scf.iv c0_i32_19 c1_i32 k0_t1
  let c128_i32 : BitVec 32 := 128#32
  let v34 : BitVec 32 := Scalar.muli arg14 c128_i32
  let v35 : BitVec 32 := v34
  let v43 : Index := Scalar.indexCast v35
  let c0_24 : Index := 0#32
  ![v43.toNat, 0]
def k0_off2 (k0_t1 : Fin k0_t1_loop.trips) : Fin 3 → Nat :=
  let c0_26 : Index := 0#32
  let c0_i32_19 : BitVec 32 := 0#32
  let c1_i32 : BitVec 32 := 1#32
  let arg14 : BitVec 32 := Scf.iv c0_i32_19 c1_i32 k0_t1
  let c128_i32 : BitVec 32 := 128#32
  let v34 : BitVec 32 := Scalar.muli arg14 c128_i32
  let v35 : BitVec 32 := v34
  let v47 : Index := Scalar.indexCast v35
  let c0_27 : Index := 0#32
  ![0, v47.toNat, 0]
def k0_off3 (i : grid0.Coords) (c0_i32_29 : BitVec 32) : Fin 1 → Nat :=
  let arg0 : BitVec 32 := BitVec.ofNat 32 (i 0).val
  let c16_i32 : BitVec 32 := 16#32
  let v52 : BitVec 32 := Scalar.muli arg0 c16_i32
  let v53 : BitVec 32 := Scalar.addi v52 c0_i32_29
  let v55 : Index := Scalar.indexCast v53
  ![v55.toNat]
def k0_off4 (k0_t1 : Fin k0_t1_loop.trips) : Fin 3 → Nat :=
  let c0_96 : Index := 0#32
  let c0_i32_19 : BitVec 32 := 0#32
  let c1_i32 : BitVec 32 := 1#32
  let arg14 : BitVec 32 := Scf.iv c0_i32_19 c1_i32 k0_t1
  let c128_i32 : BitVec 32 := 128#32
  let v34 : BitVec 32 := Scalar.muli arg14 c128_i32
  let v35 : BitVec 32 := v34
  let v345 : Index := Scalar.indexCast v35
  let c0_97 : Index := 0#32
  ![0, v345.toNat, 0]
def k0_off5 (k0_t1 : Fin k0_t1_loop.trips) : Fin 3 → Nat :=
  let c0_98 : Index := 0#32
  let c0_i32_19 : BitVec 32 := 0#32
  let c1_i32 : BitVec 32 := 1#32
  let arg14 : BitVec 32 := Scf.iv c0_i32_19 c1_i32 k0_t1
  let c128_i32 : BitVec 32 := 128#32
  let v34 : BitVec 32 := Scalar.muli arg14 c128_i32
  let v35 : BitVec 32 := v34
  let v349 : Index := Scalar.indexCast v35
  let c0_99 : Index := 0#32
  ![0, v349.toNat, 0]
def k0_off6 (k0_t1 : Fin k0_t1_loop.trips) : Fin 3 → Nat :=
  let c1 : Index := 1#32
  let c0_i32_19 : BitVec 32 := 0#32
  let c1_i32 : BitVec 32 := 1#32
  let arg14 : BitVec 32 := Scf.iv c0_i32_19 c1_i32 k0_t1
  let c128_i32 : BitVec 32 := 128#32
  let v34 : BitVec 32 := Scalar.muli arg14 c128_i32
  let v35 : BitVec 32 := v34
  let v369 : Index := Scalar.indexCast v35
  let c0_104 : Index := 0#32
  ![1, v369.toNat, 0]
def k0_off7 (k0_t1 : Fin k0_t1_loop.trips) : Fin 3 → Nat :=
  let c2 : Index := 2#32
  let c0_i32_19 : BitVec 32 := 0#32
  let c1_i32 : BitVec 32 := 1#32
  let arg14 : BitVec 32 := Scf.iv c0_i32_19 c1_i32 k0_t1
  let c128_i32 : BitVec 32 := 128#32
  let v34 : BitVec 32 := Scalar.muli arg14 c128_i32
  let v35 : BitVec 32 := v34
  let v389 : Index := Scalar.indexCast v35
  let c0_109 : Index := 0#32
  ![2, v389.toNat, 0]
def k0_off8 (k0_t1 : Fin k0_t1_loop.trips) : Fin 3 → Nat :=
  let c3 : Index := 3#32
  let c0_i32_19 : BitVec 32 := 0#32
  let c1_i32 : BitVec 32 := 1#32
  let arg14 : BitVec 32 := Scf.iv c0_i32_19 c1_i32 k0_t1
  let c128_i32 : BitVec 32 := 128#32
  let v34 : BitVec 32 := Scalar.muli arg14 c128_i32
  let v35 : BitVec 32 := v34
  let v409 : Index := Scalar.indexCast v35
  let c0_114 : Index := 0#32
  ![3, v409.toNat, 0]
def k0_off9 (k0_t1 : Fin k0_t1_loop.trips) : Fin 3 → Nat :=
  let c4 : Index := 4#32
  let c0_i32_19 : BitVec 32 := 0#32
  let c1_i32 : BitVec 32 := 1#32
  let arg14 : BitVec 32 := Scf.iv c0_i32_19 c1_i32 k0_t1
  let c128_i32 : BitVec 32 := 128#32
  let v34 : BitVec 32 := Scalar.muli arg14 c128_i32
  let v35 : BitVec 32 := v34
  let v429 : Index := Scalar.indexCast v35
  let c0_119 : Index := 0#32
  ![4, v429.toNat, 0]
def k0_off10 (k0_t1 : Fin k0_t1_loop.trips) : Fin 3 → Nat :=
  let c5 : Index := 5#32
  let c0_i32_19 : BitVec 32 := 0#32
  let c1_i32 : BitVec 32 := 1#32
  let arg14 : BitVec 32 := Scf.iv c0_i32_19 c1_i32 k0_t1
  let c128_i32 : BitVec 32 := 128#32
  let v34 : BitVec 32 := Scalar.muli arg14 c128_i32
  let v35 : BitVec 32 := v34
  let v449 : Index := Scalar.indexCast v35
  let c0_124 : Index := 0#32
  ![5, v449.toNat, 0]
def k0_off11 (k0_t1 : Fin k0_t1_loop.trips) : Fin 3 → Nat :=
  let c6 : Index := 6#32
  let c0_i32_19 : BitVec 32 := 0#32
  let c1_i32 : BitVec 32 := 1#32
  let arg14 : BitVec 32 := Scf.iv c0_i32_19 c1_i32 k0_t1
  let c128_i32 : BitVec 32 := 128#32
  let v34 : BitVec 32 := Scalar.muli arg14 c128_i32
  let v35 : BitVec 32 := v34
  let v469 : Index := Scalar.indexCast v35
  let c0_129 : Index := 0#32
  ![6, v469.toNat, 0]
def k0_off12 (k0_t1 : Fin k0_t1_loop.trips) : Fin 3 → Nat :=
  let c7 : Index := 7#32
  let c0_i32_19 : BitVec 32 := 0#32
  let c1_i32 : BitVec 32 := 1#32
  let arg14 : BitVec 32 := Scf.iv c0_i32_19 c1_i32 k0_t1
  let c128_i32 : BitVec 32 := 128#32
  let v34 : BitVec 32 := Scalar.muli arg14 c128_i32
  let v35 : BitVec 32 := v34
  let v489 : Index := Scalar.indexCast v35
  let c0_134 : Index := 0#32
  ![7, v489.toNat, 0]
def k0_off13 (k0_t1 : Fin k0_t1_loop.trips) : Fin 3 → Nat :=
  let c8 : Index := 8#32
  let c0_i32_19 : BitVec 32 := 0#32
  let c1_i32 : BitVec 32 := 1#32
  let arg14 : BitVec 32 := Scf.iv c0_i32_19 c1_i32 k0_t1
  let c128_i32 : BitVec 32 := 128#32
  let v34 : BitVec 32 := Scalar.muli arg14 c128_i32
  let v35 : BitVec 32 := v34
  let v509 : Index := Scalar.indexCast v35
  let c0_139 : Index := 0#32
  ![8, v509.toNat, 0]
def k0_off14 (k0_t1 : Fin k0_t1_loop.trips) : Fin 3 → Nat :=
  let c9 : Index := 9#32
  let c0_i32_19 : BitVec 32 := 0#32
  let c1_i32 : BitVec 32 := 1#32
  let arg14 : BitVec 32 := Scf.iv c0_i32_19 c1_i32 k0_t1
  let c128_i32 : BitVec 32 := 128#32
  let v34 : BitVec 32 := Scalar.muli arg14 c128_i32
  let v35 : BitVec 32 := v34
  let v529 : Index := Scalar.indexCast v35
  let c0_144 : Index := 0#32
  ![9, v529.toNat, 0]
def k0_off15 (k0_t1 : Fin k0_t1_loop.trips) : Fin 3 → Nat :=
  let c10 : Index := 10#32
  let c0_i32_19 : BitVec 32 := 0#32
  let c1_i32 : BitVec 32 := 1#32
  let arg14 : BitVec 32 := Scf.iv c0_i32_19 c1_i32 k0_t1
  let c128_i32 : BitVec 32 := 128#32
  let v34 : BitVec 32 := Scalar.muli arg14 c128_i32
  let v35 : BitVec 32 := v34
  let v549 : Index := Scalar.indexCast v35
  let c0_149 : Index := 0#32
  ![10, v549.toNat, 0]
def k0_off16 (k0_t1 : Fin k0_t1_loop.trips) : Fin 3 → Nat :=
  let c11 : Index := 11#32
  let c0_i32_19 : BitVec 32 := 0#32
  let c1_i32 : BitVec 32 := 1#32
  let arg14 : BitVec 32 := Scf.iv c0_i32_19 c1_i32 k0_t1
  let c128_i32 : BitVec 32 := 128#32
  let v34 : BitVec 32 := Scalar.muli arg14 c128_i32
  let v35 : BitVec 32 := v34
  let v569 : Index := Scalar.indexCast v35
  let c0_154 : Index := 0#32
  ![11, v569.toNat, 0]
def k0_off17 (k0_t1 : Fin k0_t1_loop.trips) : Fin 3 → Nat :=
  let c12 : Index := 12#32
  let c0_i32_19 : BitVec 32 := 0#32
  let c1_i32 : BitVec 32 := 1#32
  let arg14 : BitVec 32 := Scf.iv c0_i32_19 c1_i32 k0_t1
  let c128_i32 : BitVec 32 := 128#32
  let v34 : BitVec 32 := Scalar.muli arg14 c128_i32
  let v35 : BitVec 32 := v34
  let v589 : Index := Scalar.indexCast v35
  let c0_159 : Index := 0#32
  ![12, v589.toNat, 0]
def k0_off18 (k0_t1 : Fin k0_t1_loop.trips) : Fin 3 → Nat :=
  let c13 : Index := 13#32
  let c0_i32_19 : BitVec 32 := 0#32
  let c1_i32 : BitVec 32 := 1#32
  let arg14 : BitVec 32 := Scf.iv c0_i32_19 c1_i32 k0_t1
  let c128_i32 : BitVec 32 := 128#32
  let v34 : BitVec 32 := Scalar.muli arg14 c128_i32
  let v35 : BitVec 32 := v34
  let v609 : Index := Scalar.indexCast v35
  let c0_164 : Index := 0#32
  ![13, v609.toNat, 0]
def k0_off19 (k0_t1 : Fin k0_t1_loop.trips) : Fin 3 → Nat :=
  let c14 : Index := 14#32
  let c0_i32_19 : BitVec 32 := 0#32
  let c1_i32 : BitVec 32 := 1#32
  let arg14 : BitVec 32 := Scf.iv c0_i32_19 c1_i32 k0_t1
  let c128_i32 : BitVec 32 := 128#32
  let v34 : BitVec 32 := Scalar.muli arg14 c128_i32
  let v35 : BitVec 32 := v34
  let v629 : Index := Scalar.indexCast v35
  let c0_169 : Index := 0#32
  ![14, v629.toNat, 0]
def k0_off20 (k0_t1 : Fin k0_t1_loop.trips) : Fin 3 → Nat :=
  let c15 : Index := 15#32
  let c0_i32_19 : BitVec 32 := 0#32
  let c1_i32 : BitVec 32 := 1#32
  let arg14 : BitVec 32 := Scf.iv c0_i32_19 c1_i32 k0_t1
  let c128_i32 : BitVec 32 := 128#32
  let v34 : BitVec 32 := Scalar.muli arg14 c128_i32
  let v35 : BitVec 32 := v34
  let v649 : Index := Scalar.indexCast v35
  let c0_174 : Index := 0#32
  ![15, v649.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c1_i32 : BitVec 32 := 1#32
  let v1 : BitVec 32 := Scalar.muli arg1 c1_i32
  let c1_i32_0 : BitVec 32 := 1#32
  let v2 : BitVec 32 := Scalar.subi v1 c1_i32_0
  let c0_i32 : BitVec 32 := 0#32
  let v3 : BitVec 32 := Scalar.maxsi v2 c0_i32
  let c0_i32_1 : BitVec 32 := 0#32
  let c0_i32_2 : BitVec 32 := 0#32
  ![v0.toNat, v3.toNat, c0_i32_1.toNat]

def cc0_transform_5 (i : grid0.Coords) : Fin 3 → Nat :=
  let arg0 : BitVec 32 := BitVec.ofNat 32 (i 0).val
  let arg1 : BitVec 32 := BitVec.ofNat 32 (i 1).val
  let c41_i32 : BitVec 32 := 41#32
  let v0 : BitVec 32 := Scalar.addi c41_i32 arg0
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c41_i32 : BitVec 32 := 41#32
  let v0 : BitVec 32 := Scalar.addi c41_i32 arg0
  let c1_i32 : BitVec 32 := 1#32
  let v1 : BitVec 32 := Scalar.muli arg1 c1_i32
  let c1_i32_0 : BitVec 32 := 1#32
  let v2 : BitVec 32 := Scalar.subi v1 c1_i32_0
  let c0_i32 : BitVec 32 := 0#32
  let v3 : BitVec 32 := Scalar.maxsi v2 c0_i32
  let c0_i32_1 : BitVec 32 := 0#32
  let c0_i32_2 : BitVec 32 := 0#32
  ![v0.toNat, v3.toNat, c0_i32_1.toNat]

def cc0_transform_7 (i : grid0.Coords) : Fin 3 → Nat :=
  let arg0 : BitVec 32 := BitVec.ofNat 32 (i 0).val
  let arg1 : BitVec 32 := BitVec.ofNat 32 (i 1).val
  let c42_i32 : BitVec 32 := 42#32
  let c0_i32 : BitVec 32 := 0#32
  let c0_i32_0 : BitVec 32 := 0#32
  ![c42_i32.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S16x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S16x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== WinIdeal.lean ====
variable {F : FTy → Type} [FloatOps F] [Named F]
def κ : String → Option EReal := fun
  | "mask" => some ⊥
  | _ => none
-- ==== WinRefIdeal.lean ====
abbrev S44x8192x128 : Shape := ⟨3, ![44, 8192, 128]⟩
abbrev S16 : Shape := ⟨1, ![16]⟩
abbrev S16x8192x128 : Shape := ⟨3, ![16, 8192, 128]⟩
abbrev S8192x16x128 : Shape := ⟨3, ![8192, 16, 128]⟩
abbrev S1x8192x16x128 : Shape := ⟨4, ![1, 8192, 16, 128]⟩
abbrev S1x8192x128 : Shape := ⟨3, ![1, 8192, 128]⟩
abbrev S8192x1x128 : Shape := ⟨3, ![8192, 1, 128]⟩
abbrev S1x8192x1x128 : Shape := ⟨4, ![1, 8192, 1, 128]⟩
abbrev S1x64x128x1x16x128 : Shape := ⟨6, ![1, 64, 128, 1, 16, 128]⟩
abbrev S1x64x128x1x128 : Shape := ⟨5, ![1, 64, 128, 1, 128]⟩
abbrev S_ : Shape := ⟨0, ![]⟩
abbrev S1x4x128x1x128 : Shape := ⟨5, ![1, 4, 128, 1, 128]⟩
abbrev S1x68x128x1x128 : Shape := ⟨5, ![1, 68, 128, 1, 128]⟩
abbrev S1x64x640x1x128 : Shape := ⟨5, ![1, 64, 640, 1, 128]⟩
abbrev S1x1x64x640x128x16 : Shape := ⟨6, ![1, 1, 64, 640, 128, 16]⟩
abbrev S1x1x16x64x128x640 : Shape := ⟨6, ![1, 1, 16, 64, 128, 640]⟩
abbrev S128 : Shape := ⟨1, ![128]⟩
abbrev S128x1 : Shape := ⟨2, ![128, 1]⟩
abbrev S640 : Shape := ⟨1, ![640]⟩
abbrev S1x640 : Shape := ⟨2, ![1, 640]⟩
abbrev S128x640 : Shape := ⟨2, ![128, 640]⟩
abbrev S64 : Shape := ⟨1, ![64]⟩
abbrev S64x1 : Shape := ⟨2, ![64, 1]⟩
abbrev S64x640 : Shape := ⟨2, ![64, 640]⟩
abbrev S1x128x640 : Shape := ⟨3, ![1, 128, 640]⟩
abbrev S64x1x640 : Shape := ⟨3, ![64, 1, 640]⟩
abbrev S64x128x640 : Shape := ⟨3, ![64, 128, 640]⟩
abbrev S1x16x1x1x1 : Shape := ⟨5, ![1, 16, 1, 1, 1]⟩
abbrev S1x1x1x128x640 : Shape := ⟨5, ![1, 1, 1, 128, 640]⟩
abbrev S1x16x1x128x640 : Shape := ⟨5, ![1, 16, 1, 128, 640]⟩
abbrev S1x1x16x1x128x640 : Shape := ⟨6, ![1, 1, 16, 1, 128, 640]⟩
abbrev S1x1x16x64x128 : Shape := ⟨5, ![1, 1, 16, 64, 128]⟩
abbrev S1x1x16x64x128x1 : Shape := ⟨6, ![1, 1, 16, 64, 128, 1]⟩
abbrev S1x64x1x128x16x128 : Shape := ⟨6, ![1, 64, 1, 128, 16, 128]⟩
abbrev S1x64x128x1x16 : Shape := ⟨5, ![1, 64, 128, 1, 16]⟩
abbrev S1x8192x16 : Shape := ⟨3, ![1, 8192, 16]⟩
abbrev S1x8192x48 : Shape := ⟨3, ![1, 8192, 48]⟩
abbrev S8192x48 : Shape := ⟨2, ![8192, 48]⟩
abbrev S1x8192x16x3 : Shape := ⟨4, ![1, 8192, 16, 3]⟩
abbrev S1x8192x16x1 : Shape := ⟨4, ![1, 8192, 16, 1]⟩

abbrev nBuf : Space → Nat
  | .hbm => 131
  | .vmem => 0
  | .smem => 0
  | _ => 0

abbrev hbmTy0_0 (i : Nat) : BufTy := match i % 128 with
  | 0 => ⟨S44x8192x128, .f32⟩
  | 1 => ⟨S16, .f32⟩
  | 2 => ⟨S16x8192x128, .f32⟩
  | 3 => ⟨S16x8192x128, .f32⟩
  | 4 => ⟨S8192x16x128, .f32⟩
  | 5 => ⟨S1x8192x16x128, .f32⟩
  | 6 => ⟨S1x8192x128, .f32⟩
  | 7 => ⟨S8192x1x128, .f32⟩
  | 8 => ⟨S1x8192x1x128, .f32⟩
  | 9 => ⟨S1x8192x128, .f32⟩
  | 10 => ⟨S8192x1x128, .f32⟩
  | 11 => ⟨S1x8192x1x128, .f32⟩
  | 12 => ⟨S1x64x128x1x16x128, .f32⟩
  | 13 => ⟨S1x64x128x1x128, .f32⟩
  | 14 => ⟨S_, .f32⟩
  | 15 => ⟨S1x4x128x1x128, .f32⟩
  | 16 => ⟨S1x68x128x1x128, .f32⟩
  | 17 => ⟨S1x64x128x1x128, .f32⟩
  | 18 => ⟨S1x64x128x1x128, .f32⟩
  | 19 => ⟨S1x64x128x1x128, .f32⟩
  | 20 => ⟨S1x64x128x1x128, .f32⟩
  | 21 => ⟨S1x64x128x1x128, .f32⟩
  | 22 => ⟨S1x64x640x1x128, .f32⟩
  | 23 => ⟨S1x64x128x1x128, .f32⟩
  | 24 => ⟨S_, .f32⟩
  | 25 => ⟨S1x4x128x1x128, .f32⟩
  | 26 => ⟨S1x68x128x1x128, .f32⟩
  | 27 => ⟨S1x64x128x1x128, .f32⟩
  | 28 => ⟨S1x64x128x1x128, .f32⟩
  | 29 => ⟨S1x64x128x1x128, .f32⟩
  | 30 => ⟨S1x64x128x1x128, .f32⟩
  | 31 => ⟨S1x64x128x1x128, .f32⟩
  | 32 => ⟨S1x64x640x1x128, .f32⟩
  | 33 => ⟨S1x1x64x640x128x16, .f32⟩
  | 34 => ⟨S1x1x16x64x128x640, .f32⟩
  | 35 => ⟨S_, .f32⟩
  | 36 => ⟨S_, .f32⟩
  | 37 => ⟨S1x1x16x64x128x640, .f32⟩
  | 38 => ⟨S1x1x16x64x128x640, .f32⟩
  | 39 => ⟨S128, .i32⟩
  | 40 => ⟨S128x1, .i32⟩
  | 41 => ⟨S_, .i32⟩
  | 42 => ⟨S128x1, .i32⟩
  | 43 => ⟨S128x1, .i32⟩
  | 44 => ⟨S640, .i32⟩
  | 45 => ⟨S1x640, .i32⟩
  | 46 => ⟨S128x640, .i32⟩
  | 47 => ⟨S128x640, .i32⟩
  | 48 => ⟨S128x640, .i32⟩
  | 49 => ⟨S64, .i32⟩
  | 50 => ⟨S64x1, .i32⟩
  | 51 => ⟨S_, .i32⟩
  | 52 => ⟨S64x1, .i32⟩
  | 53 => ⟨S64x1, .i32⟩
  | 54 => ⟨S_, .i32⟩
  | 55 => ⟨S64x1, .i32⟩
  | 56 => ⟨S64x1, .i32⟩
  | 57 => ⟨S640, .i32⟩
  | 58 => ⟨S1x640, .i32⟩
  | 59 => ⟨S64x640, .i32⟩
  | 60 => ⟨S64x640, .i32⟩
  | 61 => ⟨S64x640, .i32⟩
  | 62 => ⟨S_, .i32⟩
  | 63 => ⟨S128x640, .i32⟩
  | 64 => ⟨S128x640, .i1⟩
  | 65 => ⟨S_, .i32⟩
  | 66 => ⟨S128x640, .i32⟩
  | 67 => ⟨S128x640, .i1⟩
  | 68 => ⟨S128x640, .i1⟩
  | 69 => ⟨S1x128x640, .i1⟩
  | 70 => ⟨S_, .i32⟩
  | 71 => ⟨S64x640, .i32⟩
  | 72 => ⟨S64x640, .i1⟩
  | 73 => ⟨S64x1x640, .i1⟩
  | 74 => ⟨S64x128x640, .i1⟩
  | 75 => ⟨S64x128x640, .i1⟩
  | 76 => ⟨S64x128x640, .i1⟩
  | 77 => ⟨S1x16x1x1x1, .f32⟩
  | 78 => ⟨S1x16x1x1x1, .f32⟩
  | 79 => ⟨S128x640, .f32⟩
  | 80 => ⟨S1x1x1x128x640, .f32⟩
  | 81 => ⟨S1x16x1x128x640, .f32⟩
  | 82 => ⟨S1x16x1x128x640, .f32⟩
  | 83 => ⟨S1x16x1x128x640, .f32⟩
  | 84 => ⟨S1x1x16x1x128x640, .f32⟩
  | 85 => ⟨S1x1x16x64x128x640, .f32⟩
  | 86 => ⟨S1x1x16x64x128x640, .f32⟩
  | 87 => ⟨S_, .f32⟩
  | 88 => ⟨S_, .f32⟩
  | 89 => ⟨S1x1x16x64x128x640, .i1⟩
  | 90 => ⟨S1x1x16x64x128x640, .f32⟩
  | 91 => ⟨S1x1x16x64x128x640, .f32⟩
  | 92 => ⟨S_, .f32⟩
  | 93 => ⟨S1x1x16x64x128, .f32⟩
  | 94 => ⟨S1x1x16x64x128x1, .f32⟩
  | 95 => ⟨S1x1x16x64x128x640, .f32⟩
  | 96 => ⟨S1x1x16x64x128x640, .f32⟩
  | 97 => ⟨S1x1x16x64x128x640, .f32⟩
  | 98 => ⟨S_, .f32⟩
  | 99 => ⟨S1x1x16x64x128, .f32⟩
  | 100 => ⟨S1x1x16x64x128, .f32⟩
  | 101 => ⟨S1x1x16x64x128, .f32⟩
  | 102 => ⟨S1x1x16x64x128x1, .f32⟩
  | 103 => ⟨S1x1x16x64x128x640, .f32⟩
  | 104 => ⟨S1x1x16x64x128x640, .f32⟩
  | 105 => ⟨S1x1x16x64x128x640, .f32⟩
  | 106 => ⟨S1x64x1x128x16x128, .f32⟩
  | 107 => ⟨S1x64x128x1x16x128, .f32⟩
  | 108 => ⟨S1x8192x16x128, .f32⟩
  | 109 => ⟨S1x64x128x1x16, .f32⟩
  | 110 => ⟨S1x8192x16, .f32⟩
  | 111 => ⟨S1x8192x48, .f32⟩
  | 112 => ⟨S8192x48, .f32⟩
  | 113 => ⟨S1x8192x16x3, .f32⟩
  | 114 => ⟨S1x8192x16x3, .f32⟩
  | 115 => ⟨S1x8192x16x3, .f32⟩
  | 116 => ⟨S_, .f32⟩
  | 117 => ⟨S1x8192x16x3, .f32⟩
  | 118 => ⟨S1x8192x16x3, .f32⟩
  | 119 => ⟨S_, .f32⟩
  | 120 => ⟨S1x8192x16x3, .f32⟩
  | 121 => ⟨S1x8192x16x3, .f32⟩
  | 122 => ⟨S8192x16x128, .f32⟩
  | 123 => ⟨S1x8192x16x128, .f32⟩
  | 124 => ⟨S1x8192x16x1, .f32⟩
  | 125 => ⟨S1x8192x16x128, .f32⟩
  | 126 => ⟨S1x8192x16x128, .f32⟩
  | 127 => ⟨S1x8192x16x128, .f32⟩
  | _ => ⟨S44x8192x128, .f32⟩

abbrev hbmTy0_1 (i : Nat) : BufTy := match i % 128 with
  | 0 => ⟨S8192x16x128, .f32⟩
  | 1 => ⟨S16x8192x128, .f32⟩
  | 2 => ⟨S16x8192x128, .bf16⟩
  | _ => ⟨S44x8192x128, .f32⟩

abbrev hbmTy (i : Nat) : BufTy := match i / 128 with
  | 0 => hbmTy0_0 i
  | 1 => hbmTy0_1 i
  | _ => ⟨S44x8192x128, .f32⟩

abbrev bufTy : (tb : Table) → Fin (tcTables nBuf tb) → BufTy
  | .hbm, ⟨i, _⟩ => hbmTy i
  | _, _ => ⟨S44x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_1 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_c : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_c_2 : Ref sig .tc := ⟨.hbm, 51, rfl⟩
abbrev main_v44 : Ref sig .tc := ⟨.hbm, 52, rfl⟩
abbrev main_v45 : Ref sig .tc := ⟨.hbm, 53, rfl⟩
abbrev main_c_3 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_c_4 : Ref sig .tc := ⟨.hbm, 62, rfl⟩
abbrev main_v53 : Ref sig .tc := ⟨.hbm, 63, rfl⟩
abbrev main_v54 : Ref sig .tc := ⟨.hbm, 64, rfl⟩
abbrev main_c_5 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_c_6 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_cst_7 : Ref sig .tc := ⟨.hbm, 87, rfl⟩
abbrev main_call0_v0 : Ref sig .tc := ⟨.hbm, 88, rfl⟩
abbrev main_call0_v1 : Ref sig .tc := ⟨.hbm, 89, rfl⟩
abbrev main_call0_v2 : Ref sig .tc := ⟨.hbm, 90, rfl⟩
abbrev main_v75 : Ref sig .tc := ⟨.hbm, 91, rfl⟩
abbrev main_cst_8 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_9 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_cst_10 : Ref sig .tc := ⟨.hbm, 116, rfl⟩
abbrev main_v98 : Ref sig .tc := ⟨.hbm, 117, rfl⟩
abbrev main_v99 : Ref sig .tc := ⟨.hbm, 118, rfl⟩
abbrev main_cst_11 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩

abbrev nD : Nat := 1
abbrev τ : Topo := Topo.v7x

variable {F : FTy → Type} [FloatOps F]
-- ==== Cmp.lean ====
abbrev S2x8192x128 : Shape := ⟨3, ![2, 8192, 128]⟩
abbrev S2x32x128 : Shape := ⟨3, ![2, 32, 128]⟩
abbrev S2x4096x256 : Shape := ⟨3, ![2, 4096, 256]⟩
abbrev S2x256 : Shape := ⟨2, ![2, 256]⟩
abbrev S2x256x128 : Shape := ⟨3, ![2, 256, 128]⟩
abbrev S2x128 : Shape := ⟨2, ![2, 128]⟩
abbrev S2x512x2048 : Shape := ⟨3, ![2, 512, 2048]⟩
abbrev S2x1x4096 : Shape := ⟨3, ![2, 1, 4096]⟩
abbrev S2x1x256 : Shape := ⟨3, ![2, 1, 256]⟩
abbrev S2x1x128 : Shape := ⟨3, ![2, 1, 128]⟩
abbrev S2x512x128 : Shape := ⟨3, ![2, 512, 128]⟩
abbrev S1x512x2048 : Shape := ⟨3, ![1, 512, 2048]⟩
abbrev S1x1x4096 : Shape := ⟨3, ![1, 1, 4096]⟩
abbrev S1x4096x256 : Shape := ⟨3, ![1, 4096, 256]⟩
abbrev S1x1x256 : Shape := ⟨3, ![1, 1, 256]⟩
abbrev S1x256x128 : Shape := ⟨3, ![1, 256, 128]⟩
abbrev S1x1x128 : Shape := ⟨3, ![1, 1, 128]⟩
abbrev S1x512x128 : Shape := ⟨3, ![1, 512, 128]⟩
abbrev S512x2048 : Shape := ⟨2, ![512, 2048]⟩
abbrev S1x2048x256 : Shape := ⟨3, ![1, 2048, 256]⟩
abbrev S2048x256 : Shape := ⟨2, ![2048, 256]⟩
abbrev S512x256 : Shape := ⟨2, ![512, 256]⟩
abbrev S1x4096 : Shape := ⟨2, ![1, 4096]⟩
abbrev S8x4096 : Shape := ⟨2, ![8, 4096]⟩
abbrev S4096x256 : Shape := ⟨2, ![4096, 256]⟩
abbrev S8x256 : Shape := ⟨2, ![8, 256]⟩
abbrev S1x256 : Shape := ⟨2, ![1, 256]⟩
abbrev S256x128 : Shape := ⟨2, ![256, 128]⟩
abbrev S512x128 : Shape := ⟨2, ![512, 128]⟩
abbrev S1x128 : Shape := ⟨2, ![1, 128]⟩

abbrev nBuf : Space → Nat
  | .hbm => 14
  | .vmem => 14
  | .smem => 0
  | _ => 0

abbrev bufTy : (tb : Table) → Fin (tcTables nBuf tb) → BufTy
  | .hbm, ⟨0, _⟩ => ⟨S2x8192x128, .bf16⟩
  | .hbm, ⟨1, _⟩ => ⟨S2x32x128, .f32⟩
  | .hbm, ⟨2, _⟩ => ⟨S2x4096x256, .f32⟩
  | .hbm, ⟨3, _⟩ => ⟨S2x256, .f32⟩
  | .hbm, ⟨4, _⟩ => ⟨S2x256x128, .f32⟩
  | .hbm, ⟨5, _⟩ => ⟨S2x128, .f32⟩
  | .hbm, ⟨6, _⟩ => ⟨S2x512x2048, .bf16⟩
  | .hbm, ⟨7, _⟩ => ⟨S2x1x4096, .f32⟩
  | .hbm, ⟨8, _⟩ => ⟨S2x1x4096, .bf16⟩
  | .hbm, ⟨9, _⟩ => ⟨S2x4096x256, .bf16⟩
  | .hbm, ⟨10, _⟩ => ⟨S2x1x256, .f32⟩
  | .hbm, ⟨11, _⟩ => ⟨S2x256x128, .bf16⟩
  | .hbm, ⟨12, _⟩ => ⟨S2x1x128, .f32⟩
  | .hbm, ⟨13, _⟩ => ⟨S2x512x128, .bf16⟩
  | .local _ .vmem, ⟨0, _⟩ => ⟨S1x512x2048, .bf16⟩
  | .local _ .vmem, ⟨1, _⟩ => ⟨S1x512x2048, .bf16⟩
  | .local _ .vmem, ⟨2, _⟩ => ⟨S1x1x4096, .bf16⟩
  | .local _ .vmem, ⟨3, _⟩ => ⟨S1x1x4096, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x1x256, .f32⟩
  | .local _ .vmem, ⟨7, _⟩ => ⟨S1x1x256, .f32⟩
  | .local _ .vmem, ⟨8, _⟩ => ⟨S1x256x128, .bf16⟩
  | .local _ .vmem, ⟨9, _⟩ => ⟨S1x256x128, .bf16⟩
  | .local _ .vmem, ⟨10, _⟩ => ⟨S1x1x128, .f32⟩
  | .local _ .vmem, ⟨11, _⟩ => ⟨S1x1x128, .f32⟩
  | .local _ .vmem, ⟨12, _⟩ => ⟨S1x512x128, .bf16⟩
  | .local _ .vmem, ⟨13, _⟩ => ⟨S1x512x128, .bf16⟩
  | _, _ => ⟨S2x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CmpRefIdeal.lean ====
abbrev S2x8192x128 : Shape := ⟨3, ![2, 8192, 128]⟩
abbrev S2x32x128 : Shape := ⟨3, ![2, 32, 128]⟩
abbrev S2x4096x256 : Shape := ⟨3, ![2, 4096, 256]⟩
abbrev S2x256 : Shape := ⟨2, ![2, 256]⟩
abbrev S2x256x128 : Shape := ⟨3, ![2, 256, 128]⟩
abbrev S2x128 : Shape := ⟨2, ![2, 128]⟩
abbrev S2x8176x128 : Shape := ⟨3, ![2, 8176, 128]⟩
abbrev S2x16x128 : Shape := ⟨3, ![2, 16, 128]⟩
abbrev S2x512x16x128 : Shape := ⟨4, ![2, 512, 16, 128]⟩
abbrev S2x512x32x128 : Shape := ⟨4, ![2, 512, 32, 128]⟩
abbrev S2x1x32x128 : Shape := ⟨4, ![2, 1, 32, 128]⟩
abbrev S2x512x4096 : Shape := ⟨3, ![2, 512, 4096]⟩
abbrev S2x512x256 : Shape := ⟨3, ![2, 512, 256]⟩
abbrev S2x1x256 : Shape := ⟨3, ![2, 1, 256]⟩
abbrev S_ : Shape := ⟨0, ![]⟩
abbrev S2x512x128 : Shape := ⟨3, ![2, 512, 128]⟩
abbrev S2x1x128 : Shape := ⟨3, ![2, 1, 128]⟩

abbrev nBuf : Space → Nat
  | .hbm => 43
  | .vmem => 0
  | .smem => 0
  | _ => 0

abbrev bufTy : (tb : Table) → Fin (tcTables nBuf tb) → BufTy
  | .hbm, ⟨0, _⟩ => ⟨S2x8192x128, .bf16⟩
  | .hbm, ⟨1, _⟩ => ⟨S2x32x128, .f32⟩
  | .hbm, ⟨2, _⟩ => ⟨S2x4096x256, .f32⟩
  | .hbm, ⟨3, _⟩ => ⟨S2x256, .f32⟩
  | .hbm, ⟨4, _⟩ => ⟨S2x256x128, .f32⟩
  | .hbm, ⟨5, _⟩ => ⟨S2x128, .f32⟩
  | .hbm, ⟨6, _⟩ => ⟨S2x8192x128, .f32⟩
  | .hbm, ⟨7, _⟩ => ⟨S2x8176x128, .f32⟩
  | .hbm, ⟨8, _⟩ => ⟨S2x16x128, .f32⟩
  | .hbm, ⟨9, _⟩ => ⟨S2x8192x128, .f32⟩
  | .hbm, ⟨10, _⟩ => ⟨S2x512x16x128, .f32⟩
  | .hbm, ⟨11, _⟩ => ⟨S2x512x16x128, .f32⟩
  | .hbm, ⟨12, _⟩ => ⟨S2x512x32x128, .f32⟩
  | .hbm, ⟨13, _⟩ => ⟨S2x1x32x128, .f32⟩
  | .hbm, ⟨14, _⟩ => ⟨S2x512x32x128, .f32⟩
  | .hbm, ⟨15, _⟩ => ⟨S2x512x32x128, .f32⟩
  | .hbm, ⟨16, _⟩ => ⟨S2x512x4096, .f32⟩
  | .hbm, ⟨17, _⟩ => ⟨S2x512x256, .f32⟩
  | .hbm, ⟨18, _⟩ => ⟨S2x1x256, .f32⟩
  | .hbm, ⟨19, _⟩ => ⟨S2x512x256, .f32⟩
  | .hbm, ⟨20, _⟩ => ⟨S2x512x256, .f32⟩
  | .hbm, ⟨21, _⟩ => ⟨S2x512x256, .f32⟩
  | .hbm, ⟨22, _⟩ => ⟨S2x512x256, .f32⟩
  | .hbm, ⟨23, _⟩ => ⟨S_, .f32⟩
  | .hbm, ⟨24, _⟩ => ⟨S2x512x256, .f32⟩
  | .hbm, ⟨25, _⟩ => ⟨S2x512x256, .f32⟩
  | .hbm, ⟨26, _⟩ => ⟨S2x512x256, .f32⟩
  | .hbm, ⟨27, _⟩ => ⟨S_, .f32⟩
  | .hbm, ⟨28, _⟩ => ⟨S2x512x256, .f32⟩
  | .hbm, ⟨29, _⟩ => ⟨S2x512x256, .f32⟩
  | .hbm, ⟨30, _⟩ => ⟨S2x512x256, .f32⟩
  | .hbm, ⟨31, _⟩ => ⟨S_, .f32⟩
  | .hbm, ⟨32, _⟩ => ⟨S2x512x256, .f32⟩
  | .hbm, ⟨33, _⟩ => ⟨S2x512x256, .f32⟩
  | .hbm, ⟨34, _⟩ => ⟨S_, .f32⟩
  | .hbm, ⟨35, _⟩ => ⟨S2x512x256, .f32⟩
  | .hbm, ⟨36, _⟩ => ⟨S2x512x256, .f32⟩
  | .hbm, ⟨37, _⟩ => ⟨S2x512x256, .f32⟩
  | .hbm, ⟨38, _⟩ => ⟨S2x512x128, .f32⟩
  | .hbm, ⟨39, _⟩ => ⟨S2x1x128, .f32⟩
  | .hbm, ⟨40, _⟩ => ⟨S2x512x128, .f32⟩
  | .hbm, ⟨41, _⟩ => ⟨S2x512x128, .f32⟩
  | .hbm, ⟨42, _⟩ => ⟨S2x512x128, .bf16⟩
  | _, _ => ⟨S2x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== CastIn.lean ====
abbrev S2x4096x5424 : Shape := ⟨3, ![2, 4096, 5424]⟩
abbrev S4096x5632 : Shape := ⟨2, ![4096, 5632]⟩
abbrev S1x256x5424 : Shape := ⟨3, ![1, 256, 5424]⟩
abbrev S256x5632 : Shape := ⟨2, ![256, 5632]⟩
abbrev S1x256x2048 : Shape := ⟨3, ![1, 256, 2048]⟩
abbrev S256x2048 : Shape := ⟨2, ![256, 2048]⟩
abbrev S1x256x512 : Shape := ⟨3, ![1, 256, 512]⟩
abbrev S256x512 : Shape := ⟨2, ![256, 512]⟩
abbrev S1x256x768 : Shape := ⟨3, ![1, 256, 768]⟩
abbrev S256x768 : Shape := ⟨2, ![256, 768]⟩
abbrev S1x256x48 : Shape := ⟨3, ![1, 256, 48]⟩
abbrev S256x48 : Shape := ⟨2, ![256, 48]⟩
abbrev S256x208 : Shape := ⟨2, ![256, 208]⟩

abbrev nBuf : Space → Nat
  | .hbm => 2
  | .vmem => 4
  | .smem => 0
  | _ => 0

abbrev bufTy : (tb : Table) → Fin (tcTables nBuf tb) → BufTy
  | .hbm, ⟨0, _⟩ => ⟨S2x4096x5424, .f32⟩
  | .hbm, ⟨1, _⟩ => ⟨S4096x5632, .bf16⟩
  | .local _ .vmem, ⟨0, _⟩ => ⟨S1x256x5424, .f32⟩
  | .local _ .vmem, ⟨1, _⟩ => ⟨S1x256x5424, .f32⟩
  | .local _ .vmem, ⟨2, _⟩ => ⟨S256x5632, .bf16⟩
  | .local _ .vmem, ⟨3, _⟩ => ⟨S256x5632, .bf16⟩
  | _, _ => ⟨S2x4096x5424, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x5424 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CastInIdeal.lean ====
variable {F : FTy → Type} [FloatOps F] [Named F]
def κ : String → Option EReal := fun
  | "q_scale" => some (((Real.sqrt 128)⁻¹ * (Real.log 2)⁻¹ : ℝ) : EReal)
  | _ => none
-- ==== CastInRefIdeal.lean ====
abbrev S2x4096x5424 : Shape := ⟨3, ![2, 4096, 5424]⟩
abbrev S1x4096x2048 : Shape := ⟨3, ![1, 4096, 2048]⟩
abbrev S4096x2048 : Shape := ⟨2, ![4096, 2048]⟩
abbrev S1x4096x512 : Shape := ⟨3, ![1, 4096, 512]⟩
abbrev S4096x512 : Shape := ⟨2, ![4096, 512]⟩
abbrev S1x4096x816 : Shape := ⟨3, ![1, 4096, 816]⟩
abbrev S4096x816 : Shape := ⟨2, ![4096, 816]⟩
abbrev S_ : Shape := ⟨0, ![]⟩
abbrev S4096x208 : Shape := ⟨2, ![4096, 208]⟩
abbrev S4096x5632 : Shape := ⟨2, ![4096, 5632]⟩

abbrev nBuf : Space → Nat
  | .hbm => 24
  | .vmem => 0
  | .smem => 0
  | _ => 0

abbrev bufTy : (tb : Table) → Fin (tcTables nBuf tb) → BufTy
  | .hbm, ⟨0, _⟩ => ⟨S2x4096x5424, .f32⟩
  | .hbm, ⟨1, _⟩ => ⟨S1x4096x2048, .f32⟩
  | .hbm, ⟨2, _⟩ => ⟨S4096x2048, .f32⟩
  | .hbm, ⟨3, _⟩ => ⟨S1x4096x512, .f32⟩
  | .hbm, ⟨4, _⟩ => ⟨S4096x512, .f32⟩
  | .hbm, ⟨5, _⟩ => ⟨S1x4096x2048, .f32⟩
  | .hbm, ⟨6, _⟩ => ⟨S4096x2048, .f32⟩
  | .hbm, ⟨7, _⟩ => ⟨S1x4096x816, .f32⟩
  | .hbm, ⟨8, _⟩ => ⟨S4096x816, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x208, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x5632, .f32⟩
  | .hbm, ⟨23, _⟩ => ⟨S4096x5632, .bf16⟩
  | _, _ => ⟨S2x4096x5424, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== CastOut.lean ====
abbrev S2x4096x4096 : Shape := ⟨3, ![2, 4096, 4096]⟩
abbrev S4096x4096 : Shape := ⟨2, ![4096, 4096]⟩
abbrev S1x256x4096 : Shape := ⟨3, ![1, 256, 4096]⟩
abbrev S256x4096 : Shape := ⟨2, ![256, 4096]⟩

abbrev nBuf : Space → Nat
  | .hbm => 2
  | .vmem => 4
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .bf16⟩
  | .local _ .vmem, ⟨0, _⟩ => ⟨S1x256x4096, .f32⟩
  | .local _ .vmem, ⟨1, _⟩ => ⟨S1x256x4096, .f32⟩
  | .local _ .vmem, ⟨2, _⟩ => ⟨S256x4096, .bf16⟩
  | .local _ .vmem, ⟨3, _⟩ => ⟨S256x4096, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CastOutRefIdeal.lean ====
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S1x4096x4096, .f32⟩
  | .hbm, ⟨2, _⟩ => ⟨S4096x4096, .f32⟩
  | .hbm, ⟨3, _⟩ => ⟨S4096x4096, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Ln.lean ====
abbrev S8192x4096 : Shape := ⟨2, ![8192, 4096]⟩
abbrev S4096 : Shape := ⟨1, ![4096]⟩
abbrev S4096x16 : Shape := ⟨2, ![4096, 16]⟩
abbrev S16 : Shape := ⟨1, ![16]⟩
abbrev S1x4096 : Shape := ⟨2, ![1, 4096]⟩
abbrev S16x4096 : Shape := ⟨2, ![16, 4096]⟩
abbrev S16x1 : Shape := ⟨2, ![16, 1]⟩
abbrev S2x8192 : Shape := ⟨2, ![2, 8192]⟩
abbrev S256x4096 : Shape := ⟨2, ![256, 4096]⟩
abbrev S2x256 : Shape := ⟨2, ![2, 256]⟩
abbrev S256 : Shape := ⟨1, ![256]⟩
abbrev S256x1 : Shape := ⟨2, ![256, 1]⟩
abbrev S16x256 : Shape := ⟨2, ![16, 256]⟩
abbrev S1x256 : Shape := ⟨2, ![1, 256]⟩

abbrev nBuf : Space → Nat
  | .hbm => 14
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S4096, .f32⟩
  | .hbm, ⟨4, _⟩ => ⟨S4096x16, .f32⟩
  | .hbm, ⟨5, _⟩ => ⟨S16, .f32⟩
  | .hbm, ⟨6, _⟩ => ⟨S1x4096, .f32⟩
  | .hbm, ⟨7, _⟩ => ⟨S1x4096, .f32⟩
  | .hbm, ⟨8, _⟩ => ⟨S16x4096, .f32⟩
  | .hbm, ⟨9, _⟩ => ⟨S16x1, .f32⟩
  | .hbm, ⟨10, _⟩ => ⟨S8192x4096, .f32⟩
  | .hbm, ⟨11, _⟩ => ⟨S8192x4096, .bf16⟩
  | .hbm, ⟨12, _⟩ => ⟨S2x8192, .i32⟩
  | .hbm, ⟨13, _⟩ => ⟨S2x8192, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S16x4096, .f32⟩
  | .local _ .vmem, ⟨7, _⟩ => ⟨S16x1, .f32⟩
  | .local _ .vmem, ⟨8, _⟩ => ⟨S256x4096, .f32⟩
  | .local _ .vmem, ⟨9, _⟩ => ⟨S256x4096, .f32⟩
  | .local _ .vmem, ⟨10, _⟩ => ⟨S256x4096, .bf16⟩
  | .local _ .vmem, ⟨11, _⟩ => ⟨S256x4096, .bf16⟩
  | .local _ .vmem, ⟨12, _⟩ => ⟨S2x256, .i32⟩
  | .local _ .vmem, ⟨13, _⟩ => ⟨S2x256, .i32⟩
  | .local _ .vmem, ⟨14, _⟩ => ⟨S2x256, .f32⟩
  | .local _ .vmem, ⟨15, _⟩ => ⟨S2x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x256 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== LnRefIdeal.lean ====
abbrev S8192x4096 : Shape := ⟨2, ![8192, 4096]⟩
abbrev S4096 : Shape := ⟨1, ![4096]⟩
abbrev S4096x16 : Shape := ⟨2, ![4096, 16]⟩
abbrev S16 : Shape := ⟨1, ![16]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 40
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S4096, .f32⟩
  | .hbm, ⟨4, _⟩ => ⟨S4096x16, .f32⟩
  | .hbm, ⟨5, _⟩ => ⟨S16, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x4096, .f32⟩
  | .hbm, ⟨26, _⟩ => ⟨S8192x4096, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x4096, .f32⟩
  | .hbm, ⟨32, _⟩ => ⟨S8192x4096, .f32⟩
  | .hbm, ⟨33, _⟩ => ⟨S1x4096, .f32⟩
  | .hbm, ⟨34, _⟩ => ⟨S8192x4096, .f32⟩
  | .hbm, ⟨35, _⟩ => ⟨S8192x4096, .f32⟩
  | .hbm, ⟨36, _⟩ => ⟨S1x4096, .f32⟩
  | .hbm, ⟨37, _⟩ => ⟨S8192x4096, .f32⟩
  | .hbm, ⟨38, _⟩ => ⟨S8192x4096, .f32⟩
  | .hbm, ⟨39, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Proof.Trip.lean ====
/- One trip of the banded kernel's loop over row blocks, as vector operations: eight heads' scores against the
   window of keys the trip loads, their shifted powers of two and sums, one product with the window of values. -/
module

public import proofs.«01_k».proof.Proof.Gen.KernelIdeal.Value

@[expose] public section

set_option maxRecDepth 16384

noncomputable section

namespace Cert.KernelIdeal.Band

open Idealize.ShloMosaic Idealize.ShloMosaic.TcCoe Idealize.ShloMosaic.Tactic Cert.KernelIdeal Cert.KernelIdeal.Gen

variable {F : FTy → Type} [FloatOps F] [Named F]

/-- The keys a row may use: the window's, from the first key of the sequence on. -/
def validV (a1 : BitVec 32) (v21 : IVec S128x256 32) (v29 : IVec S128x256 1) (k : Fin k0_t1_loop.trips) : IVec S128x256 1 :=
  andi v29 (cmpi .sge v21 (broadcast S128x256 (Scalar.subi 128#32 (Scalar.addi (Scalar.muli a1 1024#32) (Scalar.muli (Scf.iv 0#32 1#32 k) 128#32)))))

/-- All heads' products of queries and keys. -/
def allV (q : Vec F S8x128x128 .bf16) (kw : Vec F S256x128 .bf16) : FVec F S1024x256 .f32 :=
  matmul dot_S1024x128_S256x128_S1024x256_1_1_0_0_n_n none (shapeCast S1024x128 (shapeCast S8x128x128 q shapeCasts_S8x128x128_S8x128x128) shapeCasts_S8x128x128_S1024x128) kw (constant S1024x256 .f32 0x00000000#32)

/-- One head's masked scores. -/
def scoreV (va : IVec S128x256 1) (sg : FVec F S128x256 .f32) (sl : Elt F .f32) (v30 : FVec F S128x256 .f32) : FVec F S128x256 .f32 :=
  select va (addf sg (mulf (broadcast S128x256 sl) (subf (broadcast S128x256 (Scalar.ofBits .f32 0x00000000#32)) v30))) (broadcast S128x256 (Named.named κ "mask" 0xF149F2CA#32))

/-- A row's greatest score. -/
def topV (s : FVec F S128x256 .f32) : FVec F S128x1 .f32 :=
  shapeCast S128x1 (multiReduction .maximumf [1] S128 s 0xFF800000#32 reduces_S128x256_S128 (.inl rfl) rfl) shapeCasts_S128_S128x1

/-- The powers of two of the scores below the greatest. -/
def powV (s : FVec F S128x256 .f32) : FVec F S128x256 .f32 :=
  exp2 (subf s (broadcastTo S128x256 (topV s) broadcasts_S128x1_S128x256))

/-- A row's sum, with its sink's term. -/
def sumV (s : FVec F S128x256 .f32) (sk : Elt F .f32) : FVec F S128x1 .f32 :=
  addf (shapeCast S128x1 (multiReduction .add [1] S128 (powV s) 0x00000000#32 reduces_S128x256_S128 (.inl rfl) rfl) shapeCasts_S128_S128x1)
    (exp2 (subf (broadcast S128x1 sk) (topV s)))

/-- The eight heads' powers times the window of values. -/
def accV (s0 s1 s2 s3 s4 s5 s6 s7 : FVec F S128x256 .f32) (vw : Vec F S256x128 .bf16) : FVec F S1024x128 .f32 :=
  matmul dot_S1024x256_S256x128_S1024x128_1_0_0_1_n_n none
    (concatenate S1024x256 0 [⟨S128x256, truncf .bf16 (powV s0) bitsLt_bf16_f32⟩, ⟨S128x256, truncf .bf16 (powV s1) bitsLt_bf16_f32⟩, ⟨S128x256, truncf .bf16 (powV s2) bitsLt_bf16_f32⟩, ⟨S128x256, truncf .bf16 (powV s3) bitsLt_bf16_f32⟩, ⟨S128x256, truncf .bf16 (powV s4) bitsLt_bf16_f32⟩, ⟨S128x256, truncf .bf16 (powV s5) bitsLt_bf16_f32⟩, ⟨S128x256, truncf .bf16 (powV s6) bitsLt_bf16_f32⟩, ⟨S128x256, truncf .bf16 (powV s7) bitsLt_bf16_f32⟩] concatenates_S128x256_S128x256_S128x256_S128x256_S128x256_S128x256_S128x256_S128x256_S1024x256_d0)
    vw (constant S1024x128 .f32 0x00000000#32)

/-- One head's output rows. -/
def outV (ag : FVec F S128x128 .f32) (l : FVec F S128x1 .f32) : FVec F S1x128x128 .bf16 :=
  shapeCast S1x128x128 (truncf .bf16 (divf ag (broadcastTo S128x128 l broadcasts_S128x1_S128x128)) bitsLt_bf16_f32) shapeCasts_S128x128_S1x128x128

/-- Head 0's masked scores. -/
def score0 (va : IVec S128x256 1) (q : Vec F S8x128x128 .bf16) (kw : Vec F S256x128 .bf16) (sl : Elt F .f32) (v30 : FVec F S128x256 .f32) : FVec F S128x256 .f32 :=
  scoreV va (extractStridedSlice S128x256 ![0, 0] (allV q kw) slices_S1024x256_o0_0_S128x256) sl v30

/-- Head 1's masked scores. -/
def score1 (va : IVec S128x256 1) (q : Vec F S8x128x128 .bf16) (kw : Vec F S256x128 .bf16) (sl : Elt F .f32) (v30 : FVec F S128x256 .f32) : FVec F S128x256 .f32 :=
  scoreV va (extractStridedSlice S128x256 ![128, 0] (allV q kw) slices_S1024x256_o128_0_S128x256) sl v30

/-- Head 2's masked scores. -/
def score2 (va : IVec S128x256 1) (q : Vec F S8x128x128 .bf16) (kw : Vec F S256x128 .bf16) (sl : Elt F .f32) (v30 : FVec F S128x256 .f32) : FVec F S128x256 .f32 :=
  scoreV va (extractStridedSlice S128x256 ![256, 0] (allV q kw) slices_S1024x256_o256_0_S128x256) sl v30

/-- Head 3's masked scores. -/
def score3 (va : IVec S128x256 1) (q : Vec F S8x128x128 .bf16) (kw : Vec F S256x128 .bf16) (sl : Elt F .f32) (v30 : FVec F S128x256 .f32) : FVec F S128x256 .f32 :=
  scoreV va (extractStridedSlice S128x256 ![384, 0] (allV q kw) slices_S1024x256_o384_0_S128x256) sl v30

/-- Head 4's masked scores. -/
def score4 (va : IVec S128x256 1) (q : Vec F S8x128x128 .bf16) (kw : Vec F S256x128 .bf16) (sl : Elt F .f32) (v30 : FVec F S128x256 .f32) : FVec F S128x256 .f32 :=
  scoreV va (extractStridedSlice S128x256 ![512, 0] (allV q kw) slices_S1024x256_o512_0_S128x256) sl v30

/-- Head 5's masked scores. -/
def score5 (va : IVec S128x256 1) (q : Vec F S8x128x128 .bf16) (kw : Vec F S256x128 .bf16) (sl : Elt F .f32) (v30 : FVec F S128x256 .f32) : FVec F S128x256 .f32 :=
  scoreV va (extractStridedSlice S128x256 ![640, 0] (allV q kw) slices_S1024x256_o640_0_S128x256) sl v30

/-- Head 6's masked scores. -/
def score6 (va : IVec S128x256 1) (q : Vec F S8x128x128 .bf16) (kw : Vec F S256x128 .bf16) (sl : Elt F .f32) (v30 : FVec F S128x256 .f32) : FVec F S128x256 .f32 :=
  scoreV va (extractStridedSlice S128x256 ![768, 0] (allV q kw) slices_S1024x256_o768_0_S128x256) sl v30

/-- Head 7's masked scores. -/
def score7 (va : IVec S128x256 1) (q : Vec F S8x128x128 .bf16) (kw : Vec F S256x128 .bf16) (sl : Elt F .f32) (v30 : FVec F S128x256 .f32) : FVec F S128x256 .f32 :=
  scoreV va (extractStridedSlice S128x256 ![896, 0] (allV q kw) slices_S1024x256_o896_0_S128x256) sl v30

section
variable (q : Vec F S8x128x128 .bf16) (kw vw : Vec F S256x128 .bf16) (sl sk : BitVec 32 → Elt F .f32) (va : IVec S128x256 1) (v30 : FVec F S128x256 .f32)

/-- The eight heads' accumulated products. -/
def accAll : FVec F S1024x128 .f32 :=
  accV (score0 va q kw (sl 0#32) v30) (score1 va q kw (sl 1#32) v30) (score2 va q kw (sl 2#32) v30) (score3 va q kw (sl 3#32) v30) (score4 va q kw (sl 4#32) v30) (score5 va q kw (sl 5#32) v30) (score6 va q kw (sl 6#32) v30) (score7 va q kw (sl 7#32) v30) vw

end

/-- The word a scalar load reads. -/
def wordAt (arg : Memref sig .tc .smem S16 .f32) (X : BufTy.Contents (Elt F) arg.view.ty) (i : grid0.Coords) (g : BitVec 32) (h : ∀ a, k0_off3 i g a + S1.size a ≤ S16.size a) : Elt F .f32 :=
  View.readAt (Elt F) arg.view (Rect.unit (s := S16) (k0_off3 i g) S1.size h).toLoadRect X (Shape.Idx.first (show 0 < S1.numel by decide))

set_option maxHeartbeats 4000000 in
/-- The pieces one trip writes. -/
theorem trip_eq (𝒱 : Variants) (c : Dev nD) (bd : Option 𝒱.V) (i : grid0.Coords) (arg2 : Memref sig .tc .smem S16 .f32) (harg2 : arg2.IsWhole) (arg3 : Memref sig .tc .smem S16 .f32) (harg3 : arg3.IsWhole) (arg4 : Memref sig .tc .vmem S8x1024x128 .bf16) (harg4 : arg4.IsWhole) (arg5 : Memref sig .tc .vmem S1x1024x128 .bf16) (harg5 : arg5.IsWhole) (arg6 : Memref sig .tc .vmem S1x128x128 .bf16) (harg6 : arg6.IsWhole) (arg7 : Memref sig .tc .vmem S1x1024x128 .bf16) (harg7 : arg7.IsWhole) (arg8 : Memref sig .tc .vmem S1x128x128 .bf16) (harg8 : arg8.IsWhole) (arg9 : Memref sig .tc .vmem S8x1024x128 .bf16) (harg9 : arg9.IsWhole) (arg10 : Memref sig .tc .vmem S1152x128 .bf16) (harg10 : arg10.IsWhole) (arg11 : Memref sig .tc .vmem S1152x128 .bf16) (harg11 : arg11.IsWhole)
  (a0 a1 : BitVec 32) (v21 : IVec S128x256 32) (v29 : IVec S128x256 1) (v30 : FVec F S128x256 .f32)
  (X2 : BufTy.Contents (Elt F) arg2.view.ty) (X3 : BufTy.Contents (Elt F) arg3.view.ty) (X4 : BufTy.Contents (Elt F) arg4.view.ty) (X10 : BufTy.Contents (Elt F) arg10.view.ty) (X11 : BufTy.Contents (Elt F) arg11.view.ty) (k : Fin k0_t1_loop.trips) :
    tripL_k0_t1 (F := F) 𝒱 c bd i arg2 harg2 arg3 harg3 arg4 harg4 arg5 harg5 arg6 harg6 arg7 harg7 arg8 harg8 arg9 harg9 arg10 harg10 arg11 harg11 a0 a1 v21 v29 v30 X2 X3 X4 X10 X11 k =
      let va := validV a1 v21 v29 k
      let q := View.readAt (Elt F) arg4.view (Rect.unit (s := S8x1024x128) (k0_off2 k) S8x128x128.size (k0_off2_inb k)).toLoadRect X4
      let kw := View.readAt (Elt F) arg10.view (Rect.unit (s := S1152x128) (k0_off1 k) S256x128.size (k0_off1_inb k)).toLoadRect X10
      let vw := View.readAt (Elt F) arg11.view (Rect.unit (s := S1152x128) (k0_off1 k) S256x128.size (k0_off1_inb k)).toLoadRect X11
      let acc := accV (score0 va q kw (wordAt arg2 X2 i 0#32 (k0_off3_inb i 0)) v30) (score1 va q kw (wordAt arg2 X2 i 1#32 (k0_off3_inb i 1)) v30) (score2 va q kw (wordAt arg2 X2 i 2#32 (k0_off3_inb i 2)) v30) (score3 va q kw (wordAt arg2 X2 i 3#32 (k0_off3_inb i 3)) v30) (score4 va q kw (wordAt arg2 X2 i 4#32 (k0_off3_inb i 4)) v30) (score5 va q kw (wordAt arg2 X2 i 5#32 (k0_off3_inb i 5)) v30) (score6 va q kw (wordAt arg2 X2 i 6#32 (k0_off3_inb i 6)) v30) (score7 va q kw (wordAt arg2 X2 i 7#32 (k0_off3_inb i 7)) v30) vw
      [(⟨Rect.unit (s := S8x1024x128) (k0_off11 k) S1x128x128.size (k0_off11_inb k), outV (extractStridedSlice S128x128 ![896, 0] acc slices_S1024x128_o896_0_S128x128) (sumV (score7 va q kw (wordAt arg2 X2 i 7#32 (k0_off3_inb i 7)) v30) (wordAt arg3 X3 i 7#32 (k0_off3_inb i 7)))⟩ : View.Piece (Elt F) S8x1024x128 .bf16), (⟨Rect.unit (s := S8x1024x128) (k0_off10 k) S1x128x128.size (k0_off10_inb k), outV (extractStridedSlice S128x128 ![768, 0] acc slices_S1024x128_o768_0_S128x128) (sumV (score6 va q kw (wordAt arg2 X2 i 6#32 (k0_off3_inb i 6)) v30) (wordAt arg3 X3 i 6#32 (k0_off3_inb i 6)))⟩ : View.Piece (Elt F) S8x1024x128 .bf16), (⟨Rect.unit (s := S8x1024x128) (k0_off9 k) S1x128x128.size (k0_off9_inb k), outV (extractStridedSlice S128x128 ![640, 0] acc slices_S1024x128_o640_0_S128x128) (sumV (score5 va q kw (wordAt arg2 X2 i 5#32 (k0_off3_inb i 5)) v30) (wordAt arg3 X3 i 5#32 (k0_off3_inb i 5)))⟩ : View.Piece (Elt F) S8x1024x128 .bf16), (⟨Rect.unit (s := S8x1024x128) (k0_off8 k) S1x128x128.size (k0_off8_inb k), outV (extractStridedSlice S128x128 ![512, 0] acc slices_S1024x128_o512_0_S128x128) (sumV (score4 va q kw (wordAt arg2 X2 i 4#32 (k0_off3_inb i 4)) v30) (wordAt arg3 X3 i 4#32 (k0_off3_inb i 4)))⟩ : View.Piece (Elt F) S8x1024x128 .bf16), (⟨Rect.unit (s := S8x1024x128) (k0_off7 k) S1x128x128.size (k0_off7_inb k), outV (extractStridedSlice S128x128 ![384, 0] acc slices_S1024x128_o384_0_S128x128) (sumV (score3 va q kw (wordAt arg2 X2 i 3#32 (k0_off3_inb i 3)) v30) (wordAt arg3 X3 i 3#32 (k0_off3_inb i 3)))⟩ : View.Piece (Elt F) S8x1024x128 .bf16), (⟨Rect.unit (s := S8x1024x128) (k0_off6 k) S1x128x128.size (k0_off6_inb k), outV (extractStridedSlice S128x128 ![256, 0] acc slices_S1024x128_o256_0_S128x128) (sumV (score2 va q kw (wordAt arg2 X2 i 2#32 (k0_off3_inb i 2)) v30) (wordAt arg3 X3 i 2#32 (k0_off3_inb i 2)))⟩ : View.Piece (Elt F) S8x1024x128 .bf16), (⟨Rect.unit (s := S8x1024x128) (k0_off5 k) S1x128x128.size (k0_off5_inb k), outV (extractStridedSlice S128x128 ![128, 0] acc slices_S1024x128_o128_0_S128x128) (sumV (score1 va q kw (wordAt arg2 X2 i 1#32 (k0_off3_inb i 1)) v30) (wordAt arg3 X3 i 1#32 (k0_off3_inb i 1)))⟩ : View.Piece (Elt F) S8x1024x128 .bf16), (⟨Rect.unit (s := S8x1024x128) (k0_off4 k) S1x128x128.size (k0_off4_inb k), outV (extractStridedSlice S128x128 ![0, 0] acc slices_S1024x128_o0_0_S128x128) (sumV (score0 va q kw (wordAt arg2 X2 i 0#32 (k0_off3_inb i 0)) v30) (wordAt arg3 X3 i 0#32 (k0_off3_inb i 0)))⟩ : View.Piece (Elt F) S8x1024x128 .bf16)] := by
  unfold tripL_k0_t1 trip_k0_t1

  rfl

end Cert.KernelIdeal.Band

end
-- ==== Proof.Consts.lean ====
/- The real numbers the programs' literals denote. -/
module

public import Idealize.ShloMosaic.PureOps.Ideal
public import Idealize.ShloMosaic.Lib.IdealHost

@[expose] public section

namespace Cert.Consts

open Idealize.ShloMosaic

theorem ofBits_128 : Ideal.ofBits .f32 0x43000000#32 = ((128 : ℝ) : EReal) := by
  simp [Ideal.ofBits, Ideal.ieee, -EReal.coe_mul] <;> norm_num

theorem ofBits_2 : Ideal.ofBits .f32 0x40000000#32 = ((2 : ℝ) : EReal) := by
  simp [Ideal.ofBits, Ideal.ieee, -EReal.coe_mul] <;> norm_num

theorem ofBits_1 : Ideal.ofBits .f32 0x3F800000#32 = ((1 : ℝ) : EReal) := by
  simp [Ideal.ofBits, Ideal.ieee, -EReal.coe_mul] <;> norm_num

theorem ofBits_bot : Ideal.ofBits .f32 0xFF800000#32 = (⊥ : EReal) := by
  simp [Ideal.ofBits, Ideal.ieee, -EReal.coe_mul] <;> norm_num

theorem ofBits_top : Ideal.ofBits .f32 0x7F800000#32 = (⊤ : EReal) := by
  simp [Ideal.ofBits, Ideal.ieee, -EReal.coe_mul] <;> norm_num

end Cert.Consts
-- ==== Proof.TripValue.lean ====
/- One trip's stores read at an index, over the extended reals. -/
module

public import proofs.«01_k».proof.Proof.Trip
public import proofs.«01_k».proof.Proof.Consts
public import Idealize.ShloMosaic.Lib.Pointwise

@[expose] public section

set_option maxRecDepth 16384

noncomputable section

namespace Cert.KernelIdeal.Band

open Idealize.ShloMosaic Idealize.ShloMosaic.TcCoe Idealize.ShloMosaic.Tactic Cert.KernelIdeal Cert.KernelIdeal.Gen

/-- The greatest of 256 scores. -/
def top (s : Fin 256 → EReal) : EReal := Finset.univ.fold max ⊥ s

/-- A row's output at one column, from its scores, its sink and the values of that column. -/
def cell (s : Fin 256 → EReal) (sk : EReal) (v : Fin 256 → EReal) : EReal :=
  Ideal.div (∑ j, Ideal.exp2 (s j - top s) * v j) ((∑ j, Ideal.exp2 (s j - top s)) + Ideal.exp2 (sk - top s))

/-- One masked score. -/
def score (b : BitVec 1) (qk sl nd : EReal) : EReal := Scalar.select b (qk + sl * (0 - nd)) ⊥

theorem mask_eq : (Named.named (F := Ideal) κ "mask" (φ := .f32) 0xF149F2CA#32 : Ideal .f32) = (⊥ : EReal) :=
  IdealRules.named_const.ideal_named_scalar _ _ _ _ rfl

theorem scoreV_apply (va : IVec S128x256 1) (sg : FVec Ideal S128x256 .f32) (sl : Elt Ideal .f32) (v30 : FVec Ideal S128x256 .f32) (r : Fin 128) (j : Fin 256) :
    scoreV va sg sl v30 (ix2 r j) = score (va (ix2 r j)) (sg (ix2 r j)) sl (v30 (ix2 r j)) := by
  unfold scoreV score
  rw [mask_eq]
  pointwise

theorem topV_apply (s : FVec Ideal S128x256 .f32) (r : Fin 128) :
    topV s (ix2 r 0) = top fun j => s (ix2 r j) := by
  unfold topV top
  pointwise
  rw [Cert.Consts.ofBits_bot]

theorem powV_apply (s : FVec Ideal S128x256 .f32) (r : Fin 128) (j : Fin 256) :
    powV s (ix2 r j) = Ideal.exp2 (s (ix2 r j) - top fun j => s (ix2 r j)) := by
  rw [← topV_apply]
  unfold powV
  pointwise
  rfl

theorem sumV_apply (s : FVec Ideal S128x256 .f32) (sk : Elt Ideal .f32) (r : Fin 128) :
    sumV s sk (ix2 r 0) = (∑ j, Ideal.exp2 (s (ix2 r j) - top fun j => s (ix2 r j))) + Ideal.exp2 (sk - top fun j => s (ix2 r j)) := by
  unfold sumV
  pointwise
  simp only [powV_apply, topV_apply]
  rfl

theorem allV_apply (q : Vec Ideal S8x128x128 .bf16) (kw : Vec Ideal S256x128 .bf16) (g : Fin 8) (r : Fin 128) (j : Fin 256) :
    allV q kw (ix2 ⟨g.val * 128 + r.val, by omega⟩ j) = ∑ e : Fin 128, q (ix3 g r e) * kw (ix2 j e) := by
  unfold allV
  pointwise

theorem accV_apply (s0 s1 s2 s3 s4 s5 s6 s7 : FVec Ideal S128x256 .f32) (vw : Vec Ideal S256x128 .bf16) (g : Fin 8) (r d : Fin 128) :
    accV s0 s1 s2 s3 s4 s5 s6 s7 vw (ix2 ⟨g.val * 128 + r.val, by omega⟩ d)
      = ∑ j : Fin 256, powV (![s0, s1, s2, s3, s4, s5, s6, s7] g) (ix2 r j) * vw (ix2 j d) := by
  unfold accV
  pointwise
  refine Finset.sum_congr rfl fun j _ => ?_
  congr 1
  obtain ⟨g, hg⟩ := g
  interval_cases g <;>
    (repeat' (first | rw [dif_pos (by dsimp only; omega)] | rw [dif_neg (by dsimp only; omega)])) <;>
    exact congrArg (fun x => powV _ (ix2 x j)) (Fin.ext (by dsimp only; omega))

theorem outV_apply (ag : FVec Ideal S128x128 .f32) (l : FVec Ideal S128x1 .f32) (r d : Fin 128) (z : Fin 1) :
    outV ag l (ix3 z r d) = Ideal.div (ag (ix2 r d)) (l (ix2 r 0)) := by
  unfold outV
  pointwise

end Cert.KernelIdeal.Band

end
-- ==== Proof.Pieces.lean ====
/- All the stores of a grid point's loop agree with one function of the output block. -/
module

public import proofs.«01_k».proof.Proof.TripValue
public import Idealize.ShloMosaic.Lib.Pipeline.ValueKit

@[expose] public section

set_option maxRecDepth 16384

noncomputable section

namespace Cert.KernelIdeal.Band

open Idealize.ShloMosaic Idealize.ShloMosaic.TcCoe Idealize.ShloMosaic.Tactic Cert.KernelIdeal Cert.KernelIdeal.Gen

theorem trips_eq : k0_t1_loop.trips = 8 := by decide

theorem off1_eq : ∀ k : Fin k0_t1_loop.trips, k0_off1 k = ![k.val * 128, 0] := by decide
theorem off2_eq : ∀ k : Fin k0_t1_loop.trips, k0_off2 k = ![0, k.val * 128, 0] := by decide
theorem off4_eq : ∀ k : Fin k0_t1_loop.trips, k0_off4 k = ![0, k.val * 128, 0] := by decide
theorem off5_eq : ∀ k : Fin k0_t1_loop.trips, k0_off5 k = ![1, k.val * 128, 0] := by decide
theorem off6_eq : ∀ k : Fin k0_t1_loop.trips, k0_off6 k = ![2, k.val * 128, 0] := by decide
theorem off7_eq : ∀ k : Fin k0_t1_loop.trips, k0_off7 k = ![3, k.val * 128, 0] := by decide
theorem off8_eq : ∀ k : Fin k0_t1_loop.trips, k0_off8 k = ![4, k.val * 128, 0] := by decide
theorem off9_eq : ∀ k : Fin k0_t1_loop.trips, k0_off9 k = ![5, k.val * 128, 0] := by decide
theorem off10_eq : ∀ k : Fin k0_t1_loop.trips, k0_off10 k = ![6, k.val * 128, 0] := by decide
theorem off11_eq : ∀ k : Fin k0_t1_loop.trips, k0_off11 k = ![7, k.val * 128, 0] := by decide
theorem off3_eq : ∀ (i : grid0.Coords) (g : Fin 8), k0_off3 i (BitVec.ofNat 32 g.val) = ![(i 0).val * 8 + g.val] := by decide +kernel

/-- The output of one row of one head, from the blocks a grid point holds: `k` the trip, `r` the row in it. -/
def cells (sl sk : Fin 8 → EReal) (q : Vec Ideal S8x1024x128 .bf16) (kb vb : Vec Ideal S1152x128 .bf16) (va : Fin 8 → IVec S128x256 1) (nd : FVec Ideal S128x256 .f32)
    (g k : Fin 8) (r d : Fin 128) : EReal :=
  cell (fun j => score (va k (ix2 r j)) (∑ e : Fin 128, q (ix3 g ⟨k.val * 128 + r.val, by omega⟩ e) * kb (ix2 ⟨k.val * 128 + j.val, by omega⟩ e)) (sl g) (nd (ix2 r j))) (sk g)
    (fun j => vb (ix2 ⟨k.val * 128 + j.val, by omega⟩ d))

/-- The output block of a grid point. -/
def blockOut (sl sk : Fin 8 → EReal) (q : Vec Ideal S8x1024x128 .bf16) (kb vb : Vec Ideal S1152x128 .bf16) (va : Fin 8 → IVec S128x256 1) (nd : FVec Ideal S128x256 .f32) :
    Vec Ideal S8x1024x128 .bf16 := fun y =>
  cells sl sk q kb vb va nd (y 0) ⟨(y 1).val / 128, by have : (y 1).val < 1024 := (y 1).isLt; omega⟩ ⟨(y 1).val % 128, Nat.mod_lt _ (by decide)⟩ (y 2)

theorem blockOut_at (sl sk : Fin 8 → EReal) (q : Vec Ideal S8x1024x128 .bf16) (kb vb : Vec Ideal S1152x128 .bf16) (va : Fin 8 → IVec S128x256 1) (nd : FVec Ideal S128x256 .f32)
    (g k : Fin 8) (r d : Fin 128) (y : S8x1024x128.Idx) (h0 : (y 0).val = g.val) (h1 : (y 1).val = k.val * 128 + r.val) (h2 : (y 2).val = d.val) :
    blockOut sl sk q kb vb va nd y = cells sl sk q kb vb va nd g k r d := by
  unfold blockOut
  have e0 : y 0 = g := Fin.ext h0
  have e2 : y 2 = d := Fin.ext h2
  rw [e0, e2]
  congr 1
  · exact Fin.ext (by dsimp only; omega)
  · exact Fin.ext (by dsimp only; omega)

theorem acc_slice (o : Nat) (s0 s1 s2 s3 s4 s5 s6 s7 : FVec Ideal S128x256 .f32) (vw : Vec Ideal S256x128 .bf16) (g : Fin 8) (r d : Fin 128) (ho : o = g.val * 128)
    (h : S1024x128.Slices ![o, 0] S128x128) :
    extractStridedSlice S128x128 ![o, 0] (accV s0 s1 s2 s3 s4 s5 s6 s7 vw) h (ix2 r d)
      = ∑ j : Fin 256, powV (![s0, s1, s2, s3, s4, s5, s6, s7] g) (ix2 r j) * vw (ix2 j d) := by
  subst ho
  rw [← accV_apply]
  pointwise

theorem all_slice (o : Nat) (q : Vec Ideal S8x128x128 .bf16) (kw : Vec Ideal S256x128 .bf16) (g : Fin 8) (r : Fin 128) (j : Fin 256) (ho : o = g.val * 128)
    (h : S1024x256.Slices ![o, 0] S128x256) :
    extractStridedSlice S128x256 ![o, 0] (allV q kw) h (ix2 r j) = ∑ e : Fin 128, q (ix3 g r e) * kw (ix2 j e) := by
  subst ho
  rw [← allV_apply]
  pointwise

/-- One store of one trip, at an index. -/
theorem piece_apply (o : Nat) (s : Fin 8 → FVec Ideal S128x256 .f32) (vw : Vec Ideal S256x128 .bf16) (sk : EReal) (g : Fin 8) (r d : Fin 128) (z : Fin 1) (ho : o = g.val * 128)
    (h : S1024x128.Slices ![o, 0] S128x128) :
    outV (extractStridedSlice S128x128 ![o, 0] (accV (s 0) (s 1) (s 2) (s 3) (s 4) (s 5) (s 6) (s 7) vw) h) (sumV (s g) sk) (ix3 z r d)
      = cell (fun j => s g (ix2 r j)) sk (fun j => vw (ix2 j d)) := by
  rw [outV_apply, acc_slice o _ _ _ _ _ _ _ _ vw g r d ho h, sumV_apply]
  unfold cell
  have e : (![s 0, s 1, s 2, s 3, s 4, s 5, s 6, s 7] : Fin 8 → FVec Ideal S128x256 .f32) g = s g := by
    clear ho
    match g with
    | 0 => rfl | 1 => rfl | 2 => rfl | 3 => rfl | 4 => rfl | 5 => rfl | 6 => rfl | 7 => rfl
  rw [e]
  simp only [powV_apply]

/-- One head's scores, at an index. -/
theorem head_apply (o : Nat) (va : IVec S128x256 1) (q : Vec Ideal S8x128x128 .bf16) (kw : Vec Ideal S256x128 .bf16) (sl : EReal) (nd : FVec Ideal S128x256 .f32) (g : Fin 8) (r : Fin 128) (j : Fin 256)
    (ho : o = g.val * 128) (h : S1024x256.Slices ![o, 0] S128x256) :
    scoreV va (extractStridedSlice S128x256 ![o, 0] (allV q kw) h) sl nd (ix2 r j)
      = score (va (ix2 r j)) (∑ e : Fin 128, q (ix3 g r e) * kw (ix2 j e)) sl (nd (ix2 r j)) := by
  rw [scoreV_apply, all_slice o q kw g r j ho h]

theorem q_read (arg4 : Memref sig .tc .vmem S8x1024x128 .bf16) (X4 : BufTy.Contents (Elt Ideal) arg4.view.ty) (k : Fin k0_t1_loop.trips) (g : Fin 8) (r e : Fin 128) :
    View.readAt (Elt Ideal) arg4.view (Rect.unit (s := S8x1024x128) (k0_off2 k) S8x128x128.size (k0_off2_inb k)).toLoadRect X4 (ix3 g r e)
      = arg4.view.read (Elt Ideal) X4 (ix3 g ⟨k.val * 128 + r.val, by have := k.isLt.trans_eq trips_eq; omega⟩ e) := by
  rw [View.readAt_eq_ld]
  refine View.ld_unit_apply_of _ _ _ _ _ _ fun a => ?_
  refine Eq.trans ?_ (congrArg (· + _) (congrFun (off2_eq k) a).symm)
  fin_cases a <;> simp [ix3]

theorem kv_read (arg : Memref sig .tc .vmem S1152x128 .bf16) (X : BufTy.Contents (Elt Ideal) arg.view.ty) (k : Fin k0_t1_loop.trips) (j : Fin 256) (e : Fin 128) :
    View.readAt (Elt Ideal) arg.view (Rect.unit (s := S1152x128) (k0_off1 k) S256x128.size (k0_off1_inb k)).toLoadRect X (ix2 j e)
      = arg.view.read (Elt Ideal) X (ix2 ⟨k.val * 128 + j.val, by have := k.isLt.trans_eq trips_eq; omega⟩ e) := by
  rw [View.readAt_eq_ld]
  refine View.ld_unit_apply_of _ _ _ _ _ _ fun a => ?_
  refine Eq.trans ?_ (congrArg (· + _) (congrFun (off1_eq k) a).symm)
  fin_cases a <;> simp [ix2]

set_option maxHeartbeats 4000000 in
/-- Every store of one trip writes the block function's values. -/
theorem trip_pieces (𝒱 : Variants) (c : Dev nD) (bd : Option 𝒱.V) (i : grid0.Coords) (arg2 : Memref sig .tc .smem S16 .f32) (harg2 : arg2.IsWhole) (arg3 : Memref sig .tc .smem S16 .f32) (harg3 : arg3.IsWhole) (arg4 : Memref sig .tc .vmem S8x1024x128 .bf16) (harg4 : arg4.IsWhole) (arg5 : Memref sig .tc .vmem S1x1024x128 .bf16) (harg5 : arg5.IsWhole) (arg6 : Memref sig .tc .vmem S1x128x128 .bf16) (harg6 : arg6.IsWhole) (arg7 : Memref sig .tc .vmem S1x1024x128 .bf16) (harg7 : arg7.IsWhole) (arg8 : Memref sig .tc .vmem S1x128x128 .bf16) (harg8 : arg8.IsWhole) (arg9 : Memref sig .tc .vmem S8x1024x128 .bf16) (harg9 : arg9.IsWhole) (arg10 : Memref sig .tc .vmem S1152x128 .bf16) (harg10 : arg10.IsWhole) (arg11 : Memref sig .tc .vmem S1152x128 .bf16) (harg11 : arg11.IsWhole)
  (a0 a1 : BitVec 32) (v21 : IVec S128x256 32) (v29 : IVec S128x256 1) (v30 : FVec Ideal S128x256 .f32)
  (X2 : BufTy.Contents (Elt Ideal) arg2.view.ty) (X3 : BufTy.Contents (Elt Ideal) arg3.view.ty) (X4 : BufTy.Contents (Elt Ideal) arg4.view.ty) (X10 : BufTy.Contents (Elt Ideal) arg10.view.ty) (X11 : BufTy.Contents (Elt Ideal) arg11.view.ty) (k : Fin k0_t1_loop.trips) :
    ∀ p ∈ tripL_k0_t1 (F := Ideal) 𝒱 c bd i arg2 harg2 arg3 harg3 arg4 harg4 arg5 harg5 arg6 harg6 arg7 harg7 arg8 harg8 arg9 harg9 arg10 harg10 arg11 harg11 a0 a1 v21 v29 v30 X2 X3 X4 X10 X11 k, ∀ x : p.1.shape.Idx, p.2 x = (blockOut (fun g => wordAt arg2 X2 i (BitVec.ofNat 32 g.val) (k0_off3_inb i g)) (fun g => wordAt arg3 X3 i (BitVec.ofNat 32 g.val) (k0_off3_inb i g)) (arg4.view.read (Elt Ideal) X4) (arg10.view.read (Elt Ideal) X10) (arg11.view.read (Elt Ideal) X11) (fun k => validV a1 v21 v29 (Fin.cast trips_eq.symm k)) v30) (p.1.emb x) := by
  rw [trip_eq]
  have hk : k.val < 8 := k.isLt.trans_eq trips_eq
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩
  · intro x
    obtain ⟨z, r, d, rfl⟩ : ∃ (z : Fin 1) (r d : Fin 128), x = ix3 z r d := ⟨x 0, x 1, x 2, eq_ix3 x⟩
    refine (piece_apply 896 ![_, _, _, _, _, _, _, _] _ _ 7 r d z rfl _).trans ?_
    refine Eq.trans ?_ (blockOut_at _ _ _ _ _ _ _ 7 ⟨k.val, hk⟩ r d _ ?_ ?_ ?_).symm
    · unfold cells
      congr 1
      · funext j
        refine (head_apply 896 _ _ _ _ _ 7 r j rfl _).trans ?_
        congr 1
        exact Finset.sum_congr rfl fun e _ => congrArg₂ _ (q_read _ _ _ _ _ _) (kv_read _ _ _ _ _)
      · funext j
        exact kv_read _ _ _ _ _
    · have hz : z.val = 0 := by omega
      show k0_off11 k 0 + 1 * z.val = 7; rw [off11_eq]; simp [hz]
    · show k0_off11 k 1 + 1 * r.val = k.val * 128 + r.val; rw [off11_eq]; simp
    · show k0_off11 k 2 + 1 * d.val = d.val; rw [off11_eq]; simp
  · intro x
    obtain ⟨z, r, d, rfl⟩ : ∃ (z : Fin 1) (r d : Fin 128), x = ix3 z r d := ⟨x 0, x 1, x 2, eq_ix3 x⟩
    refine (piece_apply 768 ![_, _, _, _, _, _, _, _] _ _ 6 r d z rfl _).trans ?_
    refine Eq.trans ?_ (blockOut_at _ _ _ _ _ _ _ 6 ⟨k.val, hk⟩ r d _ ?_ ?_ ?_).symm
    · unfold cells
      congr 1
      · funext j
        refine (head_apply 768 _ _ _ _ _ 6 r j rfl _).trans ?_
        congr 1
        exact Finset.sum_congr rfl fun e _ => congrArg₂ _ (q_read _ _ _ _ _ _) (kv_read _ _ _ _ _)
      · funext j
        exact kv_read _ _ _ _ _
    · have hz : z.val = 0 := by omega
      show k0_off10 k 0 + 1 * z.val = 6; rw [off10_eq]; simp [hz]
    · show k0_off10 k 1 + 1 * r.val = k.val * 128 + r.val; rw [off10_eq]; simp
    · show k0_off10 k 2 + 1 * d.val = d.val; rw [off10_eq]; simp
  · intro x
    obtain ⟨z, r, d, rfl⟩ : ∃ (z : Fin 1) (r d : Fin 128), x = ix3 z r d := ⟨x 0, x 1, x 2, eq_ix3 x⟩
    refine (piece_apply 640 ![_, _, _, _, _, _, _, _] _ _ 5 r d z rfl _).trans ?_
    refine Eq.trans ?_ (blockOut_at _ _ _ _ _ _ _ 5 ⟨k.val, hk⟩ r d _ ?_ ?_ ?_).symm
    · unfold cells
      congr 1
      · funext j
        refine (head_apply 640 _ _ _ _ _ 5 r j rfl _).trans ?_
        congr 1
        exact Finset.sum_congr rfl fun e _ => congrArg₂ _ (q_read _ _ _ _ _ _) (kv_read _ _ _ _ _)
      · funext j
        exact kv_read _ _ _ _ _
    · have hz : z.val = 0 := by omega
      show k0_off9 k 0 + 1 * z.val = 5; rw [off9_eq]; simp [hz]
    · show k0_off9 k 1 + 1 * r.val = k.val * 128 + r.val; rw [off9_eq]; simp
    · show k0_off9 k 2 + 1 * d.val = d.val; rw [off9_eq]; simp
  · intro x
    obtain ⟨z, r, d, rfl⟩ : ∃ (z : Fin 1) (r d : Fin 128), x = ix3 z r d := ⟨x 0, x 1, x 2, eq_ix3 x⟩
    refine (piece_apply 512 ![_, _, _, _, _, _, _, _] _ _ 4 r d z rfl _).trans ?_
    refine Eq.trans ?_ (blockOut_at _ _ _ _ _ _ _ 4 ⟨k.val, hk⟩ r d _ ?_ ?_ ?_).symm
    · unfold cells
      congr 1
      · funext j
        refine (head_apply 512 _ _ _ _ _ 4 r j rfl _).trans ?_
        congr 1
        exact Finset.sum_congr rfl fun e _ => congrArg₂ _ (q_read _ _ _ _ _ _) (kv_read _ _ _ _ _)
      · funext j
        exact kv_read _ _ _ _ _
    · have hz : z.val = 0 := by omega
      show k0_off8 k 0 + 1 * z.val = 4; rw [off8_eq]; simp [hz]
    · show k0_off8 k 1 + 1 * r.val = k.val * 128 + r.val; rw [off8_eq]; simp
    · show k0_off8 k 2 + 1 * d.val = d.val; rw [off8_eq]; simp
  · intro x
    obtain ⟨z, r, d, rfl⟩ : ∃ (z : Fin 1) (r d : Fin 128), x = ix3 z r d := ⟨x 0, x 1, x 2, eq_ix3 x⟩
    refine (piece_apply 384 ![_, _, _, _, _, _, _, _] _ _ 3 r d z rfl _).trans ?_
    refine Eq.trans ?_ (blockOut_at _ _ _ _ _ _ _ 3 ⟨k.val, hk⟩ r d _ ?_ ?_ ?_).symm
    · unfold cells
      congr 1
      · funext j
        refine (head_apply 384 _ _ _ _ _ 3 r j rfl _).trans ?_
        congr 1
        exact Finset.sum_congr rfl fun e _ => congrArg₂ _ (q_read _ _ _ _ _ _) (kv_read _ _ _ _ _)
      · funext j
        exact kv_read _ _ _ _ _
    · have hz : z.val = 0 := by omega
      show k0_off7 k 0 + 1 * z.val = 3; rw [off7_eq]; simp [hz]
    · show k0_off7 k 1 + 1 * r.val = k.val * 128 + r.val; rw [off7_eq]; simp
    · show k0_off7 k 2 + 1 * d.val = d.val; rw [off7_eq]; simp
  · intro x
    obtain ⟨z, r, d, rfl⟩ : ∃ (z : Fin 1) (r d : Fin 128), x = ix3 z r d := ⟨x 0, x 1, x 2, eq_ix3 x⟩
    refine (piece_apply 256 ![_, _, _, _, _, _, _, _] _ _ 2 r d z rfl _).trans ?_
    refine Eq.trans ?_ (blockOut_at _ _ _ _ _ _ _ 2 ⟨k.val, hk⟩ r d _ ?_ ?_ ?_).symm
    · unfold cells
      congr 1
      · funext j
        refine (head_apply 256 _ _ _ _ _ 2 r j rfl _).trans ?_
        congr 1
        exact Finset.sum_congr rfl fun e _ => congrArg₂ _ (q_read _ _ _ _ _ _) (kv_read _ _ _ _ _)
      · funext j
        exact kv_read _ _ _ _ _
    · have hz : z.val = 0 := by omega
      show k0_off6 k 0 + 1 * z.val = 2; rw [off6_eq]; simp [hz]
    · show k0_off6 k 1 + 1 * r.val = k.val * 128 + r.val; rw [off6_eq]; simp
    · show k0_off6 k 2 + 1 * d.val = d.val; rw [off6_eq]; simp
  · intro x
    obtain ⟨z, r, d, rfl⟩ : ∃ (z : Fin 1) (r d : Fin 128), x = ix3 z r d := ⟨x 0, x 1, x 2, eq_ix3 x⟩
    refine (piece_apply 128 ![_, _, _, _, _, _, _, _] _ _ 1 r d z rfl _).trans ?_
    refine Eq.trans ?_ (blockOut_at _ _ _ _ _ _ _ 1 ⟨k.val, hk⟩ r d _ ?_ ?_ ?_).symm
    · unfold cells
      congr 1
      · funext j
        refine (head_apply 128 _ _ _ _ _ 1 r j rfl _).trans ?_
        congr 1
        exact Finset.sum_congr rfl fun e _ => congrArg₂ _ (q_read _ _ _ _ _ _) (kv_read _ _ _ _ _)
      · funext j
        exact kv_read _ _ _ _ _
    · have hz : z.val = 0 := by omega
      show k0_off5 k 0 + 1 * z.val = 1; rw [off5_eq]; simp [hz]
    · show k0_off5 k 1 + 1 * r.val = k.val * 128 + r.val; rw [off5_eq]; simp
    · show k0_off5 k 2 + 1 * d.val = d.val; rw [off5_eq]; simp
  · intro x
    obtain ⟨z, r, d, rfl⟩ : ∃ (z : Fin 1) (r d : Fin 128), x = ix3 z r d := ⟨x 0, x 1, x 2, eq_ix3 x⟩
    refine (piece_apply 0 ![_, _, _, _, _, _, _, _] _ _ 0 r d z rfl _).trans ?_
    refine Eq.trans ?_ (blockOut_at _ _ _ _ _ _ _ 0 ⟨k.val, hk⟩ r d _ ?_ ?_ ?_).symm
    · unfold cells
      congr 1
      · funext j
        refine (head_apply 0 _ _ _ _ _ 0 r j rfl _).trans ?_
        congr 1
        exact Finset.sum_congr rfl fun e _ => congrArg₂ _ (q_read _ _ _ _ _ _) (kv_read _ _ _ _ _)
      · funext j
        exact kv_read _ _ _ _ _
    · have hz : z.val = 0 := by omega
      show k0_off4 k 0 + 1 * z.val = 0; rw [off4_eq]; simp [hz]
    · show k0_off4 k 1 + 1 * r.val = k.val * 128 + r.val; rw [off4_eq]; simp
    · show k0_off4 k 2 + 1 * d.val = d.val; rw [off4_eq]; simp

/-- So does every store of the loop. -/
theorem loop_pieces (𝒱 : Variants) (c : Dev nD) (bd : Option 𝒱.V) (i : grid0.Coords) (arg2 : Memref sig .tc .smem S16 .f32) (harg2 : arg2.IsWhole) (arg3 : Memref sig .tc .smem S16 .f32) (harg3 : arg3.IsWhole) (arg4 : Memref sig .tc .vmem S8x1024x128 .bf16) (harg4 : arg4.IsWhole) (arg5 : Memref sig .tc .vmem S1x1024x128 .bf16) (harg5 : arg5.IsWhole) (arg6 : Memref sig .tc .vmem S1x128x128 .bf16) (harg6 : arg6.IsWhole) (arg7 : Memref sig .tc .vmem S1x1024x128 .bf16) (harg7 : arg7.IsWhole) (arg8 : Memref sig .tc .vmem S1x128x128 .bf16) (harg8 : arg8.IsWhole) (arg9 : Memref sig .tc .vmem S8x1024x128 .bf16) (harg9 : arg9.IsWhole) (arg10 : Memref sig .tc .vmem S1152x128 .bf16) (harg10 : arg10.IsWhole) (arg11 : Memref sig .tc .vmem S1152x128 .bf16) (harg11 : arg11.IsWhole)
  (a0 a1 : BitVec 32) (v21 : IVec S128x256 32) (v29 : IVec S128x256 1) (v30 : FVec Ideal S128x256 .f32)
  (X2 : BufTy.Contents (Elt Ideal) arg2.view.ty) (X3 : BufTy.Contents (Elt Ideal) arg3.view.ty) (X4 : BufTy.Contents (Elt Ideal) arg4.view.ty) (X10 : BufTy.Contents (Elt Ideal) arg10.view.ty) (X11 : BufTy.Contents (Elt Ideal) arg11.view.ty) :
    ∀ n ≤ k0_t1_loop.trips, ∀ p ∈ pb_k0_t1 (F := Ideal) 𝒱 c bd i arg2 harg2 arg3 harg3 arg4 harg4 arg5 harg5 arg6 harg6 arg7 harg7 arg8 harg8 arg9 harg9 arg10 harg10 arg11 harg11 a0 a1 v21 v29 v30 X2 X3 X4 X10 X11 n, ∀ x : p.1.shape.Idx, p.2 x = (blockOut (fun g => wordAt arg2 X2 i (BitVec.ofNat 32 g.val) (k0_off3_inb i g)) (fun g => wordAt arg3 X3 i (BitVec.ofNat 32 g.val) (k0_off3_inb i g)) (arg4.view.read (Elt Ideal) X4) (arg10.view.read (Elt Ideal) X10) (arg11.view.read (Elt Ideal) X11) (fun k => validV a1 v21 v29 (Fin.cast trips_eq.symm k)) v30) (p.1.emb x) := by
  intro n
  induction n with
  | zero => intro _ p hp; exact absurd hp List.not_mem_nil
  | succ n ih =>
    intro hn p hp
    have e := pb_k0_t1_succ (F := Ideal) 𝒱 c bd i arg2 harg2 arg3 harg3 arg4 harg4 arg5 harg5 arg6 harg6 arg7 harg7 arg8 harg8 arg9 harg9 arg10 harg10 arg11 harg11 a0 a1 v21 v29 v30 X2 X3 X4 X10 X11 ⟨n, hn⟩
    simp only at e
    rw [e] at hp
    rcases List.mem_append.mp hp with h | h
    · exact trip_pieces 𝒱 c bd i arg2 harg2 arg3 harg3 arg4 harg4 arg5 harg5 arg6 harg6 arg7 harg7 arg8 harg8 arg9 harg9 arg10 harg10 arg11 harg11 a0 a1 v21 v29 v30 X2 X3 X4 X10 X11 ⟨n, hn⟩ p h
    · exact ih (Nat.le_of_succ_le hn) p h

end Cert.KernelIdeal.Band

end
-- ==== Proof.Block.lean ====
/- The output block of a grid point as one function of the point's input blocks. -/
module

public import proofs.«01_k».proof.Proof.Pieces
public import Idealize.ShloMosaic.Lib.WritesUnit
public import Idealize.ShloMosaic.Lib.Tactic.WordOmega

@[expose] public section

set_option maxRecDepth 16384

noncomputable section

namespace Cert.KernelIdeal.Band

open Idealize.ShloMosaic Idealize.ShloMosaic.TcCoe Idealize.ShloMosaic.Tactic Cert.KernelIdeal Cert.KernelIdeal.Gen

/-- Two blocks of rows, the earlier first. -/
def rowsOf (cur : Vec Ideal S1x1024x128 .bf16) (prev : Vec Ideal S1x128x128 .bf16) : Vec Ideal S1152x128 .bf16 := fun y =>
  if h : (y 0).val < 128 then prev (ix3 0 ⟨(y 0).val, h⟩ (y 1))
  else cur (ix3 0 ⟨(y 0).val - 128, by have : (y 0).val < 1152 := (y 0).isLt; omega⟩ (y 1))

theorem rows_read (arg : Memref sig .tc .vmem S1152x128 .bf16) (f : BufTy.Contents (Elt Ideal) arg.view.ty)
    (h1 : ∀ a : Fin 2, (![128, 0] : Fin 2 → ℕ) a + S1024x128.size a ≤ S1152x128.size a)
    (h0 : ∀ a : Fin 2, (![0, 0] : Fin 2 → ℕ) a + S128x128.size a ≤ S1152x128.size a)
    (w1 : Vec Ideal S1024x128 .bf16) (w0 : Vec Ideal S128x128 .bf16) (cur : Vec Ideal S1x1024x128 .bf16) (prev : Vec Ideal S1x128x128 .bf16)
    (e1 : ∀ (r : Fin 1024) (d : Fin 128), w1 (ix2 r d) = cur (ix3 0 r d)) (e0 : ∀ (r : Fin 128) (d : Fin 128), w0 (ix2 r d) = prev (ix3 0 r d)) :
    arg.view.read (Elt Ideal) (arg.view.writes (Elt Ideal) f [⟨Rect.unit (s := S1152x128) ![128, 0] S1024x128.size h1, w1⟩, ⟨Rect.unit (s := S1152x128) ![0, 0] S128x128.size h0, w0⟩])
      = rowsOf cur prev := by
  funext y
  obtain ⟨r, d, rfl⟩ : ∃ (r : Fin 1152) (d : Fin 128), y = ix2 r d := ⟨y 0, y 1, eq_ix2 y⟩
  have hr := r.isLt
  unfold rowsOf
  split
  · rename_i h
    have h' : r.val < 128 := h
    refine (View.read_writes_cons_rows_of_not_mem _ _ h1 _ _ _ rfl rfl (.inl h')).trans ?_
    refine (View.read_writes_cons_rows_of_mem _ _ h0 _ _ _ (ix2 ⟨r.val, h'⟩ d) rfl (Nat.zero_add _).symm rfl).trans ?_
    exact e0 _ _
  · rename_i h
    have h' : 128 ≤ r.val := Nat.le_of_not_lt h
    refine (View.read_writes_cons_rows_of_mem _ _ h1 _ _ _ (ix2 ⟨r.val - 128, by omega⟩ d) rfl ?_ rfl).trans ?_
    · show r.val = 128 + (r.val - 128)
      omega
    · exact e1 _ _

theorem word_read (arg : Memref sig .tc .smem S16 .f32) (harg : arg.IsWhole) (x : Vec Ideal S16 .f32) (i : grid0.Coords) (g : Fin 8) :
    wordAt arg (harg.unread x) i (BitVec.ofNat 32 g.val) (k0_off3_inb i g) = x (ix1 ⟨(i 0).val * 8 + g.val, by have : (i 0).val < 2 := (i 0).isLt; omega⟩) := by
  unfold wordAt
  rw [View.readAt_eq_ld, harg.read_unread]
  refine View.ld_unit_apply_of _ _ _ _ _ _ fun a => ?_
  refine Eq.trans ?_ (congrArg (· + _) (congrFun (off3_eq i g) a).symm)
  fin_cases a
  simp [ix1, Shape.Idx.first]

theorem dist_toInt (r j : Nat) (hr : r < 128) (hj : j < 256) :
    (IntOp.subi (IntOp.addi (128#32) (BitVec.ofNat 32 r)) (BitVec.ofNat 32 j)).toInt = 128 + (r : ℤ) - j := by
  show (128#32 + BitVec.ofNat 32 r - BitVec.ofNat 32 j).toInt = _
  rw [BitVec.toInt_sub, BitVec.toInt_add, BitVec.toInt_ofNat', BitVec.toInt_ofNat', BitVec.toInt_ofNat']
  simp only [Int.bmod]
  omega

theorem start_toInt (i k : Nat) (hi : i < 8) (hk : k < 8) :
    (Scalar.subi (128#32) (Scalar.addi (Scalar.muli (BitVec.ofNat 32 i) 1024#32) (Scalar.muli (Scf.iv 0#32 1#32 k) 128#32))).toInt
      = 128 - ((i : ℤ) * 1024 + k * 128) := by
  interval_cases i <;> interval_cases k <;> rfl

/-- Which keys of its window a row uses. -/
theorem valid_apply (i1 : Fin 8) (k : Fin k0_t1_loop.trips) (r : Fin 128) (j : Fin 256) :
    validV (BitVec.ofNat 32 i1.val) (iota .tc S128x256 32 [1] iota_S128x256_d1_w32) k0_pay62 k (ix2 r j)
      = BitVec.ofBool (decide (r.val < j.val ∧ j.val ≤ r.val + 128 ∧ 128 ≤ i1.val * 1024 + k.val * 128 + j.val)) := by
  have hk : k.val < 8 := k.isLt.trans_eq trips_eq
  have hd := dist_toInt r.val j.val r.isLt j.isLt
  have hs := start_toInt i1.val k.val i1.isLt hk
  have hj : (BitVec.ofNat 32 j.val).toInt = (j.val : ℤ) := by
    rw [BitVec.toInt_ofNat']; simp only [Int.bmod]; omega
  unfold validV
  pointwise [k0_pay62, k0_pay61]
  simp only [IntOp.cmpi, BitVec.sle, BitVec.slt, hd, hs, hj, IntOp.andi, BitVec.ofBool_and_ofBool]
  congr 1
  rw [Bool.eq_iff_iff]
  simp
  omega

theorem dist_apply (r : Fin 128) (j : Fin 256) :
    (k0_pay63 : FVec Ideal S128x256 .f32) (ix2 r j) = (((128 + r.val - j.val : ℤ) : ℝ) : EReal) := by
  unfold k0_pay63
  pointwise [k0_pay61]
  rw [← dist_toInt r.val j.val r.isLt j.isLt]
  rfl

set_option maxHeartbeats 4000000 in
/-- What a grid point leaves in its output block. -/
theorem out_eq (c : Dev nD) (i : grid0.Coords) (arg2 : Memref sig .tc .smem S16 .f32) (harg2 : arg2.IsWhole) (arg3 : Memref sig .tc .smem S16 .f32) (harg3 : arg3.IsWhole) (arg4 : Memref sig .tc .vmem S8x1024x128 .bf16) (harg4 : arg4.IsWhole) (arg5 : Memref sig .tc .vmem S1x1024x128 .bf16) (harg5 : arg5.IsWhole) (arg6 : Memref sig .tc .vmem S1x128x128 .bf16) (harg6 : arg6.IsWhole) (arg7 : Memref sig .tc .vmem S1x1024x128 .bf16) (harg7 : arg7.IsWhole) (arg8 : Memref sig .tc .vmem S1x128x128 .bf16) (harg8 : arg8.IsWhole) (arg9 : Memref sig .tc .vmem S8x1024x128 .bf16) (harg9 : arg9.IsWhole) (arg10 : Memref sig .tc .vmem S1152x128 .bf16) (harg10 : arg10.IsWhole) (arg11 : Memref sig .tc .vmem S1152x128 .bf16) (harg11 : arg11.IsWhole)
    (x0 : Vec Ideal S16 .f32) (x1 : Vec Ideal S16 .f32) (x2 : Vec Ideal S8x1024x128 .bf16) (x3 : Vec Ideal S1x1024x128 .bf16) (x4 : Vec Ideal S1x128x128 .bf16) (x5 : Vec Ideal S1x1024x128 .bf16) (x6 : Vec Ideal S1x128x128 .bf16) :
    out0_A_7 c i arg2 harg2 arg3 harg3 arg4 harg4 arg5 harg5 arg6 harg6 arg7 harg7 arg8 harg8 arg9 harg9 arg10 harg10 arg11 harg11 x0 x1 x2 x3 x4 x5 x6
      = blockOut (fun g => x0 (ix1 ⟨(i 0).val * 8 + g.val, by have : (i 0).val < 2 := (i 0).isLt; omega⟩)) (fun g => x1 (ix1 ⟨(i 0).val * 8 + g.val, by have : (i 0).val < 2 := (i 0).isLt; omega⟩))
          x2 (rowsOf x3 x4) (rowsOf x5 x6)
          (fun k => validV (BitVec.ofNat 32 (i 1).val) (iota .tc S128x256 32 [1] iota_S128x256_d1_w32) k0_pay62 (Fin.cast trips_eq.symm k)) k0_pay63 := by
  funext y
  have hc := cover0_A_7 c i arg2 harg2 arg3 harg3 arg4 harg4 arg5 harg5 arg6 harg6 arg7 harg7 arg8 harg8 arg9 harg9 arg10 harg10 arg11 harg11 x0 x1 x2 x3 x4 x5 x6 y
  unfold out0_A_7
  refine View.read_writes_apply_of_pieces _ _ _ _ ?_ y hc
  unfold kernelRun0_A
  sl_unfold_words
  dsimp only
  intro p hp x
  have h := loop_pieces Variants.none c none i arg2 harg2 arg3 harg3 arg4 harg4 arg5 harg5 arg6 harg6 arg7 harg7 arg8 harg8 arg9 harg9 arg10 harg10 arg11 harg11 _ _ _ _ _ _ _ _ _ _ _ le_rfl p hp x
  rw [h]
  congr 1
  · funext g; exact word_read _ _ _ _ _
  · funext g; exact word_read _ _ _ _ _
  · exact harg4.read_unread _
  · refine rows_read _ _ _ _ _ _ _ _ ?_ ?_ <;> intro r d
    · pointwise [k0_pay58]
      rw [View.readAt_eq_ld, harg5.read_unread]
      exact View.ld_unit_apply_of _ _ _ _ _ _ fun a => by fin_cases a <;> simp [ix3]
    · pointwise [k0_pay57]
      rw [View.readAt_eq_ld, harg6.read_unread]
      exact View.ld_unit_apply_of _ _ _ _ _ _ fun a => by fin_cases a <;> simp [ix3]
  · refine rows_read _ _ _ _ _ _ _ _ ?_ ?_ <;> intro r d
    · pointwise [k0_pay60]
      rw [View.readAt_eq_ld, harg7.read_unread]
      exact View.ld_unit_apply_of _ _ _ _ _ _ fun a => by fin_cases a <;> simp [ix3]
    · pointwise [k0_pay59]
      rw [View.readAt_eq_ld, harg8.read_unread]
      exact View.ld_unit_apply_of _ _ _ _ _ _ fun a => by fin_cases a <;> simp [ix3]

end Cert.KernelIdeal.Band

end
-- ==== Proof.Host.lean ====
/- What the launch's operands hold: the host program's operations before it, at an index. -/
module

public import proofs.«01_k».proof.Proof.Block

@[expose] public section

set_option maxRecDepth 16384

noncomputable section

namespace Cert.KernelIdeal.Band

open Idealize.ShloMosaic Idealize.ShloMosaic.TcCoe Idealize.ShloMosaic.Tactic Cert.KernelIdeal Cert.KernelIdeal.Gen

variable (m : (ℓ : Loc nD τ sig) → Buf (Elt Ideal) ℓ) (c : Dev nD)

/-- The queries' scale. -/
def qScale : EReal := Ideal.div (Ideal.ofBits .f32 0x3F800000#32) (Ideal.sqrt (Ideal.ofBits .f32 0x43000000#32) * Ideal.log (Ideal.ofBits .f32 0x40000000#32))

/-- The slopes' and sinks' scale. -/
def bScale : EReal := Ideal.div (Ideal.ofBits .f32 0x3F800000#32) (Ideal.log (Ideal.ofBits .f32 0x40000000#32))

/-- The projection's columns, by head, row and column. -/
def proj (h : Fin 44) (l : Fin 8192) (d : Fin 128) : EReal := (m ((c : Thread nD τ).loc main_arg0) : Vec Ideal S44x8192x128 .f32) (ix3 h l d)
/-- The heads' slopes. -/
def slope (h : Fin 16) : EReal := (m ((c : Thread nD τ).loc main_arg1) : Vec Ideal S16 .f32) (ix1 h)
/-- The heads' sinks. -/
def sink (h : Fin 16) : EReal := (m ((c : Thread nD τ).loc main_arg2) : Vec Ideal S16 .f32) (ix1 h)

theorem V_proj (h : Fin 44) (l : Fin 8192) (d : Fin 128) :
    (V m c main_v9 : Vec Ideal S44x8192x128 .bf16) (ix3 h l d)
      = if h.val < 32 then proj m c h l d * qScale else proj m c h l d := by
  unfold qScale proj
  entry_read
  pointwise
  split
  · rfl
  · rename_i hh
    exact congrArg (fun x => m (c, Proc.tc.devRef main_arg0) (ix3 x l d)) (Fin.ext (by dsimp only; omega))

theorem V_slopes (h : Fin 16) :
    (V m c main_v13 : Vec Ideal S16 .f32) (ix1 h) = slope m c h * bScale := by
  unfold bScale slope
  entry_read
  pointwise

theorem V_sinks (h : Fin 16) :
    (V m c main_v17 : Vec Ideal S16 .f32) (ix1 h) = sink m c h * bScale := by
  unfold bScale sink
  entry_read
  pointwise

theorem idx0 : ∀ t : Fin grid0.N, win0_0.index t = ![0] := by decide +kernel
theorem idx1 : ∀ t : Fin grid0.N, win0_1.index t = ![0] := by decide +kernel
theorem idx2 : ∀ t : Fin grid0.N, win0_2.index t = ![(grid0.coords t 0).val, (grid0.coords t 1).val, 0] := by decide +kernel
theorem idx3 : ∀ t : Fin grid0.N, win0_3.index t = ![32 + (grid0.coords t 0).val, (grid0.coords t 1).val, 0] := by decide +kernel
theorem idx4 : ∀ t : Fin grid0.N, win0_4.index t = ![32 + (grid0.coords t 0).val, (grid0.coords t 1).val * 8 - 1, 0] := by decide +kernel
theorem idx5 : ∀ t : Fin grid0.N, win0_5.index t = ![34 + (grid0.coords t 0).val, (grid0.coords t 1).val, 0] := by decide +kernel
theorem idx6 : ∀ t : Fin grid0.N, win0_6.index t = ![34 + (grid0.coords t 0).val, (grid0.coords t 1).val * 8 - 1, 0] := by decide +kernel
theorem idx7 : ∀ t : Fin grid0.N, win0_7.index t = ![(grid0.coords t 0).val, (grid0.coords t 1).val, 0] := by decide +kernel

theorem blk3 (t : Fin cfg0.N) (r : Fin 1024) (d : Fin 128) :
    (iblk m c 3 t : Vec Ideal S1x1024x128 .bf16) (ix3 0 r d)
      = (V m c main_v9 : Vec Ideal S44x8192x128 .bf16) (ix3 ⟨32 + (grid0.coords t 0).val, by have : (grid0.coords t 0).val < 2 := (grid0.coords t 0).isLt; omega⟩ ⟨(grid0.coords t 1).val * 1024 + r.val, by have : (grid0.coords t 1).val < 8 := (grid0.coords t 1).isLt; omega⟩ d) := by
  blk_ext [iblk, idx3 t]

theorem blk4 (t : Fin cfg0.N) (r : Fin 128) (d : Fin 128) :
    (iblk m c 4 t : Vec Ideal S1x128x128 .bf16) (ix3 0 r d)
      = (V m c main_v9 : Vec Ideal S44x8192x128 .bf16) (ix3 ⟨32 + (grid0.coords t 0).val, by have : (grid0.coords t 0).val < 2 := (grid0.coords t 0).isLt; omega⟩ ⟨((grid0.coords t 1).val * 8 - 1) * 128 + r.val, by have : (grid0.coords t 1).val < 8 := (grid0.coords t 1).isLt; omega⟩ d) := by
  blk_ext [iblk, idx4 t]

theorem blk5 (t : Fin cfg0.N) (r : Fin 1024) (d : Fin 128) :
    (iblk m c 5 t : Vec Ideal S1x1024x128 .bf16) (ix3 0 r d)
      = (V m c main_v9 : Vec Ideal S44x8192x128 .bf16) (ix3 ⟨34 + (grid0.coords t 0).val, by have : (grid0.coords t 0).val < 2 := (grid0.coords t 0).isLt; omega⟩ ⟨(grid0.coords t 1).val * 1024 + r.val, by have : (grid0.coords t 1).val < 8 := (grid0.coords t 1).isLt; omega⟩ d) := by
  blk_ext [iblk, idx5 t]

theorem blk6 (t : Fin cfg0.N) (r : Fin 128) (d : Fin 128) :
    (iblk m c 6 t : Vec Ideal S1x128x128 .bf16) (ix3 0 r d)
      = (V m c main_v9 : Vec Ideal S44x8192x128 .bf16) (ix3 ⟨34 + (grid0.coords t 0).val, by have : (grid0.coords t 0).val < 2 := (grid0.coords t 0).isLt; omega⟩ ⟨((grid0.coords t 1).val * 8 - 1) * 128 + r.val, by have : (grid0.coords t 1).val < 8 := (grid0.coords t 1).isLt; omega⟩ d) := by
  blk_ext [iblk, idx6 t]

theorem blk2 (t : Fin cfg0.N) (g : Fin 8) (r : Fin 1024) (d : Fin 128) :
    (X0_2 m c t : Vec Ideal S8x1024x128 .bf16) (ix3 g r d)
      = (V m c main_v9 : Vec Ideal S44x8192x128 .bf16) (ix3 ⟨(grid0.coords t 0).val * 8 + g.val, by have : (grid0.coords t 0).val < 2 := (grid0.coords t 0).isLt; omega⟩ ⟨(grid0.coords t 1).val * 1024 + r.val, by have : (grid0.coords t 1).val < 8 := (grid0.coords t 1).isLt; omega⟩ d) := by
  unfold X0_2
  unfold Pipeline.Window.fill
  rw [dif_pos (moved0_2 t _)]
  blk_ext [iblk, idx2 t]

theorem blk0 (t : Fin cfg0.N) (h : Fin 16) : (iblk m c 0 t : Vec Ideal S16 .f32) (ix1 h) = (V m c main_v13 : Vec Ideal S16 .f32) (ix1 h) := by
  blk_ext [iblk, idx0 t]

theorem blk1 (t : Fin cfg0.N) (h : Fin 16) : (iblk m c 1 t : Vec Ideal S16 .f32) (ix1 h) = (V m c main_v17 : Vec Ideal S16 .f32) (ix1 h) := by
  blk_ext [iblk, idx1 t]

/-- The sequence position of window entry `j` of row block `n`; before the sequence's start it is the entry's own number, and masked. -/
def keyRow (n : Fin 64) (j : Fin 256) : Fin 8192 := if n.val * 128 + j.val < 128 then ⟨j.val, by omega⟩ else ⟨n.val * 128 + j.val - 128, by omega⟩

/-- The launch's result, from the program's arguments. -/
def result (h : Fin 16) (n : Fin 64) (r d : Fin 128) : EReal :=
  cell (fun j => score (BitVec.ofBool (decide (r.val < j.val ∧ j.val ≤ r.val + 128 ∧ 128 ≤ n.val * 128 + j.val)))
      (∑ e : Fin 128, proj m c ⟨h.val, by omega⟩ ⟨n.val * 128 + r.val, by omega⟩ e * qScale * proj m c ⟨32 + h.val / 8, by omega⟩ (keyRow n j) e)
      (slope m c h * bScale) (((128 + r.val - j.val : ℤ) : ℝ) : EReal))
    (sink m c h * bScale) (fun j => proj m c ⟨34 + h.val / 8, by omega⟩ (keyRow n j) d)

/-- The result array. -/
def resultV : Vec Ideal S16x8192x128 .bf16 := fun y =>
  result m c (y 0) ⟨(y 1).val / 128, by have : (y 1).val < 8192 := (y 1).isLt; omega⟩ ⟨(y 1).val % 128, Nat.mod_lt _ (by decide)⟩ (y 2)

end Cert.KernelIdeal.Band

end
-- ==== Proof.Array.lean ====
/- The launch's result array: every block is the result function's. -/
module

public import proofs.«01_k».proof.Proof.Host

@[expose] public section

set_option maxRecDepth 16384

noncomputable section

namespace Cert.KernelIdeal.Band

open Idealize.ShloMosaic Idealize.ShloMosaic.TcCoe Idealize.ShloMosaic.Tactic Cert.KernelIdeal Cert.KernelIdeal.Gen

variable (m : (ℓ : Loc nD τ sig) → Buf (Elt Ideal) ℓ) (c : Dev nD)

theorem rows_apply (cur : Vec Ideal S1x1024x128 .bf16) (prev : Vec Ideal S1x128x128 .bf16) (X : Fin 8192 → Fin 128 → EReal) (i1 : Fin 8)
    (hc : ∀ (r : Fin 1024) (d : Fin 128), cur (ix3 0 r d) = X ⟨i1.val * 1024 + r.val, by omega⟩ d)
    (hp : ∀ (r : Fin 128) (d : Fin 128), prev (ix3 0 r d) = X ⟨(i1.val * 8 - 1) * 128 + r.val, by omega⟩ d)
    (k : Fin 8) (j : Fin 256) (d : Fin 128) :
    rowsOf cur prev (ix2 ⟨k.val * 128 + j.val, by omega⟩ d) = X (keyRow ⟨i1.val * 8 + k.val, by omega⟩ j) d := by
  unfold rowsOf keyRow
  split
  · rename_i h
    have h' : k.val * 128 + j.val < 128 := h
    refine (hp _ _).trans (congrArg (fun x => X x d) (Fin.ext ?_))
    split <;> (dsimp only [ix2] at *; omega)
  · rename_i h
    have h' : ¬ k.val * 128 + j.val < 128 := h
    refine (hc _ _).trans (congrArg (fun x => X x d) (Fin.ext ?_))
    split <;> (dsimp only [ix2] at *; omega)

/-- A grid point's output block, at an index. -/
theorem point_eq (t : Fin cfg0.N) (g k : Fin 8) (r d : Fin 128) :
    outsAt0 m c t (ix3 g ⟨k.val * 128 + r.val, by omega⟩ d)
      = result m c ⟨(grid0.coords t 0).val * 8 + g.val, by have : (grid0.coords t 0).val < 2 := (grid0.coords t 0).isLt; omega⟩
          ⟨(grid0.coords t 1).val * 8 + k.val, by have : (grid0.coords t 1).val < 8 := (grid0.coords t 1).isLt; omega⟩ r d := by
  have h0 : (grid0.coords t 0).val < 2 := (grid0.coords t 0).isLt
  have h1 : (grid0.coords t 1).val < 8 := (grid0.coords t 1).isLt
  unfold outsAt0
  rw [out_eq]
  rw [blockOut_at _ _ _ _ _ _ _ g k r d _ rfl rfl rfl]
  unfold cells result
  have hK : ∀ (j : Fin 256) (e : Fin 128), rowsOf (iblk m c 3 t) (iblk m c 4 t) (ix2 ⟨k.val * 128 + j.val, by omega⟩ e)
      = proj m c ⟨32 + (grid0.coords t 0).val, by omega⟩ (keyRow ⟨(grid0.coords t 1).val * 8 + k.val, by omega⟩ j) e := by
    intro j e
    refine rows_apply _ _ (fun l e => proj m c ⟨32 + (grid0.coords t 0).val, by omega⟩ l e) ⟨(grid0.coords t 1).val, h1⟩ ?_ ?_ k j e
    · intro r d; rw [blk3, V_proj, if_neg (by dsimp only; omega)]
    · intro r d; rw [blk4, V_proj, if_neg (by dsimp only; omega)]
  have hV : ∀ (j : Fin 256) (e : Fin 128), rowsOf (iblk m c 5 t) (iblk m c 6 t) (ix2 ⟨k.val * 128 + j.val, by omega⟩ e)
      = proj m c ⟨34 + (grid0.coords t 0).val, by omega⟩ (keyRow ⟨(grid0.coords t 1).val * 8 + k.val, by omega⟩ j) e := by
    intro j e
    refine rows_apply _ _ (fun l e => proj m c ⟨34 + (grid0.coords t 0).val, by omega⟩ l e) ⟨(grid0.coords t 1).val, h1⟩ ?_ ?_ k j e
    · intro r d; rw [blk5, V_proj, if_neg (by dsimp only; omega)]
    · intro r d; rw [blk6, V_proj, if_neg (by dsimp only; omega)]
  congr 1
  · funext j
    have hv := valid_apply ⟨(grid0.coords t 1).val, h1⟩ (Fin.cast trips_eq.symm k) r j
    dsimp only at hv
    beta_reduce
    rw [hv, dist_apply, blk0, V_slopes]
    congr 1
    · congr 2
      simp only [Fin.val_cast, eq_iff_iff]
      omega
    · refine Finset.sum_congr rfl fun e _ => ?_
      rw [hK, blk2, V_proj, if_pos (by dsimp only; omega)]
      congr 2
      · congr 1
        exact Fin.ext (by dsimp only; omega)
      · exact Fin.ext (by dsimp only; omega)
  · beta_reduce
    rw [blk1, V_sinks]
  · funext j
    rw [hV]
    congr 1
    exact Fin.ext (by dsimp only; omega)

theorem resultV_at (h : Fin 16) (n : Fin 64) (r d : Fin 128) (y : S16x8192x128.Idx) (e0 : (y 0).val = h.val) (e1 : (y 1).val = n.val * 128 + r.val) (e2 : (y 2).val = d.val) :
    resultV m c y = result m c h n r d := by
  unfold resultV
  have e0 : y 0 = h := Fin.ext e0
  have e2 : y 2 = d := Fin.ext e2
  rw [e0, e2]
  congr 1
  · exact Fin.ext (by dsimp only; omega)
  · exact Fin.ext (by dsimp only; omega)

theorem arr_eq : (dats m 0 c).arrAt 7 cfg0.N = resultV m c := by
  refine (dats m 0 c).arrAt_eq_of_covers 7 _ (by decide +kernel) fun t hf y => ?_
  have h0 : (grid0.coords t 0).val < 2 := (grid0.coords t 0).isLt
  have h1 : (grid0.coords t 1).val < 8 := (grid0.coords t 1).isLt
  have hi := idx7 t
  obtain ⟨g, l, d, rfl⟩ : ∃ (g : Fin 8) (l : Fin 1024) (d : Fin 128), y = (ix3 g l d : S8x1024x128.Idx) := ⟨y 0, y 1, y 2, eq_ix3 (y : S8x1024x128.Idx)⟩
  obtain ⟨k, r, rfl⟩ : ∃ (k : Fin 8) (r : Fin 128), l = ⟨k.val * 128 + r.val, by omega⟩ :=
    ⟨⟨l.val / 128, by omega⟩, ⟨l.val % 128, Nat.mod_lt _ (by decide)⟩, Fin.ext (by dsimp only; omega)⟩
  blk_simp
  rw [after0_7]
  refine (point_eq m c t g k r d).trans (resultV_at m c _ _ r d _ ?_ ?_ ?_).symm
  · blk_simp [hi]
  · blk_simp [hi]
    dsimp only
    omega
  · blk_simp [hi]

end Cert.KernelIdeal.Band

end
-- ==== Proof.RefSteps.lean ====
/- The reference's result, in named steps. -/
module

public import proofs.«01_k».proof.Proof.Gen.ReferenceIdeal.Run
public import proofs.«01_k».proof.Proof.Consts
public import Idealize.ShloMosaic.Lib.Pointwise
public import Idealize.ShloMosaic.Lib.Tactic.CleanTypes

@[expose] public section

set_option maxRecDepth 16384

noncomputable section

namespace Cert.ReferenceIdeal.Band

open Idealize.ShloMosaic Idealize.ShloMosaic.TcCoe Idealize.ShloMosaic.StableHlo Cert.ReferenceIdeal Cert.ReferenceIdeal.Gen

/-- Which keys of a window a row reads. -/
def maskR  : Vec Ideal S64x128x256 .i1 :=
  andi (broadcastInDim S64x128x256 ![0, 1, 2] bcast_S1x128x256_S64x128x256_0_1_2 (broadcastInDim S1x128x256 ![1, 2]
    bcast_S128x256_S1x128x256_1_2 (andi (cmpi .sge (subi (broadcastInDim S128x256 ![0, 1] bcast_S128x1_S128x256_0_1
    (addi (broadcastInDim S128x1 ![] bcast_S_S128x1 (constantI S_ 32 128#32)) (broadcastInDim S128x1 ![0]
    bcast_S128_S128x1_0 (iotaInDim S128 32 0)))) (broadcastInDim S128x256 ![0, 1] bcast_S1x256_S128x256_0_1
    (broadcastInDim S1x256 ![1] bcast_S256_S1x256_1 (iotaInDim S256 32 0)))) (broadcastInDim S128x256 ![]
    bcast_S_S128x256 (constantI S_ 32 0#32))) (cmpi .slt (subi (broadcastInDim S128x256 ![0, 1]
    bcast_S128x1_S128x256_0_1 (addi (broadcastInDim S128x1 ![] bcast_S_S128x1 (constantI S_ 32 128#32))
    (broadcastInDim S128x1 ![0] bcast_S128_S128x1_0 (iotaInDim S128 32 0)))) (broadcastInDim S128x256 ![0, 1]
    bcast_S1x256_S128x256_0_1 (broadcastInDim S1x256 ![1] bcast_S256_S1x256_1 (iotaInDim S256 32 0))))
    (broadcastInDim S128x256 ![] bcast_S_S128x256 (constantI S_ 32 128#32)))))) (broadcastInDim S64x128x256 ![0, 1,
    2] bcast_S64x1x256_S64x128x256_0_1_2 (broadcastInDim S64x1x256 ![0, 2] bcast_S64x256_S64x1x256_0_2 (cmpi .sge
    (addi (broadcastInDim S64x256 ![0, 1] bcast_S64x1_S64x256_0_1 (muli (subi (broadcastInDim S64x1 ![0]
    bcast_S64_S64x1_0 (iotaInDim S64 32 0)) (broadcastInDim S64x1 ![] bcast_S_S64x1 (constantI S_ 32 1#32)))
    (broadcastInDim S64x1 ![] bcast_S_S64x1 (constantI S_ 32 128#32)))) (broadcastInDim S64x256 ![0, 1]
    bcast_S1x256_S64x256_0_1 (broadcastInDim S1x256 ![1] bcast_S256_S1x256_1 (iotaInDim S256 32 0))))
    (broadcastInDim S64x256 ![] bcast_S_S64x256 (constantI S_ 32 0#32)))))

/-- A block of rows under the block before it, and zeros before the first. -/
def windowR (b : Vec Ideal S1x64x128x2x128 .f32) : Vec Ideal S1x64x256x2x128 .f32 :=
  concatenate S1x64x256x2x128 2 [⟨S1x64x128x2x128, (extractStridedSlice S1x64x128x2x128 ![0, 0, 0, 0, 0]
    (concatenate S1x65x128x2x128 1 [⟨S1x1x128x2x128, (broadcastInDim S1x1x128x2x128 ![] bcast_S_S1x1x128x2x128
    (constant (F := Ideal) S_ .f32 0x00000000#32))⟩, ⟨S1x64x128x2x128, b⟩]
    concatenates_S1x1x128x2x128_S1x64x128x2x128_S1x65x128x2x128_d1)
    slices_S1x65x128x2x128_S1x64x128x2x128_0_0_0_0_0)⟩, ⟨S1x64x128x2x128, (extractStridedSlice S1x64x128x2x128 ![0,
    1, 0, 0, 0] (concatenate S1x65x128x2x128 1 [⟨S1x1x128x2x128, (broadcastInDim S1x1x128x2x128 ![]
    bcast_S_S1x1x128x2x128 (constant (F := Ideal) S_ .f32 0x00000000#32))⟩, ⟨S1x64x128x2x128, b⟩]
    concatenates_S1x1x128x2x128_S1x64x128x2x128_S1x65x128x2x128_d1)
    slices_S1x65x128x2x128_S1x64x128x2x128_0_1_0_0_0)⟩]
    concatenates_S1x64x128x2x128_S1x64x128x2x128_S1x64x256x2x128_d2

/-- The keys, block by block. -/
def keysR (m : (ℓ : Loc nD τ sig) → Buf (Elt Ideal) ℓ) (c : Dev nD) : Vec Ideal S1x64x128x2x128 .f32 :=
  shapeCast _ (broadcastInDim S1x8192x2x128 ![1, 2, 3] bcast_S8192x2x128_S1x8192x2x128_1_2_3 (transpose S8192x2x128
    [1, 0, 2] (extractStridedSlice S2x8192x128 ![32, 0, 0] (m ((c.tc : Thread nD τ).loc main_arg0))
    slices_S44x8192x128_S2x8192x128_32_0_0) transposes_S2x8192x128_S8192x2x128_1_0_2))
    shapeCasts_S1x8192x2x128_S1x64x128x2x128

/-- The values, block by block. -/
def valuesR (m : (ℓ : Loc nD τ sig) → Buf (Elt Ideal) ℓ) (c : Dev nD) : Vec Ideal S1x64x128x2x128 .f32 :=
  shapeCast _ (broadcastInDim S1x8192x2x128 ![1, 2, 3] bcast_S8192x2x128_S1x8192x2x128_1_2_3 (transpose S8192x2x128
    [1, 0, 2] (extractStridedSlice S2x8192x128 ![34, 0, 0] (m ((c.tc : Thread nD τ).loc main_arg0))
    slices_S44x8192x128_S2x8192x128_34_0_0) transposes_S2x8192x128_S8192x2x128_1_0_2))
    shapeCasts_S1x8192x2x128_S1x64x128x2x128

/-- The queries, block by block. -/
def queriesR (m : (ℓ : Loc nD τ sig) → Buf (Elt Ideal) ℓ) (c : Dev nD) : Vec Ideal S1x64x128x2x8x128 .f32 :=
  shapeCast _ (broadcastInDim S1x8192x16x128 ![1, 2, 3] bcast_S8192x16x128_S1x8192x16x128_1_2_3 (transpose
    S8192x16x128 [1, 0, 2] (extractStridedSlice S16x8192x128 ![0, 0, 0] (m ((c.tc : Thread nD τ).loc main_arg0))
    slices_S44x8192x128_S16x8192x128_0_0_0) transposes_S16x8192x128_S8192x16x128_1_0_2))
    shapeCasts_S1x8192x16x128_S1x64x128x2x8x128

/-- A window's keys times a block's queries. -/
def productsR (k : Vec Ideal S1x64x256x2x128 .f32) (q : Vec Ideal S1x64x128x2x8x128 .f32) : Vec Ideal S1x2x8x64x128x256 .f32 :=
  transpose S1x2x8x64x128x256 [0, 1, 5, 2, 4, 3] (Host.dotGeneral (F := Ideal) (φ₁ := .f32) (φ₂ := .f32)
    dot_S1x64x256x2x128_S1x64x128x2x8x128_S1x2x64x256x128x8_4_5_2_24_031_031 none k q)
    transposes_S1x2x64x256x128x8_S1x2x8x64x128x256_0_1_5_2_4_3

/-- The distances times the heads' slopes. -/
def biasR (m : (ℓ : Loc nD τ sig) → Buf (Elt Ideal) ℓ) (c : Dev nD) : Vec Ideal S1x2x8x64x128x256 .f32 :=
  broadcastInDim S1x2x8x64x128x256 ![0, 1, 2, 3, 4, 5] bcast_S1x2x8x1x128x256_S1x2x8x64x128x256_0_1_2_3_4_5
    (broadcastInDim S1x2x8x1x128x256 ![1, 2, 3, 4, 5] bcast_S2x8x1x128x256_S1x2x8x1x128x256_1_2_3_4_5 (mulf (F :=
    Ideal) (broadcastInDim S2x8x1x128x256 ![0, 1, 2, 3, 4] bcast_S2x8x1x1x1_S2x8x1x128x256_0_1_2_3_4 (Host.negf
    (shapeCast _ (m ((c.tc : Thread nD τ).loc main_arg1)) shapeCasts_S16_S2x8x1x1x1))) (broadcastInDim
    S2x8x1x128x256 ![0, 1, 2, 3, 4] bcast_S1x1x1x128x256_S2x8x1x128x256_0_1_2_3_4 (broadcastInDim S1x1x1x128x256
    ![3, 4] bcast_S128x256_S1x1x1x128x256_3_4 (sitofp .f32 (subi (broadcastInDim S128x256 ![0, 1]
    bcast_S128x1_S128x256_0_1 (addi (broadcastInDim S128x1 ![] bcast_S_S128x1 (constantI S_ 32 128#32))
    (broadcastInDim S128x1 ![0] bcast_S128_S128x1_0 (iotaInDim S128 32 0)))) (broadcastInDim S128x256 ![0, 1]
    bcast_S1x256_S128x256_0_1 (broadcastInDim S1x256 ![1] bcast_S256_S1x256_1 (iotaInDim S256 32 0)))))))))

/-- The masked scores. -/
def scoreR (m : (ℓ : Loc nD τ sig) → Buf (Elt Ideal) ℓ) (c : Dev nD) : Vec Ideal S1x2x8x64x128x256 .f32 :=
  select (broadcastInDim S1x2x8x64x128x256 ![3, 4, 5] bcast_S64x128x256_S1x2x8x64x128x256_3_4_5 maskR) (addf
    (Host.divf (productsR (windowR (keysR m c)) (queriesR m c)) (broadcastInDim S1x2x8x64x128x256 ![]
    bcast_S_S1x2x8x64x128x256 (Host.sqrt (constant (F := Ideal) S_ .f32 0x43000000#32)))) (biasR m c))
    (broadcastInDim S1x2x8x64x128x256 ![] bcast_S_S1x2x8x64x128x256 (id (constant (F := Ideal) S_ .f32
    0xFF800000#32)))

/-- A row's largest score. -/
def topR (u : Vec Ideal S1x2x8x64x128x256 .f32) : Vec Ideal S1x2x8x64x128 .f32 :=
  Host.reduce (FloatOps.maximumf (F := Ideal) (φ := .f32)) u (constant (F := Ideal) S_ .f32 0xFF800000#32)
    reducesTo_S1x2x8x64x128x256_S1x2x8x64x128_d5 h_S_

/-- The logarithm of a row's sum of exponentials. -/
def lseR (u : Vec Ideal S1x2x8x64x128x256 .f32) : Vec Ideal S1x2x8x64x128 .f32 :=
  addf (topR u) (Host.log (Host.reduceAdd (Host.exp (subf u (broadcastInDim S1x2x8x64x128x256 ![0, 1, 2, 3, 4, 5]
    bcast_S1x2x8x64x128x1_S1x2x8x64x128x256_0_1_2_3_4_5 (broadcastInDim S1x2x8x64x128x1 ![0, 1, 2, 3, 4]
    bcast_S1x2x8x64x128_S1x2x8x64x128x1_0_1_2_3_4 (topR u))))) (constant (F := Ideal) S_ .f32 0x00000000#32)
    reducesTo_S1x2x8x64x128x256_S1x2x8x64x128_d5 h_S_))

/-- The part of a row the sink leaves. -/
def keepR (m : (ℓ : Loc nD τ sig) → Buf (Elt Ideal) ℓ) (c : Dev nD) (L : Vec Ideal S1x2x8x64x128 .f32) : Vec Ideal S1x8192x16 .f32 :=
  Host.divf (broadcastInDim S1x8192x16 ![] bcast_S_S1x8192x16 (constant (F := Ideal) S_ .f32 0x3F800000#32)) (addf
    (broadcastInDim S1x8192x16 ![] bcast_S_S1x8192x16 (constant (F := Ideal) S_ .f32 0x3F800000#32)) (Host.exp
    (Host.negf (subf (shapeCast _ (transpose S1x64x128x2x8 [0, 3, 4, 1, 2] L
    transposes_S1x2x8x64x128_S1x64x128x2x8_0_3_4_1_2) shapeCasts_S1x64x128x2x8_S1x8192x16) (broadcastInDim
    S1x8192x16 ![0, 1, 2] bcast_S1x1x16_S1x8192x16_0_1_2 (broadcastInDim S1x1x16 ![2] bcast_S16_S1x1x16_2 (m ((c.tc
    : Thread nD τ).loc main_arg2))))))))

/-- The values mixed. -/
def mixR (v : Vec Ideal S1x64x256x2x128 .f32) (u : Vec Ideal S1x2x8x64x128x256 .f32) (L : Vec Ideal S1x2x8x64x128 .f32) : Vec Ideal S1x8192x16x128 .f32 :=
  shapeCast _ (transpose S1x64x128x2x8x128 [0, 1, 5, 2, 4, 3] (Host.dotGeneral (F := Ideal) (φ₁ := .f32) (φ₂ :=
    .f32) dot_S1x64x256x2x128_S1x2x8x64x128x256_S1x64x2x128x8x128_2_5_4_24_013_031 none v (Host.exp (subf u
    (broadcastInDim S1x2x8x64x128x256 ![0, 1, 2, 3, 4, 5] bcast_S1x2x8x64x128x1_S1x2x8x64x128x256_0_1_2_3_4_5
    (broadcastInDim S1x2x8x64x128x1 ![0, 1, 2, 3, 4] bcast_S1x2x8x64x128_S1x2x8x64x128x1_0_1_2_3_4 L)))))
    transposes_S1x64x2x128x8x128_S1x64x128x2x8x128_0_1_5_2_4_3) shapeCasts_S1x64x128x2x8x128_S1x8192x16x128

set_option maxHeartbeats 4000000 in
/-- The reference's result is the last step. -/
theorem res_eq (m : (ℓ : Loc nD τ sig) → Buf (Elt Ideal) ℓ) (c : Dev nD) : Value.res_main_v101 m c =
  truncf (F := Ideal) .bf16 (transpose S16x8192x128 [1, 0, 2] (shapeCast _ (mulf (F := Ideal) (mixR (windowR (valuesR m c)) (scoreR m c) (lseR (scoreR m c))) (broadcastInDim S1x8192x16x128 ![0, 1, 2, 3] bcast_S1x8192x16x1_S1x8192x16x128_0_1_2_3 (broadcastInDim S1x8192x16x1 ![0, 1, 2] bcast_S1x8192x16_S1x8192x16x1_0_1_2 (keepR m c (lseR (scoreR m c)))))) shapeCasts_S1x8192x16x128_S8192x16x128) transposes_S8192x16x128_S16x8192x128_1_0_2) bitsLt_bf16_f32 := by
  unfold Value.res_main_v101
  rfl

end Cert.ReferenceIdeal.Band
-- ==== Proof.Rank6.lean ====
/- Reductions of an array of six axes along its last one. -/
module

public import Idealize.ShloMosaic.Lib.Pointwise

@[expose] public section

namespace Idealize.ShloMosaic

variable {n0 n1 n2 n3 n4 n5 : Nat} {t : Shape}

theorem Shape.ReducesTo.rank6 (h : (⟨6, ![n0, n1, n2, n3, n4, n5]⟩ : Shape).ReducesTo [5] t) : t.rank = 5 := h.1
theorem Shape.ReducesTo.lt6_0 (h : (⟨6, ![n0, n1, n2, n3, n4, n5]⟩ : Shape).ReducesTo [5] t) : 0 < t.rank := h.rank6 ▸ (by decide)
theorem Shape.ReducesTo.size6_0 (h : (⟨6, ![n0, n1, n2, n3, n4, n5]⟩ : Shape).ReducesTo [5] t) : t.size ⟨0, h.lt6_0⟩ = n0 := h.2 ⟨0, h.lt6_0⟩
theorem Shape.ReducesTo.lt6_1 (h : (⟨6, ![n0, n1, n2, n3, n4, n5]⟩ : Shape).ReducesTo [5] t) : 1 < t.rank := h.rank6 ▸ (by decide)
theorem Shape.ReducesTo.size6_1 (h : (⟨6, ![n0, n1, n2, n3, n4, n5]⟩ : Shape).ReducesTo [5] t) : t.size ⟨1, h.lt6_1⟩ = n1 := h.2 ⟨1, h.lt6_1⟩
theorem Shape.ReducesTo.lt6_2 (h : (⟨6, ![n0, n1, n2, n3, n4, n5]⟩ : Shape).ReducesTo [5] t) : 2 < t.rank := h.rank6 ▸ (by decide)
theorem Shape.ReducesTo.size6_2 (h : (⟨6, ![n0, n1, n2, n3, n4, n5]⟩ : Shape).ReducesTo [5] t) : t.size ⟨2, h.lt6_2⟩ = n2 := h.2 ⟨2, h.lt6_2⟩
theorem Shape.ReducesTo.lt6_3 (h : (⟨6, ![n0, n1, n2, n3, n4, n5]⟩ : Shape).ReducesTo [5] t) : 3 < t.rank := h.rank6 ▸ (by decide)
theorem Shape.ReducesTo.size6_3 (h : (⟨6, ![n0, n1, n2, n3, n4, n5]⟩ : Shape).ReducesTo [5] t) : t.size ⟨3, h.lt6_3⟩ = n3 := h.2 ⟨3, h.lt6_3⟩
theorem Shape.ReducesTo.lt6_4 (h : (⟨6, ![n0, n1, n2, n3, n4, n5]⟩ : Shape).ReducesTo [5] t) : 4 < t.rank := h.rank6 ▸ (by decide)
theorem Shape.ReducesTo.size6_4 (h : (⟨6, ![n0, n1, n2, n3, n4, n5]⟩ : Shape).ReducesTo [5] t) : t.size ⟨4, h.lt6_4⟩ = n4 := h.2 ⟨4, h.lt6_4⟩

/-- The source indices that drop to `j` are those with `j`'s coordinates on the kept axes. -/
theorem Shape.ReducesTo.fiber6 (h : (⟨6, ![n0, n1, n2, n3, n4, n5]⟩ : Shape).ReducesTo [5] t) (j : t.Idx)
    (i : (⟨6, ![n0, n1, n2, n3, n4, n5]⟩ : Shape).Idx) :
    h.drop i = j ↔ ∃ k : Fin n5, ix6 ⟨(j ⟨0, h.lt6_0⟩).val, Shape.coordLt (j ⟨0, h.lt6_0⟩) h.size6_0⟩ ⟨(j ⟨1, h.lt6_1⟩).val, Shape.coordLt (j ⟨1, h.lt6_1⟩) h.size6_1⟩ ⟨(j ⟨2, h.lt6_2⟩).val, Shape.coordLt (j ⟨2, h.lt6_2⟩) h.size6_2⟩ ⟨(j ⟨3, h.lt6_3⟩).val, Shape.coordLt (j ⟨3, h.lt6_3⟩) h.size6_3⟩ ⟨(j ⟨4, h.lt6_4⟩).val, Shape.coordLt (j ⟨4, h.lt6_4⟩) h.size6_4⟩ k = i := by
  constructor
  · intro e
    refine ⟨i 5, ?_⟩
    funext a; apply Fin.ext
    match a with
    | ⟨0, _⟩ => exact (congrArg Fin.val (congrFun e ⟨0, h.lt6_0⟩)).symm
    | ⟨1, _⟩ => exact (congrArg Fin.val (congrFun e ⟨1, h.lt6_1⟩)).symm
    | ⟨2, _⟩ => exact (congrArg Fin.val (congrFun e ⟨2, h.lt6_2⟩)).symm
    | ⟨3, _⟩ => exact (congrArg Fin.val (congrFun e ⟨3, h.lt6_3⟩)).symm
    | ⟨4, _⟩ => exact (congrArg Fin.val (congrFun e ⟨4, h.lt6_4⟩)).symm
    | ⟨5, _⟩ => rfl
  · rintro ⟨k, rfl⟩
    funext b
    apply Fin.ext
    match b with
    | ⟨0, _⟩ => rfl
    | ⟨1, _⟩ => rfl
    | ⟨2, _⟩ => rfl
    | ⟨3, _⟩ => rfl
    | ⟨4, _⟩ => rfl
    | ⟨_ + 5, hb⟩ => exact absurd hb (by have := h.rank6; omega)

/-- A sum over the source indices that drop to `j` is the sum along the last axis. -/
theorem Ideal.hostReduceAdd6 (h : (⟨6, ![n0, n1, n2, n3, n4, n5]⟩ : Shape).ReducesTo [5] t)
    (v : (⟨6, ![n0, n1, n2, n3, n4, n5]⟩ : Shape).Idx → EReal) (init : EReal) (j : t.Idx) :
    Ideal.hostReduceAdd h v init j = init + ∑ k : Fin n5, v (ix6 ⟨(j ⟨0, h.lt6_0⟩).val, Shape.coordLt (j ⟨0, h.lt6_0⟩) h.size6_0⟩ ⟨(j ⟨1, h.lt6_1⟩).val, Shape.coordLt (j ⟨1, h.lt6_1⟩) h.size6_1⟩ ⟨(j ⟨2, h.lt6_2⟩).val, Shape.coordLt (j ⟨2, h.lt6_2⟩) h.size6_2⟩ ⟨(j ⟨3, h.lt6_3⟩).val, Shape.coordLt (j ⟨3, h.lt6_3⟩) h.size6_3⟩ ⟨(j ⟨4, h.lt6_4⟩).val, Shape.coordLt (j ⟨4, h.lt6_4⟩) h.size6_4⟩ k) :=
  congrArg (init + ·) (Finset.sum_filter_eq_sum_of_fiber _ (fun k : Fin n5 => ix6 ⟨(j ⟨0, h.lt6_0⟩).val, Shape.coordLt (j ⟨0, h.lt6_0⟩) h.size6_0⟩ ⟨(j ⟨1, h.lt6_1⟩).val, Shape.coordLt (j ⟨1, h.lt6_1⟩) h.size6_1⟩ ⟨(j ⟨2, h.lt6_2⟩).val, Shape.coordLt (j ⟨2, h.lt6_2⟩) h.size6_2⟩ ⟨(j ⟨3, h.lt6_3⟩).val, Shape.coordLt (j ⟨3, h.lt6_3⟩) h.size6_3⟩ ⟨(j ⟨4, h.lt6_4⟩).val, Shape.coordLt (j ⟨4, h.lt6_4⟩) h.size6_4⟩ k)
    (fun _ _ e => congrFun e 5) (h.fiber6 j) v)

/-- The host's sum along the last axis. -/
theorem Host.reduceAdd6 (h : (⟨6, ![n0, n1, n2, n3, n4, n5]⟩ : Shape).ReducesTo [5] t) {u : Shape} (x : FVec Ideal (⟨6, ![n0, n1, n2, n3, n4, n5]⟩ : Shape) .f32)
    (init : u.Idx → Ideal .f32) (hu : 0 < u.numel) (j : t.Idx) :
    (Host.reduceAdd x init h hu j : EReal) = init (Shape.Idx.first hu) + ∑ k : Fin n5, (x (ix6 ⟨(j ⟨0, h.lt6_0⟩).val, Shape.coordLt (j ⟨0, h.lt6_0⟩) h.size6_0⟩ ⟨(j ⟨1, h.lt6_1⟩).val, Shape.coordLt (j ⟨1, h.lt6_1⟩) h.size6_1⟩ ⟨(j ⟨2, h.lt6_2⟩).val, Shape.coordLt (j ⟨2, h.lt6_2⟩) h.size6_2⟩ ⟨(j ⟨3, h.lt6_3⟩).val, Shape.coordLt (j ⟨3, h.lt6_3⟩) h.size6_3⟩ ⟨(j ⟨4, h.lt6_4⟩).val, Shape.coordLt (j ⟨4, h.lt6_4⟩) h.size6_4⟩ k) : EReal) :=
  Ideal.hostReduceAdd6 h x _ j

/-- A commutative, associative fold over the source indices that drop to `j`, along the last axis. -/
theorem Shape.ReducesTo.fold6 (h : (⟨6, ![n0, n1, n2, n3, n4, n5]⟩ : Shape).ReducesTo [5] t) (j : t.Idx) {α : Type*} (op : α → α → α)
    [Std.Commutative op] [Std.Associative op] (b : α) (v : (⟨6, ![n0, n1, n2, n3, n4, n5]⟩ : Shape).Idx → α) :
    (Finset.univ.filter (fun i => h.drop i = j)).fold op b v
      = (Finset.univ : Finset (Fin n5)).fold op b (fun k => v (ix6 ⟨(j ⟨0, h.lt6_0⟩).val, Shape.coordLt (j ⟨0, h.lt6_0⟩) h.size6_0⟩ ⟨(j ⟨1, h.lt6_1⟩).val, Shape.coordLt (j ⟨1, h.lt6_1⟩) h.size6_1⟩ ⟨(j ⟨2, h.lt6_2⟩).val, Shape.coordLt (j ⟨2, h.lt6_2⟩) h.size6_2⟩ ⟨(j ⟨3, h.lt6_3⟩).val, Shape.coordLt (j ⟨3, h.lt6_3⟩) h.size6_3⟩ ⟨(j ⟨4, h.lt6_4⟩).val, Shape.coordLt (j ⟨4, h.lt6_4⟩) h.size6_4⟩ k)) :=
  Finset.fold_filter_eq_fold_of_fiber op _ (fun k : Fin n5 => ix6 ⟨(j ⟨0, h.lt6_0⟩).val, Shape.coordLt (j ⟨0, h.lt6_0⟩) h.size6_0⟩ ⟨(j ⟨1, h.lt6_1⟩).val, Shape.coordLt (j ⟨1, h.lt6_1⟩) h.size6_1⟩ ⟨(j ⟨2, h.lt6_2⟩).val, Shape.coordLt (j ⟨2, h.lt6_2⟩) h.size6_2⟩ ⟨(j ⟨3, h.lt6_3⟩).val, Shape.coordLt (j ⟨3, h.lt6_3⟩) h.size6_3⟩ ⟨(j ⟨4, h.lt6_4⟩).val, Shape.coordLt (j ⟨4, h.lt6_4⟩) h.size6_4⟩ k)
    (fun _ _ e => congrFun e 5) (h.fiber6 j) b v

end Idealize.ShloMosaic
-- ==== Proof.Ref.lean ====
/- The reference's steps at an index. -/
module

public import proofs.«01_k».proof.Proof.RefSteps
public import proofs.«01_k».proof.Proof.Rank6

@[expose] public section

set_option maxRecDepth 16384

noncomputable section

namespace Cert.ReferenceIdeal.Band

open Idealize.ShloMosaic Idealize.ShloMosaic.TcCoe Idealize.ShloMosaic.Tactic Cert.ReferenceIdeal

theorem topR_at (u : Vec Ideal S1x2x8x64x128x256 .f32) (a : Fin 1) (k : Fin 2) (g : Fin 8) (n : Fin 64)
    (r : Fin 128) : topR u (ix5 a k g n r) = Finset.univ.fold max ⊥ (fun j : Fin 256 => (u (ix6 a k g n r j) : EReal)) := by
  unfold topR
  clean_types
  rw [Host.reduce_eq_fold]
  have h := Shape.ReducesTo.fold6 (n0 := 1) (n1 := 2) (n2 := 8) (n3 := 64) (n4 := 128) (n5 := 256)
    Gen.reducesTo_S1x2x8x64x128x256_S1x2x8x64x128_d5 (ix5 a k g n r) (max : EReal → EReal → EReal) (⊥ : EReal) u
  pointwise
  rw [Cert.Consts.ofBits_bot]
  exact h

/-- The exponentials of the scores less `M`. -/
def expR (u : Vec Ideal S1x2x8x64x128x256 .f32) (M : Vec Ideal S1x2x8x64x128 .f32) :
    FVec Ideal S1x2x8x64x128x256 .f32 :=
  Host.exp (subf u (broadcastInDim S1x2x8x64x128x256 ![0, 1, 2, 3, 4, 5]
    Gen.bcast_S1x2x8x64x128x1_S1x2x8x64x128x256_0_1_2_3_4_5 (broadcastInDim S1x2x8x64x128x1 ![0, 1, 2, 3, 4]
    Gen.bcast_S1x2x8x64x128_S1x2x8x64x128x1_0_1_2_3_4 M)))

theorem expR_at (u : Vec Ideal S1x2x8x64x128x256 .f32) (M : Vec Ideal S1x2x8x64x128 .f32) (k : Fin 2)
    (g : Fin 8) (n : Fin 64) (r : Fin 128) (j : Fin 256) :
    expR u M (ix6 0 k g n r j) = Ideal.exp (u (ix6 0 k g n r j) - M (ix5 0 k g n r)) := by
  unfold expR
  clean_types
  pointwise

/-- The sums of a row's entries. -/
def sumR (x : FVec Ideal S1x2x8x64x128x256 .f32) : FVec Ideal S1x2x8x64x128 .f32 :=
  Host.reduceAdd x (constant (F := Ideal) S_ .f32 0x00000000#32)
    Gen.reducesTo_S1x2x8x64x128x256_S1x2x8x64x128_d5 Gen.h_S_

theorem sumR_at (x : FVec Ideal S1x2x8x64x128x256 .f32) (k : Fin 2) (g : Fin 8) (n : Fin 64) (r : Fin 128) :
    (sumR x (ix5 0 k g n r) : EReal)
      = Ideal.ofBits .f32 0x00000000#32 + ∑ j : Fin 256, (x (ix6 0 k g n r j) : EReal) :=
  Host.reduceAdd6 (n0 := 1) (n1 := 2) (n2 := 8) (n3 := 64) (n4 := 128) (n5 := 256)
    Gen.reducesTo_S1x2x8x64x128x256_S1x2x8x64x128_d5 (u := S_) x
    (constant (F := Ideal) S_ .f32 0x00000000#32) Gen.h_S_ (ix5 0 k g n r)

theorem add_log_at (a b : FVec Ideal S1x2x8x64x128 .f32) (i : S1x2x8x64x128.Idx) :
    (addf a (Host.log b) i : EReal) = a i + Ideal.log (b i) := rfl

theorem lseR_eq (u : Vec Ideal S1x2x8x64x128x256 .f32) :
    lseR u = addf (F := Ideal) (φ := .f32) (topR u) (Host.log (sumR (expR u (topR u)))) := by
  unfold lseR sumR expR
  with_reducible rfl

theorem lseR_at (u : Vec Ideal S1x2x8x64x128x256 .f32) (k : Fin 2) (g : Fin 8) (n : Fin 64)
    (r : Fin 128) : (lseR u (ix5 0 k g n r) : EReal) = topR u (ix5 0 k g n r) + Ideal.log (∑ j : Fin 256,
      Ideal.exp (u (ix6 0 k g n r j) - topR u (ix5 0 k g n r))) := by
  rw [lseR_eq]
  refine (add_log_at _ _ _).trans ?_
  rw [sumR_at, Ideal.ofBits_zero, zero_add]
  simp only [expR_at]

theorem mixR_at (v : Vec Ideal S1x64x256x2x128 .f32) (u : Vec Ideal S1x2x8x64x128x256 .f32)
    (L : Vec Ideal S1x2x8x64x128 .f32) (l : Fin 8192) (h : Fin 16) (d : Fin 128) :
    mixR v u L (ix4 0 l h d) = ∑ j : Fin 256, v (ix5 0 ⟨l / 128, by omega⟩ j ⟨h / 8, by omega⟩ d) *
      Ideal.exp (u (ix6 0 ⟨h / 8, by omega⟩ ⟨h % 8, by omega⟩ ⟨l / 128, by omega⟩ ⟨l % 128, by omega⟩ j)
        - L (ix5 0 ⟨h / 8, by omega⟩ ⟨h % 8, by omega⟩ ⟨l / 128, by omega⟩ ⟨l % 128, by omega⟩)) := by
  unfold mixR
  clean_types
  pointwise

theorem productsR_at (k : Vec Ideal S1x64x256x2x128 .f32) (q : Vec Ideal S1x64x128x2x8x128 .f32)
    (v : Fin 2) (g : Fin 8) (n : Fin 64) (r : Fin 128) (j : Fin 256) :
    productsR k q (ix6 0 v g n r j) = ∑ e : Fin 128, k (ix5 0 n j v e) * q (ix6 0 n r v g e) := by
  unfold productsR
  clean_types
  pointwise

end Cert.ReferenceIdeal.Band
-- ==== Proof.RefRead.lean ====
/- The reference's inputs, mask and bias at an index. -/
module

public import proofs.«01_k».proof.Proof.Ref

@[expose] public section

set_option maxRecDepth 16384

noncomputable section

namespace Cert.ReferenceIdeal.Band

open Idealize.ShloMosaic Idealize.ShloMosaic.TcCoe Idealize.ShloMosaic.Tactic Cert.ReferenceIdeal

theorem dist_toInt (r j : Nat) (hr : r < 128) (hj : j < 256) :
    (IntOp.subi (IntOp.addi (128#32) (BitVec.ofNat 32 r)) (BitVec.ofNat 32 j)).toInt = 128 + (r : ℤ) - j := by
  show (128#32 + BitVec.ofNat 32 r - BitVec.ofNat 32 j).toInt = _
  rw [BitVec.toInt_sub, BitVec.toInt_add, BitVec.toInt_ofNat', BitVec.toInt_ofNat', BitVec.toInt_ofNat']
  simp only [Int.bmod]
  omega

theorem pos_toInt (n j : Nat) (hn : n < 64) (hj : j < 256) :
    (IntOp.addi (IntOp.muli (IntOp.subi (BitVec.ofNat 32 n) 1#32) 128#32) (BitVec.ofNat 32 j)).toInt
      = ((n : ℤ) - 1) * 128 + j := by
  have h : (IntOp.muli (IntOp.subi (BitVec.ofNat 32 n) 1#32) 128#32).toInt = ((n : ℤ) - 1) * 128 := by
    interval_cases n <;> rfl
  show (IntOp.muli (IntOp.subi (BitVec.ofNat 32 n) 1#32) 128#32 + BitVec.ofNat 32 j).toInt = _
  rw [BitVec.toInt_add, h, BitVec.toInt_ofNat']
  simp only [Int.bmod]
  omega

theorem windowR_at (b : Vec Ideal S1x64x128x2x128 .f32) (n : Fin 64) (j : Fin 256) (v : Fin 2) (d : Fin 128)
    (h : 128 ≤ n.val * 128 + j.val) :
    windowR b (ix5 0 n j v d) = b (ix5 0 ⟨(n.val * 128 + j.val - 128) / 128, by omega⟩
      ⟨(n.val * 128 + j.val - 128) % 128, by omega⟩ v d) := by
  unfold windowR
  clean_types
  pointwise
  have hn := n.isLt
  have hj := j.isLt
  by_cases h1 : j.val < 128
  · rw [dif_pos h1, dif_neg (by omega)]
    congr 2
    · apply Fin.ext; dsimp only; omega
    · apply Fin.ext; dsimp only; omega
  · rw [dif_neg h1]
    congr 2
    · apply Fin.ext; dsimp only; omega
    · apply Fin.ext; dsimp only; omega

variable (m : (ℓ : Loc nD τ sig) → Buf (Elt Ideal) ℓ) (c : Dev nD)

/-- The projection's columns, by head, row and column. -/
def proj (h : Fin 44) (l : Fin 8192) (d : Fin 128) : EReal :=
  (m ((c.tc : Thread nD τ).loc main_arg0) : Vec Ideal S44x8192x128 .f32) (ix3 h l d)
/-- The heads' slopes. -/
def slope (h : Fin 16) : EReal := (m ((c.tc : Thread nD τ).loc main_arg1) : Vec Ideal S16 .f32) (ix1 h)
/-- The heads' sinks. -/
def sink (h : Fin 16) : EReal := (m ((c.tc : Thread nD τ).loc main_arg2) : Vec Ideal S16 .f32) (ix1 h)

theorem keysR_at (n : Fin 64) (r : Fin 128) (v : Fin 2) (d : Fin 128) :
    keysR m c (ix5 0 n r v d) = proj m c ⟨32 + v.val, by omega⟩ ⟨n.val * 128 + r.val, by omega⟩ d := by
  unfold keysR proj
  clean_types
  pointwise

theorem valuesR_at (n : Fin 64) (r : Fin 128) (v : Fin 2) (d : Fin 128) :
    valuesR m c (ix5 0 n r v d) = proj m c ⟨34 + v.val, by omega⟩ ⟨n.val * 128 + r.val, by omega⟩ d := by
  unfold valuesR proj
  clean_types
  pointwise

theorem queriesR_at (n : Fin 64) (r : Fin 128) (v : Fin 2) (g : Fin 8) (d : Fin 128) :
    queriesR m c (ix6 0 n r v g d) = proj m c ⟨v.val * 8 + g.val, by omega⟩ ⟨n.val * 128 + r.val, by omega⟩ d := by
  unfold queriesR proj
  clean_types
  pointwise

theorem maskR_at (n : Fin 64) (r : Fin 128) (j : Fin 256) :
    maskR (ix3 n r j) = BitVec.ofBool (decide (r.val < j.val ∧ j.val ≤ r.val + 128 ∧ 128 ≤ n.val * 128 + j.val)) := by
  unfold maskR
  clean_types
  pointwise
  have hd := dist_toInt r.val j.val r.isLt j.isLt
  have hs := pos_toInt n.val j.val n.isLt j.isLt
  simp only [IntOp.cmpi, BitVec.sle, BitVec.slt, hd, hs, IntOp.andi, BitVec.ofBool_and_ofBool]
  congr 1
  rw [Bool.eq_iff_iff]
  simp
  omega

theorem biasR_at (v : Fin 2) (g : Fin 8) (n : Fin 64) (r : Fin 128) (j : Fin 256) :
    biasR m c (ix6 0 v g n r j) = - slope m c ⟨v.val * 8 + g.val, by omega⟩ * ((((128 + r.val - j.val : ℤ)) : ℝ) : EReal) := by
  unfold biasR slope
  clean_types
  pointwise
  rw [← dist_toInt r.val j.val r.isLt j.isLt]
  rfl

theorem scoreR_at (v : Fin 2) (g : Fin 8) (n : Fin 64) (r : Fin 128) (j : Fin 256) :
    scoreR m c (ix6 0 v g n r j) = Scalar.select (maskR (ix3 n r j))
      (Ideal.div (productsR (windowR (keysR m c)) (queriesR m c) (ix6 0 v g n r j)) (Ideal.sqrt (Ideal.ofBits .f32 0x43000000#32))
        + biasR m c (ix6 0 v g n r j)) ⊥ := by
  unfold scoreR
  clean_types
  pointwise
  congr 1

theorem keepR_at (L : Vec Ideal S1x2x8x64x128 .f32) (l : Fin 8192) (h : Fin 16) :
    keepR m c L (ix3 0 l h) = Ideal.div (Ideal.ofBits .f32 0x3F800000#32) (Ideal.ofBits .f32 0x3F800000#32 +
      Ideal.exp (- (L (ix5 0 ⟨h / 8, by omega⟩ ⟨h % 8, by omega⟩ ⟨l / 128, by omega⟩ ⟨l % 128, by omega⟩)
        - sink m c h))) := by
  unfold keepR sink
  clean_types
  pointwise

theorem res_at (h : Fin 16) (l : Fin 8192) (d : Fin 128) :
    (Value.res_main_v101 m c : Vec Ideal S16x8192x128 .bf16) (ix3 h l d)
      = mixR (windowR (valuesR m c)) (scoreR m c) (lseR (scoreR m c)) (ix4 0 l h d) *
        keepR m c (lseR (scoreR m c)) (ix3 0 l h) := by
  rw [res_eq]
  clean_types
  pointwise

end Cert.ReferenceIdeal.Band
-- ==== Proof.Softmax.lean ====
/- A row of attention with a sink, its exponentials taken to the base two after a shift, is the row of the softmax
   weighted by what the sink leaves. -/
module

public import proofs.«01_k».proof.Proof.TripValue
public import proofs.«01_k».proof.Proof.Consts

@[expose] public section

noncomputable section

namespace Cert.Softmax

open Idealize.ShloMosaic Cert.KernelIdeal.Band

/-- The logarithm of a row's sum of exponentials, its largest entry taken out. -/
def lse (u : Fin 256 → EReal) : EReal := top u + Ideal.log (∑ j, Ideal.exp (u j - top u))

/-- The softmax row mixed with `w`, times the part the sink `sk` leaves. -/
def mixed (u : Fin 256 → EReal) (sk : EReal) (w : Fin 256 → EReal) : EReal :=
  (∑ j, w j * Ideal.exp (u j - lse u)) * Ideal.div 1 (1 + Ideal.exp (-(lse u - sk)))

variable {P : Fin 256 → Prop} [DecidablePred P]

/-- A row with a real entry and otherwise real entries or minus infinity has a real maximum. -/
theorem top_real (hP : ∃ j, P j) (s : Fin 256 → ℝ) (t : Fin 256 → EReal)
    (ht : ∀ j, t j = if P j then ((s j : ℝ) : EReal) else ⊥) : ∃ M : ℝ, top t = (M : EReal) := by
  obtain ⟨j0, h0⟩ := hP
  have hlt : top t < ⊤ := by
    refine (Finset.fold_max_lt _).2 ⟨bot_lt_top, fun j _ => ?_⟩
    rw [ht]
    split
    · exact EReal.coe_lt_top _
    · exact bot_lt_top
  have hle : ((s j0 : ℝ) : EReal) ≤ top t :=
    (Finset.le_fold_max _).2 (Or.inr ⟨j0, Finset.mem_univ _, by rw [ht, if_pos h0]⟩)
  refine ⟨(top t).toReal, (EReal.coe_toReal hlt.ne ?_).symm⟩
  intro hb
  rw [hb] at hle
  exact absurd (le_bot_iff.1 hle) (EReal.coe_ne_bot _)

theorem coe_sum (f : Fin 256 → ℝ) : ((∑ j, f j : ℝ) : EReal) = ∑ j, ((f j : ℝ) : EReal) := by
  induction (Finset.univ : Finset (Fin 256)) using Finset.induction_on with
  | empty => simp
  | insert a s ha ih => rw [Finset.sum_insert ha, Finset.sum_insert ha, EReal.coe_add, ih]

theorem exp2_real (x : ℝ) : Ideal.exp2 (x : EReal) = ((Real.exp (Real.log 2 * x) : ℝ) : EReal) := by
  rw [Ideal.exp2_coe]
  exact congrArg _ (Real.rpow_def_of_pos (by norm_num) x)

theorem core (hP : ∃ j, P j) (s x : Fin 256 → ℝ) (sk : ℝ) (t u v w : Fin 256 → EReal)
    (ht : ∀ j, t j = if P j then ((s j / Real.log 2 : ℝ) : EReal) else ⊥)
    (hu : ∀ j, u j = if P j then ((s j : ℝ) : EReal) else ⊥)
    (hv : ∀ j, P j → v j = ((x j : ℝ) : EReal)) (hw : ∀ j, P j → w j = ((x j : ℝ) : EReal)) :
    cell t ((sk / Real.log 2 : ℝ) : EReal) v = mixed u (sk : EReal) w := by
  obtain ⟨M, hM⟩ := top_real hP _ t ht
  obtain ⟨B, hB⟩ := top_real hP _ u hu
  have hl : Real.log 2 ≠ 0 := (Real.log_pos (by norm_num)).ne'
  obtain ⟨j0, h0⟩ := hP
  -- the kernel's exponentials
  have e1 : ∀ j, Ideal.exp2 (t j - top t)
      = (((if P j then Real.exp (s j - Real.log 2 * M) else 0 : ℝ)) : EReal) := by
    intro j
    rw [ht, hM]
    split
    · rw [← EReal.coe_sub, exp2_real]
      congr 2
      field_simp
    · rw [EReal.bot_sub, Ideal.exp2_bot, EReal.coe_zero]
  have e2 : Ideal.exp2 (((sk / Real.log 2 : ℝ) : EReal) - top t)
      = ((Real.exp (sk - Real.log 2 * M) : ℝ) : EReal) := by
    rw [hM, ← EReal.coe_sub, exp2_real]
    congr 2
    field_simp
  have e3 : ∀ j, Ideal.exp2 (t j - top t) * v j
      = (((if P j then Real.exp (s j - Real.log 2 * M) * x j else 0 : ℝ)) : EReal) := by
    intro j
    rw [e1]
    split
    · next h => rw [hv j h, EReal.coe_mul]
    · rw [EReal.coe_zero, zero_mul]
  -- the reference's
  have f1 : ∀ (y : ℝ) j, Ideal.exp (u j - (y : EReal))
      = (((if P j then Real.exp (s j - y) else 0 : ℝ)) : EReal) := by
    intro y j
    rw [hu]
    split
    · rw [← EReal.coe_sub, Ideal.exp_coe]
    · rw [EReal.bot_sub, Ideal.exp_bot, EReal.coe_zero]
  have pos : ∀ y : ℝ, 0 < ∑ j, (if P j then Real.exp (s j - y) else 0 : ℝ) := by
    intro y
    refine Finset.sum_pos' (fun j _ => ?_) ⟨j0, Finset.mem_univ _, ?_⟩
    · split
      · exact (Real.exp_pos _).le
      · exact le_rfl
    · rw [if_pos h0]; exact Real.exp_pos _
  have fac : ∀ y : ℝ, ∑ j, (if P j then Real.exp (s j - y) else 0 : ℝ)
      = Real.exp (-y) * ∑ j, (if P j then Real.exp (s j) else 0 : ℝ) := by
    intro y
    rw [Finset.mul_sum]
    refine Finset.sum_congr rfl fun j _ => ?_
    split
    · rw [← Real.exp_add]; congr 1; ring
    · rw [mul_zero]
  have facx : ∀ y : ℝ, ∑ j, (if P j then Real.exp (s j - y) * x j else 0 : ℝ)
      = Real.exp (-y) * ∑ j, (if P j then Real.exp (s j) * x j else 0 : ℝ) := by
    intro y
    rw [Finset.mul_sum]
    refine Finset.sum_congr rfl fun j _ => ?_
    split
    · rw [← mul_assoc, ← Real.exp_add]; congr 2; ring
    · rw [mul_zero]
  set Z := ∑ j, (if P j then Real.exp (s j) else 0 : ℝ) with hZ
  set X := ∑ j, (if P j then Real.exp (s j) * x j else 0 : ℝ) with hX
  have Zpos : 0 < Z := by have := pos 0; rw [fac] at this; simpa using this
  have hL : lse u = ((Real.log Z : ℝ) : EReal) := by
    unfold lse
    simp only [hB, f1]
    rw [← coe_sum, Ideal.log_coe, if_neg (not_le.2 (pos B)), ← EReal.coe_add, fac,
      Real.log_mul (Real.exp_ne_zero _) Zpos.ne', Real.log_exp]
    congr 1
    ring
  have f3 : ∀ j, w j * Ideal.exp (u j - lse u)
      = (((if P j then Real.exp (s j - Real.log Z) * x j else 0 : ℝ)) : EReal) := by
    intro j
    rw [hL, f1]
    split
    · next h => rw [hw j h, ← EReal.coe_mul, mul_comm]
    · rw [EReal.coe_zero, mul_zero]
  have f4 : Ideal.div 1 (1 + Ideal.exp (-(lse u - (sk : EReal)))) = ((1 / (1 + Real.exp sk / Z) : ℝ) : EReal) := by
    rw [hL, ← EReal.coe_sub, ← EReal.coe_neg, Ideal.exp_coe, ← EReal.coe_one, ← EReal.coe_add,
      Ideal.div_coe (by positivity), ← EReal.coe_mul, one_mul]
    congr 3
    rw [neg_sub, Real.exp_sub, Real.exp_log Zpos]
  unfold cell mixed
  simp only [e3, f3, f4]
  simp only [e1, e2]
  rw [← coe_sum, ← coe_sum, ← coe_sum, ← EReal.coe_add, fac, facx, facx, ← EReal.coe_mul]
  have d : Real.exp (-(Real.log 2 * M)) * Z + Real.exp (sk - Real.log 2 * M)
      = Real.exp (-(Real.log 2 * M)) * (Z + Real.exp sk) := by
    rw [mul_add, ← Real.exp_add]; congr 2; ring
  have hp := Real.exp_pos (-(Real.log 2 * M))
  have hs := Real.exp_pos sk
  rw [d, Ideal.div_coe (by positivity), ← EReal.coe_mul]
  congr 1
  rw [Real.exp_neg (Real.log Z), Real.exp_log Zpos]
  field_simp

end Cert.Softmax
-- ==== Proof.RefValue.lean ====
/- The reference's result as the softmax rows times what the sink leaves. -/
module

public import proofs.«01_k».proof.Proof.RefRead
public import proofs.«01_k».proof.Proof.Softmax

@[expose] public section

set_option maxRecDepth 16384

noncomputable section

namespace Cert.ReferenceIdeal.Band

open Idealize.ShloMosaic Idealize.ShloMosaic.TcCoe Idealize.ShloMosaic.Tactic Cert.ReferenceIdeal

variable (m : (ℓ : Loc nD τ sig) → Buf (Elt Ideal) ℓ) (c : Dev nD)

/-- The part of a row the sink leaves, with the ones read. -/
theorem keep_one (x : EReal) : Ideal.div (Ideal.ofBits .f32 0x3F800000#32) (Ideal.ofBits .f32 0x3F800000#32 + x)
    = Ideal.div 1 (1 + x) := by
  rw [Cert.Consts.ofBits_1, EReal.coe_one]

theorem lseR_lse (v : Fin 2) (g : Fin 8) (n : Fin 64) (r : Fin 128) (u : Vec Ideal S1x2x8x64x128x256 .f32) :
    (lseR u (ix5 0 v g n r) : EReal) = Cert.Softmax.lse (fun j => u (ix6 0 v g n r j)) := by
  rw [lseR_at, topR_at]
  rfl

theorem res_mixed (h : Fin 16) (l : Fin 8192) (d : Fin 128) :
    (Value.res_main_v101 m c : Vec Ideal S16x8192x128 .bf16) (ix3 h l d)
      = Cert.Softmax.mixed
        (fun j => scoreR m c (ix6 0 ⟨h / 8, by omega⟩ ⟨h % 8, by omega⟩ ⟨l / 128, by omega⟩ ⟨l % 128, by omega⟩ j))
        (sink m c h) (fun j => windowR (valuesR m c) (ix5 0 ⟨l / 128, by omega⟩ j ⟨h / 8, by omega⟩ d)) := by
  rw [res_at, mixR_at, keepR_at, keep_one, lseR_lse]
  rfl

end Cert.ReferenceIdeal.Band
-- ==== Proof.Finite.lean ====
/- The precondition read back: the arguments hold real numbers. -/
module

public import proofs.«01_k».proof.Proof.Host
public import proofs.«01_k».proof.Proof.Consts
public import proofs.«01_k».proof.Defs
public import proofs.«01_k».proof.Proof.Gen.Pre_finite
public import Idealize.ShloMosaic.Lib.ReduceAll
public import Idealize.ShloMosaic.Lib.IdealHost

@[expose] public section

set_option maxRecDepth 16384

noncomputable section

namespace Cert.KernelIdeal.Band

open Idealize.ShloMosaic Idealize.ShloMosaic.TcCoe Cert.KernelIdeal

instance : Subsingleton Cert.Pre_finite.S_.Idx := ⟨fun a b => funext fun i => i.elim0⟩

/-- An extended real whose absolute value is below the top is a real number. -/
theorem real_of_abs (x : EReal)
    (h : FloatOps.cmpf (F := Ideal) (φ := .f32) .olt (FloatOps.hostAbsf (F := Ideal) (φ := .f32) x)
      (Ideal.ofBits .f32 0x7F800000#32) = 1#1) :
    ∃ y : ℝ, x = (y : EReal) := by
  have h' : BitVec.ofBool (decide (max x (-x) < Ideal.ofBits .f32 0x7F800000#32)) = 1#1 := h
  rw [Cert.Consts.ofBits_top] at h'
  induction x using EReal.rec with
  | bot => simp at h'
  | top => simp at h'
  | coe y => exact ⟨y, rfl⟩

variable (m : (ℓ : Loc nD τ sig) → Buf (Elt Ideal) ℓ) (c : Dev nD)

/-- The arguments hold real numbers. -/
def AllReal : Prop := (∀ a l d, ∃ y : ℝ, proj m c a l d = (y : EReal)) ∧ (∀ a, ∃ y : ℝ, slope m c a = (y : EReal))
  ∧ (∀ a, ∃ y : ℝ, sink m c a = (y : EReal))

theorem reals (h : Pre_KernelIdeal_finite (hPre_finite := Cert.Pre_finite.Gen.facts) m) :
    AllReal m c := by
  obtain ⟨h0, h1, h2⟩ := h c
  unfold Cert.Pre_finite.fn at h0 h1 h2
  dsimp only at h0 h1 h2
  have k0 := fun i => Host.reduce_andi_all _ _ _ _ _ (congrFun h0 ix0) i
  have k1 := fun i => Host.reduce_andi_all _ _ _ _ _ (congrFun h1 ix0) i
  have k2 := fun i => Host.reduce_andi_all _ _ _ _ _ (congrFun h2 ix0) i
  exact ⟨fun a l d => real_of_abs _ (k0 (ix3 a l d)), fun a => real_of_abs _ (k1 (ix1 a)),
    fun a => real_of_abs _ (k2 (ix1 a))⟩

end Cert.KernelIdeal.Band
-- ==== Proof.Equal.lean ====
/- Kernel and reference give the same array. -/
module

public import proofs.«01_k».proof.Proof.Array
public import proofs.«01_k».proof.Proof.RefValue
public import proofs.«01_k».proof.Proof.Finite

@[expose] public section

set_option maxRecDepth 16384

noncomputable section

namespace Cert.Equal

open Idealize.ShloMosaic Idealize.ShloMosaic.TcCoe Cert.Softmax
open Cert.KernelIdeal.Band (cell score qScale bScale keyRow)

theorem select_mask (P : Prop) [Decidable P] (x : EReal) :
    Scalar.select (BitVec.ofBool (decide P)) x ⊥ = if P then x else ⊥ := by
  by_cases h : P <;> simp [Scalar.select, h]

theorem qScale_real : qScale = ((1 / (√128 * Real.log 2) : ℝ) : EReal) := by
  have h1 : (0:ℝ) < √128 := Real.sqrt_pos.2 (by norm_num)
  have h2 : 0 < Real.log 2 := Real.log_pos (by norm_num)
  unfold qScale
  rw [Cert.Consts.ofBits_1, Cert.Consts.ofBits_128, Cert.Consts.ofBits_2, Ideal.sqrt_coe, if_neg (by norm_num),
    Ideal.log_coe, if_neg (by norm_num), ← EReal.coe_mul, Ideal.div_coe (by positivity), ← EReal.coe_mul, one_mul]

theorem bScale_real : bScale = ((1 / Real.log 2 : ℝ) : EReal) := by
  have h2 : 0 < Real.log 2 := Real.log_pos (by norm_num)
  unfold bScale
  rw [Cert.Consts.ofBits_1, Cert.Consts.ofBits_2, Ideal.log_coe, if_neg (by norm_num), Ideal.div_coe h2.ne',
    ← EReal.coe_mul, one_mul]

theorem coe_sum128 (f : Fin 128 → ℝ) : ((∑ j, f j : ℝ) : EReal) = ∑ j, ((f j : ℝ) : EReal) := by
  induction (Finset.univ : Finset (Fin 128)) using Finset.induction_on with
  | empty => simp
  | insert a s ha ih => rw [Finset.sum_insert ha, Finset.sum_insert ha, EReal.coe_add, ih]

/-- One score of the kernel, over the reals. -/
theorem kernel_score (P : Prop) [Decidable P] (q k : Fin 128 → ℝ) (sl : ℝ) (dd : ℤ) :
    score (BitVec.ofBool (decide P)) (∑ e, ((q e : ℝ) : EReal) * qScale * ((k e : ℝ) : EReal))
        (((sl : ℝ) : EReal) * bScale) (((dd : ℤ) : ℝ) : EReal)
      = if P then ((((∑ e, q e * k e) / √128 - sl * (dd : ℝ)) / Real.log 2 : ℝ) : EReal) else ⊥ := by
  have h1 : (0:ℝ) < √128 := Real.sqrt_pos.2 (by norm_num)
  have h2 : 0 < Real.log 2 := Real.log_pos (by norm_num)
  unfold score
  rw [select_mask, qScale_real, bScale_real]
  simp only [← EReal.coe_mul]
  rw [← coe_sum128, ← EReal.coe_zero, ← EReal.coe_sub, ← EReal.coe_mul, ← EReal.coe_add]
  split
  · congr 1
    rw [Finset.sum_congr rfl (fun e _ => (by field_simp :
      q e * (1 / (√128 * Real.log 2)) * k e = (q e * k e) * (1 / (√128 * Real.log 2)))), ← Finset.sum_mul]
    field_simp
    ring
  · rfl

/-- One score of the reference, over the reals. -/
theorem reference_score (q k : Fin 128 → ℝ) (sl : ℝ) (dd : ℤ) :
    Ideal.div (∑ e, ((k e : ℝ) : EReal) * ((q e : ℝ) : EReal)) (Ideal.sqrt (Ideal.ofBits .f32 0x43000000#32))
        + -((sl : ℝ) : EReal) * (((dd : ℤ) : ℝ) : EReal)
      = (((∑ e, q e * k e) / √128 - sl * (dd : ℝ) : ℝ) : EReal) := by
  have h1 : (0:ℝ) < √128 := Real.sqrt_pos.2 (by norm_num)
  simp only [← EReal.coe_mul]
  rw [← coe_sum128, Cert.Consts.ofBits_128, Ideal.sqrt_coe, if_neg (by norm_num), Ideal.div_coe h1.ne',
    ← EReal.coe_mul, ← EReal.coe_neg, ← EReal.coe_mul, ← EReal.coe_add]
  congr 1
  rw [Finset.sum_congr rfl (fun e _ => mul_comm (k e) (q e))]
  ring

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

open Cert.ReferenceIdeal.Band in
/-- One element of the two results. -/
theorem element (pr : Fin 44 → Fin 8192 → Fin 128 → ℝ) (sl sk : Fin 16 → ℝ)
    (hp : ∀ a l d, Cert.KernelIdeal.Band.proj m c a l d = ((pr a l d : ℝ) : EReal))
    (hs : ∀ a, Cert.KernelIdeal.Band.slope m c a = ((sl a : ℝ) : EReal))
    (hk : ∀ a, Cert.KernelIdeal.Band.sink m c a = ((sk a : ℝ) : EReal))
    (hp' : ∀ a l d, proj m' c a l d = ((pr a l d : ℝ) : EReal))
    (hs' : ∀ a, slope m' c a = ((sl a : ℝ) : EReal)) (hk' : ∀ a, sink m' c a = ((sk a : ℝ) : EReal))
    (h : Fin 16) (n : Fin 64) (r d : Fin 128) (v : Fin 2) (g : Fin 8) (hv : v.val = h.val / 8)
    (hg : h.val = v.val * 8 + g.val) :
    Cert.KernelIdeal.Band.result m c h n r d
      = mixed (fun j => scoreR m' c (ix6 0 v g n r j)) (sink m' c h)
          (fun j => windowR (valuesR m' c) (ix5 0 n j v d)) := by
  have hn := n.isLt
  have hr := r.isLt
  have row : ∀ j : Fin 256, (128 ≤ n.val * 128 + j.val) → ∀ h1 h2 h3,
      (⟨(⟨(n.val * 128 + j.val - 128) / 128, h1⟩ : Fin 64).val * 128
        + (⟨(n.val * 128 + j.val - 128) % 128, h2⟩ : Fin 128).val, h3⟩ : Fin 8192) = keyRow n j := by
    intro j hj h1 h2 h3
    unfold keyRow
    rw [if_neg (by omega)]
    apply Fin.ext
    dsimp only
    omega
  unfold Cert.KernelIdeal.Band.result
  rw [hk, hk', bScale_real, ← EReal.coe_mul, mul_one_div]
  refine core (P := fun j : Fin 256 => r.val < j.val ∧ j.val ≤ r.val + 128 ∧ 128 ≤ n.val * 128 + j.val)
    ⟨⟨r.val + 128, by omega⟩, by dsimp only; omega⟩
    (fun j => (∑ e, pr ⟨h.val, by omega⟩ ⟨n.val * 128 + r.val, by omega⟩ e
      * pr ⟨32 + h.val / 8, by omega⟩ (keyRow n j) e) / √128 - sl h * (((128 + r.val - j.val : ℤ)) : ℝ))
    (fun j => pr ⟨34 + h.val / 8, by omega⟩ (keyRow n j) d) _ _ _ _ _ (fun j => ?_) (fun j => ?_)
    (fun j _ => hp _ _ _) (fun j hj => ?_)
  · simp only [hp, hs, ← bScale_real]
    exact kernel_score (r.val < j.val ∧ j.val ≤ r.val + 128 ∧ 128 ≤ n.val * 128 + j.val) _ _ _ _
  · rw [scoreR_at, maskR_at, select_mask]
    split
    · next hj =>
      rw [productsR_at, biasR_at, hs']
      simp only [windowR_at _ _ _ _ _ hj.2.2, keysR_at, queriesR_at, hp', row j hj.2.2]
      rw [reference_score]
      congr 3
      · refine Finset.sum_congr rfl fun e _ => ?_
        congr 2
        · exact Fin.ext hg.symm
        · exact Fin.ext (by dsimp only; omega)
      · exact congrArg sl (Fin.ext hg.symm)
    · rfl
  · rw [windowR_at _ _ _ _ _ hj.2.2, valuesR_at, hp', row j hj.2.2]
    congr 2
    exact Fin.ext (by dsimp only; omega)

/-- The two result arrays. -/
theorem result_eq (hm : Cert.KernelIdeal.Band.AllReal m c)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    (Cert.ReferenceIdeal.Value.res_main_v101 m' c : Vec Ideal Cert.ReferenceIdeal.S16x8192x128 .bf16)
      = Cert.KernelIdeal.Band.resultV m c := by
  obtain ⟨hp, hs, hk⟩ := hm
  choose pr hp using hp
  choose sl hs using hs
  choose sk hk using hk
  have hp' : ∀ a l d, Cert.ReferenceIdeal.Band.proj m' c a l d = ((pr a l d : ℝ) : EReal) := fun a l d => by
    rw [← hp]; exact congrFun h0 _
  have hs' : ∀ a, Cert.ReferenceIdeal.Band.slope m' c a = ((sl a : ℝ) : EReal) := fun a => by
    rw [← hs]; exact congrFun h1 _
  have hk' : ∀ a, Cert.ReferenceIdeal.Band.sink m' c a = ((sk a : ℝ) : EReal) := fun a => by
    rw [← hk]; exact congrFun h2 _
  funext x
  obtain ⟨h, l, d, rfl⟩ : ∃ (h : Fin 16) (l : Fin 8192) (d : Fin 128), x = ix3 h l d := ⟨x 0, x 1, x 2, eq_ix3 x⟩
  rw [Cert.ReferenceIdeal.Band.res_mixed]
  refine (element m m' c pr sl sk hp hs hk hp' hs' hk' h ⟨l.val / 128, by omega⟩ ⟨l.val % 128, by omega⟩ d
    ⟨h.val / 8, by omega⟩ ⟨h.val % 8, by omega⟩ rfl (by dsimp only; omega)).symm.trans ?_
  exact (Cert.KernelIdeal.Band.resultV_at m c h _ _ d _ rfl (by
    show l.val = l.val / 128 * 128 + l.val % 128
    omega) rfl).symm

end Cert.Equal
-- ==== Proof.QkvBlock.lean ====
/- The input projection with scaled query heads: a grid point's output block at an index, and the result array. -/
module

public import proofs.«01_k».proof.Proof.Gen.QkvIdeal.Value
public import Idealize.ShloMosaic.Lib.Pipeline.ValueKit
public import Idealize.ShloMosaic.Lib.Tactic.WordOmega
public import proofs.«01_k».proof.Proof.Consts

@[expose] public section

set_option maxRecDepth 16384

noncomputable section

namespace Cert.QkvIdeal.Band

open Idealize.ShloMosaic Idealize.ShloMosaic.TcCoe Idealize.ShloMosaic.Tactic Cert.QkvIdeal Cert.QkvIdeal.Gen

/-- The factor of a column block: the first eight hold the query heads. -/
def factor (j : Nat) : EReal := if j < 8 then (((Real.sqrt 128)⁻¹ * (Real.log 2)⁻¹ : ℝ) : EReal) else 1

/-- A grid point's product with its factor, at an index. -/
def cellQ (x0 : Vec Ideal S1024x4096 .bf16) (x1 : Vec Ideal S1x4096x512 .f32) (j : Nat) (r : Fin 1024) (n : Fin 512) : EReal :=
  (∑ k : Fin 4096, x0 (ix2 r k) * x1 (ix3 0 k n)) * factor j

theorem pay1_apply (i : grid0.Coords) (x1 : Vec Ideal S1x4096x512 .f32) (x0 : Vec Ideal S1024x4096 .bf16) (r : Fin 1024) (n : Fin 512) :
    k0_pay1 (F := Ideal) i x1 x0 (ix2 r n) = cellQ x0 x1 (i 1).val r n := by
  have h1 : (i 1).val < 24 := (i 1).isLt
  unfold cellQ factor
  pointwise [k0_pay1]
  have hn : (Named.named κ "q_scale" 0x3E0293EE#32 : Ideal .f32) = (((Real.sqrt 128)⁻¹ * (Real.log 2)⁻¹ : ℝ) : EReal) := rfl
  rw [hn]
  congr 1
  obtain ⟨j, hj⟩ : ∃ j, j = (i 1).val := ⟨_, rfl⟩
  rw [← hj] at h1 ⊢
  clear hj
  interval_cases j <;> rfl

/-- The four 128-column heads of a product, stacked. -/
def stack (x0 : Vec Ideal S1024x4096 .bf16) (x1 : Vec Ideal S1x4096x512 .f32) (j : Nat) : Vec Ideal S4x1024x128 .f32 := fun y =>
  cellQ x0 x1 j (y 1) ⟨(y 0).val * 128 + (y 2).val, by
    have h0 : (y 0).val < 4 := (y 0).isLt
    have h2 : (y 2).val < 128 := (y 2).isLt
    omega⟩

theorem slice_at (o : Nat) (g : Fin 4) (ho : o = g.val * 128) (i : grid0.Coords) (x1 : Vec Ideal S1x4096x512 .f32) (x0 : Vec Ideal S1024x4096 .bf16)
    (h : S1024x512.Slices ![0, o] S1024x128) (hc : S1024x128.ShapeCasts S1x1024x128) (z : Fin 1) (r : Fin 1024) (d : Fin 128) :
    shapeCast S1x1024x128 (extractStridedSlice S1024x128 ![0, o] (k0_pay1 (F := Ideal) i x1 x0) h) hc (ix3 z r d)
      = cellQ x0 x1 (i 1).val r ⟨g.val * 128 + d.val, by omega⟩ := by
  subst ho
  rw [← pay1_apply]
  pointwise

theorem piece_at (o : Nat) (g : Fin 4) (ho : o = g.val * 128) (i : grid0.Coords) (x1 : Vec Ideal S1x4096x512 .f32) (x0 : Vec Ideal S1024x4096 .bf16)
    (h : S1024x512.Slices ![0, o] S1024x128) (hc : S1024x128.ShapeCasts S1x1024x128) (y : S4x1024x128.Idx) :
    View.TileAt (S := S4x1024x128) y ![g.val, 0, 0] S1x1024x128.size (shapeCast S1x1024x128 (extractStridedSlice S1024x128 ![0, o] (k0_pay1 (F := Ideal) i x1 x0) h) hc) (stack x0 x1 (i 1).val y) := by
  intro x hx
  obtain ⟨z, r, d, rfl⟩ : ∃ (z : Fin 1) (r : Fin 1024) (d : Fin 128), x = (ix3 z r d : S1x1024x128.Idx) := ⟨x 0, x 1, x 2, eq_ix3 (x : S1x1024x128.Idx)⟩
  refine (slice_at o g ho i x1 x0 h hc z r d).trans ?_
  have e0 : (y 0).val = g.val + z.val := hx 0
  have e1 : (y 1).val = 0 + r.val := hx 1
  have e2 : (y 2).val = 0 + d.val := hx 2
  unfold stack
  congr 1
  · exact Fin.ext (by omega)
  · exact Fin.ext (by dsimp only; omega)

theorem out_eq (i : grid0.Coords) (x0 : Vec Ideal S1024x4096 .bf16) (x1 : Vec Ideal S1x4096x512 .f32) :
    out0_2 i x0 x1 = stack x0 x1 (i 1).val := by
  funext y
  unfold out0_2
  refine View.canon_eq_of_allAt _ y _ (cover0_2 _ _ _ _ y) ?_
  rw [View.ld_unit_zero (by decide), View.ld_unit_zero (by decide)]
  refine View.allAt_cons_unit _ _ _ _ _ (piece_at 384 3 rfl i x1 x0 _ _ y) ?_
  refine View.allAt_cons_unit _ _ _ _ _ (piece_at 256 2 rfl i x1 x0 _ _ y) ?_
  refine View.allAt_cons_unit _ _ _ _ _ (piece_at 128 1 rfl i x1 x0 _ _ y) ?_
  exact View.allAt_cons_unit _ _ _ _ _ (piece_at 0 0 rfl i x1 x0 _ _ y) (View.allAt_nil _ _)

variable (m : (ℓ : Loc nD τ sig) → Buf (Elt Ideal) ℓ) (c : Dev nD)

theorem idx0 : ∀ t : Fin grid0.N, win0_0.index t = ![(grid0.coords t 0).val, 0] := by decide +kernel
theorem idx1 : ∀ t : Fin grid0.N, win0_1.index t = ![1, 0, (grid0.coords t 1).val] := by decide +kernel
theorem idx2 : ∀ t : Fin grid0.N, win0_2.index t = ![(grid0.coords t 1).val, (grid0.coords t 0).val, 0] := by decide +kernel

/-- The projection's input rows. -/
def inp (l : Fin 8192) (k : Fin 4096) : EReal := (m ((c : Thread nD τ).loc main_arg0) : Vec Ideal S8192x4096 .bf16) (ix2 l k)
/-- The layer's weights. -/
def wgt (k : Fin 4096) (n : Fin 12288) : EReal := (m ((c : Thread nD τ).loc main_arg1) : Vec Ideal S2x4096x12288 .f32) (ix3 1 k n)

theorem blk0 (t : Fin cfg0.N) (r : Fin 1024) (k : Fin 4096) :
    (iblk m c 0 t : Vec Ideal S1024x4096 .bf16) (ix2 r k)
      = inp m c ⟨(grid0.coords t 0).val * 1024 + r.val, by have : (grid0.coords t 0).val < 8 := (grid0.coords t 0).isLt; omega⟩ k := by
  unfold inp
  blk_ext [iblk, idx0 t]

theorem blk1 (t : Fin cfg0.N) (k : Fin 4096) (n : Fin 512) :
    (iblk m c 1 t : Vec Ideal S1x4096x512 .f32) (ix3 0 k n)
      = wgt m c k ⟨(grid0.coords t 1).val * 512 + n.val, by have : (grid0.coords t 1).val < 24 := (grid0.coords t 1).isLt; omega⟩ := by
  unfold wgt
  blk_ext [iblk, idx1 t]

/-- The launch's result, from the program's arguments. -/
def resultV : Vec Ideal S96x8192x128 .f32 := fun y =>
  (∑ k : Fin 4096, inp m c (y 1) k * wgt m c k ⟨(y 0).val * 128 + (y 2).val, by
    have h0 : (y 0).val < 96 := (y 0).isLt
    have h2 : (y 2).val < 128 := (y 2).isLt
    omega⟩) * factor ((y 0).val / 4)

theorem resultV_at (h : Fin 96) (l : Fin 8192) (d : Fin 128) (y : S96x8192x128.Idx) (e0 : (y 0).val = h.val) (e1 : (y 1).val = l.val) (e2 : (y 2).val = d.val) :
    resultV m c y = (∑ k : Fin 4096, inp m c l k * wgt m c k ⟨h.val * 128 + d.val, by omega⟩) * factor (h.val / 4) := by
  have e1 : y 1 = l := Fin.ext e1
  unfold resultV
  congr 1
  · refine Finset.sum_congr rfl fun k _ => ?_
    rw [e1]
    congr 2
    exact Fin.ext (by dsimp only; omega)
  · rw [e0]

theorem arr_eq : (dats m 0 c).arrAt 2 cfg0.N = resultV m c := by
  refine (dats m 0 c).arrAt_eq_of_covers 2 _ (by decide +kernel) fun t hf y => ?_
  have h0 : (grid0.coords t 0).val < 8 := (grid0.coords t 0).isLt
  have h1 : (grid0.coords t 1).val < 24 := (grid0.coords t 1).isLt
  have hi := idx2 t
  obtain ⟨g, r, d, rfl⟩ : ∃ (g : Fin 4) (r : Fin 1024) (d : Fin 128), y = (ix3 g r d : S4x1024x128.Idx) := ⟨y 0, y 1, y 2, eq_ix3 (y : S4x1024x128.Idx)⟩
  blk_simp
  rw [after0_2, out_eq]
  refine Eq.trans ?_ (resultV_at m c ⟨(grid0.coords t 1).val * 4 + g.val, by omega⟩ ⟨(grid0.coords t 0).val * 1024 + r.val, by omega⟩ d _ ?_ ?_ ?_).symm
  · show cellQ _ _ _ _ _ = _
    unfold cellQ
    congr 1
    · refine Finset.sum_congr rfl fun k _ => ?_
      refine congrArg₂ (· * ·) (blk0 m c t r k) ((blk1 m c t k _).trans ?_)
      congr 1
      exact Fin.ext (by dsimp only [ix3]; omega)
    · congr 1
      dsimp only
      omega
  · blk_simp [hi]
  · blk_simp [hi]
  · blk_simp [hi]

end Cert.QkvIdeal.Band

end
-- ==== Proof.QkvRef.lean ====
/- The input projection with scaled query heads: the reference at an index. -/
module

public import proofs.«01_k».proof.Proof.Gen.QkvRefIdeal.Run
public import Idealize.ShloMosaic.Lib.Pointwise
public import Idealize.ShloMosaic.Lib.Tactic.CleanTypes
public import proofs.«01_k».proof.Proof.Consts

@[expose] public section

set_option maxRecDepth 16384

noncomputable section

namespace Cert.QkvRefIdeal.Band

open Idealize.ShloMosaic Idealize.ShloMosaic.TcCoe Idealize.ShloMosaic.Tactic Cert.QkvRefIdeal Cert.QkvRefIdeal.Gen Idealize.ShloMosaic.StableHlo

/-- The product, its columns split into heads, heads first. -/
def headsR (x : Vec Ideal S8192x4096 .bf16) (w : Vec Ideal S2x4096x12288 .f32) : FVec Ideal S96x8192x128 .f32 :=
  transpose S96x8192x128 [1, 0, 2] (shapeCast S8192x96x128 (Host.dotGeneral (F := Ideal) (φ₁ := .f32) (φ₂ := .f32) dot_S8192x4096_S4096x12288_S8192x12288_1_0_0_1_n_n none (extf .f32 x bitsLt_bf16_f32) (shapeCast _ (extractStridedSlice S1x4096x12288 ![1, 0, 0] w slices_S2x4096x12288_S1x4096x12288_1_0_0) shapeCasts_S1x4096x12288_S4096x12288)) shapeCasts_S8192x12288_S8192x96x128) transposes_S8192x96x128_S96x8192x128_1_0_2

/-- Which heads are scaled. -/
def scaledR : IVec S96x8192x128 1 :=
  broadcastInDim S96x8192x128 ![0, 1, 2] bcast_S96x1x1_S96x8192x128_0_1_2 (broadcastInDim S96x1x1 ![0] bcast_S96_S96x1x1_0 (cmpi .slt (iotaInDim S96 32 0) (broadcastInDim S96 ![] bcast_S_S96 (constantI S_ 32 32#32))))

/-- The scale, everywhere. -/
def scaleR : FVec Ideal S96x8192x128 .f32 :=
  broadcastInDim S96x8192x128 ![] bcast_S_S96x8192x128 (Host.divf (F := Ideal) (φ := .f32) (constant S_ .f32 0x3F800000#32) (mulf (F := Ideal) (φ := .f32) (Host.sqrt (F := Ideal) (φ := .f32) (constant S_ .f32 0x43000000#32)) (Host.log (F := Ideal) (φ := .f32) (constant S_ .f32 0x40000000#32))))

theorem headsR_at (x : Vec Ideal S8192x4096 .bf16) (w : Vec Ideal S2x4096x12288 .f32) (h : Fin 96) (l : Fin 8192) (d : Fin 128) :
    headsR x w (ix3 h l d) = ∑ k : Fin 4096, x (ix2 l k) * w (ix3 1 k ⟨h.val * 128 + d.val, by omega⟩) := by
  unfold headsR
  clean_types
  pointwise

theorem scaledR_at (h : Fin 96) (l : Fin 8192) (d : Fin 128) :
    scaledR (ix3 h l d) = BitVec.ofBool (decide (h.val < 32)) := by
  unfold scaledR
  clean_types
  pointwise
  revert h
  decide

theorem scale_eq : Ideal.div (Ideal.ofBits .f32 0x3F800000#32) (Ideal.sqrt (Ideal.ofBits .f32 0x43000000#32) * Ideal.log (Ideal.ofBits .f32 0x40000000#32))
    = (((Real.sqrt 128)⁻¹ * (Real.log 2)⁻¹ : ℝ) : EReal) := by
  have h1 : (0:ℝ) < √128 := Real.sqrt_pos.2 (by norm_num)
  have h2 : 0 < Real.log 2 := Real.log_pos (by norm_num)
  rw [Cert.Consts.ofBits_1, Cert.Consts.ofBits_128, Cert.Consts.ofBits_2, Ideal.sqrt_coe, if_neg (by norm_num),
    Ideal.log_coe, if_neg (by norm_num), ← EReal.coe_mul, Ideal.div_coe (by positivity), ← EReal.coe_mul, one_mul, one_div, mul_inv]

theorem scaleR_at (h : Fin 96) (l : Fin 8192) (d : Fin 128) :
    scaleR (ix3 h l d) = (((Real.sqrt 128)⁻¹ * (Real.log 2)⁻¹ : ℝ) : EReal) := by
  rw [← scale_eq]
  unfold scaleR
  clean_types
  pointwise

/-- The reference's result. -/
def resultR (x : Vec Ideal S8192x4096 .bf16) (w : Vec Ideal S2x4096x12288 .f32) : FVec Ideal S96x8192x128 .f32 :=
  select scaledR (mulf (headsR x w) scaleR) (headsR x w)

theorem resultR_at (x : Vec Ideal S8192x4096 .bf16) (w : Vec Ideal S2x4096x12288 .f32) (h : Fin 96) (l : Fin 8192) (d : Fin 128) :
    resultR x w (ix3 h l d)
      = (∑ k : Fin 4096, x (ix2 l k) * w (ix3 1 k ⟨h.val * 128 + d.val, by omega⟩)) * (if h.val < 32 then (((Real.sqrt 128)⁻¹ * (Real.log 2)⁻¹ : ℝ) : EReal) else 1) := by
  unfold resultR
  clean_types
  pointwise
  rw [scaledR_at, headsR_at, scaleR_at]
  by_cases hh : h.val < 32 <;> simp [hh, Scalar.select]

end Cert.QkvRefIdeal.Band

end
-- ==== Proof.QkvEqual.lean ====
/- The input projection with scaled query heads: the kernel's and the reference's results are equal. -/
module

public import proofs.«01_k».proof.Proof.QkvBlock
public import proofs.«01_k».proof.Proof.QkvRef

@[expose] public section

noncomputable section

namespace Cert.QkvEqual

open Idealize.ShloMosaic Idealize.ShloMosaic.TcCoe Idealize.ShloMosaic.Tactic Cert.QkvIdeal

theorem value_eq (m : (ℓ : Loc nD τ sig) → Buf (Elt Ideal) ℓ) (c : Dev nD) :
    Cert.QkvRefIdeal.Band.resultR (m ((c : Thread nD τ).loc main_arg0)) (m ((c : Thread nD τ).loc main_arg1))
      = Cert.QkvIdeal.Band.resultV m c := by
  funext y
  obtain ⟨h, l, d, rfl⟩ : ∃ (h : Fin 96) (l : Fin 8192) (d : Fin 128), y = ix3 h l d := ⟨y 0, y 1, y 2, eq_ix3 y⟩
  refine (Cert.QkvRefIdeal.Band.resultR_at _ _ h l d).trans ((Cert.QkvIdeal.Band.resultV_at m c h l d _ rfl rfl rfl).trans ?_).symm
  unfold Cert.QkvIdeal.Band.factor Cert.QkvIdeal.Band.inp Cert.QkvIdeal.Band.wgt
  congr 1
  exact if_congr (by omega) rfl rfl

end Cert.QkvEqual

end
-- ==== Proof.UpRange.lean ====
/- The precondition read back: every tile's expert is one of the sixteen. -/
module

public import proofs.«01_k».proof.Proof.Gen.Pre_experts_in_range
public import Idealize.ShloMosaic.Lib.Pointwise
public import Idealize.ShloMosaic.Lib.Tactic.CleanTypes
public import Idealize.ShloMosaic.Lib.ReduceAll

@[expose] public section

noncomputable section

namespace Cert.Pre_experts_in_range

open Idealize.ShloMosaic Idealize.ShloMosaic.TcCoe

/-- A word between zero and sixteen is the word of a number below sixteen. -/
theorem word_lt (a : BitVec 32) (h0 : (0 : Int) ≤ a.toInt) (h1 : a.toInt < 16) : a.toNat < 16 := by
  have : a.toInt = if 2 * a.toNat < 2 ^ 32 then (a.toNat : Int) else (a.toNat : Int) - (2 ^ 32 : Nat) := BitVec.toInt_eq_toNat_cond a
  have hl := a.isLt
  split at this <;> omega

attribute [local instance] Cert.Pre_experts_in_range.Gen.facts

theorem expert_lt {F : FTy → Type} [FloatOps F] (xs : FVec F S20480x4096 .bf16) (g : FVec F S20480x768 .f32) (w : FVec F S4x16x4096x768 .f32) (te : IVec S80 32) (nt : IVec S1 32)
    (h : fn (F := F) xs g w te nt = fun _ => 1#1) (j : Fin 80) : (te (ix1 j)).toNat < 16 := by
  have hj := congrFun h (ix1 j)
  unfold fn at hj
  have hj' : IntOp.andi (IntOp.cmpi .sge (te (ix1 j)) 0#32) (IntOp.cmpi .slt (te (ix1 j)) 16#32) = 1#1 := hj
  have hb : BitVec.ofBool ((0#32).sle (te (ix1 j))) &&& BitVec.ofBool ((te (ix1 j)).slt 16#32) = 1#1 := hj'
  have h2 : (0#32).sle (te (ix1 j)) = true ∧ (te (ix1 j)).slt 16#32 = true := by
    revert hb
    cases (0#32).sle (te (ix1 j)) <;> cases (te (ix1 j)).slt 16#32 <;> decide
  simp only [BitVec.sle, BitVec.slt, decide_eq_true_eq] at h2
  exact word_lt _ h2.1 h2.2

end Cert.Pre_experts_in_range

end
-- ==== Proof.UpIdealEntry.lean ====
/- The launch of the gated up-projection on core `c`: its arrays when the region is entered, the tables read off
   the launch memory, the blocks the windows fetch. -/
module

public import proofs.«01_k».proof.Proof.Gen.UpIdeal.Launch
public import proofs.«01_k».proof.Proof.Gen.UpIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.UpIdeal.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.UpIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 3 (result 0 (%1)) is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_3 reads0_3 hreads0_3 0 (by decide) (by decide) (Pipeline.Window.sep_of_coord cc0_transform_3 0 0 (fun _ => rfl) (by decide)) (P := 1) (m := 0) (by decide) rfl t).mpr (Nat.mod_one _) : ∀ t : Fin grid0.N, Pipeline.Window.flushOf grid0 true cc0_transform_3 t = true)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_up (grid0.coords t) (Memref.whole main_arg3) (Memref.isWhole_whole _) (Memref.whole main_arg4) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3))

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S80 .i32 := Memref.whole main_arg3
abbrev htbM0_0 : tbM0_0.IsWhole := Memref.isWhole_whole _
abbrev tbM0_1 : Memref sig .tc .smem S1 .i32 := Memref.whole main_arg4
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post . -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) h

/-! ## The kernel body on any staging memrefs: a subtype the run finds -/

/-- One staging buffer of output window 3, through which its contents are stated (`View.read_writes_of_cover`: the
    choice does not matter). -/
abbrev VO0_3 : View sig .tc .vmem S256x768 .bf16 := (Memref.whole cc0_stg3_0 : Memref sig .tc .vmem S256x768 .bf16).view
/-- Each window's current staging memref at point `t`, spelled as the pipeline passes it (`bodyAt0`), and its wholeness. -/
abbrev ms0_0 (hO : Ok m) (t : Fin (cfgM m hO).N) : Memref sig .tc .vmem S256x4096 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S256x768 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x4096x768 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S256x768 .bf16 := spec0_3.stage ((cfgM m hO).slots t 3)
abbrev hs0_3 (hO : Ok m) (t : Fin (cfgM m hO).N) : (ms0_3 m hO t).IsWhole := hstage0_3 (((cfgM m hO).slots t 3).cast nbuf0_3)

end Cert.UpIdeal.Up

end
-- ==== Proof.UpIdealBody.lean ====
/- The body of the gated up-projection, run on any staging buffers. -/
module

public import proofs.«01_k».proof.Proof.UpIdealEntry
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.UpIdeal.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.UpIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The number of tiles in use, as the body loads it. -/
abbrev nt {c : Dev nD} (xt1 : TbBuf0 (F := F) c tbM0_1) : Elt F .i32 :=
  (tbM0_1.access (Rect.unit (s := S1) ![0] S1.size inb_S1_S1_0)).read (Elt F) xt1 (Shape.Idx.first (numel1_S1.symm ▸ Nat.one_pos))

set_option maxHeartbeats 1000000 in
/-- A tile in use: its pieces, with the run that leaves them. -/
noncomputable def runUsed (c : Dev nD) (i : grid0.Coords) (arg3 : Memref sig .tc .vmem S256x4096 .bf16) (harg3 : arg3.IsWhole) (arg4 : Memref sig .tc .vmem S256x768 .f32) (harg4 : arg4.IsWhole) (arg5 : Memref sig .tc .vmem S1x4096x768 .f32) (harg5 : arg5.IsWhole) (arg6 : Memref sig .tc .vmem S256x768 .bf16) (harg6 : arg6.IsWhole)
    (x0 : Vec F S256x4096 .bf16) (x1 : Vec F S256x768 .f32) (x2 : Vec F S1x4096x768 .f32) (xt0 : TbBuf0 (F := F) c tbM0_0) (xt1 : TbBuf0 (F := F) c tbM0_1)
    (h1 : k0_cond1 i (nt xt1) = 1#1) (h2 : ¬k0_cond2 i (nt xt1) = 1#1) :
    { L3 : List (View.Piece (Elt F) S256x768 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ tbPt0 c tbM0_0 xt0 ∗ tbPt0 c tbM0_1 xt1) -∗ K ⟨⟩))
          ⊢ wp frame (wpE (defs₀ (F := F)) Variants.none c none) E (cc0_moe_up i tbM0_0 htbM0_0 tbM0_1 htbM0_1 arg3 harg3 arg4 harg4 arg5 harg5 arg6 harg6) K } := by
  refine ⟨?_, fun E K => ?run⟩
  case run =>
    simp only [cc0_moe_up_eq_skeleton]; unfold cc0_moe_up_skel
    unfold owns
    iintro ⟨⟨%f0, %hf0, H0⟩, ⟨%f1, %hf1, H1⟩, ⟨%f2, %hf2, H2⟩, ⟨%d3, %f3, -, H3⟩, HT0, HT1, Hk⟩
    obtain rfl := harg3.eq_unread hf0; obtain rfl := harg4.eq_unread hf1; obtain rfl := harg5.eq_unread hf2
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HT0]; · iexact HT0
    iexact HT1

set_option maxHeartbeats 1000000 in
/-- A tile past the last in use: its pieces, with the run that leaves them. -/
noncomputable def runUnused (c : Dev nD) (i : grid0.Coords) (arg3 : Memref sig .tc .vmem S256x4096 .bf16) (harg3 : arg3.IsWhole) (arg4 : Memref sig .tc .vmem S256x768 .f32) (harg4 : arg4.IsWhole) (arg5 : Memref sig .tc .vmem S1x4096x768 .f32) (harg5 : arg5.IsWhole) (arg6 : Memref sig .tc .vmem S256x768 .bf16) (harg6 : arg6.IsWhole)
    (x0 : Vec F S256x4096 .bf16) (x1 : Vec F S256x768 .f32) (x2 : Vec F S1x4096x768 .f32) (xt0 : TbBuf0 (F := F) c tbM0_0) (xt1 : TbBuf0 (F := F) c tbM0_1)
    (h1 : ¬k0_cond1 i (nt xt1) = 1#1) (h2 : k0_cond2 i (nt xt1) = 1#1) :
    { L3 : List (View.Piece (Elt F) S256x768 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ tbPt0 c tbM0_0 xt0 ∗ tbPt0 c tbM0_1 xt1) -∗ K ⟨⟩))
          ⊢ wp frame (wpE (defs₀ (F := F)) Variants.none c none) E (cc0_moe_up i tbM0_0 htbM0_0 tbM0_1 htbM0_1 arg3 harg3 arg4 harg4 arg5 harg5 arg6 harg6) K } := by
  refine ⟨?_, fun E K => ?run⟩
  case run =>
    simp only [cc0_moe_up_eq_skeleton]; unfold cc0_moe_up_skel
    unfold owns
    iintro ⟨⟨%f0, %hf0, H0⟩, ⟨%f1, %hf1, H1⟩, ⟨%f2, %hf2, H2⟩, ⟨%d3, %f3, -, H3⟩, HT0, HT1, Hk⟩
    obtain rfl := harg3.eq_unread hf0; obtain rfl := harg4.eq_unread hf1; obtain rfl := harg5.eq_unread hf2
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HT0]; · iexact HT0
    iexact HT1

end Cert.UpIdeal.Up

end
-- ==== Proof.UpIdealFrame.lean ====
/- The gated up-projection: what its output holds point by point, the run, and the argument arrays unchanged. -/
module

public import proofs.«01_k».proof.Proof.UpIdealBody
public import Idealize.ShloMosaic.Lib.Claim
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.UpIdeal.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.UpIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two conditions of the body exclude each other, and one of them holds. -/
theorem cond_not (i : grid0.Coords) (w : BitVec 32) (h : k0_cond1 i w = 1#1) : ¬k0_cond2 i w = 1#1 := by
  revert h
  unfold k0_cond1 k0_cond2
  generalize BitVec.ofNat 32 (i 0).val = a
  show (BitVec.ofBool (BitVec.setWidth 32 (BitVec.ofBool (a.slt w)) != 0#32) = 1#1) → ¬(BitVec.ofBool (BitVec.setWidth 32 (BitVec.ofBool (w.sle a)) != 0#32) = 1#1)
  rw [show w.sle a = !a.slt w from by simp only [BitVec.slt, BitVec.sle]; by_cases h : w.toInt ≤ a.toInt <;> simp [h] <;> omega]
  cases a.slt w <;> decide

theorem cond_or (i : grid0.Coords) (w : BitVec 32) (h : ¬k0_cond1 i w = 1#1) : k0_cond2 i w = 1#1 := by
  revert h
  unfold k0_cond1 k0_cond2
  generalize BitVec.ofNat 32 (i 0).val = a
  show ¬(BitVec.ofBool (BitVec.setWidth 32 (BitVec.ofBool (a.slt w)) != 0#32) = 1#1) → (BitVec.ofBool (BitVec.setWidth 32 (BitVec.ofBool (w.sle a)) != 0#32) = 1#1)
  rw [show w.sle a = !a.slt w from by simp only [BitVec.slt, BitVec.sle]; by_cases h : w.toInt ≤ a.toInt <;> simp [h] <;> omega]
  cases a.slt w <;> decide

theorem coverUsed (c : Dev nD) (i : grid0.Coords) (arg3 : Memref sig .tc .vmem S256x4096 .bf16) (harg3 : arg3.IsWhole) (arg4 : Memref sig .tc .vmem S256x768 .f32) (harg4 : arg4.IsWhole) (arg5 : Memref sig .tc .vmem S1x4096x768 .f32) (harg5 : arg5.IsWhole) (arg6 : Memref sig .tc .vmem S256x768 .bf16) (harg6 : arg6.IsWhole)
    (x0 : Vec F S256x4096 .bf16) (x1 : Vec F S256x768 .f32) (x2 : Vec F S1x4096x768 .f32) (xt0 : TbBuf0 (F := F) c tbM0_0) (xt1 : TbBuf0 (F := F) c tbM0_1)
    (h1 : k0_cond1 i (nt xt1) = 1#1) (y : S256x768.Idx) :
    ∃ pc ∈ (runUsed c i arg3 harg3 arg4 harg4 arg5 harg5 arg6 harg6 x0 x1 x2 xt0 xt1 h1 (cond_not _ _ h1)).1, y ∈ pc.1.set :=
  View.cover_of_tiledL (runUsed c i arg3 harg3 arg4 harg4 arg5 harg5 arg6 harg6 x0 x1 x2 xt0 xt1 h1 (cond_not _ _ h1)).1 S256x768.size (by sl_kernel_rfl) y

theorem coverUnused (c : Dev nD) (i : grid0.Coords) (arg3 : Memref sig .tc .vmem S256x4096 .bf16) (harg3 : arg3.IsWhole) (arg4 : Memref sig .tc .vmem S256x768 .f32) (harg4 : arg4.IsWhole) (arg5 : Memref sig .tc .vmem S1x4096x768 .f32) (harg5 : arg5.IsWhole) (arg6 : Memref sig .tc .vmem S256x768 .bf16) (harg6 : arg6.IsWhole)
    (x0 : Vec F S256x4096 .bf16) (x1 : Vec F S256x768 .f32) (x2 : Vec F S1x4096x768 .f32) (xt0 : TbBuf0 (F := F) c tbM0_0) (xt1 : TbBuf0 (F := F) c tbM0_1)
    (h1 : ¬k0_cond1 i (nt xt1) = 1#1) (y : S256x768.Idx) :
    ∃ pc ∈ (runUnused c i arg3 harg3 arg4 harg4 arg5 harg5 arg6 harg6 x0 x1 x2 xt0 xt1 h1 (cond_or _ _ h1)).1, y ∈ pc.1.set :=
  View.cover_of_tiledL (runUnused c i arg3 harg3 arg4 harg4 arg5 harg5 arg6 harg6 x0 x1 x2 xt0 xt1 h1 (cond_or _ _ h1)).1 S256x768.size (by sl_kernel_rfl) y

/-- What the body leaves in the output's staging buffer: the pieces of the case the point is in. -/
def out0 (c : Dev nD) (i : grid0.Coords) (arg3 : Memref sig .tc .vmem S256x4096 .bf16) (harg3 : arg3.IsWhole) (arg4 : Memref sig .tc .vmem S256x768 .f32) (harg4 : arg4.IsWhole) (arg5 : Memref sig .tc .vmem S1x4096x768 .f32) (harg5 : arg5.IsWhole) (arg6 : Memref sig .tc .vmem S256x768 .bf16) (harg6 : arg6.IsWhole)
    (x0 : Vec F S256x4096 .bf16) (x1 : Vec F S256x768 .f32) (x2 : Vec F S1x4096x768 .f32) (xt0 : TbBuf0 (F := F) c tbM0_0) (xt1 : TbBuf0 (F := F) c tbM0_1) : Vec F S256x768 .bf16 :=
  if h1 : k0_cond1 i (nt xt1) = 1#1 then
    VO0_3.read (Elt F) (VO0_3.writes (Elt F) VO0_3.junk (runUsed c i arg3 harg3 arg4 harg4 arg5 harg5 arg6 harg6 x0 x1 x2 xt0 xt1 h1 (cond_not _ _ h1)).1)
  else VO0_3.read (Elt F) (VO0_3.writes (Elt F) VO0_3.junk (runUnused c i arg3 harg3 arg4 harg4 arg5 harg5 arg6 harg6 x0 x1 x2 xt0 xt1 h1 (cond_or _ _ h1)).1)

set_option maxHeartbeats 1000000 in
/-- The body's triple, its output's buffer at `out0`. -/
theorem body_triple (c : Dev nD) (i : grid0.Coords) (arg3 : Memref sig .tc .vmem S256x4096 .bf16) (harg3 : arg3.IsWhole) (arg4 : Memref sig .tc .vmem S256x768 .f32) (harg4 : arg4.IsWhole) (arg5 : Memref sig .tc .vmem S1x4096x768 .f32) (harg5 : arg5.IsWhole) (arg6 : Memref sig .tc .vmem S256x768 .bf16) (harg6 : arg6.IsWhole)
    (x0 : Vec F S256x4096 .bf16) (x1 : Vec F S256x768 .f32) (x2 : Vec F S1x4096x768 .f32) (xt0 : TbBuf0 (F := F) c tbM0_0) (xt1 : TbBuf0 (F := F) c tbM0_1) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare (out0 c i arg3 harg3 arg4 harg4 arg5 harg5 arg6 harg6 x0 x1 x2 xt0 xt1) ∗ tbPt0 c tbM0_0 xt0 ∗ tbPt0 c tbM0_1 xt1) -∗ K ⟨⟩))
      ⊢ wp frame (wpE (defs₀ (F := F)) Variants.none c none) E (cc0_moe_up i tbM0_0 htbM0_0 tbM0_1 htbM0_1 arg3 harg3 arg4 harg4 arg5 harg5 arg6 harg6) K := by
  by_cases h1 : k0_cond1 i (nt xt1) = 1#1
  · rw [show out0 c i arg3 harg3 arg4 harg4 arg5 harg5 arg6 harg6 x0 x1 x2 xt0 xt1 = _ from dif_pos h1]
    iintro ⟨H0, H1, H2, H3, HT0, HT1, Hk⟩
    iapply (runUsed c i arg3 harg3 arg4 harg4 arg5 harg5 arg6 harg6 x0 x1 x2 xt0 xt1 h1 (cond_not _ _ h1)).2 E K
    isplitl [H0]; · iexact H0
    isplitl [H1]; · iexact H1
    isplitl [H2]; · iexact H2
    isplitl [H3]; · iexact H3
    isplitl [HT0]; · iexact HT0
    isplitl [HT1]; · iexact HT1
    iintro ⟨H0, H1, H2, ⟨%e3, H3⟩, HT0, HT1⟩
    iapply Hk
    isplitl [H0]; · iexact H0
    isplitl [H1]; · iexact H1
    isplitl [H2]; · iexact H2
    isplitl [H3]
    · unfold owns; iexists _; isplitr
      swap; · iexact H3
      ipureintro; exact View.read_writes_of_cover _ _ _ _ _ (coverUsed c i arg3 harg3 arg4 harg4 arg5 harg5 arg6 harg6 x0 x1 x2 xt0 xt1 h1)
    isplitl [HT0]; · iexact HT0
    iexact HT1
  · rw [show out0 c i arg3 harg3 arg4 harg4 arg5 harg5 arg6 harg6 x0 x1 x2 xt0 xt1 = _ from dif_neg h1]
    iintro ⟨H0, H1, H2, H3, HT0, HT1, Hk⟩
    iapply (runUnused c i arg3 harg3 arg4 harg4 arg5 harg5 arg6 harg6 x0 x1 x2 xt0 xt1 h1 (cond_or _ _ h1)).2 E K
    isplitl [H0]; · iexact H0
    isplitl [H1]; · iexact H1
    isplitl [H2]; · iexact H2
    isplitl [H3]; · iexact H3
    isplitl [HT0]; · iexact HT0
    isplitl [HT1]; · iexact HT1
    iintro ⟨H0, H1, H2, ⟨%e3, H3⟩, HT0, HT1⟩
    iapply Hk
    isplitl [H0]; · iexact H0
    isplitl [H1]; · iexact H1
    isplitl [H2]; · iexact H2
    isplitl [H3]
    · unfold owns; iexists _; isplitr
      swap; · iexact H3
      ipureintro; exact View.read_writes_of_cover _ _ _ _ _ (coverUnused c i arg3 harg3 arg4 harg4 arg5 harg5 arg6 harg6 x0 x1 x2 xt0 xt1 h1)
    isplitl [HT0]; · iexact HT0
    iexact HT1

/-! ## What the outputs hold after each point -/

/-- What the outputs' staging buffers hold after the body at point `t`: the run's contents at
    the point's memrefs and input blocks. -/
def outsAt0 (hO : Ok m) (c : Dev nD) (t : Fin (cfgM m hO).N) : Vec F S256x768 .bf16 :=
  out0 c (grid0.coords t) (ms0_0 m hO t) (hs0_0 m hO t) (ms0_1 m hO t) (hs0_1 m hO t) (ms0_2 m hO t) (hs0_2 m hO t) (ms0_3 m hO t) (hs0_3 m hO t) (iblk m hO c 0 t) (iblk m hO c 1 t) (iblk m hO c 2 t) (tbl m 0) (tbl m 1)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => (outsAt0 m hO c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t))

/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).Φ t.succ = (dats m hO 0 c).Φ t.castSucc from rfl,
    show (dats m hO 0 c).owesAt () t.succ = (dats m hO 0 c).owesAt () t.castSucc from rfl,
    after0_0, after0_1, after0_2, after0_3]
  rw [show (dats m hO 0 c).Φ t.castSucc = iprop(Pipeline.ΦA spec0 c ∗ Pipeline.ΦT pre0 (tbl m) c) from rfl, PhiT0_eq]
  unfold outsAt0
  iintro ⟨⟨HΦ, ⟨HT0, HT1⟩⟩, Ho, ⟨%d0, H0⟩, ⟨%d1, H1⟩, ⟨%d2, H2⟩, ⟨%d3, H3⟩⟩
  iapply (body_triple c (grid0.coords t) _ _ _ _ _ _ _ _ (iblk m hO c 0 t) (iblk m hO c 1 t) (iblk m hO c 2 t) (tbl m 0) (tbl m 1) Set.univ _)
  isplitl [H0]; · iexact H0
  isplitl [H1]; · iexact H1
  isplitl [H2]; · iexact H2
  isplitl [H3]; · iexists _; iexact H3
  isplitl [HT0]; · iexact HT0
  isplitl [HT1]; · iexact HT1
  iintro ⟨H0, H1, H2, H3, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  iexact H3

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- No point leaves the output's buffer as it found it. -/
theorem idle0_3 (hO : Ok m) (i : grid0.Coords) : (cfgM m hO).idle 3 i = false := by
  show (!(k0_cond1 i ((tbl m).atD 1 ![0]) == 1#1) && !(k0_cond2 i ((tbl m).atD 1 ![0]) == 1#1)) = false
  by_cases h : k0_cond1 i ((tbl m).atD 1 ![0]) = 1#1
  · rw [h]; rfl
  · rw [cond_or _ _ h]; exact Bool.and_false _

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  unfold bodyPost
  refine sep_mono .rfl (sep_mono .rfl (sep_mono .rfl (sep_mono .rfl (sep_mono .rfl ?_))))
  dsimp only
  split
  · rename_i heq
    exact absurd (heq.symm.trans (idle0_3 m hO (grid0.coords t))) (by decide)
  · exact .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

/-- The argument arrays end unchanged and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.UpIdeal.Up

end
-- ==== Proof.UpIdealOk.lean ====
/- The gated up-projection: the tables' words as launched, and the weights' blocks inside their array. -/
module

public import proofs.«01_k».proof.Proof.UpIdealFrame
public import proofs.«01_k».proof.Proof.UpRange
public import proofs.«01_k».proof.Defs

@[expose] public section

set_option maxRecDepth 16384

noncomputable section

namespace Cert.UpIdeal.Up

open Idealize.ShloMosaic Idealize.ShloMosaic.TcCoe Idealize.ShloMosaic.Tactic Cert.UpIdeal Cert.UpIdeal.Gen

variable {F : FTy → Type} [FloatOps F]

variable (m : (ℓ : Loc nD τ sig) → Buf (Elt F) ℓ)

/-- A tile's expert, as launched. -/
def expertW (j : Fin 80) : BitVec 32 := (m (((0 : Dev nD) : Thread nD τ).loc main_arg3) : Vec F S80 .i32) (ix1 j)

theorem tbl_expert (j : Fin 80) : (tbl m 0 : Vec F S80 .i32) (ix1 j) = expertW m j := by
  unfold tbl expertW
  exact congrFun (V_main_arg3 m 0) _

theorem emb_at (i : grid0.Coords) :
    (Rect.unit (s := S80) (k0_off1 i) S1.size (k0_off1_inb i)).emb (Shape.Idx.first (numel1_S1.symm ▸ Nat.one_pos)) = ix1 (i 0) := by
  have h0 : (i 0).val < 80 := (i 0).isLt
  refine (eq_ix1 _).trans (congrArg ix1 (Fin.ext ?_))
  have hz : ∀ x : S1.Idx, (x 0).val = 0 := fun x => Nat.lt_one_iff.mp (x 0).isLt
  show (k0_off1 i) 0 + 1 * _ = _
  rw [hz]
  show (BitVec.ofNat 32 (i 0).val).toNat + 1 * 0 = _
  rw [BitVec.toNat_ofNat]
  omega

theorem expert_read (i : grid0.Coords) : (tbl m).at 0 (Rect.unit (s := S80) (k0_off1 i) S1.size (k0_off1_inb i)) numel1_S1 = expertW m (i 0) := by
  have h0 : (i 0).val < 80 := (i 0).isLt
  refine Eq.trans ?_ (tbl_expert m (i 0))
  exact congrArg (tbl m 0 : Vec F S80 .i32) (emb_at i)

theorem index2 (hr : ∀ j, (expertW m j).toNat < 16) (i : grid0.Coords) :
    cc0_transform_2 k0_off1_inb numel1_S1 (tbl m) i = ![16 + (expertW m (i 0)).toNat, 0, 0] := by
  have h := expert_read m i
  have hl := hr (i 0)
  show ![(Scalar.addi 16#32 ((tbl m).at 0 (Rect.unit (s := S80) (k0_off1 i) S1.size (k0_off1_inb i)) numel1_S1)).toNat, 0, 0] = _
  rw [h]
  have : (Scalar.addi 16#32 (expertW m (i 0))).toNat = 16 + (expertW m (i 0)).toNat := by
    show (16#32 + expertW m (i 0)).toNat = _
    rw [BitVec.toNat_add]
    show (16 + (expertW m (i 0)).toNat) % 2 ^ 32 = _
    omega
  rw [this]

/-- The weights' blocks lie inside their array when every expert is one of the sixteen. -/
theorem ok_of (hr : ∀ j, (expertW m j).toNat < 16) : Ok m := by
  intro i
  refine ⟨fun a => ?_, Or.inl rfl⟩
  rw [index2 m hr i]
  have hl := hr (i 0)
  match a with
  | ⟨0, _⟩ => show (16 + (expertW m (i 0)).toNat + 1) * 1 ≤ 64; omega
  | ⟨1, _⟩ => show (0 + 1) * 4096 ≤ 4096; omega
  | ⟨2, _⟩ => show (0 + 1) * 768 ≤ 768; omega

end Cert.UpIdeal.Up

namespace Cert.UpIdeal.Up

open Idealize.ShloMosaic Idealize.ShloMosaic.TcCoe Cert.UpIdeal Cert.UpIdeal.Gen

theorem experts_lt (m : (ℓ : Loc nD τ sig) → Buf (Elt Ideal) ℓ) (h : Pre_UpIdeal (hPre_experts_in_range := Cert.Pre_experts_in_range.Gen.facts) m) (j : Fin 80) :
    (expertW m j).toNat < 16 :=
  Cert.Pre_experts_in_range.expert_lt _ _ _ _ _ (h 0) j

end Cert.UpIdeal.Up

end
-- ==== Proof.UpBlock.lean ====
/- The gated up-projection: a tile's output at an index, and the result array. -/
module

public import proofs.«01_k».proof.Proof.UpIdealOk
public import Idealize.ShloMosaic.Lib.Pipeline.ValueKit
public import Idealize.ShloMosaic.Lib.Pipeline.Covers
public import Idealize.ShloMosaic.Lib.WholeRead
public import Idealize.ShloMosaic.Lib.Pointwise
public import Idealize.ShloMosaic.Lib.Tactic.WordOmega
public import Idealize.ShloMosaic.Lib.Tactic.CleanTypes

@[expose] public section

set_option maxRecDepth 16384

noncomputable section

namespace Cert.UpIdeal.Up

open Idealize.ShloMosaic Idealize.ShloMosaic.TcCoe Idealize.ShloMosaic.Tactic Cert.UpIdeal Cert.UpIdeal.Gen

/-- A load of a whole staging buffer reads what it holds. -/
theorem readAt_whole {s : Shape} {e : EltTy} {sp : Space} (M : Memref sig .tc sp s e) (hM : M.IsWhole) {off : Fin s.rank → Nat} (h0 : off = fun _ => 0)
    (inb : ∀ a, off a + s.size a ≤ s.size a) (X : s.Idx → Elt Ideal e) :
    View.readAt (Elt Ideal) M.view (Rect.unit (s := s) off s.size inb).toLoadRect (hM.unread X) = X := by
  refine Eq.trans ?_ (View.ld_unit_zero h0 inb X)
  funext x
  exact hM.readAt_unread X _ x

/-- What the body leaves: the gated product, or zeros past the tiles in use. -/
theorem out0_eq (c : Dev nD) (i : grid0.Coords) (arg3 : Memref sig .tc .vmem S256x4096 .bf16) (harg3 : arg3.IsWhole) (arg4 : Memref sig .tc .vmem S256x768 .f32) (harg4 : arg4.IsWhole) (arg5 : Memref sig .tc .vmem S1x4096x768 .f32) (harg5 : arg5.IsWhole) (arg6 : Memref sig .tc .vmem S256x768 .bf16) (harg6 : arg6.IsWhole)
    (x0 : Vec Ideal S256x4096 .bf16) (x1 : Vec Ideal S256x768 .f32) (x2 : Vec Ideal S1x4096x768 .f32) (xt0 : TbBuf0 (F := Ideal) c tbM0_0) (xt1 : TbBuf0 (F := Ideal) c tbM0_1) :
    out0 c i arg3 harg3 arg4 harg4 arg5 harg5 arg6 harg6 x0 x1 x2 xt0 xt1
      = if k0_cond1 i (nt xt1) = 1#1 then k0_pay1 x0 x2 x1 else k0_pay2 (F := Ideal) := by
  unfold out0
  split
  · rename_i h1
    refine (View.read_writes_eq_canon _ _ _ (coverUsed c i arg3 harg3 arg4 harg4 arg5 harg5 arg6 harg6 x0 x1 x2 xt0 xt1 h1)).trans ?_
    unfold runUsed
    dsimp only
    rw [View.canon_cons_unit_zero (by decide), readAt_whole arg3 harg3 (by decide), readAt_whole arg4 harg4 (by decide), readAt_whole arg5 harg5 (by decide)]
  · rename_i h1
    refine (View.read_writes_eq_canon _ _ _ (coverUnused c i arg3 harg3 arg4 harg4 arg5 harg5 arg6 harg6 x0 x1 x2 xt0 xt1 h1)).trans ?_
    unfold runUnused
    dsimp only
    rw [View.canon_cons_unit_zero (by decide)]

theorem pay1_apply (x0 : Vec Ideal S256x4096 .bf16) (x2 : Vec Ideal S1x4096x768 .f32) (x1 : Vec Ideal S256x768 .f32) (r : Fin 256) (f : Fin 768) :
    k0_pay1 (F := Ideal) x0 x2 x1 (ix2 r f) = x1 (ix2 r f) * ∑ k : Fin 4096, x0 (ix2 r k) * x2 (ix3 0 k f) := by
  pointwise [k0_pay1]

theorem pay2_apply (r : Fin 256) (f : Fin 768) : k0_pay2 (F := Ideal) (ix2 r f) = (0 : EReal) := by
  unfold k0_pay2
  exact Ideal.ofBits_zero .bf16

variable (m : (ℓ : Loc nD τ sig) → Buf (Elt Ideal) ℓ) (hO : Ok m) (c : Dev nD)

theorem index0_0 : ∀ t : Fin grid0.N, cc0_transform_0 (grid0.coords t) = ![(grid0.coords t 0).val, 0] := by decide +kernel
theorem index0_1 : ∀ t : Fin grid0.N, cc0_transform_1 (grid0.coords t) = ![(grid0.coords t 0).val, 0] := by decide +kernel
theorem index0_3 : ∀ t : Fin grid0.N, cc0_transform_3 (grid0.coords t) = ![(grid0.coords t 0).val, 0] := by decide +kernel
theorem idx0 (t : Fin grid0.N) : ((cfgM m hO).win 0).index t = ![(grid0.coords t 0).val, 0] := index0_0 t
theorem idx1 (t : Fin grid0.N) : ((cfgM m hO).win 1).index t = ![(grid0.coords t 0).val, 0] := index0_1 t
theorem idx2 (hr : ∀ j, (expertW m j).toNat < 16) (t : Fin grid0.N) : ((cfgM m hO).win 2).index t = ![16 + (expertW m (grid0.coords t 0)).toNat, 0, 0] := index2 m hr (grid0.coords t)
theorem idx3 (t : Fin grid0.N) : ((cfgM m hO).win 3).index t = ![(grid0.coords t 0).val, 0] := index0_3 t

/-- The rows, sorted by expert. -/
def rowsV (l : Fin 20480) (k : Fin 4096) : EReal := (m ((c : Thread nD τ).loc main_arg0) : Vec Ideal S20480x4096 .bf16) (ix2 l k)
/-- The rows' gates. -/
def gateV (l : Fin 20480) (f : Fin 768) : EReal := (m ((c : Thread nD τ).loc main_arg1) : Vec Ideal S20480x768 .f32) (ix2 l f)
/-- The layer's weights of an expert. -/
def wgtV (e : Fin 16) (k : Fin 4096) (f : Fin 768) : EReal := (m ((c : Thread nD τ).loc main_arg2) : Vec Ideal S4x16x4096x768 .f32) (ix4 1 e k f)
/-- How many tiles are in use. -/
def usedW : BitVec 32 := (m (((0 : Dev nD) : Thread nD τ).loc main_arg4) : Vec Ideal S1 .i32) (ix1 0)

theorem nt_eq : nt (F := Ideal) (c := c) (tbl m 1) = usedW m := by
  unfold usedW
  refine Eq.trans ?_ (congrFun (V_main_arg4 m 0) _)
  show (tbl m 1 : Vec Ideal S1 .i32) _ = (tbl m 1 : Vec Ideal S1 .i32) (ix1 0)
  exact congrArg (tbl m 1 : Vec Ideal S1 .i32) ((eq_ix1 _).trans (congrArg ix1 (Subsingleton.elim (α := Fin 1) _ _)))

theorem cond1_iff (i : grid0.Coords) (w : BitVec 32) : k0_cond1 i w = 1#1 ↔ BitVec.slt (BitVec.ofNat 32 (i 0).val) w = true := by
  show (BitVec.ofBool (BitVec.setWidth 32 (BitVec.ofBool ((BitVec.ofNat 32 (i 0).val).slt w)) != 0#32) = 1#1) ↔ _
  cases (BitVec.ofNat 32 (i 0).val).slt w <;> decide

theorem blk0 (t : Fin grid0.N) (r : Fin 256) (k : Fin 4096) :
    (iblk m hO c 0 t : Vec Ideal S256x4096 .bf16) (ix2 r k)
      = rowsV m c ⟨(grid0.coords t 0).val * 256 + r.val, by have : (grid0.coords t 0).val < 80 := (grid0.coords t 0).isLt; omega⟩ k := by
  refine Eq.trans ?_ (congrFun (V_main_arg0 m c) _)
  blk_ext [iblk, idx0 m hO t]

theorem blk1 (t : Fin grid0.N) (r : Fin 256) (f : Fin 768) :
    (iblk m hO c 1 t : Vec Ideal S256x768 .f32) (ix2 r f)
      = gateV m c ⟨(grid0.coords t 0).val * 256 + r.val, by have : (grid0.coords t 0).val < 80 := (grid0.coords t 0).isLt; omega⟩ f := by
  refine Eq.trans ?_ (congrFun (V_main_arg1 m c) _)
  blk_ext [iblk, idx1 m hO t]

theorem V_wgt (e : Fin 16) (k : Fin 4096) (f : Fin 768) :
    (V m c main_v0 : Vec Ideal S64x4096x768 .f32) (ix3 ⟨16 + e.val, by omega⟩ k f) = wgtV m c e k f := by
  unfold wgtV
  entry_read
  pointwise
  refine congrArg (fun a : Fin 4 => (m ((c : Thread nD τ).loc main_arg2) : Vec Ideal S4x16x4096x768 .f32) (ix4 a e k f)) (Fin.ext ?_)
  show (16 + e.val) / 16 = 1
  omega

theorem blk2 (hr : ∀ j, (expertW m j).toNat < 16) (t : Fin grid0.N) (k : Fin 4096) (f : Fin 768) :
    (iblk m hO c 2 t : Vec Ideal S1x4096x768 .f32) (ix3 0 k f)
      = wgtV m c ⟨(expertW m (grid0.coords t 0)).toNat, hr _⟩ k f := by
  refine Eq.trans ?_ (V_wgt m c _ k f)
  blk_ext [iblk, idx2 m hO hr t]

/-- The tile of a row. -/
abbrev tileV (l : Fin 20480) : Fin 80 := ⟨l.val / 256, by omega⟩

/-- The call's result, element by element. -/
def cellV (hr : ∀ j, (expertW m j).toNat < 16) (l : Fin 20480) (f : Fin 768) : EReal :=
  if BitVec.slt (BitVec.ofNat 32 (tileV l).val) (usedW m) then
    gateV m c l f * ∑ k : Fin 4096, rowsV m c l k * wgtV m c ⟨(expertW m (tileV l)).toNat, hr _⟩ k f
  else 0

/-- The call's result array. -/
def resultV (hr : ∀ j, (expertW m j).toNat < 16) : Vec Ideal S20480x768 .bf16 := fun y => cellV m c hr (y 0) (y 1)

theorem cellV_tile (hr : ∀ j, (expertW m j).toNat < 16) (l : Fin 20480) (f : Fin 768) (t : Fin 80) (h : tileV l = t) :
    cellV m c hr l f = if BitVec.slt (BitVec.ofNat 32 t.val) (usedW m) then
        gateV m c l f * ∑ k : Fin 4096, rowsV m c l k * wgtV m c ⟨(expertW m t).toNat, hr _⟩ k f
      else 0 := by
  subst h
  rfl

theorem resultV_at (hr : ∀ j, (expertW m j).toNat < 16) (t : Fin 80) (r : Fin 256) (f : Fin 768) (y : S20480x768.Idx)
    (h0 : (y 0).val = t.val * 256 + r.val) (h1 : (y 1).val = f.val) :
    resultV m c hr y = if BitVec.slt (BitVec.ofNat 32 t.val) (usedW m) then
        gateV m c ⟨t.val * 256 + r.val, by omega⟩ f * ∑ k : Fin 4096, rowsV m c ⟨t.val * 256 + r.val, by omega⟩ k * wgtV m c ⟨(expertW m t).toNat, hr _⟩ k f
      else 0 := by
  have hy : y = ix2 ⟨t.val * 256 + r.val, by omega⟩ f := (eq_ix2 y).trans (congrArg₂ ix2 (Fin.ext h0) (Fin.ext h1))
  refine (congrArg (resultV m c hr) hy).trans ?_
  have ht : tileV ⟨t.val * 256 + r.val, by omega⟩ = t := Fin.ext (by show (t.val * 256 + r.val) / 256 = t.val; omega)
  exact cellV_tile m c hr _ f t ht

theorem out_at (hr : ∀ j, (expertW m j).toNat < 16) (t : Fin grid0.N) (r : Fin 256) (f : Fin 768) :
    outsAt0 m hO c t (ix2 r f) = if BitVec.slt (BitVec.ofNat 32 (grid0.coords t 0).val) (usedW m) then
        gateV m c ⟨(grid0.coords t 0).val * 256 + r.val, by have : (grid0.coords t 0).val < 80 := (grid0.coords t 0).isLt; omega⟩ f
          * ∑ k : Fin 4096, rowsV m c ⟨(grid0.coords t 0).val * 256 + r.val, by have : (grid0.coords t 0).val < 80 := (grid0.coords t 0).isLt; omega⟩ k
            * wgtV m c ⟨(expertW m (grid0.coords t 0)).toNat, hr _⟩ k f
      else 0 := by
  have h : outsAt0 m hO c t = if k0_cond1 (grid0.coords t) (nt (F := Ideal) (c := c) (tbl m 1)) = 1#1
      then k0_pay1 (iblk m hO c 0 t : Vec Ideal S256x4096 .bf16) (iblk m hO c 2 t : Vec Ideal S1x4096x768 .f32) (iblk m hO c 1 t : Vec Ideal S256x768 .f32) else k0_pay2 (F := Ideal) := out0_eq c _ _ _ _ _ _ _ _ _ _ _ _ _ _
  rw [h, nt_eq]
  clear h
  by_cases h : BitVec.slt (BitVec.ofNat 32 (grid0.coords t 0).val) (usedW m) = true
  · rw [if_pos ((cond1_iff _ _).mpr h), if_pos h]
    refine (pay1_apply _ _ _ r f).trans ?_
    refine congrArg₂ (· * ·) (blk1 m hO c t r f) (Finset.sum_congr rfl fun k _ => ?_)
    exact congrArg₂ (· * ·) (blk0 m hO c t r k) (blk2 m hO c hr t k f)
  · rw [if_neg (fun h' => h ((cond1_iff _ _).mp h')), if_neg h]
    exact pay2_apply r f

theorem covers3 : ((cfgM m hO).win 3).Covers :=
  ((cfgM m hO).win 3).covers_of_indexMap_surj rfl (show ∀ a : Fin 2, 0 < (![256, 768] : Fin 2 → Nat) a by decide)
    (show ∀ β : (a : Fin 2) → Fin (((![20480, 768] : Fin 2 → Nat) a + (![256, 768] : Fin 2 → Nat) a - 1) / (![256, 768] : Fin 2 → Nat) a), ∃ i : grid0.Coords, ∀ a : Fin 2, cc0_transform_3 i a = (β a).val from fun β => by
      refine ⟨fun a => ⟨(β 0).val, lt_of_lt_of_eq (β 0).isLt (by obtain rfl : a = ⟨0, Nat.zero_lt_one⟩ := Subsingleton.elim (α := Fin 1) _ _; rfl)⟩, fun a => ?_⟩
      have h0 : (β 0).val < 80 := (β 0).isLt
      have h1 : (β 1).val < 1 := (β 1).isLt
      fin_cases a
      · show (BitVec.ofNat 32 (β 0).val).toNat = (β 0).val
        rw [BitVec.toNat_ofNat]
        omega
      · show (0#32).toNat = (β 1).val
        rw [BitVec.toNat_ofNat]
        omega)

theorem ex_ix2 (y : S256x768.Idx) : ∃ (r : Fin 256) (f : Fin 768), y = ix2 r f := ⟨y 0, y 1, eq_ix2 y⟩

theorem arr_eq (hr : ∀ j, (expertW m j).toNat < 16) : (dats m hO 0 c).arrAt 3 (cfgM m hO).N = resultV m c hr := by
  refine (dats m hO 0 c).arrAt_eq_of_covers 3 _ (covers3 m hO) fun t hf y => ?_
  have h0 : (grid0.coords t 0).val < 80 := (grid0.coords t 0).isLt
  have hi := idx3 m hO t
  obtain ⟨r, f, rfl⟩ := ex_ix2 y
  blk_simp
  rw [after0_3]
  refine (out_at m hO c hr t r f).trans (resultV_at m c hr (grid0.coords t 0) r f _ ?_ ?_).symm
  · blk_simp [hi]
  · blk_simp [hi]

end Cert.UpIdeal.Up

end
-- ==== Proof.UpRef.lean ====
/- The gated up-projection: the reference at an index. -/
module

public import proofs.«01_k».proof.Proof.Gen.UpRefIdeal.Run
public import Idealize.ShloMosaic.Lib.Pointwise
public import Idealize.ShloMosaic.Lib.Tactic.CleanTypes

@[expose] public section

set_option maxRecDepth 16384

noncomputable section

namespace Cert.UpRefIdeal.Up

open Idealize.ShloMosaic Idealize.ShloMosaic.TcCoe Idealize.ShloMosaic.Tactic Cert.UpRefIdeal Cert.UpRefIdeal.Gen Idealize.ShloMosaic.StableHlo

/-- Which rows lie in a tile in use. -/
def usedR (nt : IVec S1 32) : IVec S20480x768 1 :=
  broadcastInDim S20480x768 ![0, 1] bcast_S20480x1_S20480x768_0_1 (broadcastInDim S20480x1 ![0] bcast_S20480_S20480x1_0 (shapeCast _ (broadcastInDim S80x256 ![0] bcast_S80_S80x256_0 (cmpi .slt (iotaInDim S80 32 0) (broadcastInDim S80 ![] bcast_S_S80 (shapeCast _ nt shapeCasts_S1_S_)))) shapeCasts_S80x256_S20480))

/-- Which rows are an expert's. -/
def mineR (te : IVec S80 32) : IVec S20480x16x768 1 :=
  broadcastInDim S20480x16x768 ![0, 1, 2] bcast_S20480x16x1_S20480x16x768_0_1_2 (broadcastInDim S20480x16x1 ![0, 1] bcast_S20480x16_S20480x16x1_0_1 (cmpi .eq (broadcastInDim S20480x16 ![0, 1] bcast_S20480x1_S20480x16_0_1 (broadcastInDim S20480x1 ![0] bcast_S20480_S20480x1_0 (shapeCast _ (broadcastInDim S80x256 ![0] bcast_S80_S80x256_0 te) shapeCasts_S80x256_S20480))) (broadcastInDim S20480x16 ![0, 1] bcast_S1x16_S20480x16_0_1 (broadcastInDim S1x16 ![1] bcast_S16_S1x16_1 (iotaInDim S16 32 0)))))

/-- Every row's product with every expert's weights, times the row's gate. -/
def prodR (xs : Vec Ideal S20480x4096 .bf16) (g : Vec Ideal S20480x768 .f32) (w : Vec Ideal S4x16x4096x768 .f32) : FVec Ideal S20480x16x768 .f32 :=
  mulf (F := Ideal) (φ := .f32) (broadcastInDim S20480x16x768 ![0, 1, 2] bcast_S20480x1x768_S20480x16x768_0_1_2 (broadcastInDim S20480x1x768 ![0, 2] bcast_S20480x768_S20480x1x768_0_2 g)) (Host.dotGeneral (F := Ideal) (φ₁ := .f32) (φ₂ := .f32) dot_S20480x4096_S16x4096x768_S20480x16x768_1_1_0_02_n_n none (extf .f32 xs bitsLt_bf16_f32) (shapeCast _ (extractStridedSlice S1x16x4096x768 ![1, 0, 0, 0] w slices_S4x16x4096x768_S1x16x4096x768_1_0_0_0) shapeCasts_S1x16x4096x768_S16x4096x768))

/-- The rows' own experts' products. -/
def pickR (xs : Vec Ideal S20480x4096 .bf16) (g : Vec Ideal S20480x768 .f32) (w : Vec Ideal S4x16x4096x768 .f32) (te : IVec S80 32) : FVec Ideal S20480x768 .f32 :=
  Host.reduceAdd (F := Ideal) (φ := .f32) (select (mineR te) (prodR xs g w) (broadcastInDim S20480x16x768 ![] bcast_S_S20480x16x768 (id (constant (F := Ideal) S_ .f32 0x00000000#32)))) (constant (F := Ideal) S_ .f32 0x00000000#32) reducesTo_S20480x16x768_S20480x768_d1 h_S_

/-- The reference's result. -/
def resultR (xs : Vec Ideal S20480x4096 .bf16) (g : Vec Ideal S20480x768 .f32) (w : Vec Ideal S4x16x4096x768 .f32) (te : IVec S80 32) (nt : IVec S1 32) : FVec Ideal S20480x768 .bf16 :=
  truncf .bf16 (select (usedR nt) (pickR xs g w te) (broadcastInDim S20480x768 ![] bcast_S_S20480x768 (id (constant (F := Ideal) S_ .f32 0x00000000#32)))) bitsLt_bf16_f32

theorem zero_at : constant (F := Ideal) S_ .f32 0x00000000#32 ix0 = (0 : EReal) := Ideal.ofBits_zero_f32

/-- The tile of a row. -/
abbrev tile (l : Fin 20480) : Fin 80 := ⟨l.val / 256, by omega⟩

theorem usedR_at (nt : IVec S1 32) (l : Fin 20480) (f : Fin 768) :
    usedR nt (ix2 l f) = BitVec.ofBool (BitVec.slt (BitVec.ofNat 32 (tile l).val) (nt (ix1 0))) := by
  unfold usedR
  clean_types
  pointwise
  rfl

theorem mineR_at (te : IVec S80 32) (l : Fin 20480) (e : Fin 16) (f : Fin 768) :
    mineR te (ix3 l e f) = BitVec.ofBool (te (ix1 (tile l)) == BitVec.ofNat 32 e.val) := by
  unfold mineR
  clean_types
  pointwise
  rfl

theorem prodR_at (xs : Vec Ideal S20480x4096 .bf16) (g : Vec Ideal S20480x768 .f32) (w : Vec Ideal S4x16x4096x768 .f32) (l : Fin 20480) (e : Fin 16) (f : Fin 768) :
    prodR xs g w (ix3 l e f) = g (ix2 l f) * ∑ k : Fin 4096, xs (ix2 l k) * w (ix4 1 e k f) := by
  unfold prodR
  clean_types
  pointwise

theorem pickR_at (xs : Vec Ideal S20480x4096 .bf16) (g : Vec Ideal S20480x768 .f32) (w : Vec Ideal S4x16x4096x768 .f32) (te : IVec S80 32) (l : Fin 20480) (f : Fin 768)
    (e : Fin 16) (he : te (ix1 (tile l)) = BitVec.ofNat 32 e.val) :
    pickR xs g w te (ix2 l f) = g (ix2 l f) * ∑ k : Fin 4096, xs (ix2 l k) * w (ix4 1 e k f) := by
  have h : pickR xs g w te (ix2 l f) = ∑ e' : Fin 16, Scalar.select (mineR te (ix3 l e' f)) (prodR xs g w (ix3 l e' f)) (0 : EReal) := by
    unfold pickR
    clean_types
    pointwise
    exact Finset.sum_congr rfl fun e' _ => congrArg (Scalar.select _ _) zero_at
  rw [h, Finset.sum_eq_single e]
  · rw [mineR_at, he, prodR_at]
    simp [Scalar.select]
  · intro e' _ hne
    rw [mineR_at, he]
    have : (BitVec.ofNat 32 e.val == BitVec.ofNat 32 e'.val) = false := by
      clear he h
      revert e e'
      decide
    rw [this]
    rfl
  · intro hn
    exact absurd (Finset.mem_univ e) hn

theorem resultR_at (xs : Vec Ideal S20480x4096 .bf16) (g : Vec Ideal S20480x768 .f32) (w : Vec Ideal S4x16x4096x768 .f32) (te : IVec S80 32) (nt : IVec S1 32) (l : Fin 20480) (f : Fin 768)
    (e : Fin 16) (he : te (ix1 (tile l)) = BitVec.ofNat 32 e.val) :
    resultR xs g w te nt (ix2 l f)
      = if BitVec.slt (BitVec.ofNat 32 (tile l).val) (nt (ix1 0)) then g (ix2 l f) * ∑ k : Fin 4096, xs (ix2 l k) * w (ix4 1 e k f) else 0 := by
  unfold resultR
  clean_types
  pointwise
  rw [usedR_at, pickR_at xs g w te l f e he]
  cases BitVec.slt (BitVec.ofNat 32 (tile l).val) (nt (ix1 0)) <;> simp [Scalar.select, zero_at]

end Cert.UpRefIdeal.Up

end
-- ==== Proof.UpEqual.lean ====
/- The gated up-projection: the kernel's and the reference's results are equal. -/
module

public import proofs.«01_k».proof.Proof.UpBlock
public import proofs.«01_k».proof.Proof.UpRef

@[expose] public section

noncomputable section

namespace Cert.UpEqual

open Idealize.ShloMosaic Idealize.ShloMosaic.TcCoe Idealize.ShloMosaic.Tactic Cert.UpIdeal

theorem value_eq (m : (ℓ : Loc nD τ sig) → Buf (Elt Ideal) ℓ) (c : Dev nD) (hr : ∀ j, (Cert.UpIdeal.Up.expertW m j).toNat < 16) :
    Cert.UpRefIdeal.Up.resultR (m ((c : Thread nD τ).loc main_arg0)) (m ((c : Thread nD τ).loc main_arg1)) (m ((c : Thread nD τ).loc main_arg2))
        (m ((c : Thread nD τ).loc main_arg3)) (m ((c : Thread nD τ).loc main_arg4))
      = Cert.UpIdeal.Up.resultV m c hr := by
  obtain rfl : c = 0 := Subsingleton.elim (α := Fin 1) _ _
  funext y
  obtain ⟨l, f, rfl⟩ : ∃ (l : Fin 20480) (f : Fin 768), y = ix2 l f := ⟨y 0, y 1, eq_ix2 y⟩
  refine (Cert.UpRefIdeal.Up.resultR_at _ _ _ _ _ l f ⟨(Cert.UpIdeal.Up.expertW m (Cert.UpIdeal.Up.tileV l)).toNat, hr _⟩ ?_).trans ?_
  · show Cert.UpIdeal.Up.expertW m (Cert.UpIdeal.Up.tileV l) = BitVec.ofNat 32 (Cert.UpIdeal.Up.expertW m (Cert.UpIdeal.Up.tileV l)).toNat
    simp
  · rfl

end Cert.UpEqual

end
-- ==== Proof.DownRange.lean ====
/- The precondition read back: every tile's expert is one of the sixteen. -/
module

public import proofs.«01_k».proof.Proof.UpRange
public import proofs.«01_k».proof.Proof.Gen.Pre_down_experts_in_range
public import Idealize.ShloMosaic.Lib.Pointwise
public import Idealize.ShloMosaic.Lib.Tactic.CleanTypes
public import Idealize.ShloMosaic.Lib.ReduceAll

@[expose] public section

noncomputable section

namespace Cert.Pre_down_experts_in_range

open Idealize.ShloMosaic Idealize.ShloMosaic.TcCoe

attribute [local instance] Cert.Pre_down_experts_in_range.Gen.facts

theorem expert_lt {F : FTy → Type} [FloatOps F] (act : FVec F S20480x768 .bf16) (w : FVec F S4x16x768x4096 .f32) (te : IVec S80 32) (nt : IVec S1 32)
    (h : fn (F := F) act w te nt = fun _ => 1#1) (j : Fin 80) : (te (ix1 j)).toNat < 16 := by
  have hj := congrFun h (ix1 j)
  unfold fn at hj
  have hj' : IntOp.andi (IntOp.cmpi .sge (te (ix1 j)) 0#32) (IntOp.cmpi .slt (te (ix1 j)) 16#32) = 1#1 := hj
  have hb : BitVec.ofBool ((0#32).sle (te (ix1 j))) &&& BitVec.ofBool ((te (ix1 j)).slt 16#32) = 1#1 := hj'
  have h2 : (0#32).sle (te (ix1 j)) = true ∧ (te (ix1 j)).slt 16#32 = true := by
    revert hb
    cases (0#32).sle (te (ix1 j)) <;> cases (te (ix1 j)).slt 16#32 <;> decide
  simp only [BitVec.sle, BitVec.slt, decide_eq_true_eq] at h2
  exact Cert.Pre_experts_in_range.word_lt _ h2.1 h2.2

end Cert.Pre_down_experts_in_range

end
-- ==== Proof.DownIdealEntry.lean ====
/- The launch of the down-projection on core `c`: its arrays when the region is entered, the tables read off
   the launch memory, the blocks the windows fetch. -/
module

public import proofs.«01_k».proof.Proof.Gen.DownIdeal.Launch
public import proofs.«01_k».proof.Proof.Gen.DownIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.DownIdeal.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DownIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 2 (result 0 (%1)) is written back at every point, at any contents of the tables (its index map reads none). -/
theorem flush0_2 (a : (pcfg0 (F := F)).Adm) : ∀ t : Fin (cfg0 a).N, ((cfg0 a).win 2).flush t = true :=
  (fun t => (Pipeline.Window.flushOf_reads cc0_transform_2 reads0_2 hreads0_2 0 (by decide) (by decide) (Pipeline.Window.sep_of_coord cc0_transform_2 0 0 (fun _ => rfl) (by decide)) (P := 1) (m := 0) (by decide) rfl t).mpr (Nat.mod_one _) : ∀ t : Fin grid0.N, Pipeline.Window.flushOf grid0 true cc0_transform_2 t = true)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_down (grid0.coords t) (Memref.whole main_arg2) (Memref.isWhole_whole _) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2))

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S80 .i32 := Memref.whole main_arg2
abbrev htbM0_0 : tbM0_0.IsWhole := Memref.isWhole_whole _
abbrev tbM0_1 : Memref sig .tc .smem S1 .i32 := Memref.whole main_arg3
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post . -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩) h

/-! ## The kernel body on any staging memrefs: a subtype the run finds -/

/-- One staging buffer of output window 3, through which its contents are stated (`View.read_writes_of_cover`: the
    choice does not matter). -/
abbrev VO0_2 : View sig .tc .vmem S256x4096 .bf16 := (Memref.whole cc0_stg2_0 : Memref sig .tc .vmem S256x4096 .bf16).view
/-- Each window's current staging memref at point `t`, spelled as the pipeline passes it (`bodyAt0`), and its wholeness. -/
abbrev ms0_0 (hO : Ok m) (t : Fin (cfgM m hO).N) : Memref sig .tc .vmem S256x768 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x768x4096 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S256x4096 .bf16 := spec0_2.stage ((cfgM m hO).slots t 2)
abbrev hs0_2 (hO : Ok m) (t : Fin (cfgM m hO).N) : (ms0_2 m hO t).IsWhole := hstage0_2 (((cfgM m hO).slots t 2).cast nbuf0_2)

end Cert.DownIdeal.Down

end
-- ==== Proof.DownIdealBody.lean ====
/- The body of the down-projection, run on any staging buffers. -/
module

public import proofs.«01_k».proof.Proof.DownIdealEntry
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.DownIdeal.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DownIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The number of tiles in use, as the body loads it. -/
abbrev nt {c : Dev nD} (xt1 : TbBuf0 (F := F) c tbM0_1) : Elt F .i32 :=
  (tbM0_1.access (Rect.unit (s := S1) ![0] S1.size inb_S1_S1_0)).read (Elt F) xt1 (Shape.Idx.first (numel1_S1.symm ▸ Nat.one_pos))

set_option maxHeartbeats 1000000 in
/-- A tile in use: its pieces, with the run that leaves them. -/
noncomputable def runUsed (c : Dev nD) (i : grid0.Coords) (arg3 : Memref sig .tc .vmem S256x768 .bf16) (harg3 : arg3.IsWhole) (arg4 : Memref sig .tc .vmem S1x768x4096 .f32) (harg4 : arg4.IsWhole) (arg5 : Memref sig .tc .vmem S256x4096 .bf16) (harg5 : arg5.IsWhole)
    (x0 : Vec F S256x768 .bf16) (x1 : Vec F S1x768x4096 .f32) (xt0 : TbBuf0 (F := F) c tbM0_0) (xt1 : TbBuf0 (F := F) c tbM0_1)
    (h1 : k0_cond1 i (nt xt1) = 1#1) (h2 : ¬k0_cond2 i (nt xt1) = 1#1) :
    { L2 : List (View.Piece (Elt F) S256x4096 .bf16) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ tbPt0 c tbM0_0 xt0 ∗ tbPt0 c tbM0_1 xt1
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ tbPt0 c tbM0_0 xt0 ∗ tbPt0 c tbM0_1 xt1) -∗ K ⟨⟩))
          ⊢ wp frame (wpE (defs₀ (F := F)) Variants.none c none) E (cc0_moe_down i tbM0_0 htbM0_0 tbM0_1 htbM0_1 arg3 harg3 arg4 harg4 arg5 harg5) K } := by
  refine ⟨?_, fun E K => ?run⟩
  case run =>
    simp only [cc0_moe_down_eq_skeleton]; unfold cc0_moe_down_skel
    unfold owns
    iintro ⟨⟨%f0, %hf0, H0⟩, ⟨%f1, %hf1, H1⟩, ⟨%d2, %f2, -, H2⟩, HT0, HT1, Hk⟩
    obtain rfl := harg3.eq_unread hf0; obtain rfl := harg4.eq_unread hf1
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [HT0]; · iexact HT0
    iexact HT1

set_option maxHeartbeats 1000000 in
/-- A tile past the last in use: its pieces, with the run that leaves them. -/
noncomputable def runUnused (c : Dev nD) (i : grid0.Coords) (arg3 : Memref sig .tc .vmem S256x768 .bf16) (harg3 : arg3.IsWhole) (arg4 : Memref sig .tc .vmem S1x768x4096 .f32) (harg4 : arg4.IsWhole) (arg5 : Memref sig .tc .vmem S256x4096 .bf16) (harg5 : arg5.IsWhole)
    (x0 : Vec F S256x768 .bf16) (x1 : Vec F S1x768x4096 .f32) (xt0 : TbBuf0 (F := F) c tbM0_0) (xt1 : TbBuf0 (F := F) c tbM0_1)
    (h1 : ¬k0_cond1 i (nt xt1) = 1#1) (h2 : k0_cond2 i (nt xt1) = 1#1) :
    { L2 : List (View.Piece (Elt F) S256x4096 .bf16) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ tbPt0 c tbM0_0 xt0 ∗ tbPt0 c tbM0_1 xt1
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ tbPt0 c tbM0_0 xt0 ∗ tbPt0 c tbM0_1 xt1) -∗ K ⟨⟩))
          ⊢ wp frame (wpE (defs₀ (F := F)) Variants.none c none) E (cc0_moe_down i tbM0_0 htbM0_0 tbM0_1 htbM0_1 arg3 harg3 arg4 harg4 arg5 harg5) K } := by
  refine ⟨?_, fun E K => ?run⟩
  case run =>
    simp only [cc0_moe_down_eq_skeleton]; unfold cc0_moe_down_skel
    unfold owns
    iintro ⟨⟨%f0, %hf0, H0⟩, ⟨%f1, %hf1, H1⟩, ⟨%d2, %f2, -, H2⟩, HT0, HT1, Hk⟩
    obtain rfl := harg3.eq_unread hf0; obtain rfl := harg4.eq_unread hf1
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [HT0]; · iexact HT0
    iexact HT1

end Cert.DownIdeal.Down

end
-- ==== Proof.DownIdealFrame.lean ====
/- The down-projection: what its output holds point by point, the run, and the argument arrays unchanged. -/
module

public import proofs.«01_k».proof.Proof.DownIdealBody
public import Idealize.ShloMosaic.Lib.Claim
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.DownIdeal.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DownIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two conditions of the body exclude each other, and one of them holds. -/
theorem cond_not (i : grid0.Coords) (w : BitVec 32) (h : k0_cond1 i w = 1#1) : ¬k0_cond2 i w = 1#1 := by
  revert h
  unfold k0_cond1 k0_cond2
  generalize BitVec.ofNat 32 (i 0).val = a
  show (BitVec.ofBool (BitVec.setWidth 32 (BitVec.ofBool (a.slt w)) != 0#32) = 1#1) → ¬(BitVec.ofBool (BitVec.setWidth 32 (BitVec.ofBool (w.sle a)) != 0#32) = 1#1)
  rw [show w.sle a = !a.slt w from by simp only [BitVec.slt, BitVec.sle]; by_cases h : w.toInt ≤ a.toInt <;> simp [h] <;> omega]
  cases a.slt w <;> decide

theorem cond_or (i : grid0.Coords) (w : BitVec 32) (h : ¬k0_cond1 i w = 1#1) : k0_cond2 i w = 1#1 := by
  revert h
  unfold k0_cond1 k0_cond2
  generalize BitVec.ofNat 32 (i 0).val = a
  show ¬(BitVec.ofBool (BitVec.setWidth 32 (BitVec.ofBool (a.slt w)) != 0#32) = 1#1) → (BitVec.ofBool (BitVec.setWidth 32 (BitVec.ofBool (w.sle a)) != 0#32) = 1#1)
  rw [show w.sle a = !a.slt w from by simp only [BitVec.slt, BitVec.sle]; by_cases h : w.toInt ≤ a.toInt <;> simp [h] <;> omega]
  cases a.slt w <;> decide

theorem coverUsed (c : Dev nD) (i : grid0.Coords) (arg3 : Memref sig .tc .vmem S256x768 .bf16) (harg3 : arg3.IsWhole) (arg4 : Memref sig .tc .vmem S1x768x4096 .f32) (harg4 : arg4.IsWhole) (arg5 : Memref sig .tc .vmem S256x4096 .bf16) (harg5 : arg5.IsWhole)
    (x0 : Vec F S256x768 .bf16) (x1 : Vec F S1x768x4096 .f32) (xt0 : TbBuf0 (F := F) c tbM0_0) (xt1 : TbBuf0 (F := F) c tbM0_1)
    (h1 : k0_cond1 i (nt xt1) = 1#1) (y : S256x4096.Idx) :
    ∃ pc ∈ (runUsed c i arg3 harg3 arg4 harg4 arg5 harg5 x0 x1 xt0 xt1 h1 (cond_not _ _ h1)).1, y ∈ pc.1.set :=
  View.cover_of_tiledL (runUsed c i arg3 harg3 arg4 harg4 arg5 harg5 x0 x1 xt0 xt1 h1 (cond_not _ _ h1)).1 S256x4096.size (by sl_kernel_rfl) y

theorem coverUnused (c : Dev nD) (i : grid0.Coords) (arg3 : Memref sig .tc .vmem S256x768 .bf16) (harg3 : arg3.IsWhole) (arg4 : Memref sig .tc .vmem S1x768x4096 .f32) (harg4 : arg4.IsWhole) (arg5 : Memref sig .tc .vmem S256x4096 .bf16) (harg5 : arg5.IsWhole)
    (x0 : Vec F S256x768 .bf16) (x1 : Vec F S1x768x4096 .f32) (xt0 : TbBuf0 (F := F) c tbM0_0) (xt1 : TbBuf0 (F := F) c tbM0_1)
    (h1 : ¬k0_cond1 i (nt xt1) = 1#1) (y : S256x4096.Idx) :
    ∃ pc ∈ (runUnused c i arg3 harg3 arg4 harg4 arg5 harg5 x0 x1 xt0 xt1 h1 (cond_or _ _ h1)).1, y ∈ pc.1.set :=
  View.cover_of_tiledL (runUnused c i arg3 harg3 arg4 harg4 arg5 harg5 x0 x1 xt0 xt1 h1 (cond_or _ _ h1)).1 S256x4096.size (by sl_kernel_rfl) y

/-- What the body leaves in the output's staging buffer: the pieces of the case the point is in. -/
def out0 (c : Dev nD) (i : grid0.Coords) (arg3 : Memref sig .tc .vmem S256x768 .bf16) (harg3 : arg3.IsWhole) (arg4 : Memref sig .tc .vmem S1x768x4096 .f32) (harg4 : arg4.IsWhole) (arg5 : Memref sig .tc .vmem S256x4096 .bf16) (harg5 : arg5.IsWhole)
    (x0 : Vec F S256x768 .bf16) (x1 : Vec F S1x768x4096 .f32) (xt0 : TbBuf0 (F := F) c tbM0_0) (xt1 : TbBuf0 (F := F) c tbM0_1) : Vec F S256x4096 .bf16 :=
  if h1 : k0_cond1 i (nt xt1) = 1#1 then
    VO0_2.read (Elt F) (VO0_2.writes (Elt F) VO0_2.junk (runUsed c i arg3 harg3 arg4 harg4 arg5 harg5 x0 x1 xt0 xt1 h1 (cond_not _ _ h1)).1)
  else VO0_2.read (Elt F) (VO0_2.writes (Elt F) VO0_2.junk (runUnused c i arg3 harg3 arg4 harg4 arg5 harg5 x0 x1 xt0 xt1 h1 (cond_or _ _ h1)).1)

set_option maxHeartbeats 1000000 in
/-- The body's triple, its output's buffer at `out0`. -/
theorem body_triple (c : Dev nD) (i : grid0.Coords) (arg3 : Memref sig .tc .vmem S256x768 .bf16) (harg3 : arg3.IsWhole) (arg4 : Memref sig .tc .vmem S1x768x4096 .f32) (harg4 : arg4.IsWhole) (arg5 : Memref sig .tc .vmem S256x4096 .bf16) (harg5 : arg5.IsWhole)
    (x0 : Vec F S256x768 .bf16) (x1 : Vec F S1x768x4096 .f32) (xt0 : TbBuf0 (F := F) c tbM0_0) (xt1 : TbBuf0 (F := F) c tbM0_1) (E : Set ℕ) (K : PUnit → sProp 𝕄) :
    iprop(owns (c : Thread nD τ) arg3 fullShare x0 ∗ owns (c : Thread nD τ) arg4 fullShare x1 ∗ (∃ d, owns (c : Thread nD τ) arg5 fullShare d) ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare (out0 c i arg3 harg3 arg4 harg4 arg5 harg5 x0 x1 xt0 xt1) ∗ tbPt0 c tbM0_0 xt0 ∗ tbPt0 c tbM0_1 xt1) -∗ K ⟨⟩))
      ⊢ wp frame (wpE (defs₀ (F := F)) Variants.none c none) E (cc0_moe_down i tbM0_0 htbM0_0 tbM0_1 htbM0_1 arg3 harg3 arg4 harg4 arg5 harg5) K := by
  by_cases h1 : k0_cond1 i (nt xt1) = 1#1
  · rw [show out0 c i arg3 harg3 arg4 harg4 arg5 harg5 x0 x1 xt0 xt1 = _ from dif_pos h1]
    iintro ⟨H0, H1, H2, HT0, HT1, Hk⟩
    iapply (runUsed c i arg3 harg3 arg4 harg4 arg5 harg5 x0 x1 xt0 xt1 h1 (cond_not _ _ h1)).2 E K
    isplitl [H0]; · iexact H0
    isplitl [H1]; · iexact H1
    isplitl [H2]; · iexact H2
    isplitl [HT0]; · iexact HT0
    isplitl [HT1]; · iexact HT1
    iintro ⟨H0, H1, ⟨%e2, H2⟩, HT0, HT1⟩
    iapply Hk
    isplitl [H0]; · iexact H0
    isplitl [H1]; · iexact H1
    isplitl [H2]
    · unfold owns; iexists _; isplitr
      swap; · iexact H2
      ipureintro; exact View.read_writes_of_cover _ _ _ _ _ (coverUsed c i arg3 harg3 arg4 harg4 arg5 harg5 x0 x1 xt0 xt1 h1)
    isplitl [HT0]; · iexact HT0
    iexact HT1
  · rw [show out0 c i arg3 harg3 arg4 harg4 arg5 harg5 x0 x1 xt0 xt1 = _ from dif_neg h1]
    iintro ⟨H0, H1, H2, HT0, HT1, Hk⟩
    iapply (runUnused c i arg3 harg3 arg4 harg4 arg5 harg5 x0 x1 xt0 xt1 h1 (cond_or _ _ h1)).2 E K
    isplitl [H0]; · iexact H0
    isplitl [H1]; · iexact H1
    isplitl [H2]; · iexact H2
    isplitl [HT0]; · iexact HT0
    isplitl [HT1]; · iexact HT1
    iintro ⟨H0, H1, ⟨%e2, H2⟩, HT0, HT1⟩
    iapply Hk
    isplitl [H0]; · iexact H0
    isplitl [H1]; · iexact H1
    isplitl [H2]
    · unfold owns; iexists _; isplitr
      swap; · iexact H2
      ipureintro; exact View.read_writes_of_cover _ _ _ _ _ (coverUnused c i arg3 harg3 arg4 harg4 arg5 harg5 x0 x1 xt0 xt1 h1)
    isplitl [HT0]; · iexact HT0
    iexact HT1

/-! ## What the outputs hold after each point -/

/-- What the outputs' staging buffers hold after the body at point `t`: the run's contents at
    the point's memrefs and input blocks. -/
def outsAt0 (hO : Ok m) (c : Dev nD) (t : Fin (cfgM m hO).N) : Vec F S256x4096 .bf16 :=
  out0 c (grid0.coords t) (ms0_0 m hO t) (hs0_0 m hO t) (ms0_1 m hO t) (hs0_1 m hO t) (ms0_2 m hO t) (hs0_2 m hO t) (iblk m hO c 0 t) (iblk m hO c 1 t) (tbl m 0) (tbl m 1)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => (outsAt0 m hO c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t))

/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1]
  rw [show (dats m hO 0 c).Φ t.succ = (dats m hO 0 c).Φ t.castSucc from rfl,
    show (dats m hO 0 c).owesAt () t.succ = (dats m hO 0 c).owesAt () t.castSucc from rfl,
    after0_0, after0_1, after0_2]
  rw [show (dats m hO 0 c).Φ t.castSucc = iprop(Pipeline.ΦA spec0 c ∗ Pipeline.ΦT pre0 (tbl m) c) from rfl, PhiT0_eq]
  unfold outsAt0
  iintro ⟨⟨HΦ, ⟨HT0, HT1⟩⟩, Ho, ⟨%d0, H0⟩, ⟨%d1, H1⟩, ⟨%d2, H2⟩⟩
  iapply (body_triple c (grid0.coords t) _ _ _ _ _ _ (iblk m hO c 0 t) (iblk m hO c 1 t) (tbl m 0) (tbl m 1) Set.univ _)
  isplitl [H0]; · iexact H0
  isplitl [H1]; · iexact H1
  isplitl [H2]; · iexists _; iexact H2
  isplitl [HT0]; · iexact HT0
  isplitl [HT1]; · iexact HT1
  iintro ⟨H0, H1, H2, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  iexact H2

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- No point leaves the output's buffer as it found it. -/
theorem idle0_2 (hO : Ok m) (i : grid0.Coords) : (cfgM m hO).idle 2 i = false := by
  show (!(k0_cond1 i ((tbl m).atD 1 ![0]) == 1#1) && !(k0_cond2 i ((tbl m).atD 1 ![0]) == 1#1)) = false
  by_cases h : k0_cond1 i ((tbl m).atD 1 ![0]) = 1#1
  · rw [h]; rfl
  · rw [cond_or _ _ h]; exact Bool.and_false _

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  unfold bodyPost
  refine sep_mono .rfl (sep_mono .rfl (sep_mono .rfl (sep_mono .rfl ?_)))
  dsimp only
  split
  · rename_i heq
    exact absurd (heq.symm.trans (idle0_2 m hO (grid0.coords t))) (by decide)
  · exact .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (dats m hO) (A_eq m hO) (run_main m ρ hO)

/-- The argument arrays end unchanged and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO) ((θ_run defs _ _).mono (fun _ h => h.2) (run_main_quiescent m ρ hO))

end Cert.DownIdeal.Down

end
-- ==== Proof.DownIdealOk.lean ====
/- The down-projection: the tables' words as launched, and the weights' blocks inside their array. -/
module

public import proofs.«01_k».proof.Proof.DownIdealFrame
public import proofs.«01_k».proof.Proof.DownRange
public import proofs.«01_k».proof.Defs

@[expose] public section

set_option maxRecDepth 16384

noncomputable section

namespace Cert.DownIdeal.Down

open Idealize.ShloMosaic Idealize.ShloMosaic.TcCoe Idealize.ShloMosaic.Tactic Cert.DownIdeal Cert.DownIdeal.Gen

variable {F : FTy → Type} [FloatOps F]

variable (m : (ℓ : Loc nD τ sig) → Buf (Elt F) ℓ)

/-- A tile's expert, as launched. -/
def expertW (j : Fin 80) : BitVec 32 := (m (((0 : Dev nD) : Thread nD τ).loc main_arg2) : Vec F S80 .i32) (ix1 j)

theorem tbl_expert (j : Fin 80) : (tbl m 0 : Vec F S80 .i32) (ix1 j) = expertW m j := by
  unfold tbl expertW
  exact congrFun (V_main_arg2 m 0) _

theorem emb_at (i : grid0.Coords) :
    (Rect.unit (s := S80) (k0_off1 i) S1.size (k0_off1_inb i)).emb (Shape.Idx.first (numel1_S1.symm ▸ Nat.one_pos)) = ix1 (i 0) := by
  have h0 : (i 0).val < 80 := (i 0).isLt
  refine (eq_ix1 _).trans (congrArg ix1 (Fin.ext ?_))
  have hz : ∀ x : S1.Idx, (x 0).val = 0 := fun x => Nat.lt_one_iff.mp (x 0).isLt
  show (k0_off1 i) 0 + 1 * _ = _
  rw [hz]
  show (BitVec.ofNat 32 (i 0).val).toNat + 1 * 0 = _
  rw [BitVec.toNat_ofNat]
  omega

theorem expert_read (i : grid0.Coords) : (tbl m).at 0 (Rect.unit (s := S80) (k0_off1 i) S1.size (k0_off1_inb i)) numel1_S1 = expertW m (i 0) := by
  have h0 : (i 0).val < 80 := (i 0).isLt
  refine Eq.trans ?_ (tbl_expert m (i 0))
  exact congrArg (tbl m 0 : Vec F S80 .i32) (emb_at i)

theorem index1 (hr : ∀ j, (expertW m j).toNat < 16) (i : grid0.Coords) :
    cc0_transform_1 k0_off1_inb numel1_S1 (tbl m) i = ![16 + (expertW m (i 0)).toNat, 0, 0] := by
  have h := expert_read m i
  have hl := hr (i 0)
  show ![(Scalar.addi 16#32 ((tbl m).at 0 (Rect.unit (s := S80) (k0_off1 i) S1.size (k0_off1_inb i)) numel1_S1)).toNat, 0, 0] = _
  rw [h]
  have : (Scalar.addi 16#32 (expertW m (i 0))).toNat = 16 + (expertW m (i 0)).toNat := by
    show (16#32 + expertW m (i 0)).toNat = _
    rw [BitVec.toNat_add]
    show (16 + (expertW m (i 0)).toNat) % 2 ^ 32 = _
    omega
  rw [this]

/-- The weights' blocks lie inside their array when every expert is one of the sixteen. -/
theorem ok_of (hr : ∀ j, (expertW m j).toNat < 16) : Ok m := by
  intro i
  refine ⟨fun a => ?_, Or.inl rfl⟩
  rw [index1 m hr i]
  have hl := hr (i 0)
  match a with
  | ⟨0, _⟩ => show (16 + (expertW m (i 0)).toNat + 1) * 1 ≤ 64; omega
  | ⟨1, _⟩ => show (0 + 1) * 768 ≤ 768; omega
  | ⟨2, _⟩ => show (0 + 1) * 4096 ≤ 4096; omega

end Cert.DownIdeal.Down

namespace Cert.DownIdeal.Down

open Idealize.ShloMosaic Idealize.ShloMosaic.TcCoe Cert.DownIdeal Cert.DownIdeal.Gen

theorem experts_lt (m : (ℓ : Loc nD τ sig) → Buf (Elt Ideal) ℓ) (h : Pre_DownIdeal (hPre_down_experts_in_range := Cert.Pre_down_experts_in_range.Gen.facts) m) (j : Fin 80) :
    (expertW m j).toNat < 16 :=
  Cert.Pre_down_experts_in_range.expert_lt _ _ _ _ (h 0) j

end Cert.DownIdeal.Down

end
-- ==== Proof.DownBlock.lean ====
/- The down-projection: a tile's output at an index, and the result array. -/
module

public import proofs.«01_k».proof.Proof.DownIdealOk
public import Idealize.ShloMosaic.Lib.Pipeline.ValueKit
public import Idealize.ShloMosaic.Lib.Pipeline.Covers
public import Idealize.ShloMosaic.Lib.WholeRead
public import Idealize.ShloMosaic.Lib.Pointwise
public import Idealize.ShloMosaic.Lib.Tactic.WordOmega
public import Idealize.ShloMosaic.Lib.Tactic.CleanTypes

@[expose] public section

set_option maxRecDepth 16384

noncomputable section

namespace Cert.DownIdeal.Down

open Idealize.ShloMosaic Idealize.ShloMosaic.TcCoe Idealize.ShloMosaic.Tactic Cert.DownIdeal Cert.DownIdeal.Gen

/-- A load of a whole staging buffer reads what it holds. -/
theorem readAt_whole {s : Shape} {e : EltTy} {sp : Space} (M : Memref sig .tc sp s e) (hM : M.IsWhole) {off : Fin s.rank → Nat} (h0 : off = fun _ => 0)
    (inb : ∀ a, off a + s.size a ≤ s.size a) (X : s.Idx → Elt Ideal e) :
    View.readAt (Elt Ideal) M.view (Rect.unit (s := s) off s.size inb).toLoadRect (hM.unread X) = X := by
  refine Eq.trans ?_ (View.ld_unit_zero h0 inb X)
  funext x
  exact hM.readAt_unread X _ x

/-- What the body leaves: the product, or zeros past the tiles in use. -/
theorem out0_eq (c : Dev nD) (i : grid0.Coords) (arg3 : Memref sig .tc .vmem S256x768 .bf16) (harg3 : arg3.IsWhole) (arg4 : Memref sig .tc .vmem S1x768x4096 .f32) (harg4 : arg4.IsWhole) (arg5 : Memref sig .tc .vmem S256x4096 .bf16) (harg5 : arg5.IsWhole)
    (x0 : Vec Ideal S256x768 .bf16) (x1 : Vec Ideal S1x768x4096 .f32) (xt0 : TbBuf0 (F := Ideal) c tbM0_0) (xt1 : TbBuf0 (F := Ideal) c tbM0_1) :
    out0 c i arg3 harg3 arg4 harg4 arg5 harg5 x0 x1 xt0 xt1
      = if k0_cond1 i (nt xt1) = 1#1 then k0_pay1 x0 x1 else k0_pay2 (F := Ideal) := by
  unfold out0
  split
  · rename_i h1
    refine (View.read_writes_eq_canon _ _ _ (coverUsed c i arg3 harg3 arg4 harg4 arg5 harg5 x0 x1 xt0 xt1 h1)).trans ?_
    unfold runUsed
    dsimp only
    rw [View.canon_cons_unit_zero (by decide), readAt_whole arg3 harg3 (by decide), readAt_whole arg4 harg4 (by decide)]
  · rename_i h1
    refine (View.read_writes_eq_canon _ _ _ (coverUnused c i arg3 harg3 arg4 harg4 arg5 harg5 x0 x1 xt0 xt1 h1)).trans ?_
    unfold runUnused
    dsimp only
    rw [View.canon_cons_unit_zero (by decide)]

theorem pay1_apply (x0 : Vec Ideal S256x768 .bf16) (x1 : Vec Ideal S1x768x4096 .f32) (r : Fin 256) (d : Fin 4096) :
    k0_pay1 (F := Ideal) x0 x1 (ix2 r d) = ∑ f : Fin 768, x0 (ix2 r f) * x1 (ix3 0 f d) := by
  pointwise [k0_pay1]

theorem pay2_apply (r : Fin 256) (f : Fin 4096) : k0_pay2 (F := Ideal) (ix2 r f) = (0 : EReal) := by
  unfold k0_pay2
  exact Ideal.ofBits_zero .bf16

variable (m : (ℓ : Loc nD τ sig) → Buf (Elt Ideal) ℓ) (hO : Ok m) (c : Dev nD)

theorem index0_0 : ∀ t : Fin grid0.N, cc0_transform_0 (grid0.coords t) = ![(grid0.coords t 0).val, 0] := by decide +kernel
theorem index0_2 : ∀ t : Fin grid0.N, cc0_transform_2 (grid0.coords t) = ![(grid0.coords t 0).val, 0] := by decide +kernel
theorem idx0 (t : Fin grid0.N) : ((cfgM m hO).win 0).index t = ![(grid0.coords t 0).val, 0] := index0_0 t
theorem idx1 (hr : ∀ j, (expertW m j).toNat < 16) (t : Fin grid0.N) : ((cfgM m hO).win 1).index t = ![16 + (expertW m (grid0.coords t 0)).toNat, 0, 0] := index1 m hr (grid0.coords t)
theorem idx2 (t : Fin grid0.N) : ((cfgM m hO).win 2).index t = ![(grid0.coords t 0).val, 0] := index0_2 t

/-- The rows, sorted by expert. -/
def rowsV (l : Fin 20480) (k : Fin 768) : EReal := (m ((c : Thread nD τ).loc main_arg0) : Vec Ideal S20480x768 .bf16) (ix2 l k)
/-- The layer's weights of an expert. -/
def wgtV (e : Fin 16) (k : Fin 768) (f : Fin 4096) : EReal := (m ((c : Thread nD τ).loc main_arg1) : Vec Ideal S4x16x768x4096 .f32) (ix4 1 e k f)
/-- How many tiles are in use. -/
def usedW : BitVec 32 := (m (((0 : Dev nD) : Thread nD τ).loc main_arg3) : Vec Ideal S1 .i32) (ix1 0)

theorem nt_eq : nt (F := Ideal) (c := c) (tbl m 1) = usedW m := by
  unfold usedW
  refine Eq.trans ?_ (congrFun (V_main_arg3 m 0) _)
  show (tbl m 1 : Vec Ideal S1 .i32) _ = (tbl m 1 : Vec Ideal S1 .i32) (ix1 0)
  exact congrArg (tbl m 1 : Vec Ideal S1 .i32) ((eq_ix1 _).trans (congrArg ix1 (Subsingleton.elim (α := Fin 1) _ _)))

theorem cond1_iff (i : grid0.Coords) (w : BitVec 32) : k0_cond1 i w = 1#1 ↔ BitVec.slt (BitVec.ofNat 32 (i 0).val) w = true := by
  show (BitVec.ofBool (BitVec.setWidth 32 (BitVec.ofBool ((BitVec.ofNat 32 (i 0).val).slt w)) != 0#32) = 1#1) ↔ _
  cases (BitVec.ofNat 32 (i 0).val).slt w <;> decide

theorem blk0 (t : Fin grid0.N) (r : Fin 256) (k : Fin 768) :
    (iblk m hO c 0 t : Vec Ideal S256x768 .bf16) (ix2 r k)
      = rowsV m c ⟨(grid0.coords t 0).val * 256 + r.val, by have : (grid0.coords t 0).val < 80 := (grid0.coords t 0).isLt; omega⟩ k := by
  refine Eq.trans ?_ (congrFun (V_main_arg0 m c) _)
  blk_ext [iblk, idx0 m hO t]

theorem V_wgt (e : Fin 16) (k : Fin 768) (f : Fin 4096) :
    (V m c main_v0 : Vec Ideal S64x768x4096 .f32) (ix3 ⟨16 + e.val, by omega⟩ k f) = wgtV m c e k f := by
  unfold wgtV
  entry_read
  pointwise
  refine congrArg (fun a : Fin 4 => (m ((c : Thread nD τ).loc main_arg1) : Vec Ideal S4x16x768x4096 .f32) (ix4 a e k f)) (Fin.ext ?_)
  show (16 + e.val) / 16 = 1
  omega

theorem blk1 (hr : ∀ j, (expertW m j).toNat < 16) (t : Fin grid0.N) (k : Fin 768) (f : Fin 4096) :
    (iblk m hO c 1 t : Vec Ideal S1x768x4096 .f32) (ix3 0 k f)
      = wgtV m c ⟨(expertW m (grid0.coords t 0)).toNat, hr _⟩ k f := by
  refine Eq.trans ?_ (V_wgt m c _ k f)
  blk_ext [iblk, idx1 m hO hr t]

/-- The tile of a row. -/
abbrev tileV (l : Fin 20480) : Fin 80 := ⟨l.val / 256, by omega⟩

/-- The call's result, element by element. -/
def cellV (hr : ∀ j, (expertW m j).toNat < 16) (l : Fin 20480) (f : Fin 4096) : EReal :=
  if BitVec.slt (BitVec.ofNat 32 (tileV l).val) (usedW m) then
    ∑ k : Fin 768, rowsV m c l k * wgtV m c ⟨(expertW m (tileV l)).toNat, hr _⟩ k f
  else 0

/-- The call's result array. -/
def resultV (hr : ∀ j, (expertW m j).toNat < 16) : Vec Ideal S20480x4096 .bf16 := fun y => cellV m c hr (y 0) (y 1)

theorem cellV_tile (hr : ∀ j, (expertW m j).toNat < 16) (l : Fin 20480) (f : Fin 4096) (t : Fin 80) (h : tileV l = t) :
    cellV m c hr l f = if BitVec.slt (BitVec.ofNat 32 t.val) (usedW m) then
        ∑ k : Fin 768, rowsV m c l k * wgtV m c ⟨(expertW m t).toNat, hr _⟩ k f
      else 0 := by
  subst h
  rfl

theorem resultV_at (hr : ∀ j, (expertW m j).toNat < 16) (t : Fin 80) (r : Fin 256) (f : Fin 4096) (y : S20480x4096.Idx)
    (h0 : (y 0).val = t.val * 256 + r.val) (h1 : (y 1).val = f.val) :
    resultV m c hr y = if BitVec.slt (BitVec.ofNat 32 t.val) (usedW m) then
        ∑ k : Fin 768, rowsV m c ⟨t.val * 256 + r.val, by omega⟩ k * wgtV m c ⟨(expertW m t).toNat, hr _⟩ k f
      else 0 := by
  have hy : y = ix2 ⟨t.val * 256 + r.val, by omega⟩ f := (eq_ix2 y).trans (congrArg₂ ix2 (Fin.ext h0) (Fin.ext h1))
  refine (congrArg (resultV m c hr) hy).trans ?_
  have ht : tileV ⟨t.val * 256 + r.val, by omega⟩ = t := Fin.ext (by show (t.val * 256 + r.val) / 256 = t.val; omega)
  exact cellV_tile m c hr _ f t ht

theorem out_at (hr : ∀ j, (expertW m j).toNat < 16) (t : Fin grid0.N) (r : Fin 256) (f : Fin 4096) :
    outsAt0 m hO c t (ix2 r f) = if BitVec.slt (BitVec.ofNat 32 (grid0.coords t 0).val) (usedW m) then
        ∑ k : Fin 768, rowsV m c ⟨(grid0.coords t 0).val * 256 + r.val, by have : (grid0.coords t 0).val < 80 := (grid0.coords t 0).isLt; omega⟩ k
            * wgtV m c ⟨(expertW m (grid0.coords t 0)).toNat, hr _⟩ k f
      else 0 := by
  have h : outsAt0 m hO c t = if k0_cond1 (grid0.coords t) (nt (F := Ideal) (c := c) (tbl m 1)) = 1#1
      then k0_pay1 (iblk m hO c 0 t : Vec Ideal S256x768 .bf16) (iblk m hO c 1 t : Vec Ideal S1x768x4096 .f32) else k0_pay2 (F := Ideal) := out0_eq c _ _ _ _ _ _ _ _ _ _ _
  rw [h, nt_eq]
  clear h
  by_cases h : BitVec.slt (BitVec.ofNat 32 (grid0.coords t 0).val) (usedW m) = true
  · rw [if_pos ((cond1_iff _ _).mpr h), if_pos h]
    refine (pay1_apply _ _ r f).trans ?_
    refine Finset.sum_congr rfl fun k _ => ?_
    exact congrArg₂ (· * ·) (blk0 m hO c t r k) (blk1 m hO c hr t k f)
  · rw [if_neg (fun h' => h ((cond1_iff _ _).mp h')), if_neg h]
    exact pay2_apply r f

theorem covers2 : ((cfgM m hO).win 2).Covers :=
  ((cfgM m hO).win 2).covers_of_indexMap_surj rfl (show ∀ a : Fin 2, 0 < (![256, 4096] : Fin 2 → Nat) a by decide)
    (show ∀ β : (a : Fin 2) → Fin (((![20480, 4096] : Fin 2 → Nat) a + (![256, 4096] : Fin 2 → Nat) a - 1) / (![256, 4096] : Fin 2 → Nat) a), ∃ i : grid0.Coords, ∀ a : Fin 2, cc0_transform_2 i a = (β a).val from fun β => by
      refine ⟨fun a => ⟨(β 0).val, lt_of_lt_of_eq (β 0).isLt (by obtain rfl : a = ⟨0, Nat.zero_lt_one⟩ := Subsingleton.elim (α := Fin 1) _ _; rfl)⟩, fun a => ?_⟩
      have h0 : (β 0).val < 80 := (β 0).isLt
      have h1 : (β 1).val < 1 := (β 1).isLt
      fin_cases a
      · show (BitVec.ofNat 32 (β 0).val).toNat = (β 0).val
        rw [BitVec.toNat_ofNat]
        omega
      · show (0#32).toNat = (β 1).val
        rw [BitVec.toNat_ofNat]
        omega)

theorem ex_ix2 (y : S256x4096.Idx) : ∃ (r : Fin 256) (f : Fin 4096), y = ix2 r f := ⟨y 0, y 1, eq_ix2 y⟩

theorem arr_eq (hr : ∀ j, (expertW m j).toNat < 16) : (dats m hO 0 c).arrAt 2 (cfgM m hO).N = resultV m c hr := by
  refine (dats m hO 0 c).arrAt_eq_of_covers 2 _ (covers2 m hO) fun t hf y => ?_
  have h0 : (grid0.coords t 0).val < 80 := (grid0.coords t 0).isLt
  have hi := idx2 m hO t
  obtain ⟨r, f, rfl⟩ := ex_ix2 y
  blk_simp
  rw [after0_2]
  refine (out_at m hO c hr t r f).trans (resultV_at m c hr (grid0.coords t 0) r f _ ?_ ?_).symm
  · blk_simp [hi]
  · blk_simp [hi]

end Cert.DownIdeal.Down

end
-- ==== Proof.DownRef.lean ====
/- The down-projection: the reference at an index. -/
module

public import proofs.«01_k».proof.Proof.Gen.DownRefIdeal.Run
public import Idealize.ShloMosaic.Lib.Pointwise
public import Idealize.ShloMosaic.Lib.Tactic.CleanTypes

@[expose] public section

set_option maxRecDepth 16384

noncomputable section

namespace Cert.DownRefIdeal.Down

open Idealize.ShloMosaic Idealize.ShloMosaic.TcCoe Idealize.ShloMosaic.Tactic Cert.DownRefIdeal Cert.DownRefIdeal.Gen Idealize.ShloMosaic.StableHlo

/-- Which rows lie in a tile in use. -/
def usedR (nt : IVec S1 32) : IVec S20480x4096 1 :=
  broadcastInDim S20480x4096 ![0, 1] bcast_S20480x1_S20480x4096_0_1 (broadcastInDim S20480x1 ![0] bcast_S20480_S20480x1_0 (shapeCast _ (broadcastInDim S80x256 ![0] bcast_S80_S80x256_0 (cmpi .slt (iotaInDim S80 32 0) (broadcastInDim S80 ![] bcast_S_S80 (shapeCast _ nt shapeCasts_S1_S_)))) shapeCasts_S80x256_S20480))

/-- Which rows are an expert's. -/
def mineR (te : IVec S80 32) : IVec S20480x16x768 1 :=
  broadcastInDim S20480x16x768 ![0, 1, 2] bcast_S20480x16x1_S20480x16x768_0_1_2 (broadcastInDim S20480x16x1 ![0, 1] bcast_S20480x16_S20480x16x1_0_1 (cmpi .eq (broadcastInDim S20480x16 ![0, 1] bcast_S20480x1_S20480x16_0_1 (broadcastInDim S20480x1 ![0] bcast_S20480_S20480x1_0 (shapeCast _ (broadcastInDim S80x256 ![0] bcast_S80_S80x256_0 te) shapeCasts_S80x256_S20480))) (broadcastInDim S20480x16 ![0, 1] bcast_S1x16_S20480x16_0_1 (broadcastInDim S1x16 ![1] bcast_S16_S1x16_1 (iotaInDim S16 32 0)))))

/-- A row's activations for every expert: zeros but for its own. -/
def gatedR (act : Vec Ideal S20480x768 .bf16) (te : IVec S80 32) : FVec Ideal S20480x16x768 .f32 :=
  select (mineR te) (broadcastInDim S20480x16x768 ![0, 1, 2] bcast_S20480x1x768_S20480x16x768_0_1_2 (broadcastInDim S20480x1x768 ![0, 2] bcast_S20480x768_S20480x1x768_0_2 (extf (F := Ideal) .f32 act bitsLt_bf16_f32))) (broadcastInDim S20480x16x768 ![] bcast_S_S20480x16x768 (id (constant (F := Ideal) S_ .f32 0x00000000#32)))

/-- Every row's product, over the experts and their hidden columns. -/
def prodR (act : Vec Ideal S20480x768 .bf16) (w : Vec Ideal S4x16x768x4096 .f32) (te : IVec S80 32) : FVec Ideal S20480x4096 .f32 :=
  Host.dotGeneral (F := Ideal) (φ₁ := .f32) (φ₂ := .f32) dot_S20480x16x768_S16x768x4096_S20480x4096_12_01_0_2_n_n none (gatedR act te) (shapeCast _ (extractStridedSlice S1x16x768x4096 ![1, 0, 0, 0] w slices_S4x16x768x4096_S1x16x768x4096_1_0_0_0) shapeCasts_S1x16x768x4096_S16x768x4096)

/-- The reference's result. -/
def resultR (act : Vec Ideal S20480x768 .bf16) (w : Vec Ideal S4x16x768x4096 .f32) (te : IVec S80 32) (nt : IVec S1 32) : FVec Ideal S20480x4096 .bf16 :=
  truncf .bf16 (select (usedR nt) (prodR act w te) (broadcastInDim S20480x4096 ![] bcast_S_S20480x4096 (id (constant (F := Ideal) S_ .f32 0x00000000#32)))) bitsLt_bf16_f32

theorem zero_at : constant (F := Ideal) S_ .f32 0x00000000#32 ix0 = (0 : EReal) := Ideal.ofBits_zero_f32

/-- The tile of a row. -/
abbrev tile (l : Fin 20480) : Fin 80 := ⟨l.val / 256, by omega⟩

theorem usedR_at (nt : IVec S1 32) (l : Fin 20480) (d : Fin 4096) :
    usedR nt (ix2 l d) = BitVec.ofBool (BitVec.slt (BitVec.ofNat 32 (tile l).val) (nt (ix1 0))) := by
  unfold usedR
  clean_types
  pointwise
  rfl

theorem mineR_at (te : IVec S80 32) (l : Fin 20480) (e : Fin 16) (f : Fin 768) :
    mineR te (ix3 l e f) = BitVec.ofBool (te (ix1 (tile l)) == BitVec.ofNat 32 e.val) := by
  unfold mineR
  clean_types
  pointwise
  rfl

theorem gatedR_at (act : Vec Ideal S20480x768 .bf16) (te : IVec S80 32) (l : Fin 20480) (e : Fin 16) (f : Fin 768) :
    gatedR act te (ix3 l e f) = Scalar.select (mineR te (ix3 l e f)) (act (ix2 l f) : EReal) 0 := by
  unfold gatedR
  clean_types
  pointwise
  exact congrArg (Scalar.select _ _) zero_at

theorem prodR_sum (act : Vec Ideal S20480x768 .bf16) (w : Vec Ideal S4x16x768x4096 .f32) (te : IVec S80 32) (l : Fin 20480) (d : Fin 4096) :
    prodR act w te (ix2 l d) = ∑ e' : Fin 16, ∑ f : Fin 768, gatedR act te (ix3 l e' f) * w (ix4 1 e' f d) := by
  unfold prodR
  clean_types
  pointwise

theorem prodR_at (act : Vec Ideal S20480x768 .bf16) (w : Vec Ideal S4x16x768x4096 .f32) (te : IVec S80 32) (l : Fin 20480) (d : Fin 4096)
    (e : Fin 16) (he : te (ix1 (tile l)) = BitVec.ofNat 32 e.val) :
    prodR act w te (ix2 l d) = ∑ f : Fin 768, act (ix2 l f) * w (ix4 1 e f d) := by
  rw [prodR_sum, Finset.sum_eq_single e]
  · refine Finset.sum_congr rfl fun f _ => ?_
    rw [gatedR_at, mineR_at, he]
    simp [Scalar.select]
  · intro e' _ hne
    refine Finset.sum_eq_zero fun f _ => ?_
    rw [gatedR_at, mineR_at, he]
    have : (BitVec.ofNat 32 e.val == BitVec.ofNat 32 e'.val) = false := by
      clear he
      revert e e'
      decide
    rw [this]
    exact zero_mul _
  · intro hn
    exact absurd (Finset.mem_univ e) hn

theorem resultR_at (act : Vec Ideal S20480x768 .bf16) (w : Vec Ideal S4x16x768x4096 .f32) (te : IVec S80 32) (nt : IVec S1 32) (l : Fin 20480) (d : Fin 4096)
    (e : Fin 16) (he : te (ix1 (tile l)) = BitVec.ofNat 32 e.val) :
    resultR act w te nt (ix2 l d)
      = if BitVec.slt (BitVec.ofNat 32 (tile l).val) (nt (ix1 0)) then ∑ f : Fin 768, act (ix2 l f) * w (ix4 1 e f d) else 0 := by
  unfold resultR
  clean_types
  pointwise
  rw [usedR_at, prodR_at act w te l d e he]
  cases BitVec.slt (BitVec.ofNat 32 (tile l).val) (nt (ix1 0)) <;> simp [Scalar.select, zero_at]

end Cert.DownRefIdeal.Down

end
-- ==== Proof.DownEqual.lean ====
/- The down-projection: the kernel's and the reference's results are equal. -/
module

public import proofs.«01_k».proof.Proof.DownBlock
public import proofs.«01_k».proof.Proof.DownRef

@[expose] public section

noncomputable section

namespace Cert.DownEqual

open Idealize.ShloMosaic Idealize.ShloMosaic.TcCoe Idealize.ShloMosaic.Tactic Cert.DownIdeal

theorem value_eq (m : (ℓ : Loc nD τ sig) → Buf (Elt Ideal) ℓ) (c : Dev nD) (hr : ∀ j, (Cert.DownIdeal.Down.expertW m j).toNat < 16) :
    Cert.DownRefIdeal.Down.resultR (m ((c : Thread nD τ).loc main_arg0)) (m ((c : Thread nD τ).loc main_arg1)) (m ((c : Thread nD τ).loc main_arg2))
        (m ((c : Thread nD τ).loc main_arg3))
      = Cert.DownIdeal.Down.resultV m c hr := by
  obtain rfl : c = 0 := Subsingleton.elim (α := Fin 1) _ _
  funext y
  obtain ⟨l, f, rfl⟩ : ∃ (l : Fin 20480) (f : Fin 4096), y = ix2 l f := ⟨y 0, y 1, eq_ix2 y⟩
  refine (Cert.DownRefIdeal.Down.resultR_at _ _ _ _ l f ⟨(Cert.DownIdeal.Down.expertW m (Cert.DownIdeal.Down.tileV l)).toNat, hr _⟩ ?_).trans ?_
  · show Cert.DownIdeal.Down.expertW m (Cert.DownIdeal.Down.tileV l) = BitVec.ofNat 32 (Cert.DownIdeal.Down.expertW m (Cert.DownIdeal.Down.tileV l)).toNat
    simp
  · rfl

end Cert.DownEqual

end
-- ==== Proof.OutBlock.lean ====
/- Mixer C's output projection: a grid point's output block at an index, and the result array. -/
module

public import proofs.«01_k».proof.Proof.Gen.OutIdeal.Value
public import Idealize.ShloMosaic.Lib.Pipeline.ValueKit
public import Idealize.ShloMosaic.Lib.Tactic.WordOmega

@[expose] public section

set_option maxRecDepth 16384

noncomputable section

namespace Cert.OutIdeal.Heads

open Idealize.ShloMosaic Idealize.ShloMosaic.TcCoe Idealize.ShloMosaic.Tactic Cert.OutIdeal Cert.OutIdeal.Gen

theorem inb_head (n : Fin 32) : ∀ a : Fin 3, (![n.val, 0, 0] : Fin 3 → Nat) a + S1x1024x128.size a ≤ S32x1024x128.size a := by
  revert n
  decide

/-- A head's rows. -/
def head (x0 : Vec Ideal S32x1024x128 .bf16) (n : Fin 32) : FVec Ideal S1024x128 .bf16 :=
  shapeCast S1024x128 (View.ld x0 (Rect.unit (s := S32x1024x128) ![n.val, 0, 0] S1x1024x128.size (inb_head n))) shapeCasts_S1x1024x128_S1024x128

theorem row_at (v : FVec Ideal S1x1024x128 .bf16) (h : S1x1024x128.ShapeCasts S1024x128) (r : Fin 1024) (d : Fin 128) :
    shapeCast S1024x128 v h (ix2 r d) = v (ix3 0 r d) := by
  pointwise

theorem emb_head (n : Fin 32) (r : Fin 1024) (d : Fin 128) :
    (Rect.unit (s := S32x1024x128) ![n.val, 0, 0] S1x1024x128.size (inb_head n)).emb (ix3 0 r d : S1x1024x128.Idx) = ix3 n r d := by
  refine (eq_ix3 _).trans ?_
  refine congr (congr (congrArg ix3 (Fin.ext ?_)) (Fin.ext ?_)) (Fin.ext ?_)
  · show n.val + 1 * 0 = n.val
    omega
  · show 0 + 1 * r.val = r.val
    omega
  · show 0 + 1 * d.val = d.val
    omega

theorem head_at (x0 : Vec Ideal S32x1024x128 .bf16) (n : Fin 32) (r : Fin 1024) (d : Fin 128) :
    head x0 n (ix2 r d) = x0 (ix3 n r d) :=
  (row_at _ _ r d).trans (congrArg x0 (emb_head n r d))

/-- The heads side by side. -/
def lhs (x0 : Vec Ideal S32x1024x128 .bf16) : FVec Ideal S1024x4096 .bf16 :=
  concatenate S1024x4096 1 (List.ofFn fun n : Fin 32 => (⟨S1024x128, head x0 n⟩ : (s : Shape) × (s.Idx → Ideal .bf16)))
    concatenates_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x4096_d1

theorem lhs_at (x0 : Vec Ideal S32x1024x128 .bf16) (r : Fin 1024) (k : Fin 4096) :
    lhs x0 (ix2 r k) = x0 (ix3 ⟨k.val / 128, by omega⟩ r ⟨k.val % 128, by omega⟩) := by
  unfold lhs
  refine (concatenate_ofFn_apply (t := S1024x4096) (s₁ := S1024x128) 1 (head x0) _ rfl 128 rfl (ix2 r k) ⟨k.val / 128, by omega⟩ rfl (ix2 r ⟨k.val % 128, by omega⟩) rfl ?_).trans (head_at _ _ _ _)
  intro b hb
  fin_cases b
  · rfl
  · exact absurd rfl hb

theorem pay2_apply (x : FVec Ideal S1024x4096 .bf16) (w : Vec Ideal S4096x512 .bf16) (r : Fin 1024) (n : Fin 512) :
    k0_pay2 (F := Ideal) x w (ix2 r n) = ∑ k : Fin 4096, x (ix2 r k) * w (ix2 k n) := by
  pointwise [k0_pay2]

theorem out_eq (x0 : Vec Ideal S32x1024x128 .bf16) (x1 : Vec Ideal S4096x512 .bf16) :
    out0_2 x0 x1 = k0_pay2 (F := Ideal) (lhs x0) x1 := by
  unfold out0_2
  rw [View.canon_cons_unit_zero (by decide), View.ld_unit_zero (by decide)]
  rfl

variable (m : (ℓ : Loc nD τ sig) → Buf (Elt Ideal) ℓ) (c : Dev nD)

theorem idx0 : ∀ t : Fin grid0.N, win0_0.index t = ![0, (grid0.coords t 0).val, 0] := by decide +kernel
theorem idx1 : ∀ t : Fin grid0.N, win0_1.index t = ![0, (grid0.coords t 1).val] := by decide +kernel
theorem idx2 : ∀ t : Fin grid0.N, win0_2.index t = ![(grid0.coords t 0).val, (grid0.coords t 1).val] := by decide +kernel

/-- The heads' rows, one head after another. -/
def inp (l : Fin 8192) (k : Fin 4096) : EReal := (m ((c : Thread nD τ).loc main_arg0) : Vec Ideal S32x8192x128 .bf16) (ix3 ⟨k.val / 128, by omega⟩ l ⟨k.val % 128, by omega⟩)
/-- The weights. -/
def wgt (k : Fin 4096) (n : Fin 4096) : EReal := (m ((c : Thread nD τ).loc main_arg1) : Vec Ideal S4096x4096 .bf16) (ix2 k n)

theorem blk0 (t : Fin cfg0.N) (r : Fin 1024) (k : Fin 4096) :
    lhs (iblk m c 0 t : Vec Ideal S32x1024x128 .bf16) (ix2 r k)
      = inp m c ⟨(grid0.coords t 0).val * 1024 + r.val, by have : (grid0.coords t 0).val < 8 := (grid0.coords t 0).isLt; omega⟩ k := by
  refine (lhs_at _ r k).trans ?_
  unfold inp
  blk_ext [iblk, idx0 t]

theorem blk1 (t : Fin cfg0.N) (k : Fin 4096) (n : Fin 512) :
    (iblk m c 1 t : Vec Ideal S4096x512 .bf16) (ix2 k n)
      = wgt m c k ⟨(grid0.coords t 1).val * 512 + n.val, by have : (grid0.coords t 1).val < 8 := (grid0.coords t 1).isLt; omega⟩ := by
  unfold wgt
  blk_ext [iblk, idx1 t]

/-- The launch's result, from the program's arguments. -/
def resultV : Vec Ideal S8192x4096 .f32 := fun y => ∑ k : Fin 4096, inp m c (y 0) k * wgt m c k (y 1)

theorem resultV_at (l : Fin 8192) (n : Fin 4096) (y : S8192x4096.Idx) (e0 : (y 0).val = l.val) (e1 : (y 1).val = n.val) :
    resultV m c y = ∑ k : Fin 4096, inp m c l k * wgt m c k n := by
  have e0 : y 0 = l := Fin.ext e0
  have e1 : y 1 = n := Fin.ext e1
  unfold resultV
  rw [e0, e1]

theorem arr_eq : (dats m 0 c).arrAt 2 cfg0.N = resultV m c := by
  refine (dats m 0 c).arrAt_eq_of_covers 2 _ (by decide +kernel) fun t hf y => ?_
  have h0 : (grid0.coords t 0).val < 8 := (grid0.coords t 0).isLt
  have h1 : (grid0.coords t 1).val < 8 := (grid0.coords t 1).isLt
  have hi := idx2 t
  obtain ⟨r, n, rfl⟩ : ∃ (r : Fin 1024) (n : Fin 512), y = (ix2 r n : S1024x512.Idx) := ⟨y 0, y 1, eq_ix2 (y : S1024x512.Idx)⟩
  blk_simp
  rw [after0_2, out_eq]
  refine Eq.trans ?_ (resultV_at m c ⟨(grid0.coords t 0).val * 1024 + r.val, by omega⟩ ⟨(grid0.coords t 1).val * 512 + n.val, by omega⟩ _ ?_ ?_).symm
  · refine (pay2_apply _ _ r n).trans ?_
    refine Finset.sum_congr rfl fun k _ => ?_
    exact congrArg₂ (· * ·) (blk0 m c t r k) (blk1 m c t k n)
  · blk_simp [hi]
  · blk_simp [hi]

end Cert.OutIdeal.Heads

end
-- ==== Proof.OutRef.lean ====
/- Mixer C's output projection: the reference at an index. -/
module

public import proofs.«01_k».proof.Proof.Gen.OutRefIdeal.Run
public import Idealize.ShloMosaic.Lib.Pointwise
public import Idealize.ShloMosaic.Lib.Tactic.CleanTypes

@[expose] public section

set_option maxRecDepth 16384

noncomputable section

namespace Cert.OutRefIdeal.Heads

open Idealize.ShloMosaic Idealize.ShloMosaic.TcCoe Idealize.ShloMosaic.Tactic Cert.OutRefIdeal Cert.OutRefIdeal.Gen Idealize.ShloMosaic.StableHlo

/-- The reference's result: the heads side by side, times the weights. -/
def resultR (o : Vec Ideal S32x8192x128 .bf16) (w : Vec Ideal S4096x4096 .bf16) : FVec Ideal S8192x4096 .f32 :=
  Host.dotGeneral (F := Ideal) (φ₁ := .f32) (φ₂ := .f32) dot_S8192x4096_S4096x4096_S8192x4096_1_0_0_1_n_n none (shapeCast _ (transpose S8192x32x128 [1, 0, 2] (extf (F := Ideal) .f32 o bitsLt_bf16_f32) transposes_S32x8192x128_S8192x32x128_1_0_2) shapeCasts_S8192x32x128_S8192x4096) (extf (F := Ideal) .f32 w bitsLt_bf16_f32)

theorem resultR_at (o : Vec Ideal S32x8192x128 .bf16) (w : Vec Ideal S4096x4096 .bf16) (l : Fin 8192) (n : Fin 4096) :
    resultR o w (ix2 l n) = ∑ k : Fin 4096, o (ix3 ⟨k.val / 128, by omega⟩ l ⟨k.val % 128, by omega⟩) * w (ix2 k n) := by
  unfold resultR
  clean_types
  pointwise

end Cert.OutRefIdeal.Heads

end
-- ==== Proof.OutEqual.lean ====
/- Mixer C's output projection: the kernel's and the reference's results are equal. -/
module

public import proofs.«01_k».proof.Proof.OutBlock
public import proofs.«01_k».proof.Proof.OutRef

@[expose] public section

noncomputable section

namespace Cert.OutEqual

open Idealize.ShloMosaic Idealize.ShloMosaic.TcCoe Idealize.ShloMosaic.Tactic Cert.OutIdeal

theorem value_eq (m : (ℓ : Loc nD τ sig) → Buf (Elt Ideal) ℓ) (c : Dev nD) :
    Cert.OutRefIdeal.Heads.resultR (m ((c : Thread nD τ).loc main_arg0)) (m ((c : Thread nD τ).loc main_arg1))
      = Cert.OutIdeal.Heads.resultV m c := by
  funext y
  obtain ⟨l, n, rfl⟩ : ∃ (l : Fin 8192) (n : Fin 4096), y = ix2 l n := ⟨y 0, y 1, eq_ix2 y⟩
  exact (Cert.OutRefIdeal.Heads.resultR_at _ _ l n).trans (Cert.OutIdeal.Heads.resultV_at m c l n _ rfl rfl).symm

end Cert.OutEqual

end
-- ==== Proof.OutAbBlock.lean ====
/- The output projection of mixers A and B: a grid point's output block at an index, and the result array. -/
module

public import proofs.«01_k».proof.Proof.Gen.OutAbIdeal.Value
public import Idealize.ShloMosaic.Lib.Pipeline.ValueKit
public import Idealize.ShloMosaic.Lib.Tactic.WordOmega

@[expose] public section

set_option maxRecDepth 16384

noncomputable section

namespace Cert.OutAbIdeal.Heads

open Idealize.ShloMosaic Idealize.ShloMosaic.TcCoe Idealize.ShloMosaic.Tactic Cert.OutAbIdeal Cert.OutAbIdeal.Gen

theorem inb_head (n : Fin 16) : ∀ a : Fin 3, (![n.val, 0, 0] : Fin 3 → Nat) a + S1x1024x128.size a ≤ S16x1024x128.size a := by
  revert n
  decide

/-- A head's rows. -/
def head (x0 : Vec Ideal S16x1024x128 .bf16) (n : Fin 16) : FVec Ideal S1024x128 .bf16 :=
  shapeCast S1024x128 (View.ld x0 (Rect.unit (s := S16x1024x128) ![n.val, 0, 0] S1x1024x128.size (inb_head n))) shapeCasts_S1x1024x128_S1024x128

theorem row_at (v : FVec Ideal S1x1024x128 .bf16) (h : S1x1024x128.ShapeCasts S1024x128) (r : Fin 1024) (d : Fin 128) :
    shapeCast S1024x128 v h (ix2 r d) = v (ix3 0 r d) := by
  pointwise

theorem emb_head (n : Fin 16) (r : Fin 1024) (d : Fin 128) :
    (Rect.unit (s := S16x1024x128) ![n.val, 0, 0] S1x1024x128.size (inb_head n)).emb (ix3 0 r d : S1x1024x128.Idx) = ix3 n r d := by
  refine (eq_ix3 _).trans ?_
  refine congr (congr (congrArg ix3 (Fin.ext ?_)) (Fin.ext ?_)) (Fin.ext ?_)
  · show n.val + 1 * 0 = n.val
    omega
  · show 0 + 1 * r.val = r.val
    omega
  · show 0 + 1 * d.val = d.val
    omega

theorem head_at (x0 : Vec Ideal S16x1024x128 .bf16) (n : Fin 16) (r : Fin 1024) (d : Fin 128) :
    head x0 n (ix2 r d) = x0 (ix3 n r d) :=
  (row_at _ _ r d).trans (congrArg x0 (emb_head n r d))

/-- A head's rows, of the first mixer's heads and then the second's. -/
def either (x0 x1 : Vec Ideal S16x1024x128 .bf16) (n : Fin 32) : FVec Ideal S1024x128 .bf16 :=
  if h : n.val < 16 then head x0 ⟨n.val, h⟩ else head x1 ⟨n.val - 16, by omega⟩

/-- The heads side by side. -/
def lhs (x0 x1 : Vec Ideal S16x1024x128 .bf16) : FVec Ideal S1024x4096 .bf16 :=
  concatenate S1024x4096 1 (List.ofFn fun n : Fin 32 => (⟨S1024x128, either x0 x1 n⟩ : (s : Shape) × (s.Idx → Ideal .bf16)))
    concatenates_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x4096_d1

theorem lhs_either (x0 x1 : Vec Ideal S16x1024x128 .bf16) (r : Fin 1024) (k : Fin 4096) :
    lhs x0 x1 (ix2 r k) = either x0 x1 ⟨k.val / 128, by omega⟩ (ix2 r ⟨k.val % 128, by omega⟩) := by
  unfold lhs
  refine concatenate_ofFn_apply (t := S1024x4096) (s₁ := S1024x128) 1 (either x0 x1) _ rfl 128 rfl (ix2 r k) ⟨k.val / 128, by omega⟩ rfl (ix2 r ⟨k.val % 128, by omega⟩) rfl ?_
  intro b hb
  fin_cases b
  · rfl
  · exact absurd rfl hb

theorem lhs_at (x0 x1 : Vec Ideal S16x1024x128 .bf16) (r : Fin 1024) (k : Fin 4096) :
    lhs x0 x1 (ix2 r k) = if h : k.val < 2048 then x0 (ix3 ⟨k.val / 128, by omega⟩ r ⟨k.val % 128, by omega⟩) else x1 (ix3 ⟨(k.val - 2048) / 128, by omega⟩ r ⟨(k.val - 2048) % 128, by omega⟩) := by
  refine (lhs_either x0 x1 r k).trans ?_
  unfold either
  by_cases h : k.val < 2048
  · rw [dif_pos h, dif_pos (show k.val / 128 < 16 by omega)]
    exact head_at _ _ _ _
  · rw [dif_neg h, dif_neg (show ¬ k.val / 128 < 16 by omega)]
    refine (head_at _ _ _ _).trans (congrArg x1 ?_)
    exact congr (congr (congrArg ix3 (Fin.ext (by dsimp only; omega))) rfl) (Fin.ext (by dsimp only; omega))

theorem pay2_apply (x : FVec Ideal S1024x4096 .bf16) (w : Vec Ideal S4096x512 .bf16) (r : Fin 1024) (n : Fin 512) :
    k0_pay2 (F := Ideal) x w (ix2 r n) = ∑ k : Fin 4096, x (ix2 r k) * w (ix2 k n) := by
  pointwise [k0_pay2]

theorem out_eq (x0 x1 : Vec Ideal S16x1024x128 .bf16) (x2 : Vec Ideal S4096x512 .bf16) :
    out0_3 x0 x1 x2 = k0_pay2 (F := Ideal) (lhs x0 x1) x2 := by
  unfold out0_3
  rw [View.canon_cons_unit_zero (by decide), View.ld_unit_zero (by decide)]
  rfl

variable (m : (ℓ : Loc nD τ sig) → Buf (Elt Ideal) ℓ) (c : Dev nD)

theorem idx0 : ∀ t : Fin grid0.N, win0_0.index t = ![0, (grid0.coords t 0).val, 0] := by decide +kernel
theorem idx1 : ∀ t : Fin grid0.N, win0_1.index t = ![0, (grid0.coords t 0).val, 0] := by decide +kernel
theorem idx2 : ∀ t : Fin grid0.N, win0_2.index t = ![0, (grid0.coords t 1).val] := by decide +kernel
theorem idx3 : ∀ t : Fin grid0.N, win0_3.index t = ![(grid0.coords t 0).val, (grid0.coords t 1).val] := by decide +kernel

/-- The two mixers' heads' rows, one head after another. -/
def inp (l : Fin 8192) (k : Fin 4096) : EReal :=
  if h : k.val < 2048 then (m ((c : Thread nD τ).loc main_arg0) : Vec Ideal S16x8192x128 .bf16) (ix3 ⟨k.val / 128, by omega⟩ l ⟨k.val % 128, by omega⟩)
  else (m ((c : Thread nD τ).loc main_arg1) : Vec Ideal S16x8192x128 .bf16) (ix3 ⟨(k.val - 2048) / 128, by omega⟩ l ⟨(k.val - 2048) % 128, by omega⟩)
/-- The weights. -/
def wgt (k : Fin 4096) (n : Fin 4096) : EReal := (m ((c : Thread nD τ).loc main_arg2) : Vec Ideal S4096x4096 .bf16) (ix2 k n)

theorem blk0 (t : Fin cfg0.N) (r : Fin 1024) (k : Fin 4096) :
    lhs (iblk m c 0 t : Vec Ideal S16x1024x128 .bf16) (iblk m c 1 t : Vec Ideal S16x1024x128 .bf16) (ix2 r k)
      = inp m c ⟨(grid0.coords t 0).val * 1024 + r.val, by have : (grid0.coords t 0).val < 8 := (grid0.coords t 0).isLt; omega⟩ k := by
  refine (lhs_at _ _ r k).trans ?_
  unfold inp
  by_cases h : k.val < 2048
  · rw [dif_pos h, dif_pos h]
    blk_ext [iblk, idx0 t]
  · rw [dif_neg h, dif_neg h]
    blk_ext [iblk, idx1 t]

theorem blk2 (t : Fin cfg0.N) (k : Fin 4096) (n : Fin 512) :
    (iblk m c 2 t : Vec Ideal S4096x512 .bf16) (ix2 k n)
      = wgt m c k ⟨(grid0.coords t 1).val * 512 + n.val, by have : (grid0.coords t 1).val < 8 := (grid0.coords t 1).isLt; omega⟩ := by
  unfold wgt
  blk_ext [iblk, idx2 t]

/-- The launch's result, from the program's arguments. -/
def resultV : Vec Ideal S8192x4096 .f32 := fun y => ∑ k : Fin 4096, inp m c (y 0) k * wgt m c k (y 1)

theorem resultV_at (l : Fin 8192) (n : Fin 4096) (y : S8192x4096.Idx) (e0 : (y 0).val = l.val) (e1 : (y 1).val = n.val) :
    resultV m c y = ∑ k : Fin 4096, inp m c l k * wgt m c k n := by
  have e0 : y 0 = l := Fin.ext e0
  have e1 : y 1 = n := Fin.ext e1
  unfold resultV
  rw [e0, e1]

theorem arr_eq : (dats m 0 c).arrAt 3 cfg0.N = resultV m c := by
  refine (dats m 0 c).arrAt_eq_of_covers 3 _ (by decide +kernel) fun t hf y => ?_
  have h0 : (grid0.coords t 0).val < 8 := (grid0.coords t 0).isLt
  have h1 : (grid0.coords t 1).val < 8 := (grid0.coords t 1).isLt
  have hi := idx3 t
  obtain ⟨r, n, rfl⟩ : ∃ (r : Fin 1024) (n : Fin 512), y = (ix2 r n : S1024x512.Idx) := ⟨y 0, y 1, eq_ix2 (y : S1024x512.Idx)⟩
  blk_simp
  rw [after0_3, out_eq]
  refine Eq.trans ?_ (resultV_at m c ⟨(grid0.coords t 0).val * 1024 + r.val, by omega⟩ ⟨(grid0.coords t 1).val * 512 + n.val, by omega⟩ _ ?_ ?_).symm
  · refine (pay2_apply _ _ r n).trans ?_
    refine Finset.sum_congr rfl fun k _ => ?_
    exact congrArg₂ (· * ·) (blk0 m c t r k) (blk2 m c t k n)
  · blk_simp [hi]
  · blk_simp [hi]

end Cert.OutAbIdeal.Heads

end
-- ==== Proof.OutAbRef.lean ====
/- The output projection of mixers A and B: the reference at an index. -/
module

public import proofs.«01_k».proof.Proof.Gen.OutAbRefIdeal.Run
public import Idealize.ShloMosaic.Lib.Pointwise
public import Idealize.ShloMosaic.Lib.Tactic.CleanTypes

@[expose] public section

set_option maxRecDepth 16384

noncomputable section

namespace Cert.OutAbRefIdeal.Heads

open Idealize.ShloMosaic Idealize.ShloMosaic.TcCoe Idealize.ShloMosaic.Tactic Cert.OutAbRefIdeal Cert.OutAbRefIdeal.Gen Idealize.ShloMosaic.StableHlo

/-- A mixer's heads side by side. -/
def rowsR (o : Vec Ideal S16x8192x128 .bf16) : FVec Ideal S8192x2048 .f32 :=
  shapeCast _ (transpose S8192x16x128 [1, 0, 2] (extf (F := Ideal) .f32 o bitsLt_bf16_f32) transposes_S16x8192x128_S8192x16x128_1_0_2) shapeCasts_S8192x16x128_S8192x2048

/-- Both mixers' heads side by side. -/
def bothR (oa ob : Vec Ideal S16x8192x128 .bf16) : FVec Ideal S8192x4096 .f32 :=
  concatenate S8192x4096 1 [⟨S8192x2048, rowsR oa⟩, ⟨S8192x2048, rowsR ob⟩] concatenates_S8192x2048_S8192x2048_S8192x4096_d1

/-- The reference's result: the heads side by side, times the weights. -/
def resultR (oa ob : Vec Ideal S16x8192x128 .bf16) (w : Vec Ideal S4096x4096 .bf16) : FVec Ideal S8192x4096 .f32 :=
  Host.dotGeneral (F := Ideal) (φ₁ := .f32) (φ₂ := .f32) dot_S8192x4096_S4096x4096_S8192x4096_1_0_0_1_n_n none (bothR oa ob) (extf (F := Ideal) .f32 w bitsLt_bf16_f32)

theorem rowsR_at (o : Vec Ideal S16x8192x128 .bf16) (l : Fin 8192) (k : Fin 2048) :
    rowsR o (ix2 l k) = o (ix3 ⟨k.val / 128, by omega⟩ l ⟨k.val % 128, by omega⟩) := by
  unfold rowsR
  clean_types
  pointwise

theorem bothR_at (oa ob : Vec Ideal S16x8192x128 .bf16) (l : Fin 8192) (k : Fin 4096) :
    bothR oa ob (ix2 l k) = if h : k.val < 2048 then oa (ix3 ⟨k.val / 128, by omega⟩ l ⟨k.val % 128, by omega⟩) else ob (ix3 ⟨(k.val - 2048) / 128, by omega⟩ l ⟨(k.val - 2048) % 128, by omega⟩) := by
  unfold bothR
  by_cases h : k.val < 2048
  · rw [dif_pos h]
    refine (concatenate_pair_apply_left (t := S8192x4096) 1 (rowsR oa) (rowsR ob) _ (ix2 l k) rfl (ix2 l ⟨k.val, h⟩) ?_).trans (rowsR_at oa l ⟨k.val, h⟩)
    intro b
    fin_cases b <;> rfl
  · rw [dif_neg h]
    refine (concatenate_pair_apply_right (t := S8192x4096) 1 (rowsR oa) (rowsR ob) _ (ix2 l k) rfl rfl (ix2 l ⟨k.val - 2048, by omega⟩) ?_ ?_).trans (rowsR_at ob l ⟨k.val - 2048, by omega⟩)
    · intro b hb
      fin_cases b
      · rfl
      · exact absurd rfl hb
    · show k.val - 2048 + 2048 = k.val
      omega

theorem resultR_at (oa ob : Vec Ideal S16x8192x128 .bf16) (w : Vec Ideal S4096x4096 .bf16) (l : Fin 8192) (n : Fin 4096) :
    resultR oa ob w (ix2 l n) = ∑ k : Fin 4096, bothR oa ob (ix2 l k) * w (ix2 k n) := by
  unfold resultR
  clean_types
  pointwise

end Cert.OutAbRefIdeal.Heads

end
-- ==== Proof.OutAbEqual.lean ====
/- The output projection of mixers A and B: the kernel's and the reference's results are equal. -/
module

public import proofs.«01_k».proof.Proof.OutAbBlock
public import proofs.«01_k».proof.Proof.OutAbRef

@[expose] public section

noncomputable section

namespace Cert.OutAbEqual

open Idealize.ShloMosaic Idealize.ShloMosaic.TcCoe Idealize.ShloMosaic.Tactic Cert.OutAbIdeal

theorem value_eq (m : (ℓ : Loc nD τ sig) → Buf (Elt Ideal) ℓ) (c : Dev nD) :
    Cert.OutAbRefIdeal.Heads.resultR (m ((c : Thread nD τ).loc main_arg0)) (m ((c : Thread nD τ).loc main_arg1)) (m ((c : Thread nD τ).loc main_arg2))
      = Cert.OutAbIdeal.Heads.resultV m c := by
  funext y
  obtain ⟨l, n, rfl⟩ : ∃ (l : Fin 8192) (n : Fin 4096), y = ix2 l n := ⟨y 0, y 1, eq_ix2 y⟩
  refine (Cert.OutAbRefIdeal.Heads.resultR_at _ _ _ l n).trans (Eq.trans ?_ (Cert.OutAbIdeal.Heads.resultV_at m c l n _ rfl rfl).symm)
  exact Finset.sum_congr rfl fun k _ => congrArg (· * _) (Cert.OutAbRefIdeal.Heads.bothR_at _ _ l k)

end Cert.OutAbEqual

end
-- ==== Proof.AbBlock.lean ====
/- The input projection of mixers A and B: a grid point's output block at an index, and the result array. -/
module

public import proofs.«01_k».proof.Proof.Gen.AbIdeal.Value
public import Idealize.ShloMosaic.Lib.Pipeline.ValueKit
public import Idealize.ShloMosaic.Lib.Tactic.WordOmega

@[expose] public section

set_option maxRecDepth 16384

noncomputable section

namespace Cert.AbIdeal.Heads

open Idealize.ShloMosaic Idealize.ShloMosaic.TcCoe Idealize.ShloMosaic.Tactic Cert.AbIdeal Cert.AbIdeal.Gen

/-- A grid point's product, at an index. -/
def cellH (x0 : Vec Ideal S1024x4096 .bf16) (x1 : Vec Ideal S4096x512 .bf16) (r : Fin 1024) (n : Fin 512) : EReal :=
  ∑ k : Fin 4096, x0 (ix2 r k) * x1 (ix2 k n)

theorem pay1_apply (x1 : Vec Ideal S4096x512 .bf16) (x0 : Vec Ideal S1024x4096 .bf16) (r : Fin 1024) (n : Fin 512) :
    k0_pay1 (F := Ideal) x1 x0 (ix2 r n) = cellH x0 x1 r n := by
  unfold cellH
  pointwise [k0_pay1]

/-- The four 128-column heads of a product, stacked. -/
def stack (x0 : Vec Ideal S1024x4096 .bf16) (x1 : Vec Ideal S4096x512 .bf16) : Vec Ideal S4x1024x128 .bf16 := fun y =>
  cellH x0 x1 (y 1) ⟨(y 0).val * 128 + (y 2).val, by
    have h0 : (y 0).val < 4 := (y 0).isLt
    have h2 : (y 2).val < 128 := (y 2).isLt
    omega⟩

theorem slice_at (o : Nat) (g : Fin 4) (ho : o = g.val * 128) (x1 : Vec Ideal S4096x512 .bf16) (x0 : Vec Ideal S1024x4096 .bf16)
    (h : S1024x512.Slices ![0, o] S1024x128) (hc : S1024x128.ShapeCasts S1x1024x128) (z : Fin 1) (r : Fin 1024) (d : Fin 128) :
    shapeCast S1x1024x128 (truncf (F := Ideal) .bf16 (extractStridedSlice S1024x128 ![0, o] (k0_pay1 (F := Ideal) x1 x0) h) bitsLt_bf16_f32) hc (ix3 z r d)
      = cellH x0 x1 r ⟨g.val * 128 + d.val, by omega⟩ := by
  subst ho
  rw [← pay1_apply]
  pointwise

theorem piece_at (o : Nat) (g : Fin 4) (ho : o = g.val * 128) (x1 : Vec Ideal S4096x512 .bf16) (x0 : Vec Ideal S1024x4096 .bf16)
    (h : S1024x512.Slices ![0, o] S1024x128) (hc : S1024x128.ShapeCasts S1x1024x128) (y : S4x1024x128.Idx) :
    View.TileAt (S := S4x1024x128) y ![g.val, 0, 0] S1x1024x128.size (shapeCast S1x1024x128 (truncf (F := Ideal) .bf16 (extractStridedSlice S1024x128 ![0, o] (k0_pay1 (F := Ideal) x1 x0) h) bitsLt_bf16_f32) hc) (stack x0 x1 y) := by
  intro x hx
  obtain ⟨z, r, d, rfl⟩ : ∃ (z : Fin 1) (r : Fin 1024) (d : Fin 128), x = (ix3 z r d : S1x1024x128.Idx) := ⟨x 0, x 1, x 2, eq_ix3 (x : S1x1024x128.Idx)⟩
  refine (slice_at o g ho x1 x0 h hc z r d).trans ?_
  have e0 : (y 0).val = g.val + z.val := hx 0
  have e1 : (y 1).val = 0 + r.val := hx 1
  have e2 : (y 2).val = 0 + d.val := hx 2
  unfold stack
  congr 1
  · exact Fin.ext (by omega)
  · exact Fin.ext (by dsimp only; omega)

theorem out_eq (x0 : Vec Ideal S1024x4096 .bf16) (x1 : Vec Ideal S4096x512 .bf16) :
    out0_2 x0 x1 = stack x0 x1 := by
  funext y
  unfold out0_2
  refine View.canon_eq_of_allAt _ y _ (cover0_2 _ _ _ _ y) ?_
  rw [View.ld_unit_zero (by decide), View.ld_unit_zero (by decide)]
  refine View.allAt_cons_unit _ _ _ _ _ (piece_at 384 3 rfl x1 x0 _ _ y) ?_
  refine View.allAt_cons_unit _ _ _ _ _ (piece_at 256 2 rfl x1 x0 _ _ y) ?_
  refine View.allAt_cons_unit _ _ _ _ _ (piece_at 128 1 rfl x1 x0 _ _ y) ?_
  exact View.allAt_cons_unit _ _ _ _ _ (piece_at 0 0 rfl x1 x0 _ _ y) (View.allAt_nil _ _)

variable (m : (ℓ : Loc nD τ sig) → Buf (Elt Ideal) ℓ) (c : Dev nD)

theorem idx0 : ∀ t : Fin grid0.N, win0_0.index t = ![(grid0.coords t 0).val, 0] := by decide +kernel
theorem idx1 : ∀ t : Fin grid0.N, win0_1.index t = ![0, (grid0.coords t 1).val] := by decide +kernel
theorem idx2 : ∀ t : Fin grid0.N, win0_2.index t = ![(grid0.coords t 1).val, (grid0.coords t 0).val, 0] := by decide +kernel

/-- The projection's input rows. -/
def inp (l : Fin 8192) (k : Fin 4096) : EReal := (m ((c : Thread nD τ).loc main_arg0) : Vec Ideal S8192x4096 .bf16) (ix2 l k)
/-- The weights. -/
def wgt (k : Fin 4096) (n : Fin 5632) : EReal := (m ((c : Thread nD τ).loc main_arg1) : Vec Ideal S4096x5632 .bf16) (ix2 k n)

theorem blk0 (t : Fin cfg0.N) (r : Fin 1024) (k : Fin 4096) :
    (iblk m c 0 t : Vec Ideal S1024x4096 .bf16) (ix2 r k)
      = inp m c ⟨(grid0.coords t 0).val * 1024 + r.val, by have : (grid0.coords t 0).val < 8 := (grid0.coords t 0).isLt; omega⟩ k := by
  unfold inp
  blk_ext [iblk, idx0 t]

theorem blk1 (t : Fin cfg0.N) (k : Fin 4096) (n : Fin 512) :
    (iblk m c 1 t : Vec Ideal S4096x512 .bf16) (ix2 k n)
      = wgt m c k ⟨(grid0.coords t 1).val * 512 + n.val, by have : (grid0.coords t 1).val < 11 := (grid0.coords t 1).isLt; omega⟩ := by
  unfold wgt
  blk_ext [iblk, idx1 t]

/-- The launch's result, from the program's arguments. -/
def resultV : Vec Ideal S44x8192x128 .bf16 := fun y =>
  ∑ k : Fin 4096, inp m c (y 1) k * wgt m c k ⟨(y 0).val * 128 + (y 2).val, by
    have h0 : (y 0).val < 44 := (y 0).isLt
    have h2 : (y 2).val < 128 := (y 2).isLt
    omega⟩

theorem resultV_at (h : Fin 44) (l : Fin 8192) (d : Fin 128) (y : S44x8192x128.Idx) (e0 : (y 0).val = h.val) (e1 : (y 1).val = l.val) (e2 : (y 2).val = d.val) :
    resultV m c y = ∑ k : Fin 4096, inp m c l k * wgt m c k ⟨h.val * 128 + d.val, by omega⟩ := by
  have e1 : y 1 = l := Fin.ext e1
  unfold resultV
  refine Finset.sum_congr rfl fun k _ => ?_
  rw [e1]
  congr 2
  exact Fin.ext (by dsimp only; omega)

theorem arr_eq : (dats m 0 c).arrAt 2 cfg0.N = resultV m c := by
  refine (dats m 0 c).arrAt_eq_of_covers 2 _ (by decide +kernel) fun t hf y => ?_
  have h0 : (grid0.coords t 0).val < 8 := (grid0.coords t 0).isLt
  have h1 : (grid0.coords t 1).val < 11 := (grid0.coords t 1).isLt
  have hi := idx2 t
  obtain ⟨g, r, d, rfl⟩ : ∃ (g : Fin 4) (r : Fin 1024) (d : Fin 128), y = (ix3 g r d : S4x1024x128.Idx) := ⟨y 0, y 1, y 2, eq_ix3 (y : S4x1024x128.Idx)⟩
  blk_simp
  rw [after0_2, out_eq]
  refine Eq.trans ?_ (resultV_at m c ⟨(grid0.coords t 1).val * 4 + g.val, by omega⟩ ⟨(grid0.coords t 0).val * 1024 + r.val, by omega⟩ d _ ?_ ?_ ?_).symm
  · show cellH _ _ _ _ = _
    unfold cellH
    refine Finset.sum_congr rfl fun k _ => ?_
    refine congrArg₂ (· * ·) (blk0 m c t r k) ((blk1 m c t k _).trans ?_)
    congr 1
    exact Fin.ext (by dsimp only [ix3]; omega)
  · blk_simp [hi]
  · blk_simp [hi]
  · blk_simp [hi]

end Cert.AbIdeal.Heads

end
-- ==== Proof.AbRef.lean ====
/- The input projection of mixers A and B: the reference at an index. -/
module

public import proofs.«01_k».proof.Proof.Gen.AbRefIdeal.Run
public import Idealize.ShloMosaic.Lib.Pointwise
public import Idealize.ShloMosaic.Lib.Tactic.CleanTypes

@[expose] public section

set_option maxRecDepth 16384

noncomputable section

namespace Cert.AbRefIdeal.Heads

open Idealize.ShloMosaic Idealize.ShloMosaic.TcCoe Idealize.ShloMosaic.Tactic Cert.AbRefIdeal Cert.AbRefIdeal.Gen Idealize.ShloMosaic.StableHlo

/-- The reference's result: the product, its columns split into heads, heads first. -/
def resultR (x : Vec Ideal S8192x4096 .bf16) (w : Vec Ideal S4096x5632 .bf16) : FVec Ideal S44x8192x128 .bf16 :=
  truncf (F := Ideal) .bf16 (transpose S44x8192x128 [1, 0, 2] (shapeCast S8192x44x128 (Host.dotGeneral (F := Ideal) (φ₁ := .f32) (φ₂ := .f32) dot_S8192x4096_S4096x5632_S8192x5632_1_0_0_1_n_n none (extf .f32 x bitsLt_bf16_f32) (extf .f32 w bitsLt_bf16_f32)) shapeCasts_S8192x5632_S8192x44x128) transposes_S8192x44x128_S44x8192x128_1_0_2) bitsLt_bf16_f32

theorem resultR_at (x : Vec Ideal S8192x4096 .bf16) (w : Vec Ideal S4096x5632 .bf16) (h : Fin 44) (l : Fin 8192) (d : Fin 128) :
    resultR x w (ix3 h l d) = ∑ k : Fin 4096, x (ix2 l k) * w (ix2 k ⟨h.val * 128 + d.val, by omega⟩) := by
  unfold resultR
  clean_types
  pointwise

end Cert.AbRefIdeal.Heads

end
-- ==== Proof.AbEqual.lean ====
/- The input projection of mixers A and B: the kernel's and the reference's results are equal. -/
module

public import proofs.«01_k».proof.Proof.AbBlock
public import proofs.«01_k».proof.Proof.AbRef

@[expose] public section

noncomputable section

namespace Cert.AbEqual

open Idealize.ShloMosaic Idealize.ShloMosaic.TcCoe Idealize.ShloMosaic.Tactic Cert.AbIdeal

theorem value_eq (m : (ℓ : Loc nD τ sig) → Buf (Elt Ideal) ℓ) (c : Dev nD) :
    Cert.AbRefIdeal.Heads.resultR (m ((c : Thread nD τ).loc main_arg0)) (m ((c : Thread nD τ).loc main_arg1))
      = Cert.AbIdeal.Heads.resultV m c := by
  funext y
  obtain ⟨h, l, d, rfl⟩ : ∃ (h : Fin 44) (l : Fin 8192) (d : Fin 128), y = ix3 h l d := ⟨y 0, y 1, y 2, eq_ix3 y⟩
  exact (Cert.AbRefIdeal.Heads.resultR_at _ _ h l d).trans (Cert.AbIdeal.Heads.resultV_at m c h l d _ rfl rfl rfl).symm

end Cert.AbEqual

end
-- ==== Proof.WinTrip.lean ====
/- One trip of the loop over row blocks, as vector operations: sixteen heads' scores against the window of keys the
   trip loads, their shifted powers of two and sums, one product with the window of values, gated and added. -/
module

public import proofs.«01_k».proof.Proof.Gen.WinIdeal.Value

@[expose] public section

set_option maxRecDepth 16384

noncomputable section

namespace Cert.WinIdeal.Win

open Idealize.ShloMosaic Idealize.ShloMosaic.TcCoe Idealize.ShloMosaic.Tactic Cert.WinIdeal Cert.WinIdeal.Gen

variable {F : FTy → Type} [FloatOps F] [Named F]

/-- The keys a row may use: the window's, from the first key of the sequence on. -/
def validV (a1 : BitVec 32) (v21 : IVec S128x640 32) (v29 : IVec S128x640 1) (k : Fin k0_t1_loop.trips) : IVec S128x640 1 :=
  andi v29 (cmpi .sge v21 (broadcast S128x640 (Scalar.subi 512#32 (Scalar.addi (Scalar.muli a1 512#32) (Scalar.muli (Scf.iv 0#32 1#32 k) 128#32)))))

/-- All heads' products of queries and keys. -/
def allV (q : Vec F S16x128x128 .bf16) (kw : Vec F S640x128 .bf16) : FVec F S2048x640 .f32 :=
  matmul dot_S2048x128_S640x128_S2048x640_1_1_0_0_n_n none (shapeCast S2048x128 (shapeCast S16x128x128 q shapeCasts_S16x128x128_S16x128x128) shapeCasts_S16x128x128_S2048x128) kw (constant S2048x640 .f32 0x00000000#32)

/-- One head's masked scores. -/
def scoreV (va : IVec S128x640 1) (sg : FVec F S128x640 .f32) (sl : Elt F .f32) (v30 : FVec F S128x640 .f32) : FVec F S128x640 .f32 :=
  select va (addf sg (mulf (broadcast S128x640 sl) (subf (broadcast S128x640 (Scalar.ofBits .f32 0x00000000#32)) v30))) (broadcast S128x640 (Named.named κ "mask" 0xF149F2CA#32))

/-- A row's greatest score. -/
def topV (s : FVec F S128x640 .f32) : FVec F S128x1 .f32 :=
  shapeCast S128x1 (multiReduction .maximumf [1] S128 s 0xFF800000#32 reduces_S128x640_S128 (.inl rfl) rfl) shapeCasts_S128_S128x1

/-- The powers of two of the scores below the greatest. -/
def powV (s : FVec F S128x640 .f32) : FVec F S128x640 .f32 :=
  exp2 (subf s (broadcastTo S128x640 (topV s) broadcasts_S128x1_S128x640))

/-- A row's sum. -/
def sumV (s : FVec F S128x640 .f32) : FVec F S128x1 .f32 :=
  shapeCast S128x1 (multiReduction .add [1] S128 (powV s) 0x00000000#32 reduces_S128x640_S128 (.inl rfl) rfl) shapeCasts_S128_S128x1

/-- The sixteen heads' powers times the window of values. -/
def accV (s0 s1 s2 s3 s4 s5 s6 s7 s8 s9 s10 s11 s12 s13 s14 s15 : FVec F S128x640 .f32) (vw : Vec F S640x128 .bf16) : FVec F S2048x128 .f32 :=
  matmul dot_S2048x640_S640x128_S2048x128_1_0_0_1_n_n none
    (concatenate S2048x640 0 [⟨S128x640, truncf .bf16 (powV s0) bitsLt_bf16_f32⟩, ⟨S128x640, truncf .bf16 (powV s1) bitsLt_bf16_f32⟩, ⟨S128x640, truncf .bf16 (powV s2) bitsLt_bf16_f32⟩, ⟨S128x640, truncf .bf16 (powV s3) bitsLt_bf16_f32⟩, ⟨S128x640, truncf .bf16 (powV s4) bitsLt_bf16_f32⟩, ⟨S128x640, truncf .bf16 (powV s5) bitsLt_bf16_f32⟩, ⟨S128x640, truncf .bf16 (powV s6) bitsLt_bf16_f32⟩, ⟨S128x640, truncf .bf16 (powV s7) bitsLt_bf16_f32⟩, ⟨S128x640, truncf .bf16 (powV s8) bitsLt_bf16_f32⟩, ⟨S128x640, truncf .bf16 (powV s9) bitsLt_bf16_f32⟩, ⟨S128x640, truncf .bf16 (powV s10) bitsLt_bf16_f32⟩, ⟨S128x640, truncf .bf16 (powV s11) bitsLt_bf16_f32⟩, ⟨S128x640, truncf .bf16 (powV s12) bitsLt_bf16_f32⟩, ⟨S128x640, truncf .bf16 (powV s13) bitsLt_bf16_f32⟩, ⟨S128x640, truncf .bf16 (powV s14) bitsLt_bf16_f32⟩, ⟨S128x640, truncf .bf16 (powV s15) bitsLt_bf16_f32⟩] concatenates_S128x640_S128x640_S128x640_S128x640_S128x640_S128x640_S128x640_S128x640_S128x640_S128x640_S128x640_S128x640_S128x640_S128x640_S128x640_S128x640_S2048x640_d0)
    vw (constant S2048x128 .f32 0x00000000#32)

/-- The gates' logits of a block of rows. -/
def gateV (gl : Vec F S1x128x128 .bf16) : FVec F S128x128 .f32 :=
  extf .f32 (shapeCast S128x128 gl shapeCasts_S1x128x128_S128x128) bitsLt_bf16_f32

/-- One head's output rows. -/
def outV (gc : FVec F S128x1 .f32) (oa : Vec F S1x128x128 .f32) (ag : FVec F S128x128 .f32) (l : FVec F S128x1 .f32) : FVec F S1x128x128 .bf16 :=
  shapeCast S1x128x128 (truncf .bf16 (addf (shapeCast S128x128 oa shapeCasts_S1x128x128_S128x128)
    (mulf (broadcastTo S128x128 (logistic gc) broadcasts_S128x1_S128x128) (divf ag (broadcastTo S128x128 l broadcasts_S128x1_S128x128)))) bitsLt_bf16_f32) shapeCasts_S128x128_S1x128x128

/-- Head 0's masked scores. -/
def score0 (va : IVec S128x640 1) (q : Vec F S16x128x128 .bf16) (kw : Vec F S640x128 .bf16) (sl : Elt F .f32) (v30 : FVec F S128x640 .f32) : FVec F S128x640 .f32 :=
  scoreV va (extractStridedSlice S128x640 ![0, 0] (allV q kw) slices_S2048x640_o0_0_S128x640) sl v30

/-- Head 1's masked scores. -/
def score1 (va : IVec S128x640 1) (q : Vec F S16x128x128 .bf16) (kw : Vec F S640x128 .bf16) (sl : Elt F .f32) (v30 : FVec F S128x640 .f32) : FVec F S128x640 .f32 :=
  scoreV va (extractStridedSlice S128x640 ![128, 0] (allV q kw) slices_S2048x640_o128_0_S128x640) sl v30

/-- Head 2's masked scores. -/
def score2 (va : IVec S128x640 1) (q : Vec F S16x128x128 .bf16) (kw : Vec F S640x128 .bf16) (sl : Elt F .f32) (v30 : FVec F S128x640 .f32) : FVec F S128x640 .f32 :=
  scoreV va (extractStridedSlice S128x640 ![256, 0] (allV q kw) slices_S2048x640_o256_0_S128x640) sl v30

/-- Head 3's masked scores. -/
def score3 (va : IVec S128x640 1) (q : Vec F S16x128x128 .bf16) (kw : Vec F S640x128 .bf16) (sl : Elt F .f32) (v30 : FVec F S128x640 .f32) : FVec F S128x640 .f32 :=
  scoreV va (extractStridedSlice S128x640 ![384, 0] (allV q kw) slices_S2048x640_o384_0_S128x640) sl v30

/-- Head 4's masked scores. -/
def score4 (va : IVec S128x640 1) (q : Vec F S16x128x128 .bf16) (kw : Vec F S640x128 .bf16) (sl : Elt F .f32) (v30 : FVec F S128x640 .f32) : FVec F S128x640 .f32 :=
  scoreV va (extractStridedSlice S128x640 ![512, 0] (allV q kw) slices_S2048x640_o512_0_S128x640) sl v30

/-- Head 5's masked scores. -/
def score5 (va : IVec S128x640 1) (q : Vec F S16x128x128 .bf16) (kw : Vec F S640x128 .bf16) (sl : Elt F .f32) (v30 : FVec F S128x640 .f32) : FVec F S128x640 .f32 :=
  scoreV va (extractStridedSlice S128x640 ![640, 0] (allV q kw) slices_S2048x640_o640_0_S128x640) sl v30

/-- Head 6's masked scores. -/
def score6 (va : IVec S128x640 1) (q : Vec F S16x128x128 .bf16) (kw : Vec F S640x128 .bf16) (sl : Elt F .f32) (v30 : FVec F S128x640 .f32) : FVec F S128x640 .f32 :=
  scoreV va (extractStridedSlice S128x640 ![768, 0] (allV q kw) slices_S2048x640_o768_0_S128x640) sl v30

/-- Head 7's masked scores. -/
def score7 (va : IVec S128x640 1) (q : Vec F S16x128x128 .bf16) (kw : Vec F S640x128 .bf16) (sl : Elt F .f32) (v30 : FVec F S128x640 .f32) : FVec F S128x640 .f32 :=
  scoreV va (extractStridedSlice S128x640 ![896, 0] (allV q kw) slices_S2048x640_o896_0_S128x640) sl v30

/-- Head 8's masked scores. -/
def score8 (va : IVec S128x640 1) (q : Vec F S16x128x128 .bf16) (kw : Vec F S640x128 .bf16) (sl : Elt F .f32) (v30 : FVec F S128x640 .f32) : FVec F S128x640 .f32 :=
  scoreV va (extractStridedSlice S128x640 ![1024, 0] (allV q kw) slices_S2048x640_o1024_0_S128x640) sl v30

/-- Head 9's masked scores. -/
def score9 (va : IVec S128x640 1) (q : Vec F S16x128x128 .bf16) (kw : Vec F S640x128 .bf16) (sl : Elt F .f32) (v30 : FVec F S128x640 .f32) : FVec F S128x640 .f32 :=
  scoreV va (extractStridedSlice S128x640 ![1152, 0] (allV q kw) slices_S2048x640_o1152_0_S128x640) sl v30

/-- Head 10's masked scores. -/
def score10 (va : IVec S128x640 1) (q : Vec F S16x128x128 .bf16) (kw : Vec F S640x128 .bf16) (sl : Elt F .f32) (v30 : FVec F S128x640 .f32) : FVec F S128x640 .f32 :=
  scoreV va (extractStridedSlice S128x640 ![1280, 0] (allV q kw) slices_S2048x640_o1280_0_S128x640) sl v30

/-- Head 11's masked scores. -/
def score11 (va : IVec S128x640 1) (q : Vec F S16x128x128 .bf16) (kw : Vec F S640x128 .bf16) (sl : Elt F .f32) (v30 : FVec F S128x640 .f32) : FVec F S128x640 .f32 :=
  scoreV va (extractStridedSlice S128x640 ![1408, 0] (allV q kw) slices_S2048x640_o1408_0_S128x640) sl v30

/-- Head 12's masked scores. -/
def score12 (va : IVec S128x640 1) (q : Vec F S16x128x128 .bf16) (kw : Vec F S640x128 .bf16) (sl : Elt F .f32) (v30 : FVec F S128x640 .f32) : FVec F S128x640 .f32 :=
  scoreV va (extractStridedSlice S128x640 ![1536, 0] (allV q kw) slices_S2048x640_o1536_0_S128x640) sl v30

/-- Head 13's masked scores. -/
def score13 (va : IVec S128x640 1) (q : Vec F S16x128x128 .bf16) (kw : Vec F S640x128 .bf16) (sl : Elt F .f32) (v30 : FVec F S128x640 .f32) : FVec F S128x640 .f32 :=
  scoreV va (extractStridedSlice S128x640 ![1664, 0] (allV q kw) slices_S2048x640_o1664_0_S128x640) sl v30

/-- Head 14's masked scores. -/
def score14 (va : IVec S128x640 1) (q : Vec F S16x128x128 .bf16) (kw : Vec F S640x128 .bf16) (sl : Elt F .f32) (v30 : FVec F S128x640 .f32) : FVec F S128x640 .f32 :=
  scoreV va (extractStridedSlice S128x640 ![1792, 0] (allV q kw) slices_S2048x640_o1792_0_S128x640) sl v30

/-- Head 15's masked scores. -/
def score15 (va : IVec S128x640 1) (q : Vec F S16x128x128 .bf16) (kw : Vec F S640x128 .bf16) (sl : Elt F .f32) (v30 : FVec F S128x640 .f32) : FVec F S128x640 .f32 :=
  scoreV va (extractStridedSlice S128x640 ![1920, 0] (allV q kw) slices_S2048x640_o1920_0_S128x640) sl v30

/-- The word a scalar load reads. -/
def wordAt (arg : Memref sig .tc .smem S16 .f32) (X : BufTy.Contents (Elt F) arg.view.ty) (i : grid0.Coords) (g : BitVec 32) (h : ∀ a, k0_off3 i g a + S1.size a ≤ S16.size a) : Elt F .f32 :=
  View.readAt (Elt F) arg.view (Rect.unit (s := S16) (k0_off3 i g) S1.size h).toLoadRect X (Shape.Idx.first (show 0 < S1.numel by decide))

set_option maxHeartbeats 16000000 in
/-- The pieces one trip writes. -/
theorem trip_eq (𝒱 : Variants) (c : Dev nD) (bd : Option 𝒱.V) (i : grid0.Coords) (arg2 : Memref sig .tc .smem S16 .f32) (harg2 : arg2.IsWhole) (arg3 : Memref sig .tc .smem S16 .f32) (harg3 : arg3.IsWhole) (arg4 : Memref sig .tc .vmem S16x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S16x512x128 .f32) (harg10 : arg10.IsWhole) (arg11 : Memref sig .tc .vmem S16x512x128 .bf16) (harg11 : arg11.IsWhole) (arg12 : Memref sig .tc .vmem S1024x128 .bf16) (harg12 : arg12.IsWhole) (arg13 : Memref sig .tc .vmem S1024x128 .bf16) (harg13 : arg13.IsWhole)
  (a0 a1 : BitVec 32) (v21 : IVec S128x640 32) (v29 : IVec S128x640 1) (v30 : FVec F S128x640 .f32)
  (X2 : BufTy.Contents (Elt F) arg2.view.ty) (X4 : BufTy.Contents (Elt F) arg4.view.ty) (X9 : BufTy.Contents (Elt F) arg9.view.ty) (X10 : BufTy.Contents (Elt F) arg10.view.ty) (X12 : BufTy.Contents (Elt F) arg12.view.ty) (X13 : BufTy.Contents (Elt F) arg13.view.ty) (k : Fin k0_t1_loop.trips) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 a0 a1 v21 v29 v30 X2 X4 X9 X10 X12 X13 k =
      let va := validV a1 v21 v29 k
      let q := View.readAt (Elt F) arg4.view (Rect.unit (s := S16x512x128) (k0_off2 k) S16x128x128.size (k0_off2_inb k)).toLoadRect X4
      let kw := View.readAt (Elt F) arg12.view (Rect.unit (s := S1024x128) (k0_off1 k) S640x128.size (k0_off1_inb k)).toLoadRect X12
      let vw := View.readAt (Elt F) arg13.view (Rect.unit (s := S1024x128) (k0_off1 k) S640x128.size (k0_off1_inb k)).toLoadRect X13
      let gl := View.readAt (Elt F) arg9.view (Rect.unit (s := S1x512x128) (k0_off4 k) S1x128x128.size (k0_off4_inb k)).toLoadRect X9
      let acc := accV (score0 va q kw (wordAt arg2 X2 i 0#32 (k0_off3_inb i 0)) v30) (score1 va q kw (wordAt arg2 X2 i 1#32 (k0_off3_inb i 1)) v30) (score2 va q kw (wordAt arg2 X2 i 2#32 (k0_off3_inb i 2)) v30) (score3 va q kw (wordAt arg2 X2 i 3#32 (k0_off3_inb i 3)) v30) (score4 va q kw (wordAt arg2 X2 i 4#32 (k0_off3_inb i 4)) v30) (score5 va q kw (wordAt arg2 X2 i 5#32 (k0_off3_inb i 5)) v30) (score6 va q kw (wordAt arg2 X2 i 6#32 (k0_off3_inb i 6)) v30) (score7 va q kw (wordAt arg2 X2 i 7#32 (k0_off3_inb i 7)) v30) (score8 va q kw (wordAt arg2 X2 i 8#32 (k0_off3_inb i 8)) v30) (score9 va q kw (wordAt arg2 X2 i 9#32 (k0_off3_inb i 9)) v30) (score10 va q kw (wordAt arg2 X2 i 10#32 (k0_off3_inb i 10)) v30) (score11 va q kw (wordAt arg2 X2 i 11#32 (k0_off3_inb i 11)) v30) (score12 va q kw (wordAt arg2 X2 i 12#32 (k0_off3_inb i 12)) v30) (score13 va q kw (wordAt arg2 X2 i 13#32 (k0_off3_inb i 13)) v30) (score14 va q kw (wordAt arg2 X2 i 14#32 (k0_off3_inb i 14)) v30) (score15 va q kw (wordAt arg2 X2 i 15#32 (k0_off3_inb i 15)) v30) vw
      [(⟨Rect.unit (s := S16x512x128) (k0_off20 k) S1x128x128.size (k0_off20_inb k), outV (extractStridedSlice S128x1 ![0, 47] (gateV gl) slices_S128x128_o0_47_S128x1) (View.readAt (Elt F) arg10.view (Rect.unit (s := S16x512x128) (k0_off20 k) S1x128x128.size (k0_off20_inb k)).toLoadRect X10) (extractStridedSlice S128x128 ![1920, 0] acc slices_S2048x128_o1920_0_S128x128) (sumV (score15 va q kw (wordAt arg2 X2 i 15#32 (k0_off3_inb i 15)) v30))⟩ : View.Piece (Elt F) S16x512x128 .bf16),
        (⟨Rect.unit (s := S16x512x128) (k0_off19 k) S1x128x128.size (k0_off19_inb k), outV (extractStridedSlice S128x1 ![0, 44] (gateV gl) slices_S128x128_o0_44_S128x1) (View.readAt (Elt F) arg10.view (Rect.unit (s := S16x512x128) (k0_off19 k) S1x128x128.size (k0_off19_inb k)).toLoadRect X10) (extractStridedSlice S128x128 ![1792, 0] acc slices_S2048x128_o1792_0_S128x128) (sumV (score14 va q kw (wordAt arg2 X2 i 14#32 (k0_off3_inb i 14)) v30))⟩ : View.Piece (Elt F) S16x512x128 .bf16),
        (⟨Rect.unit (s := S16x512x128) (k0_off18 k) S1x128x128.size (k0_off18_inb k), outV (extractStridedSlice S128x1 ![0, 41] (gateV gl) slices_S128x128_o0_41_S128x1) (View.readAt (Elt F) arg10.view (Rect.unit (s := S16x512x128) (k0_off18 k) S1x128x128.size (k0_off18_inb k)).toLoadRect X10) (extractStridedSlice S128x128 ![1664, 0] acc slices_S2048x128_o1664_0_S128x128) (sumV (score13 va q kw (wordAt arg2 X2 i 13#32 (k0_off3_inb i 13)) v30))⟩ : View.Piece (Elt F) S16x512x128 .bf16),
        (⟨Rect.unit (s := S16x512x128) (k0_off17 k) S1x128x128.size (k0_off17_inb k), outV (extractStridedSlice S128x1 ![0, 38] (gateV gl) slices_S128x128_o0_38_S128x1) (View.readAt (Elt F) arg10.view (Rect.unit (s := S16x512x128) (k0_off17 k) S1x128x128.size (k0_off17_inb k)).toLoadRect X10) (extractStridedSlice S128x128 ![1536, 0] acc slices_S2048x128_o1536_0_S128x128) (sumV (score12 va q kw (wordAt arg2 X2 i 12#32 (k0_off3_inb i 12)) v30))⟩ : View.Piece (Elt F) S16x512x128 .bf16),
        (⟨Rect.unit (s := S16x512x128) (k0_off16 k) S1x128x128.size (k0_off16_inb k), outV (extractStridedSlice S128x1 ![0, 35] (gateV gl) slices_S128x128_o0_35_S128x1) (View.readAt (Elt F) arg10.view (Rect.unit (s := S16x512x128) (k0_off16 k) S1x128x128.size (k0_off16_inb k)).toLoadRect X10) (extractStridedSlice S128x128 ![1408, 0] acc slices_S2048x128_o1408_0_S128x128) (sumV (score11 va q kw (wordAt arg2 X2 i 11#32 (k0_off3_inb i 11)) v30))⟩ : View.Piece (Elt F) S16x512x128 .bf16),
        (⟨Rect.unit (s := S16x512x128) (k0_off15 k) S1x128x128.size (k0_off15_inb k), outV (extractStridedSlice S128x1 ![0, 32] (gateV gl) slices_S128x128_o0_32_S128x1) (View.readAt (Elt F) arg10.view (Rect.unit (s := S16x512x128) (k0_off15 k) S1x128x128.size (k0_off15_inb k)).toLoadRect X10) (extractStridedSlice S128x128 ![1280, 0] acc slices_S2048x128_o1280_0_S128x128) (sumV (score10 va q kw (wordAt arg2 X2 i 10#32 (k0_off3_inb i 10)) v30))⟩ : View.Piece (Elt F) S16x512x128 .bf16),
        (⟨Rect.unit (s := S16x512x128) (k0_off14 k) S1x128x128.size (k0_off14_inb k), outV (extractStridedSlice S128x1 ![0, 29] (gateV gl) slices_S128x128_o0_29_S128x1) (View.readAt (Elt F) arg10.view (Rect.unit (s := S16x512x128) (k0_off14 k) S1x128x128.size (k0_off14_inb k)).toLoadRect X10) (extractStridedSlice S128x128 ![1152, 0] acc slices_S2048x128_o1152_0_S128x128) (sumV (score9 va q kw (wordAt arg2 X2 i 9#32 (k0_off3_inb i 9)) v30))⟩ : View.Piece (Elt F) S16x512x128 .bf16),
        (⟨Rect.unit (s := S16x512x128) (k0_off13 k) S1x128x128.size (k0_off13_inb k), outV (extractStridedSlice S128x1 ![0, 26] (gateV gl) slices_S128x128_o0_26_S128x1) (View.readAt (Elt F) arg10.view (Rect.unit (s := S16x512x128) (k0_off13 k) S1x128x128.size (k0_off13_inb k)).toLoadRect X10) (extractStridedSlice S128x128 ![1024, 0] acc slices_S2048x128_o1024_0_S128x128) (sumV (score8 va q kw (wordAt arg2 X2 i 8#32 (k0_off3_inb i 8)) v30))⟩ : View.Piece (Elt F) S16x512x128 .bf16),
        (⟨Rect.unit (s := S16x512x128) (k0_off12 k) S1x128x128.size (k0_off12_inb k), outV (extractStridedSlice S128x1 ![0, 23] (gateV gl) slices_S128x128_o0_23_S128x1) (View.readAt (Elt F) arg10.view (Rect.unit (s := S16x512x128) (k0_off12 k) S1x128x128.size (k0_off12_inb k)).toLoadRect X10) (extractStridedSlice S128x128 ![896, 0] acc slices_S2048x128_o896_0_S128x128) (sumV (score7 va q kw (wordAt arg2 X2 i 7#32 (k0_off3_inb i 7)) v30))⟩ : View.Piece (Elt F) S16x512x128 .bf16),
        (⟨Rect.unit (s := S16x512x128) (k0_off11 k) S1x128x128.size (k0_off11_inb k), outV (extractStridedSlice S128x1 ![0, 20] (gateV gl) slices_S128x128_o0_20_S128x1) (View.readAt (Elt F) arg10.view (Rect.unit (s := S16x512x128) (k0_off11 k) S1x128x128.size (k0_off11_inb k)).toLoadRect X10) (extractStridedSlice S128x128 ![768, 0] acc slices_S2048x128_o768_0_S128x128) (sumV (score6 va q kw (wordAt arg2 X2 i 6#32 (k0_off3_inb i 6)) v30))⟩ : View.Piece (Elt F) S16x512x128 .bf16),
        (⟨Rect.unit (s := S16x512x128) (k0_off10 k) S1x128x128.size (k0_off10_inb k), outV (extractStridedSlice S128x1 ![0, 17] (gateV gl) slices_S128x128_o0_17_S128x1) (View.readAt (Elt F) arg10.view (Rect.unit (s := S16x512x128) (k0_off10 k) S1x128x128.size (k0_off10_inb k)).toLoadRect X10) (extractStridedSlice S128x128 ![640, 0] acc slices_S2048x128_o640_0_S128x128) (sumV (score5 va q kw (wordAt arg2 X2 i 5#32 (k0_off3_inb i 5)) v30))⟩ : View.Piece (Elt F) S16x512x128 .bf16),
        (⟨Rect.unit (s := S16x512x128) (k0_off9 k) S1x128x128.size (k0_off9_inb k), outV (extractStridedSlice S128x1 ![0, 14] (gateV gl) slices_S128x128_o0_14_S128x1) (View.readAt (Elt F) arg10.view (Rect.unit (s := S16x512x128) (k0_off9 k) S1x128x128.size (k0_off9_inb k)).toLoadRect X10) (extractStridedSlice S128x128 ![512, 0] acc slices_S2048x128_o512_0_S128x128) (sumV (score4 va q kw (wordAt arg2 X2 i 4#32 (k0_off3_inb i 4)) v30))⟩ : View.Piece (Elt F) S16x512x128 .bf16),
        (⟨Rect.unit (s := S16x512x128) (k0_off8 k) S1x128x128.size (k0_off8_inb k), outV (extractStridedSlice S128x1 ![0, 11] (gateV gl) slices_S128x128_o0_11_S128x1) (View.readAt (Elt F) arg10.view (Rect.unit (s := S16x512x128) (k0_off8 k) S1x128x128.size (k0_off8_inb k)).toLoadRect X10) (extractStridedSlice S128x128 ![384, 0] acc slices_S2048x128_o384_0_S128x128) (sumV (score3 va q kw (wordAt arg2 X2 i 3#32 (k0_off3_inb i 3)) v30))⟩ : View.Piece (Elt F) S16x512x128 .bf16),
        (⟨Rect.unit (s := S16x512x128) (k0_off7 k) S1x128x128.size (k0_off7_inb k), outV (extractStridedSlice S128x1 ![0, 8] (gateV gl) slices_S128x128_o0_8_S128x1) (View.readAt (Elt F) arg10.view (Rect.unit (s := S16x512x128) (k0_off7 k) S1x128x128.size (k0_off7_inb k)).toLoadRect X10) (extractStridedSlice S128x128 ![256, 0] acc slices_S2048x128_o256_0_S128x128) (sumV (score2 va q kw (wordAt arg2 X2 i 2#32 (k0_off3_inb i 2)) v30))⟩ : View.Piece (Elt F) S16x512x128 .bf16),
        (⟨Rect.unit (s := S16x512x128) (k0_off6 k) S1x128x128.size (k0_off6_inb k), outV (extractStridedSlice S128x1 ![0, 5] (gateV gl) slices_S128x128_o0_5_S128x1) (View.readAt (Elt F) arg10.view (Rect.unit (s := S16x512x128) (k0_off6 k) S1x128x128.size (k0_off6_inb k)).toLoadRect X10) (extractStridedSlice S128x128 ![128, 0] acc slices_S2048x128_o128_0_S128x128) (sumV (score1 va q kw (wordAt arg2 X2 i 1#32 (k0_off3_inb i 1)) v30))⟩ : View.Piece (Elt F) S16x512x128 .bf16),
        (⟨Rect.unit (s := S16x512x128) (k0_off5 k) S1x128x128.size (k0_off5_inb k), outV (extractStridedSlice S128x1 ![0, 2] (gateV gl) slices_S128x128_o0_2_S128x1) (View.readAt (Elt F) arg10.view (Rect.unit (s := S16x512x128) (k0_off5 k) S1x128x128.size (k0_off5_inb k)).toLoadRect X10) (extractStridedSlice S128x128 ![0, 0] acc slices_S2048x128_o0_0_S128x128) (sumV (score0 va q kw (wordAt arg2 X2 i 0#32 (k0_off3_inb i 0)) v30))⟩ : View.Piece (Elt F) S16x512x128 .bf16)] := by
  unfold tripL_k0_t1 trip_k0_t1
  rfl

end Cert.WinIdeal.Win

end
-- ==== Proof.WinTripValue.lean ====
/- One trip's stores read at an index, over the extended reals. -/
module

public import proofs.«01_k».proof.Proof.WinTrip
public import proofs.«01_k».proof.Proof.Consts
public import Idealize.ShloMosaic.Lib.Pointwise

@[expose] public section

set_option maxRecDepth 16384

noncomputable section

namespace Cert.WinIdeal.Win

open Idealize.ShloMosaic Idealize.ShloMosaic.TcCoe Idealize.ShloMosaic.Tactic Cert.WinIdeal Cert.WinIdeal.Gen

/-- The greatest of 640 scores. -/
def top (s : Fin 640 → EReal) : EReal := Finset.univ.fold max ⊥ s

/-- A row's output at one column, from its scores and the values of that column. -/
def cell (s v : Fin 640 → EReal) : EReal :=
  Ideal.div (∑ j, Ideal.exp2 (s j - top s) * v j) (∑ j, Ideal.exp2 (s j - top s))

/-- A value times the gate of a logit. -/
def gated (g x : EReal) : EReal := Ideal.div 1 (1 + Ideal.exp (-g)) * x

/-- One masked score. -/
def score (b : BitVec 1) (qk sl nd : EReal) : EReal := Scalar.select b (qk + sl * (0 - nd)) ⊥

theorem mask_eq : (Named.named (F := Ideal) κ "mask" (φ := .f32) 0xF149F2CA#32 : Ideal .f32) = (⊥ : EReal) :=
  IdealRules.named_const.ideal_named_scalar _ _ _ _ rfl

theorem scoreV_apply (va : IVec S128x640 1) (sg : FVec Ideal S128x640 .f32) (sl : Elt Ideal .f32) (v30 : FVec Ideal S128x640 .f32) (r : Fin 128) (j : Fin 640) :
    scoreV va sg sl v30 (ix2 r j) = score (va (ix2 r j)) (sg (ix2 r j)) sl (v30 (ix2 r j)) := by
  unfold scoreV score
  rw [mask_eq]
  pointwise

theorem topV_apply (s : FVec Ideal S128x640 .f32) (r : Fin 128) :
    topV s (ix2 r 0) = top fun j => s (ix2 r j) := by
  unfold topV top
  pointwise
  rw [Cert.Consts.ofBits_bot]

theorem powV_apply (s : FVec Ideal S128x640 .f32) (r : Fin 128) (j : Fin 640) :
    powV s (ix2 r j) = Ideal.exp2 (s (ix2 r j) - top fun j => s (ix2 r j)) := by
  rw [← topV_apply]
  unfold powV
  pointwise
  rfl

theorem sumV_apply (s : FVec Ideal S128x640 .f32) (r : Fin 128) :
    sumV s (ix2 r 0) = (∑ j, Ideal.exp2 (s (ix2 r j) - top fun j => s (ix2 r j))) := by
  unfold sumV
  pointwise
  simp only [powV_apply]

theorem allV_apply (q : Vec Ideal S16x128x128 .bf16) (kw : Vec Ideal S640x128 .bf16) (g : Fin 16) (r : Fin 128) (j : Fin 640) :
    allV q kw (ix2 ⟨g.val * 128 + r.val, by omega⟩ j) = ∑ e : Fin 128, q (ix3 g r e) * kw (ix2 j e) := by
  unfold allV
  pointwise

theorem cat_apply (x : Fin 16 → FVec Ideal S128x640 .bf16) (g : Fin 16) (r : Fin 128) (j : Fin 640) :
    concatenate S2048x640 0 [⟨S128x640, x 0⟩, ⟨S128x640, x 1⟩, ⟨S128x640, x 2⟩, ⟨S128x640, x 3⟩, ⟨S128x640, x 4⟩, ⟨S128x640, x 5⟩, ⟨S128x640, x 6⟩, ⟨S128x640, x 7⟩, ⟨S128x640, x 8⟩, ⟨S128x640, x 9⟩, ⟨S128x640, x 10⟩, ⟨S128x640, x 11⟩, ⟨S128x640, x 12⟩, ⟨S128x640, x 13⟩, ⟨S128x640, x 14⟩, ⟨S128x640, x 15⟩] concatenates_S128x640_S128x640_S128x640_S128x640_S128x640_S128x640_S128x640_S128x640_S128x640_S128x640_S128x640_S128x640_S128x640_S128x640_S128x640_S128x640_S2048x640_d0 (ix2 ⟨g.val * 128 + r.val, by omega⟩ j) = x g (ix2 r j) :=
  concatenate_ofFn_apply (t := S2048x640) 0 x concatenates_S128x640_S128x640_S128x640_S128x640_S128x640_S128x640_S128x640_S128x640_S128x640_S128x640_S128x640_S128x640_S128x640_S128x640_S128x640_S128x640_S2048x640_d0 rfl 128 rfl _ g
    (by show (g.val * 128 + r.val) / 128 = g.val; omega) (ix2 r j) (by show r.val = (g.val * 128 + r.val) % 128; omega)
    (fun b hb => by fin_cases b <;> first | exact absurd rfl hb | rfl)

theorem mix_apply (x : FVec Ideal S2048x640 .bf16) (vw : FVec Ideal S640x128 .bf16) (a : Fin 2048) (d : Fin 128) :
    matmul dot_S2048x640_S640x128_S2048x128_1_0_0_1_n_n none x vw (constant S2048x128 .f32 0x00000000#32) (ix2 a d)
      = ∑ j : Fin 640, x (ix2 a j) * vw (ix2 j d) := by
  pointwise

theorem accV_apply (s0 s1 s2 s3 s4 s5 s6 s7 s8 s9 s10 s11 s12 s13 s14 s15 : FVec Ideal S128x640 .f32) (vw : Vec Ideal S640x128 .bf16) (g : Fin 16) (r d : Fin 128) :
    accV s0 s1 s2 s3 s4 s5 s6 s7 s8 s9 s10 s11 s12 s13 s14 s15 vw (ix2 ⟨g.val * 128 + r.val, by omega⟩ d)
      = ∑ j : Fin 640, powV (![s0, s1, s2, s3, s4, s5, s6, s7, s8, s9, s10, s11, s12, s13, s14, s15] g) (ix2 r j) * vw (ix2 j d) := by
  unfold accV
  refine (mix_apply _ _ _ _).trans (Finset.sum_congr rfl fun j _ => congrArg (· * vw (ix2 j d)) ?_)
  refine (cat_apply ![truncf .bf16 (powV s0) bitsLt_bf16_f32, truncf .bf16 (powV s1) bitsLt_bf16_f32, truncf .bf16 (powV s2) bitsLt_bf16_f32, truncf .bf16 (powV s3) bitsLt_bf16_f32, truncf .bf16 (powV s4) bitsLt_bf16_f32, truncf .bf16 (powV s5) bitsLt_bf16_f32, truncf .bf16 (powV s6) bitsLt_bf16_f32, truncf .bf16 (powV s7) bitsLt_bf16_f32, truncf .bf16 (powV s8) bitsLt_bf16_f32, truncf .bf16 (powV s9) bitsLt_bf16_f32, truncf .bf16 (powV s10) bitsLt_bf16_f32, truncf .bf16 (powV s11) bitsLt_bf16_f32, truncf .bf16 (powV s12) bitsLt_bf16_f32, truncf .bf16 (powV s13) bitsLt_bf16_f32, truncf .bf16 (powV s14) bitsLt_bf16_f32, truncf .bf16 (powV s15) bitsLt_bf16_f32] g r j).trans ?_
  fin_cases g <;> rfl

theorem outV_apply (gc : FVec Ideal S128x1 .f32) (oa : Vec Ideal S1x128x128 .f32) (ag : FVec Ideal S128x128 .f32) (l : FVec Ideal S128x1 .f32) (r d : Fin 128) (z : Fin 1) :
    outV gc oa ag l (ix3 z r d) = oa (ix3 0 r d) + gated (gc (ix2 r 0)) (Ideal.div (ag (ix2 r d)) (l (ix2 r 0))) := by
  unfold outV gated
  pointwise
  rfl

theorem gateV_apply (o : Nat) (gl : Vec Ideal S1x128x128 .bf16) (r : Fin 128) (ho : o < 128) (h : S128x128.Slices ![0, o] S128x1) :
    extractStridedSlice S128x1 ![0, o] (gateV gl) h (ix2 r 0) = gl (ix3 0 r ⟨o, ho⟩) := by
  unfold gateV
  pointwise

end Cert.WinIdeal.Win

end
-- ==== Proof.WinPieces.lean ====
/- All the stores of a grid point's loop agree with one function of the output block. -/
module

public import proofs.«01_k».proof.Proof.WinTripValue
public import Idealize.ShloMosaic.Lib.Pipeline.ValueKit

@[expose] public section

set_option maxRecDepth 16384

noncomputable section

namespace Cert.WinIdeal.Win

open Idealize.ShloMosaic Idealize.ShloMosaic.TcCoe Idealize.ShloMosaic.Tactic Cert.WinIdeal Cert.WinIdeal.Gen

theorem trips_eq : k0_t1_loop.trips = 4 := by decide

theorem off1_eq : ∀ k : Fin k0_t1_loop.trips, k0_off1 k = ![k.val * 128, 0] := by decide
theorem off2_eq : ∀ k : Fin k0_t1_loop.trips, k0_off2 k = ![0, k.val * 128, 0] := by decide
theorem off4_eq : ∀ k : Fin k0_t1_loop.trips, k0_off4 k = ![0, k.val * 128, 0] := by decide
theorem off5_eq : ∀ k : Fin k0_t1_loop.trips, k0_off5 k = ![0, k.val * 128, 0] := by decide
theorem off6_eq : ∀ k : Fin k0_t1_loop.trips, k0_off6 k = ![1, k.val * 128, 0] := by decide
theorem off7_eq : ∀ k : Fin k0_t1_loop.trips, k0_off7 k = ![2, k.val * 128, 0] := by decide
theorem off8_eq : ∀ k : Fin k0_t1_loop.trips, k0_off8 k = ![3, k.val * 128, 0] := by decide
theorem off9_eq : ∀ k : Fin k0_t1_loop.trips, k0_off9 k = ![4, k.val * 128, 0] := by decide
theorem off10_eq : ∀ k : Fin k0_t1_loop.trips, k0_off10 k = ![5, k.val * 128, 0] := by decide
theorem off11_eq : ∀ k : Fin k0_t1_loop.trips, k0_off11 k = ![6, k.val * 128, 0] := by decide
theorem off12_eq : ∀ k : Fin k0_t1_loop.trips, k0_off12 k = ![7, k.val * 128, 0] := by decide
theorem off13_eq : ∀ k : Fin k0_t1_loop.trips, k0_off13 k = ![8, k.val * 128, 0] := by decide
theorem off14_eq : ∀ k : Fin k0_t1_loop.trips, k0_off14 k = ![9, k.val * 128, 0] := by decide
theorem off15_eq : ∀ k : Fin k0_t1_loop.trips, k0_off15 k = ![10, k.val * 128, 0] := by decide
theorem off16_eq : ∀ k : Fin k0_t1_loop.trips, k0_off16 k = ![11, k.val * 128, 0] := by decide
theorem off17_eq : ∀ k : Fin k0_t1_loop.trips, k0_off17 k = ![12, k.val * 128, 0] := by decide
theorem off18_eq : ∀ k : Fin k0_t1_loop.trips, k0_off18 k = ![13, k.val * 128, 0] := by decide
theorem off19_eq : ∀ k : Fin k0_t1_loop.trips, k0_off19 k = ![14, k.val * 128, 0] := by decide
theorem off20_eq : ∀ k : Fin k0_t1_loop.trips, k0_off20 k = ![15, k.val * 128, 0] := by decide
theorem off3_eq : ∀ (i : grid0.Coords) (g : Fin 16), k0_off3 i (BitVec.ofNat 32 g.val) = ![(i 0).val * 16 + g.val] := by decide +kernel

/-- The column of the gates' block that holds a head's logit. -/
def gateCol (h : Fin 16) : Fin 128 := ⟨h.val * 3 + 2, by omega⟩

/-- The output of one row of one head, from the blocks a grid point holds: `k` the trip, `r` the row in it. -/
def cells (sl : Fin 16 → EReal) (q : Vec Ideal S16x512x128 .bf16) (kb vb : Vec Ideal S1024x128 .bf16) (gt : Vec Ideal S1x512x128 .bf16) (oa : Vec Ideal S16x512x128 .f32) (va : Fin 4 → IVec S128x640 1) (nd : FVec Ideal S128x640 .f32)
    (g : Fin 16) (k : Fin 4) (r d : Fin 128) : EReal :=
  oa (ix3 g ⟨k.val * 128 + r.val, by omega⟩ d) + gated (gt (ix3 0 ⟨k.val * 128 + r.val, by omega⟩ (gateCol g)))
    (cell (fun j => score (va k (ix2 r j)) (∑ e : Fin 128, q (ix3 g ⟨k.val * 128 + r.val, by omega⟩ e) * kb (ix2 ⟨k.val * 128 + j.val, by omega⟩ e)) (sl g) (nd (ix2 r j)))
      (fun j => vb (ix2 ⟨k.val * 128 + j.val, by omega⟩ d)))

/-- The output block of a grid point. -/
def blockOut (sl : Fin 16 → EReal) (q : Vec Ideal S16x512x128 .bf16) (kb vb : Vec Ideal S1024x128 .bf16) (gt : Vec Ideal S1x512x128 .bf16) (oa : Vec Ideal S16x512x128 .f32) (va : Fin 4 → IVec S128x640 1) (nd : FVec Ideal S128x640 .f32) :
    Vec Ideal S16x512x128 .bf16 := fun y =>
  cells sl q kb vb gt oa va nd (y 0) ⟨(y 1).val / 128, by have : (y 1).val < 512 := (y 1).isLt; omega⟩ ⟨(y 1).val % 128, Nat.mod_lt _ (by decide)⟩ (y 2)

theorem blockOut_at (sl : Fin 16 → EReal) (q : Vec Ideal S16x512x128 .bf16) (kb vb : Vec Ideal S1024x128 .bf16) (gt : Vec Ideal S1x512x128 .bf16) (oa : Vec Ideal S16x512x128 .f32) (va : Fin 4 → IVec S128x640 1) (nd : FVec Ideal S128x640 .f32)
    (g : Fin 16) (k : Fin 4) (r d : Fin 128) (y : S16x512x128.Idx) (h0 : (y 0).val = g.val) (h1 : (y 1).val = k.val * 128 + r.val) (h2 : (y 2).val = d.val) :
    blockOut sl q kb vb gt oa va nd y = cells sl q kb vb gt oa va nd g k r d := by
  unfold blockOut
  have e0 : y 0 = g := Fin.ext h0
  have e2 : y 2 = d := Fin.ext h2
  rw [e0, e2]
  congr 1
  · exact Fin.ext (by dsimp only; omega)
  · exact Fin.ext (by dsimp only; omega)

theorem acc_slice (o : Nat) (s0 s1 s2 s3 s4 s5 s6 s7 s8 s9 s10 s11 s12 s13 s14 s15 : FVec Ideal S128x640 .f32) (vw : Vec Ideal S640x128 .bf16) (g : Fin 16) (r d : Fin 128) (ho : o = g.val * 128)
    (h : S2048x128.Slices ![o, 0] S128x128) :
    extractStridedSlice S128x128 ![o, 0] (accV s0 s1 s2 s3 s4 s5 s6 s7 s8 s9 s10 s11 s12 s13 s14 s15 vw) h (ix2 r d)
      = ∑ j : Fin 640, powV (![s0, s1, s2, s3, s4, s5, s6, s7, s8, s9, s10, s11, s12, s13, s14, s15] g) (ix2 r j) * vw (ix2 j d) := by
  subst ho
  rw [← accV_apply]
  pointwise

theorem all_slice (o : Nat) (q : Vec Ideal S16x128x128 .bf16) (kw : Vec Ideal S640x128 .bf16) (g : Fin 16) (r : Fin 128) (j : Fin 640) (ho : o = g.val * 128)
    (h : S2048x640.Slices ![o, 0] S128x640) :
    extractStridedSlice S128x640 ![o, 0] (allV q kw) h (ix2 r j) = ∑ e : Fin 128, q (ix3 g r e) * kw (ix2 j e) := by
  subst ho
  rw [← allV_apply]
  pointwise

/-- One store of one trip, at an index. -/
theorem piece_apply (o : Nat) (gl : Vec Ideal S1x128x128 .bf16) (oa : Vec Ideal S1x128x128 .f32) (s : Fin 16 → FVec Ideal S128x640 .f32) (vw : Vec Ideal S640x128 .bf16) (g : Fin 16) (r d : Fin 128) (z : Fin 1) (ho : o = g.val * 128)
    (p : Nat) (hp : p = g.val * 3 + 2) (h' : S128x128.Slices ![0, p] S128x1) (h : S2048x128.Slices ![o, 0] S128x128) :
    outV (extractStridedSlice S128x1 ![0, p] (gateV gl) h') oa (extractStridedSlice S128x128 ![o, 0] (accV (s 0) (s 1) (s 2) (s 3) (s 4) (s 5) (s 6) (s 7) (s 8) (s 9) (s 10) (s 11) (s 12) (s 13) (s 14) (s 15) vw) h) (sumV (s g)) (ix3 z r d)
      = oa (ix3 0 r d) + gated (gl (ix3 0 r (gateCol g))) (cell (fun j => s g (ix2 r j)) (fun j => vw (ix2 j d))) := by
  subst hp
  have eg : _ = gl (ix3 0 r (gateCol g)) := gateV_apply (g.val * 3 + 2) gl r (gateCol g).isLt h'
  rw [outV_apply, acc_slice o _ _ _ _ _ _ _ _ _ _ _ _ _ _ _ _ vw g r d ho h, sumV_apply, eg]
  unfold cell
  have e : (![s 0, s 1, s 2, s 3, s 4, s 5, s 6, s 7, s 8, s 9, s 10, s 11, s 12, s 13, s 14, s 15] : Fin 16 → FVec Ideal S128x640 .f32) g = s g := by
    clear ho
    fin_cases g <;> rfl
  rw [e]
  simp only [powV_apply]

/-- One head's scores, at an index. -/
theorem head_apply (o : Nat) (va : IVec S128x640 1) (q : Vec Ideal S16x128x128 .bf16) (kw : Vec Ideal S640x128 .bf16) (sl : EReal) (nd : FVec Ideal S128x640 .f32) (g : Fin 16) (r : Fin 128) (j : Fin 640)
    (ho : o = g.val * 128) (h : S2048x640.Slices ![o, 0] S128x640) :
    scoreV va (extractStridedSlice S128x640 ![o, 0] (allV q kw) h) sl nd (ix2 r j)
      = score (va (ix2 r j)) (∑ e : Fin 128, q (ix3 g r e) * kw (ix2 j e)) sl (nd (ix2 r j)) := by
  rw [scoreV_apply, all_slice o q kw g r j ho h]

theorem q_read (arg4 : Memref sig .tc .vmem S16x512x128 .bf16) (X4 : BufTy.Contents (Elt Ideal) arg4.view.ty) (k : Fin k0_t1_loop.trips) (g : Fin 16) (r e : Fin 128) :
    View.readAt (Elt Ideal) arg4.view (Rect.unit (s := S16x512x128) (k0_off2 k) S16x128x128.size (k0_off2_inb k)).toLoadRect X4 (ix3 g r e)
      = arg4.view.read (Elt Ideal) X4 (ix3 g ⟨k.val * 128 + r.val, by have := k.isLt.trans_eq trips_eq; omega⟩ e) := by
  rw [View.readAt_eq_ld]
  refine View.ld_unit_apply_of _ _ _ _ _ _ fun a => ?_
  refine Eq.trans ?_ (congrArg (· + _) (congrFun (off2_eq k) a).symm)
  fin_cases a <;> simp [ix3]

theorem kv_read (arg : Memref sig .tc .vmem S1024x128 .bf16) (X : BufTy.Contents (Elt Ideal) arg.view.ty) (k : Fin k0_t1_loop.trips) (j : Fin 640) (e : Fin 128) :
    View.readAt (Elt Ideal) arg.view (Rect.unit (s := S1024x128) (k0_off1 k) S640x128.size (k0_off1_inb k)).toLoadRect X (ix2 j e)
      = arg.view.read (Elt Ideal) X (ix2 ⟨k.val * 128 + j.val, by have := k.isLt.trans_eq trips_eq; omega⟩ e) := by
  rw [View.readAt_eq_ld]
  refine View.ld_unit_apply_of _ _ _ _ _ _ fun a => ?_
  refine Eq.trans ?_ (congrArg (· + _) (congrFun (off1_eq k) a).symm)
  fin_cases a <;> simp [ix2]

theorem g_read (arg9 : Memref sig .tc .vmem S1x512x128 .bf16) (X9 : BufTy.Contents (Elt Ideal) arg9.view.ty) (k : Fin k0_t1_loop.trips) (r e : Fin 128) :
    View.readAt (Elt Ideal) arg9.view (Rect.unit (s := S1x512x128) (k0_off4 k) S1x128x128.size (k0_off4_inb k)).toLoadRect X9 (ix3 0 r e)
      = arg9.view.read (Elt Ideal) X9 (ix3 0 ⟨k.val * 128 + r.val, by have := k.isLt.trans_eq trips_eq; omega⟩ e) := by
  rw [View.readAt_eq_ld]
  refine View.ld_unit_apply_of _ _ _ _ _ _ fun a => ?_
  refine Eq.trans ?_ (congrArg (· + _) (congrFun (off4_eq k) a).symm)
  fin_cases a <;> simp [ix3]

theorem o_read (arg10 : Memref sig .tc .vmem S16x512x128 .f32) (X10 : BufTy.Contents (Elt Ideal) arg10.view.ty) (k : Fin k0_t1_loop.trips) (g : Fin 16)
    (off : Fin 3 → ℕ) (hoff : off = ![g.val, k.val * 128, 0]) (hin : ∀ a, off a + S1x128x128.size a ≤ S16x512x128.size a) (r e : Fin 128) :
    View.readAt (Elt Ideal) arg10.view (Rect.unit (s := S16x512x128) off S1x128x128.size hin).toLoadRect X10 (ix3 0 r e)
      = arg10.view.read (Elt Ideal) X10 (ix3 g ⟨k.val * 128 + r.val, by have := k.isLt.trans_eq trips_eq; omega⟩ e) := by
  subst hoff
  rw [View.readAt_eq_ld]
  refine View.ld_unit_apply_of _ _ _ _ _ _ fun a => ?_
  fin_cases a <;> simp [ix3]

set_option maxHeartbeats 16000000 in
/-- Every store of one trip writes the block function's values. -/
theorem trip_pieces (𝒱 : Variants) (c : Dev nD) (bd : Option 𝒱.V) (i : grid0.Coords) (arg2 : Memref sig .tc .smem S16 .f32) (harg2 : arg2.IsWhole) (arg3 : Memref sig .tc .smem S16 .f32) (harg3 : arg3.IsWhole) (arg4 : Memref sig .tc .vmem S16x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S16x512x128 .f32) (harg10 : arg10.IsWhole) (arg11 : Memref sig .tc .vmem S16x512x128 .bf16) (harg11 : arg11.IsWhole) (arg12 : Memref sig .tc .vmem S1024x128 .bf16) (harg12 : arg12.IsWhole) (arg13 : Memref sig .tc .vmem S1024x128 .bf16) (harg13 : arg13.IsWhole)
  (a0 a1 : BitVec 32) (v21 : IVec S128x640 32) (v29 : IVec S128x640 1) (v30 : FVec Ideal S128x640 .f32)
  (X2 : BufTy.Contents (Elt Ideal) arg2.view.ty) (X4 : BufTy.Contents (Elt Ideal) arg4.view.ty) (X9 : BufTy.Contents (Elt Ideal) arg9.view.ty) (X10 : BufTy.Contents (Elt Ideal) arg10.view.ty) (X12 : BufTy.Contents (Elt Ideal) arg12.view.ty) (X13 : BufTy.Contents (Elt Ideal) arg13.view.ty) (k : Fin k0_t1_loop.trips) :
    ∀ p ∈ tripL_k0_t1 (F := Ideal) 𝒱 c bd i arg2 harg2 arg3 harg3 arg4 harg4 arg5 harg5 arg6 harg6 arg7 harg7 arg8 harg8 arg9 harg9 arg10 harg10 arg11 harg11 arg12 harg12 arg13 harg13 a0 a1 v21 v29 v30 X2 X4 X9 X10 X12 X13 k, ∀ x : p.1.shape.Idx, p.2 x = (blockOut (fun g => wordAt arg2 X2 i (BitVec.ofNat 32 g.val) (k0_off3_inb i g)) (arg4.view.read (Elt Ideal) X4) (arg12.view.read (Elt Ideal) X12) (arg13.view.read (Elt Ideal) X13) (arg9.view.read (Elt Ideal) X9) (arg10.view.read (Elt Ideal) X10) (fun k => validV a1 v21 v29 (Fin.cast trips_eq.symm k)) v30) (p.1.emb x) := by
  rw [trip_eq]
  have hk : k.val < 4 := k.isLt.trans_eq trips_eq
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩⟩⟩⟩⟩⟩⟩⟩⟩
  · intro x
    obtain ⟨z, r, d, rfl⟩ : ∃ (z : Fin 1) (r d : Fin 128), x = ix3 z r d := ⟨x 0, x 1, x 2, eq_ix3 x⟩
    refine (piece_apply 1920 _ _ ![_, _, _, _, _, _, _, _, _, _, _, _, _, _, _, _] _ 15 r d z rfl 47 rfl _ _).trans ?_
    refine Eq.trans ?_ (blockOut_at _ _ _ _ _ _ _ _ 15 ⟨k.val, hk⟩ r d _ ?_ ?_ ?_).symm
    · unfold cells
      refine congrArg₂ _ (o_read arg10 X10 k 15 _ (off20_eq k) _ r d) (congrArg₂ _ (g_read arg9 X9 k r _) (congrArg₂ _ (funext fun j => ?_) (funext fun j => kv_read _ _ _ _ _)))
      refine (head_apply 1920 _ _ _ _ _ 15 r j rfl _).trans ?_
      congr 1
      exact Finset.sum_congr rfl fun e _ => congrArg₂ _ (q_read _ _ _ _ _ _) (kv_read _ _ _ _ _)
    · have hz : z.val = 0 := by omega
      show k0_off20 k 0 + 1 * z.val = 15; rw [off20_eq]; simp [hz]
    · show k0_off20 k 1 + 1 * r.val = k.val * 128 + r.val; rw [off20_eq]; simp
    · show k0_off20 k 2 + 1 * d.val = d.val; rw [off20_eq]; simp
  · intro x
    obtain ⟨z, r, d, rfl⟩ : ∃ (z : Fin 1) (r d : Fin 128), x = ix3 z r d := ⟨x 0, x 1, x 2, eq_ix3 x⟩
    refine (piece_apply 1792 _ _ ![_, _, _, _, _, _, _, _, _, _, _, _, _, _, _, _] _ 14 r d z rfl 44 rfl _ _).trans ?_
    refine Eq.trans ?_ (blockOut_at _ _ _ _ _ _ _ _ 14 ⟨k.val, hk⟩ r d _ ?_ ?_ ?_).symm
    · unfold cells
      refine congrArg₂ _ (o_read arg10 X10 k 14 _ (off19_eq k) _ r d) (congrArg₂ _ (g_read arg9 X9 k r _) (congrArg₂ _ (funext fun j => ?_) (funext fun j => kv_read _ _ _ _ _)))
      refine (head_apply 1792 _ _ _ _ _ 14 r j rfl _).trans ?_
      congr 1
      exact Finset.sum_congr rfl fun e _ => congrArg₂ _ (q_read _ _ _ _ _ _) (kv_read _ _ _ _ _)
    · have hz : z.val = 0 := by omega
      show k0_off19 k 0 + 1 * z.val = 14; rw [off19_eq]; simp [hz]
    · show k0_off19 k 1 + 1 * r.val = k.val * 128 + r.val; rw [off19_eq]; simp
    · show k0_off19 k 2 + 1 * d.val = d.val; rw [off19_eq]; simp
  · intro x
    obtain ⟨z, r, d, rfl⟩ : ∃ (z : Fin 1) (r d : Fin 128), x = ix3 z r d := ⟨x 0, x 1, x 2, eq_ix3 x⟩
    refine (piece_apply 1664 _ _ ![_, _, _, _, _, _, _, _, _, _, _, _, _, _, _, _] _ 13 r d z rfl 41 rfl _ _).trans ?_
    refine Eq.trans ?_ (blockOut_at _ _ _ _ _ _ _ _ 13 ⟨k.val, hk⟩ r d _ ?_ ?_ ?_).symm
    · unfold cells
      refine congrArg₂ _ (o_read arg10 X10 k 13 _ (off18_eq k) _ r d) (congrArg₂ _ (g_read arg9 X9 k r _) (congrArg₂ _ (funext fun j => ?_) (funext fun j => kv_read _ _ _ _ _)))
      refine (head_apply 1664 _ _ _ _ _ 13 r j rfl _).trans ?_
      congr 1
      exact Finset.sum_congr rfl fun e _ => congrArg₂ _ (q_read _ _ _ _ _ _) (kv_read _ _ _ _ _)
    · have hz : z.val = 0 := by omega
      show k0_off18 k 0 + 1 * z.val = 13; rw [off18_eq]; simp [hz]
    · show k0_off18 k 1 + 1 * r.val = k.val * 128 + r.val; rw [off18_eq]; simp
    · show k0_off18 k 2 + 1 * d.val = d.val; rw [off18_eq]; simp
  · intro x
    obtain ⟨z, r, d, rfl⟩ : ∃ (z : Fin 1) (r d : Fin 128), x = ix3 z r d := ⟨x 0, x 1, x 2, eq_ix3 x⟩
    refine (piece_apply 1536 _ _ ![_, _, _, _, _, _, _, _, _, _, _, _, _, _, _, _] _ 12 r d z rfl 38 rfl _ _).trans ?_
    refine Eq.trans ?_ (blockOut_at _ _ _ _ _ _ _ _ 12 ⟨k.val, hk⟩ r d _ ?_ ?_ ?_).symm
    · unfold cells
      refine congrArg₂ _ (o_read arg10 X10 k 12 _ (off17_eq k) _ r d) (congrArg₂ _ (g_read arg9 X9 k r _) (congrArg₂ _ (funext fun j => ?_) (funext fun j => kv_read _ _ _ _ _)))
      refine (head_apply 1536 _ _ _ _ _ 12 r j rfl _).trans ?_
      congr 1
      exact Finset.sum_congr rfl fun e _ => congrArg₂ _ (q_read _ _ _ _ _ _) (kv_read _ _ _ _ _)
    · have hz : z.val = 0 := by omega
      show k0_off17 k 0 + 1 * z.val = 12; rw [off17_eq]; simp [hz]
    · show k0_off17 k 1 + 1 * r.val = k.val * 128 + r.val; rw [off17_eq]; simp
    · show k0_off17 k 2 + 1 * d.val = d.val; rw [off17_eq]; simp
  · intro x
    obtain ⟨z, r, d, rfl⟩ : ∃ (z : Fin 1) (r d : Fin 128), x = ix3 z r d := ⟨x 0, x 1, x 2, eq_ix3 x⟩
    refine (piece_apply 1408 _ _ ![_, _, _, _, _, _, _, _, _, _, _, _, _, _, _, _] _ 11 r d z rfl 35 rfl _ _).trans ?_
    refine Eq.trans ?_ (blockOut_at _ _ _ _ _ _ _ _ 11 ⟨k.val, hk⟩ r d _ ?_ ?_ ?_).symm
    · unfold cells
      refine congrArg₂ _ (o_read arg10 X10 k 11 _ (off16_eq k) _ r d) (congrArg₂ _ (g_read arg9 X9 k r _) (congrArg₂ _ (funext fun j => ?_) (funext fun j => kv_read _ _ _ _ _)))
      refine (head_apply 1408 _ _ _ _ _ 11 r j rfl _).trans ?_
      congr 1
      exact Finset.sum_congr rfl fun e _ => congrArg₂ _ (q_read _ _ _ _ _ _) (kv_read _ _ _ _ _)
    · have hz : z.val = 0 := by omega
      show k0_off16 k 0 + 1 * z.val = 11; rw [off16_eq]; simp [hz]
    · show k0_off16 k 1 + 1 * r.val = k.val * 128 + r.val; rw [off16_eq]; simp
    · show k0_off16 k 2 + 1 * d.val = d.val; rw [off16_eq]; simp
  · intro x
    obtain ⟨z, r, d, rfl⟩ : ∃ (z : Fin 1) (r d : Fin 128), x = ix3 z r d := ⟨x 0, x 1, x 2, eq_ix3 x⟩
    refine (piece_apply 1280 _ _ ![_, _, _, _, _, _, _, _, _, _, _, _, _, _, _, _] _ 10 r d z rfl 32 rfl _ _).trans ?_
    refine Eq.trans ?_ (blockOut_at _ _ _ _ _ _ _ _ 10 ⟨k.val, hk⟩ r d _ ?_ ?_ ?_).symm
    · unfold cells
      refine congrArg₂ _ (o_read arg10 X10 k 10 _ (off15_eq k) _ r d) (congrArg₂ _ (g_read arg9 X9 k r _) (congrArg₂ _ (funext fun j => ?_) (funext fun j => kv_read _ _ _ _ _)))
      refine (head_apply 1280 _ _ _ _ _ 10 r j rfl _).trans ?_
      congr 1
      exact Finset.sum_congr rfl fun e _ => congrArg₂ _ (q_read _ _ _ _ _ _) (kv_read _ _ _ _ _)
    · have hz : z.val = 0 := by omega
      show k0_off15 k 0 + 1 * z.val = 10; rw [off15_eq]; simp [hz]
    · show k0_off15 k 1 + 1 * r.val = k.val * 128 + r.val; rw [off15_eq]; simp
    · show k0_off15 k 2 + 1 * d.val = d.val; rw [off15_eq]; simp
  · intro x
    obtain ⟨z, r, d, rfl⟩ : ∃ (z : Fin 1) (r d : Fin 128), x = ix3 z r d := ⟨x 0, x 1, x 2, eq_ix3 x⟩
    refine (piece_apply 1152 _ _ ![_, _, _, _, _, _, _, _, _, _, _, _, _, _, _, _] _ 9 r d z rfl 29 rfl _ _).trans ?_
    refine Eq.trans ?_ (blockOut_at _ _ _ _ _ _ _ _ 9 ⟨k.val, hk⟩ r d _ ?_ ?_ ?_).symm
    · unfold cells
      refine congrArg₂ _ (o_read arg10 X10 k 9 _ (off14_eq k) _ r d) (congrArg₂ _ (g_read arg9 X9 k r _) (congrArg₂ _ (funext fun j => ?_) (funext fun j => kv_read _ _ _ _ _)))
      refine (head_apply 1152 _ _ _ _ _ 9 r j rfl _).trans ?_
      congr 1
      exact Finset.sum_congr rfl fun e _ => congrArg₂ _ (q_read _ _ _ _ _ _) (kv_read _ _ _ _ _)
    · have hz : z.val = 0 := by omega
      show k0_off14 k 0 + 1 * z.val = 9; rw [off14_eq]; simp [hz]
    · show k0_off14 k 1 + 1 * r.val = k.val * 128 + r.val; rw [off14_eq]; simp
    · show k0_off14 k 2 + 1 * d.val = d.val; rw [off14_eq]; simp
  · intro x
    obtain ⟨z, r, d, rfl⟩ : ∃ (z : Fin 1) (r d : Fin 128), x = ix3 z r d := ⟨x 0, x 1, x 2, eq_ix3 x⟩
    refine (piece_apply 1024 _ _ ![_, _, _, _, _, _, _, _, _, _, _, _, _, _, _, _] _ 8 r d z rfl 26 rfl _ _).trans ?_
    refine Eq.trans ?_ (blockOut_at _ _ _ _ _ _ _ _ 8 ⟨k.val, hk⟩ r d _ ?_ ?_ ?_).symm
    · unfold cells
      refine congrArg₂ _ (o_read arg10 X10 k 8 _ (off13_eq k) _ r d) (congrArg₂ _ (g_read arg9 X9 k r _) (congrArg₂ _ (funext fun j => ?_) (funext fun j => kv_read _ _ _ _ _)))
      refine (head_apply 1024 _ _ _ _ _ 8 r j rfl _).trans ?_
      congr 1
      exact Finset.sum_congr rfl fun e _ => congrArg₂ _ (q_read _ _ _ _ _ _) (kv_read _ _ _ _ _)
    · have hz : z.val = 0 := by omega
      show k0_off13 k 0 + 1 * z.val = 8; rw [off13_eq]; simp [hz]
    · show k0_off13 k 1 + 1 * r.val = k.val * 128 + r.val; rw [off13_eq]; simp
    · show k0_off13 k 2 + 1 * d.val = d.val; rw [off13_eq]; simp
  · intro x
    obtain ⟨z, r, d, rfl⟩ : ∃ (z : Fin 1) (r d : Fin 128), x = ix3 z r d := ⟨x 0, x 1, x 2, eq_ix3 x⟩
    refine (piece_apply 896 _ _ ![_, _, _, _, _, _, _, _, _, _, _, _, _, _, _, _] _ 7 r d z rfl 23 rfl _ _).trans ?_
    refine Eq.trans ?_ (blockOut_at _ _ _ _ _ _ _ _ 7 ⟨k.val, hk⟩ r d _ ?_ ?_ ?_).symm
    · unfold cells
      refine congrArg₂ _ (o_read arg10 X10 k 7 _ (off12_eq k) _ r d) (congrArg₂ _ (g_read arg9 X9 k r _) (congrArg₂ _ (funext fun j => ?_) (funext fun j => kv_read _ _ _ _ _)))
      refine (head_apply 896 _ _ _ _ _ 7 r j rfl _).trans ?_
      congr 1
      exact Finset.sum_congr rfl fun e _ => congrArg₂ _ (q_read _ _ _ _ _ _) (kv_read _ _ _ _ _)
    · have hz : z.val = 0 := by omega
      show k0_off12 k 0 + 1 * z.val = 7; rw [off12_eq]; simp [hz]
    · show k0_off12 k 1 + 1 * r.val = k.val * 128 + r.val; rw [off12_eq]; simp
    · show k0_off12 k 2 + 1 * d.val = d.val; rw [off12_eq]; simp
  · intro x
    obtain ⟨z, r, d, rfl⟩ : ∃ (z : Fin 1) (r d : Fin 128), x = ix3 z r d := ⟨x 0, x 1, x 2, eq_ix3 x⟩
    refine (piece_apply 768 _ _ ![_, _, _, _, _, _, _, _, _, _, _, _, _, _, _, _] _ 6 r d z rfl 20 rfl _ _).trans ?_
    refine Eq.trans ?_ (blockOut_at _ _ _ _ _ _ _ _ 6 ⟨k.val, hk⟩ r d _ ?_ ?_ ?_).symm
    · unfold cells
      refine congrArg₂ _ (o_read arg10 X10 k 6 _ (off11_eq k) _ r d) (congrArg₂ _ (g_read arg9 X9 k r _) (congrArg₂ _ (funext fun j => ?_) (funext fun j => kv_read _ _ _ _ _)))
      refine (head_apply 768 _ _ _ _ _ 6 r j rfl _).trans ?_
      congr 1
      exact Finset.sum_congr rfl fun e _ => congrArg₂ _ (q_read _ _ _ _ _ _) (kv_read _ _ _ _ _)
    · have hz : z.val = 0 := by omega
      show k0_off11 k 0 + 1 * z.val = 6; rw [off11_eq]; simp [hz]
    · show k0_off11 k 1 + 1 * r.val = k.val * 128 + r.val; rw [off11_eq]; simp
    · show k0_off11 k 2 + 1 * d.val = d.val; rw [off11_eq]; simp
  · intro x
    obtain ⟨z, r, d, rfl⟩ : ∃ (z : Fin 1) (r d : Fin 128), x = ix3 z r d := ⟨x 0, x 1, x 2, eq_ix3 x⟩
    refine (piece_apply 640 _ _ ![_, _, _, _, _, _, _, _, _, _, _, _, _, _, _, _] _ 5 r d z rfl 17 rfl _ _).trans ?_
    refine Eq.trans ?_ (blockOut_at _ _ _ _ _ _ _ _ 5 ⟨k.val, hk⟩ r d _ ?_ ?_ ?_).symm
    · unfold cells
      refine congrArg₂ _ (o_read arg10 X10 k 5 _ (off10_eq k) _ r d) (congrArg₂ _ (g_read arg9 X9 k r _) (congrArg₂ _ (funext fun j => ?_) (funext fun j => kv_read _ _ _ _ _)))
      refine (head_apply 640 _ _ _ _ _ 5 r j rfl _).trans ?_
      congr 1
      exact Finset.sum_congr rfl fun e _ => congrArg₂ _ (q_read _ _ _ _ _ _) (kv_read _ _ _ _ _)
    · have hz : z.val = 0 := by omega
      show k0_off10 k 0 + 1 * z.val = 5; rw [off10_eq]; simp [hz]
    · show k0_off10 k 1 + 1 * r.val = k.val * 128 + r.val; rw [off10_eq]; simp
    · show k0_off10 k 2 + 1 * d.val = d.val; rw [off10_eq]; simp
  · intro x
    obtain ⟨z, r, d, rfl⟩ : ∃ (z : Fin 1) (r d : Fin 128), x = ix3 z r d := ⟨x 0, x 1, x 2, eq_ix3 x⟩
    refine (piece_apply 512 _ _ ![_, _, _, _, _, _, _, _, _, _, _, _, _, _, _, _] _ 4 r d z rfl 14 rfl _ _).trans ?_
    refine Eq.trans ?_ (blockOut_at _ _ _ _ _ _ _ _ 4 ⟨k.val, hk⟩ r d _ ?_ ?_ ?_).symm
    · unfold cells
      refine congrArg₂ _ (o_read arg10 X10 k 4 _ (off9_eq k) _ r d) (congrArg₂ _ (g_read arg9 X9 k r _) (congrArg₂ _ (funext fun j => ?_) (funext fun j => kv_read _ _ _ _ _)))
      refine (head_apply 512 _ _ _ _ _ 4 r j rfl _).trans ?_
      congr 1
      exact Finset.sum_congr rfl fun e _ => congrArg₂ _ (q_read _ _ _ _ _ _) (kv_read _ _ _ _ _)
    · have hz : z.val = 0 := by omega
      show k0_off9 k 0 + 1 * z.val = 4; rw [off9_eq]; simp [hz]
    · show k0_off9 k 1 + 1 * r.val = k.val * 128 + r.val; rw [off9_eq]; simp
    · show k0_off9 k 2 + 1 * d.val = d.val; rw [off9_eq]; simp
  · intro x
    obtain ⟨z, r, d, rfl⟩ : ∃ (z : Fin 1) (r d : Fin 128), x = ix3 z r d := ⟨x 0, x 1, x 2, eq_ix3 x⟩
    refine (piece_apply 384 _ _ ![_, _, _, _, _, _, _, _, _, _, _, _, _, _, _, _] _ 3 r d z rfl 11 rfl _ _).trans ?_
    refine Eq.trans ?_ (blockOut_at _ _ _ _ _ _ _ _ 3 ⟨k.val, hk⟩ r d _ ?_ ?_ ?_).symm
    · unfold cells
      refine congrArg₂ _ (o_read arg10 X10 k 3 _ (off8_eq k) _ r d) (congrArg₂ _ (g_read arg9 X9 k r _) (congrArg₂ _ (funext fun j => ?_) (funext fun j => kv_read _ _ _ _ _)))
      refine (head_apply 384 _ _ _ _ _ 3 r j rfl _).trans ?_
      congr 1
      exact Finset.sum_congr rfl fun e _ => congrArg₂ _ (q_read _ _ _ _ _ _) (kv_read _ _ _ _ _)
    · have hz : z.val = 0 := by omega
      show k0_off8 k 0 + 1 * z.val = 3; rw [off8_eq]; simp [hz]
    · show k0_off8 k 1 + 1 * r.val = k.val * 128 + r.val; rw [off8_eq]; simp
    · show k0_off8 k 2 + 1 * d.val = d.val; rw [off8_eq]; simp
  · intro x
    obtain ⟨z, r, d, rfl⟩ : ∃ (z : Fin 1) (r d : Fin 128), x = ix3 z r d := ⟨x 0, x 1, x 2, eq_ix3 x⟩
    refine (piece_apply 256 _ _ ![_, _, _, _, _, _, _, _, _, _, _, _, _, _, _, _] _ 2 r d z rfl 8 rfl _ _).trans ?_
    refine Eq.trans ?_ (blockOut_at _ _ _ _ _ _ _ _ 2 ⟨k.val, hk⟩ r d _ ?_ ?_ ?_).symm
    · unfold cells
      refine congrArg₂ _ (o_read arg10 X10 k 2 _ (off7_eq k) _ r d) (congrArg₂ _ (g_read arg9 X9 k r _) (congrArg₂ _ (funext fun j => ?_) (funext fun j => kv_read _ _ _ _ _)))
      refine (head_apply 256 _ _ _ _ _ 2 r j rfl _).trans ?_
      congr 1
      exact Finset.sum_congr rfl fun e _ => congrArg₂ _ (q_read _ _ _ _ _ _) (kv_read _ _ _ _ _)
    · have hz : z.val = 0 := by omega
      show k0_off7 k 0 + 1 * z.val = 2; rw [off7_eq]; simp [hz]
    · show k0_off7 k 1 + 1 * r.val = k.val * 128 + r.val; rw [off7_eq]; simp
    · show k0_off7 k 2 + 1 * d.val = d.val; rw [off7_eq]; simp
  · intro x
    obtain ⟨z, r, d, rfl⟩ : ∃ (z : Fin 1) (r d : Fin 128), x = ix3 z r d := ⟨x 0, x 1, x 2, eq_ix3 x⟩
    refine (piece_apply 128 _ _ ![_, _, _, _, _, _, _, _, _, _, _, _, _, _, _, _] _ 1 r d z rfl 5 rfl _ _).trans ?_
    refine Eq.trans ?_ (blockOut_at _ _ _ _ _ _ _ _ 1 ⟨k.val, hk⟩ r d _ ?_ ?_ ?_).symm
    · unfold cells
      refine congrArg₂ _ (o_read arg10 X10 k 1 _ (off6_eq k) _ r d) (congrArg₂ _ (g_read arg9 X9 k r _) (congrArg₂ _ (funext fun j => ?_) (funext fun j => kv_read _ _ _ _ _)))
      refine (head_apply 128 _ _ _ _ _ 1 r j rfl _).trans ?_
      congr 1
      exact Finset.sum_congr rfl fun e _ => congrArg₂ _ (q_read _ _ _ _ _ _) (kv_read _ _ _ _ _)
    · have hz : z.val = 0 := by omega
      show k0_off6 k 0 + 1 * z.val = 1; rw [off6_eq]; simp [hz]
    · show k0_off6 k 1 + 1 * r.val = k.val * 128 + r.val; rw [off6_eq]; simp
    · show k0_off6 k 2 + 1 * d.val = d.val; rw [off6_eq]; simp
  · intro x
    obtain ⟨z, r, d, rfl⟩ : ∃ (z : Fin 1) (r d : Fin 128), x = ix3 z r d := ⟨x 0, x 1, x 2, eq_ix3 x⟩
    refine (piece_apply 0 _ _ ![_, _, _, _, _, _, _, _, _, _, _, _, _, _, _, _] _ 0 r d z rfl 2 rfl _ _).trans ?_
    refine Eq.trans ?_ (blockOut_at _ _ _ _ _ _ _ _ 0 ⟨k.val, hk⟩ r d _ ?_ ?_ ?_).symm
    · unfold cells
      refine congrArg₂ _ (o_read arg10 X10 k 0 _ (off5_eq k) _ r d) (congrArg₂ _ (g_read arg9 X9 k r _) (congrArg₂ _ (funext fun j => ?_) (funext fun j => kv_read _ _ _ _ _)))
      refine (head_apply 0 _ _ _ _ _ 0 r j rfl _).trans ?_
      congr 1
      exact Finset.sum_congr rfl fun e _ => congrArg₂ _ (q_read _ _ _ _ _ _) (kv_read _ _ _ _ _)
    · have hz : z.val = 0 := by omega
      show k0_off5 k 0 + 1 * z.val = 0; rw [off5_eq]; simp [hz]
    · show k0_off5 k 1 + 1 * r.val = k.val * 128 + r.val; rw [off5_eq]; simp
    · show k0_off5 k 2 + 1 * d.val = d.val; rw [off5_eq]; simp

/-- So does every store of the loop. -/
theorem loop_pieces (𝒱 : Variants) (c : Dev nD) (bd : Option 𝒱.V) (i : grid0.Coords) (arg2 : Memref sig .tc .smem S16 .f32) (harg2 : arg2.IsWhole) (arg3 : Memref sig .tc .smem S16 .f32) (harg3 : arg3.IsWhole) (arg4 : Memref sig .tc .vmem S16x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S16x512x128 .f32) (harg10 : arg10.IsWhole) (arg11 : Memref sig .tc .vmem S16x512x128 .bf16) (harg11 : arg11.IsWhole) (arg12 : Memref sig .tc .vmem S1024x128 .bf16) (harg12 : arg12.IsWhole) (arg13 : Memref sig .tc .vmem S1024x128 .bf16) (harg13 : arg13.IsWhole)
  (a0 a1 : BitVec 32) (v21 : IVec S128x640 32) (v29 : IVec S128x640 1) (v30 : FVec Ideal S128x640 .f32)
  (X2 : BufTy.Contents (Elt Ideal) arg2.view.ty) (X4 : BufTy.Contents (Elt Ideal) arg4.view.ty) (X9 : BufTy.Contents (Elt Ideal) arg9.view.ty) (X10 : BufTy.Contents (Elt Ideal) arg10.view.ty) (X12 : BufTy.Contents (Elt Ideal) arg12.view.ty) (X13 : BufTy.Contents (Elt Ideal) arg13.view.ty) :
    ∀ n ≤ k0_t1_loop.trips, ∀ p ∈ pb_k0_t1 (F := Ideal) 𝒱 c bd i arg2 harg2 arg3 harg3 arg4 harg4 arg5 harg5 arg6 harg6 arg7 harg7 arg8 harg8 arg9 harg9 arg10 harg10 arg11 harg11 arg12 harg12 arg13 harg13 a0 a1 v21 v29 v30 X2 X4 X9 X10 X12 X13 n, ∀ x : p.1.shape.Idx, p.2 x = (blockOut (fun g => wordAt arg2 X2 i (BitVec.ofNat 32 g.val) (k0_off3_inb i g)) (arg4.view.read (Elt Ideal) X4) (arg12.view.read (Elt Ideal) X12) (arg13.view.read (Elt Ideal) X13) (arg9.view.read (Elt Ideal) X9) (arg10.view.read (Elt Ideal) X10) (fun k => validV a1 v21 v29 (Fin.cast trips_eq.symm k)) v30) (p.1.emb x) := by
  intro n
  induction n with
  | zero => intro _ p hp; exact absurd hp List.not_mem_nil
  | succ n ih =>
    intro hn p hp
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 a0 a1 v21 v29 v30 X2 X4 X9 X10 X12 X13 ⟨n, hn⟩
    simp only at e
    rw [e] at hp
    rcases List.mem_append.mp hp with h | h
    · exact trip_pieces 𝒱 c bd i arg2 harg2 arg3 harg3 arg4 harg4 arg5 harg5 arg6 harg6 arg7 harg7 arg8 harg8 arg9 harg9 arg10 harg10 arg11 harg11 arg12 harg12 arg13 harg13 a0 a1 v21 v29 v30 X2 X4 X9 X10 X12 X13 ⟨n, hn⟩ p h
    · exact ih (Nat.le_of_succ_le hn) p h

end Cert.WinIdeal.Win

end
-- ==== Proof.WinBlock.lean ====
/- The output block of a grid point as one function of the point's input blocks. -/
module

public import proofs.«01_k».proof.Proof.WinPieces
public import Idealize.ShloMosaic.Lib.WritesUnit
public import Idealize.ShloMosaic.Lib.Tactic.WordOmega

@[expose] public section

set_option maxRecDepth 16384

noncomputable section

namespace Cert.WinIdeal.Win

open Idealize.ShloMosaic Idealize.ShloMosaic.TcCoe Idealize.ShloMosaic.Tactic Cert.WinIdeal Cert.WinIdeal.Gen

/-- Two blocks of rows, the earlier first. -/
def rowsOf (cur : Vec Ideal S1x512x128 .bf16) (prev : Vec Ideal S1x512x128 .bf16) : Vec Ideal S1024x128 .bf16 := fun y =>
  if h : (y 0).val < 512 then prev (ix3 0 ⟨(y 0).val, h⟩ (y 1))
  else cur (ix3 0 ⟨(y 0).val - 512, by have : (y 0).val < 1024 := (y 0).isLt; omega⟩ (y 1))

theorem rows_read (arg : Memref sig .tc .vmem S1024x128 .bf16) (f : BufTy.Contents (Elt Ideal) arg.view.ty)
    (h1 : ∀ a : Fin 2, (![512, 0] : Fin 2 → ℕ) a + S512x128.size a ≤ S1024x128.size a)
    (h0 : ∀ a : Fin 2, (![0, 0] : Fin 2 → ℕ) a + S512x128.size a ≤ S1024x128.size a)
    (w1 : Vec Ideal S512x128 .bf16) (w0 : Vec Ideal S512x128 .bf16) (cur : Vec Ideal S1x512x128 .bf16) (prev : Vec Ideal S1x512x128 .bf16)
    (e1 : ∀ (r : Fin 512) (d : Fin 128), w1 (ix2 r d) = cur (ix3 0 r d)) (e0 : ∀ (r : Fin 512) (d : Fin 128), w0 (ix2 r d) = prev (ix3 0 r d)) :
    arg.view.read (Elt Ideal) (arg.view.writes (Elt Ideal) f [⟨Rect.unit (s := S1024x128) ![512, 0] S512x128.size h1, w1⟩, ⟨Rect.unit (s := S1024x128) ![0, 0] S512x128.size h0, w0⟩])
      = rowsOf cur prev := by
  funext y
  obtain ⟨r, d, rfl⟩ : ∃ (r : Fin 1024) (d : Fin 128), y = ix2 r d := ⟨y 0, y 1, eq_ix2 y⟩
  have hr := r.isLt
  unfold rowsOf
  split
  · rename_i h
    have h' : r.val < 512 := h
    refine (View.read_writes_cons_rows_of_not_mem _ _ h1 _ _ _ rfl rfl (.inl h')).trans ?_
    refine (View.read_writes_cons_rows_of_mem _ _ h0 _ _ _ (ix2 ⟨r.val, h'⟩ d) rfl (Nat.zero_add _).symm rfl).trans ?_
    exact e0 _ _
  · rename_i h
    have h' : 512 ≤ r.val := Nat.le_of_not_lt h
    refine (View.read_writes_cons_rows_of_mem _ _ h1 _ _ _ (ix2 ⟨r.val - 512, by omega⟩ d) rfl ?_ rfl).trans ?_
    · show r.val = 512 + (r.val - 512)
      omega
    · exact e1 _ _

theorem word_read (arg : Memref sig .tc .smem S16 .f32) (harg : arg.IsWhole) (x : Vec Ideal S16 .f32) (i : grid0.Coords) (g : Fin 16) :
    wordAt arg (harg.unread x) i (BitVec.ofNat 32 g.val) (k0_off3_inb i g) = x (ix1 ⟨(i 0).val * 16 + g.val, by have : (i 0).val < 1 := (i 0).isLt; omega⟩) := by
  unfold wordAt
  rw [View.readAt_eq_ld, harg.read_unread]
  refine View.ld_unit_apply_of _ _ _ _ _ _ fun a => ?_
  refine Eq.trans ?_ (congrArg (· + _) (congrFun (off3_eq i g) a).symm)
  fin_cases a
  simp [ix1, Shape.Idx.first]

theorem dist_toInt (r j : Nat) (hr : r < 128) (hj : j < 640) :
    (IntOp.subi (IntOp.addi (512#32) (BitVec.ofNat 32 r)) (BitVec.ofNat 32 j)).toInt = 512 + (r : ℤ) - j := by
  show (512#32 + BitVec.ofNat 32 r - BitVec.ofNat 32 j).toInt = _
  rw [BitVec.toInt_sub, BitVec.toInt_add, BitVec.toInt_ofNat', BitVec.toInt_ofNat', BitVec.toInt_ofNat']
  simp only [Int.bmod]
  omega

theorem start_toInt (i k : Nat) (hi : i < 16) (hk : k < 4) :
    (Scalar.subi (512#32) (Scalar.addi (Scalar.muli (BitVec.ofNat 32 i) 512#32) (Scalar.muli (Scf.iv 0#32 1#32 k) 128#32))).toInt
      = 512 - ((i : ℤ) * 512 + k * 128) := by
  interval_cases i <;> interval_cases k <;> rfl

/-- Which keys of its window a row uses. -/
theorem valid_apply (i1 : Fin 16) (k : Fin k0_t1_loop.trips) (r : Fin 128) (j : Fin 640) :
    validV (BitVec.ofNat 32 i1.val) (iota .tc S128x640 32 [1] iota_S128x640_d1_w32) k0_pay86 k (ix2 r j)
      = BitVec.ofBool (decide (r.val < j.val ∧ j.val ≤ r.val + 512 ∧ 512 ≤ i1.val * 512 + k.val * 128 + j.val)) := by
  have hk : k.val < 4 := k.isLt.trans_eq trips_eq
  have hd := dist_toInt r.val j.val r.isLt j.isLt
  have hs := start_toInt i1.val k.val i1.isLt hk
  have hj : (BitVec.ofNat 32 j.val).toInt = (j.val : ℤ) := by
    rw [BitVec.toInt_ofNat']; simp only [Int.bmod]; omega
  unfold validV
  pointwise [k0_pay86, k0_pay85]
  simp only [IntOp.cmpi, BitVec.sle, BitVec.slt, hd, hs, hj, IntOp.andi, BitVec.ofBool_and_ofBool]
  congr 1
  rw [Bool.eq_iff_iff]
  simp
  omega

theorem dist_apply (r : Fin 128) (j : Fin 640) :
    (k0_pay87 : FVec Ideal S128x640 .f32) (ix2 r j) = (((512 + r.val - j.val : ℤ) : ℝ) : EReal) := by
  unfold k0_pay87
  pointwise [k0_pay85]
  rw [← dist_toInt r.val j.val r.isLt j.isLt]
  rfl

set_option maxHeartbeats 4000000 in
/-- What a grid point leaves in its output block. -/
theorem out_eq (c : Dev nD) (i : grid0.Coords) (arg2 : Memref sig .tc .smem S16 .f32) (harg2 : arg2.IsWhole) (arg3 : Memref sig .tc .smem S16 .f32) (harg3 : arg3.IsWhole) (arg4 : Memref sig .tc .vmem S16x512x128 .bf16) (harg4 : arg4.IsWhole) (arg5 : Memref sig .tc .vmem S1x512x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x512x128 .bf16) (harg9 : arg9.IsWhole) (arg10 : Memref sig .tc .vmem S16x512x128 .f32) (harg10 : arg10.IsWhole) (arg11 : Memref sig .tc .vmem S16x512x128 .bf16) (harg11 : arg11.IsWhole) (arg12 : Memref sig .tc .vmem S1024x128 .bf16) (harg12 : arg12.IsWhole) (arg13 : Memref sig .tc .vmem S1024x128 .bf16) (harg13 : arg13.IsWhole)
    (x0 : Vec Ideal S16 .f32) (x1 : Vec Ideal S16 .f32) (x2 : Vec Ideal S16x512x128 .bf16) (x3 : Vec Ideal S1x512x128 .bf16) (x4 : Vec Ideal S1x512x128 .bf16) (x5 : Vec Ideal S1x512x128 .bf16) (x6 : Vec Ideal S1x512x128 .bf16) (x7 : Vec Ideal S1x512x128 .bf16) (x8 : Vec Ideal S16x512x128 .f32) :
    out0_A_9 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8
      = blockOut (fun g => x0 (ix1 ⟨(i 0).val * 16 + g.val, by have : (i 0).val < 1 := (i 0).isLt; omega⟩))
          x2 (rowsOf x3 x4) (rowsOf x5 x6) x7 x8
          (fun k => validV (BitVec.ofNat 32 (i 1).val) (iota .tc S128x640 32 [1] iota_S128x640_d1_w32) k0_pay86 (Fin.cast trips_eq.symm k)) k0_pay87 := by
  funext y
  have hc := cover0_A_9 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 y
  unfold out0_A_9
  refine View.read_writes_apply_of_pieces _ _ _ _ ?_ y hc
  unfold kernelRun0_A
  sl_unfold_words
  dsimp only
  intro p hp x
  have h := loop_pieces Variants.none c none i arg2 harg2 arg3 harg3 arg4 harg4 arg5 harg5 arg6 harg6 arg7 harg7 arg8 harg8 arg9 harg9 arg10 harg10 arg11 harg11 arg12 harg12 arg13 harg13 _ _ _ _ _ _ _ _ _ _ _ _ le_rfl p hp x
  rw [h]
  congr 1
  · funext g; exact word_read _ _ _ _ _
  · exact harg4.read_unread _
  · refine rows_read _ _ _ _ _ _ _ _ ?_ ?_ <;> intro r d
    · pointwise [k0_pay82]
      rw [View.readAt_eq_ld, harg5.read_unread]
      exact View.ld_unit_apply_of _ _ _ _ _ _ fun a => by fin_cases a <;> simp [ix3]
    · pointwise [k0_pay81]
      rw [View.readAt_eq_ld, harg6.read_unread]
      exact View.ld_unit_apply_of _ _ _ _ _ _ fun a => by fin_cases a <;> simp [ix3]
  · refine rows_read _ _ _ _ _ _ _ _ ?_ ?_ <;> intro r d
    · pointwise [k0_pay84]
      rw [View.readAt_eq_ld, harg7.read_unread]
      exact View.ld_unit_apply_of _ _ _ _ _ _ fun a => by fin_cases a <;> simp [ix3]
    · pointwise [k0_pay83]
      rw [View.readAt_eq_ld, harg8.read_unread]
      exact View.ld_unit_apply_of _ _ _ _ _ _ fun a => by fin_cases a <;> simp [ix3]
  · exact harg9.read_unread _
  · exact harg10.read_unread _

end Cert.WinIdeal.Win

end
-- ==== Proof.WinHost.lean ====
/- What the launch's operands hold: the host program's operations before it, at an index. -/
module

public import proofs.«01_k».proof.Proof.WinBlock
public import proofs.«01_k».proof.Proof.Host

@[expose] public section

set_option maxRecDepth 16384

noncomputable section

namespace Cert.WinIdeal.Win

open Idealize.ShloMosaic Idealize.ShloMosaic.TcCoe Idealize.ShloMosaic.Tactic Cert.WinIdeal Cert.WinIdeal.Gen
open Cert.KernelIdeal.Band (qScale bScale)

variable (m : (ℓ : Loc nD τ sig) → Buf (Elt Ideal) ℓ) (c : Dev nD)

/-- The projection's columns, by head, row and column. -/
def proj (h : Fin 44) (l : Fin 8192) (d : Fin 128) : EReal := (m ((c : Thread nD τ).loc main_arg0) : Vec Ideal S44x8192x128 .f32) (ix3 h l d)
/-- The heads' slopes. -/
def slope (h : Fin 16) : EReal := (m ((c : Thread nD τ).loc main_arg1) : Vec Ideal S16 .f32) (ix1 h)
/-- The sum of the other branches, by head, row and column. -/
def rest (h : Fin 16) (l : Fin 8192) (d : Fin 128) : EReal := (m ((c : Thread nD τ).loc main_arg2) : Vec Ideal S16x8192x128 .f32) (ix3 h l d)

theorem V_proj (h : Fin 44) (l : Fin 8192) (d : Fin 128) :
    (V m c main_v9 : Vec Ideal S44x8192x128 .bf16) (ix3 h l d)
      = if h.val < 32 then proj m c h l d * qScale else proj m c h l d := by
  unfold qScale proj
  entry_read
  pointwise
  split
  · rfl
  · rename_i hh
    exact congrArg (fun x => m (c, Proc.tc.devRef main_arg0) (ix3 x l d)) (Fin.ext (by dsimp only; omega))

theorem V_slopes (h : Fin 16) :
    (V m c main_v13 : Vec Ideal S16 .f32) (ix1 h) = slope m c h * bScale := by
  unfold bScale slope
  entry_read
  pointwise

theorem V_rest (h : Fin 16) (l : Fin 8192) (d : Fin 128) :
    (V m c main_arg2 : Vec Ideal S16x8192x128 .f32) (ix3 h l d) = rest m c h l d := by
  unfold rest
  entry_read
  rfl

theorem idx0 : ∀ t : Fin grid0.N, win0_0.index t = ![0] := by decide +kernel
theorem idx2 : ∀ t : Fin grid0.N, win0_2.index t = ![1, (grid0.coords t 1).val, 0] := by decide +kernel
theorem idx3 : ∀ t : Fin grid0.N, win0_3.index t = ![40, (grid0.coords t 1).val, 0] := by decide +kernel
theorem idx4 : ∀ t : Fin grid0.N, win0_4.index t = ![40, (grid0.coords t 1).val - 1, 0] := by decide +kernel
theorem idx5 : ∀ t : Fin grid0.N, win0_5.index t = ![41, (grid0.coords t 1).val, 0] := by decide +kernel
theorem idx6 : ∀ t : Fin grid0.N, win0_6.index t = ![41, (grid0.coords t 1).val - 1, 0] := by decide +kernel
theorem idx7 : ∀ t : Fin grid0.N, win0_7.index t = ![42, (grid0.coords t 1).val, 0] := by decide +kernel
theorem idx8 : ∀ t : Fin grid0.N, win0_8.index t = ![0, (grid0.coords t 1).val, 0] := by decide +kernel
theorem idx9 : ∀ t : Fin grid0.N, win0_9.index t = ![0, (grid0.coords t 1).val, 0] := by decide +kernel

theorem blk3 (t : Fin cfg0.N) (r : Fin 512) (d : Fin 128) :
    (iblk m c 3 t : Vec Ideal S1x512x128 .bf16) (ix3 0 r d)
      = (V m c main_v9 : Vec Ideal S44x8192x128 .bf16) (ix3 40 ⟨(grid0.coords t 1).val * 512 + r.val, by have : (grid0.coords t 1).val < 16 := (grid0.coords t 1).isLt; omega⟩ d) := by
  blk_ext [iblk, idx3 t]

theorem blk4 (t : Fin cfg0.N) (r : Fin 512) (d : Fin 128) :
    (iblk m c 4 t : Vec Ideal S1x512x128 .bf16) (ix3 0 r d)
      = (V m c main_v9 : Vec Ideal S44x8192x128 .bf16) (ix3 40 ⟨((grid0.coords t 1).val - 1) * 512 + r.val, by have : (grid0.coords t 1).val < 16 := (grid0.coords t 1).isLt; omega⟩ d) := by
  blk_ext [iblk, idx4 t]

theorem blk5 (t : Fin cfg0.N) (r : Fin 512) (d : Fin 128) :
    (iblk m c 5 t : Vec Ideal S1x512x128 .bf16) (ix3 0 r d)
      = (V m c main_v9 : Vec Ideal S44x8192x128 .bf16) (ix3 41 ⟨(grid0.coords t 1).val * 512 + r.val, by have : (grid0.coords t 1).val < 16 := (grid0.coords t 1).isLt; omega⟩ d) := by
  blk_ext [iblk, idx5 t]

theorem blk6 (t : Fin cfg0.N) (r : Fin 512) (d : Fin 128) :
    (iblk m c 6 t : Vec Ideal S1x512x128 .bf16) (ix3 0 r d)
      = (V m c main_v9 : Vec Ideal S44x8192x128 .bf16) (ix3 41 ⟨((grid0.coords t 1).val - 1) * 512 + r.val, by have : (grid0.coords t 1).val < 16 := (grid0.coords t 1).isLt; omega⟩ d) := by
  blk_ext [iblk, idx6 t]

theorem blk7 (t : Fin cfg0.N) (r : Fin 512) (d : Fin 128) :
    (iblk m c 7 t : Vec Ideal S1x512x128 .bf16) (ix3 0 r d)
      = (V m c main_v9 : Vec Ideal S44x8192x128 .bf16) (ix3 42 ⟨(grid0.coords t 1).val * 512 + r.val, by have : (grid0.coords t 1).val < 16 := (grid0.coords t 1).isLt; omega⟩ d) := by
  blk_ext [iblk, idx7 t]

theorem blk8 (t : Fin cfg0.N) (g : Fin 16) (r : Fin 512) (d : Fin 128) :
    (iblk m c 8 t : Vec Ideal S16x512x128 .f32) (ix3 g r d)
      = (V m c main_arg2 : Vec Ideal S16x8192x128 .f32) (ix3 g ⟨(grid0.coords t 1).val * 512 + r.val, by have : (grid0.coords t 1).val < 16 := (grid0.coords t 1).isLt; omega⟩ d) := by
  blk_ext [iblk, idx8 t]

theorem blk2 (t : Fin cfg0.N) (g : Fin 16) (r : Fin 512) (d : Fin 128) :
    (X0_2 m c t : Vec Ideal S16x512x128 .bf16) (ix3 g r d)
      = (V m c main_v9 : Vec Ideal S44x8192x128 .bf16) (ix3 ⟨16 + g.val, by omega⟩ ⟨(grid0.coords t 1).val * 512 + r.val, by have : (grid0.coords t 1).val < 16 := (grid0.coords t 1).isLt; omega⟩ d) := by
  unfold X0_2
  unfold Pipeline.Window.fill
  rw [dif_pos (moved0_2 t _)]
  blk_ext [iblk, idx2 t]

theorem blk0 (t : Fin cfg0.N) (h : Fin 16) : (iblk m c 0 t : Vec Ideal S16 .f32) (ix1 h) = (V m c main_v13 : Vec Ideal S16 .f32) (ix1 h) := by
  blk_ext [iblk, idx0 t]

/-- The sequence position of window entry `j` of row block `n`; before the sequence's start it is the entry's own number, and masked. -/
def keyRow (n : Fin 64) (j : Fin 640) : Fin 8192 := if h : n.val * 128 + j.val < 512 then ⟨n.val * 128 + j.val, by omega⟩ else ⟨n.val * 128 + j.val - 512, by omega⟩

/-- The launch's result, from the program's arguments. -/
def result (h : Fin 16) (n : Fin 64) (r d : Fin 128) : EReal :=
  rest m c h ⟨n.val * 128 + r.val, by omega⟩ d + gated (proj m c 42 ⟨n.val * 128 + r.val, by omega⟩ (gateCol h))
    (cell (fun j => score (BitVec.ofBool (decide (r.val < j.val ∧ j.val ≤ r.val + 512 ∧ 512 ≤ n.val * 128 + j.val)))
        (∑ e : Fin 128, proj m c ⟨16 + h.val, by omega⟩ ⟨n.val * 128 + r.val, by omega⟩ e * qScale * proj m c 40 (keyRow n j) e)
        (slope m c h * bScale) (((512 + r.val - j.val : ℤ) : ℝ) : EReal))
      (fun j => proj m c 41 (keyRow n j) d))

/-- The result array. -/
def resultV : Vec Ideal S16x8192x128 .bf16 := fun y =>
  result m c (y 0) ⟨(y 1).val / 128, by have : (y 1).val < 8192 := (y 1).isLt; omega⟩ ⟨(y 1).val % 128, Nat.mod_lt _ (by decide)⟩ (y 2)

end Cert.WinIdeal.Win

end
-- ==== Proof.WinArray.lean ====
/- The launch's result array: every block is the result function's. -/
module

public import proofs.«01_k».proof.Proof.WinHost

@[expose] public section

set_option maxRecDepth 16384

noncomputable section

namespace Cert.WinIdeal.Win

open Idealize.ShloMosaic Idealize.ShloMosaic.TcCoe Idealize.ShloMosaic.Tactic Cert.WinIdeal Cert.WinIdeal.Gen
open Cert.KernelIdeal.Band (qScale bScale)

variable (m : (ℓ : Loc nD τ sig) → Buf (Elt Ideal) ℓ) (c : Dev nD)

theorem rows_apply (cur prev : Vec Ideal S1x512x128 .bf16) (X : Fin 8192 → Fin 128 → EReal) (i1 : Fin 16)
    (hc : ∀ (r : Fin 512) (d : Fin 128), cur (ix3 0 r d) = X ⟨i1.val * 512 + r.val, by omega⟩ d)
    (hp : ∀ (r : Fin 512) (d : Fin 128), prev (ix3 0 r d) = X ⟨(i1.val - 1) * 512 + r.val, by omega⟩ d)
    (k : Fin 4) (j : Fin 640) (d : Fin 128) :
    rowsOf cur prev (ix2 ⟨k.val * 128 + j.val, by omega⟩ d) = X (keyRow ⟨i1.val * 4 + k.val, by omega⟩ j) d := by
  unfold rowsOf keyRow
  split
  · rename_i h
    have h' : k.val * 128 + j.val < 512 := h
    refine (hp _ _).trans (congrArg (fun x => X x d) (Fin.ext ?_))
    by_cases hk : (⟨i1.val * 4 + k.val, by omega⟩ : Fin 64).val * 128 + j.val < 512
    · rw [dif_pos hk]
      dsimp only at hk
      show (i1.val - 1) * 512 + (k.val * 128 + j.val) = (i1.val * 4 + k.val) * 128 + j.val
      omega
    · rw [dif_neg hk]
      dsimp only at hk
      show (i1.val - 1) * 512 + (k.val * 128 + j.val) = (i1.val * 4 + k.val) * 128 + j.val - 512
      omega
  · rename_i h
    have h' : ¬ k.val * 128 + j.val < 512 := h
    refine (hc _ _).trans (congrArg (fun x => X x d) (Fin.ext ?_))
    by_cases hk : (⟨i1.val * 4 + k.val, by omega⟩ : Fin 64).val * 128 + j.val < 512
    · rw [dif_pos hk]
      dsimp only at hk
      show i1.val * 512 + (k.val * 128 + j.val - 512) = (i1.val * 4 + k.val) * 128 + j.val
      omega
    · rw [dif_neg hk]
      dsimp only at hk
      show i1.val * 512 + (k.val * 128 + j.val - 512) = (i1.val * 4 + k.val) * 128 + j.val - 512
      omega

/-- A grid point's output block, at an index. -/
theorem point_eq (t : Fin cfg0.N) (g : Fin 16) (k : Fin 4) (r d : Fin 128) :
    outsAt0 m c t (ix3 g ⟨k.val * 128 + r.val, by omega⟩ d)
      = result m c g ⟨(grid0.coords t 1).val * 4 + k.val, by have : (grid0.coords t 1).val < 16 := (grid0.coords t 1).isLt; omega⟩ r d := by
  have h0 : (grid0.coords t 0).val < 1 := (grid0.coords t 0).isLt
  have h1 : (grid0.coords t 1).val < 16 := (grid0.coords t 1).isLt
  unfold outsAt0
  rw [out_eq]
  rw [blockOut_at _ _ _ _ _ _ _ _ g k r d _ rfl rfl rfl]
  unfold cells result
  have hK : ∀ (j : Fin 640) (e : Fin 128), rowsOf (iblk m c 3 t) (iblk m c 4 t) (ix2 ⟨k.val * 128 + j.val, by omega⟩ e)
      = proj m c 40 (keyRow ⟨(grid0.coords t 1).val * 4 + k.val, by omega⟩ j) e := by
    intro j e
    refine rows_apply _ _ (fun l e => proj m c 40 l e) ⟨(grid0.coords t 1).val, h1⟩ ?_ ?_ k j e
    · intro r d; rw [blk3, V_proj, if_neg (by decide)]
    · intro r d; rw [blk4, V_proj, if_neg (by decide)]
  have hV : ∀ (j : Fin 640) (e : Fin 128), rowsOf (iblk m c 5 t) (iblk m c 6 t) (ix2 ⟨k.val * 128 + j.val, by omega⟩ e)
      = proj m c 41 (keyRow ⟨(grid0.coords t 1).val * 4 + k.val, by omega⟩ j) e := by
    intro j e
    refine rows_apply _ _ (fun l e => proj m c 41 l e) ⟨(grid0.coords t 1).val, h1⟩ ?_ ?_ k j e
    · intro r d; rw [blk5, V_proj, if_neg (by decide)]
    · intro r d; rw [blk6, V_proj, if_neg (by decide)]
  have row : ∀ (h2 : (grid0.coords t 1).val * 512 + (k.val * 128 + r.val) < 8192) (h3 : ((grid0.coords t 1).val * 4 + k.val) * 128 + r.val < 8192),
      (⟨(grid0.coords t 1).val * 512 + (k.val * 128 + r.val), h2⟩ : Fin 8192) = ⟨((grid0.coords t 1).val * 4 + k.val) * 128 + r.val, h3⟩ :=
    fun h2 h3 => Fin.ext (by dsimp only; omega)
  refine congrArg₂ _ ?_ (congrArg₂ _ ?_ (congrArg₂ _ (funext fun j => ?_) (funext fun j => hV j d)))
  · rw [blk8, V_rest]
    exact congrArg (fun x => rest m c g x d) (row _ _)
  · rw [blk7, V_proj, if_neg (by decide)]
    exact congrArg (fun x => proj m c 42 x (gateCol g)) (row _ _)
  · have hv := valid_apply ⟨(grid0.coords t 1).val, h1⟩ (Fin.cast trips_eq.symm k) r j
    dsimp only at hv
    beta_reduce
    rw [hv, dist_apply, blk0, V_slopes]
    congr 1
    · congr 2
      simp only [Fin.val_cast, eq_iff_iff]
      omega
    · refine Finset.sum_congr rfl fun e _ => ?_
      rw [hK, blk2, V_proj, if_pos (by dsimp only; omega)]
      exact congrArg (fun x => proj m c ⟨16 + g.val, by omega⟩ x e * qScale * _) (row _ _)
    · congr 2
      exact Fin.ext (by dsimp only; omega)

theorem resultV_at (h : Fin 16) (n : Fin 64) (r d : Fin 128) (y : S16x8192x128.Idx) (e0 : (y 0).val = h.val) (e1 : (y 1).val = n.val * 128 + r.val) (e2 : (y 2).val = d.val) :
    resultV m c y = result m c h n r d := by
  unfold resultV
  have e0 : y 0 = h := Fin.ext e0
  have e2 : y 2 = d := Fin.ext e2
  rw [e0, e2]
  congr 1
  · exact Fin.ext (by dsimp only; omega)
  · exact Fin.ext (by dsimp only; omega)

theorem arr_eq : (dats m 0 c).arrAt 9 cfg0.N = resultV m c := by
  refine (dats m 0 c).arrAt_eq_of_covers 9 _ (by decide +kernel) fun t hf y => ?_
  have h1 : (grid0.coords t 1).val < 16 := (grid0.coords t 1).isLt
  have hi := idx9 t
  obtain ⟨g, l, d, rfl⟩ : ∃ (g : Fin 16) (l : Fin 512) (d : Fin 128), y = (ix3 g l d : S16x512x128.Idx) := ⟨y 0, y 1, y 2, eq_ix3 (y : S16x512x128.Idx)⟩
  obtain ⟨k, r, rfl⟩ : ∃ (k : Fin 4) (r : Fin 128), l = ⟨k.val * 128 + r.val, by omega⟩ :=
    ⟨⟨l.val / 128, by omega⟩, ⟨l.val % 128, Nat.mod_lt _ (by decide)⟩, Fin.ext (by dsimp only; omega)⟩
  blk_simp
  rw [after0_9]
  refine (point_eq m c t g k r d).trans (resultV_at m c _ _ r d _ ?_ ?_ ?_).symm
  · blk_simp [hi]
  · blk_simp [hi]
    dsimp only
    omega
  · blk_simp [hi]

end Cert.WinIdeal.Win

end
-- ==== Proof.WinRefSteps.lean ====
/- The reference's result, in named steps. -/
module

public import proofs.«01_k».proof.Proof.Gen.WinRefIdeal.Run
public import proofs.«01_k».proof.Proof.Consts
public import Idealize.ShloMosaic.Lib.Pointwise
public import Idealize.ShloMosaic.Lib.Tactic.CleanTypes

@[expose] public section

set_option maxRecDepth 16384

noncomputable section

namespace Cert.WinRefIdeal.Win

open Idealize.ShloMosaic Idealize.ShloMosaic.TcCoe Idealize.ShloMosaic.StableHlo Cert.WinRefIdeal Cert.WinRefIdeal.Gen

/-- Which keys of a window a row reads. -/
def maskR  : Vec Ideal S64x128x640 .i1 :=
  andi (broadcastInDim S64x128x640 ![0, 1, 2] bcast_S1x128x640_S64x128x640_0_1_2 (broadcastInDim S1x128x640 ![1, 2]
    bcast_S128x640_S1x128x640_1_2 (andi (cmpi .sge (subi (broadcastInDim S128x640 ![0, 1] bcast_S128x1_S128x640_0_1
    (addi (broadcastInDim S128x1 ![] bcast_S_S128x1 (constantI S_ 32 512#32)) (broadcastInDim S128x1 ![0]
    bcast_S128_S128x1_0 (iotaInDim S128 32 0)))) (broadcastInDim S128x640 ![0, 1] bcast_S1x640_S128x640_0_1
    (broadcastInDim S1x640 ![1] bcast_S640_S1x640_1 (iotaInDim S640 32 0)))) (broadcastInDim S128x640 ![]
    bcast_S_S128x640 (constantI S_ 32 0#32))) (cmpi .slt (subi (broadcastInDim S128x640 ![0, 1]
    bcast_S128x1_S128x640_0_1 (addi (broadcastInDim S128x1 ![] bcast_S_S128x1 (constantI S_ 32 512#32))
    (broadcastInDim S128x1 ![0] bcast_S128_S128x1_0 (iotaInDim S128 32 0)))) (broadcastInDim S128x640 ![0, 1]
    bcast_S1x640_S128x640_0_1 (broadcastInDim S1x640 ![1] bcast_S640_S1x640_1 (iotaInDim S640 32 0))))
    (broadcastInDim S128x640 ![] bcast_S_S128x640 (constantI S_ 32 512#32)))))) (broadcastInDim S64x128x640 ![0, 1,
    2] bcast_S64x1x640_S64x128x640_0_1_2 (broadcastInDim S64x1x640 ![0, 2] bcast_S64x640_S64x1x640_0_2 (cmpi .sge
    (addi (broadcastInDim S64x640 ![0, 1] bcast_S64x1_S64x640_0_1 (muli (subi (broadcastInDim S64x1 ![0]
    bcast_S64_S64x1_0 (iotaInDim S64 32 0)) (broadcastInDim S64x1 ![] bcast_S_S64x1 (constantI S_ 32 4#32)))
    (broadcastInDim S64x1 ![] bcast_S_S64x1 (constantI S_ 32 128#32)))) (broadcastInDim S64x640 ![0, 1]
    bcast_S1x640_S64x640_0_1 (broadcastInDim S1x640 ![1] bcast_S640_S1x640_1 (iotaInDim S640 32 0))))
    (broadcastInDim S64x640 ![] bcast_S_S64x640 (constantI S_ 32 0#32)))))

/-- Four blocks of zeros before the blocks of rows. -/
def padR (b : Vec Ideal S1x64x128x1x128 .f32) : Vec Ideal S1x68x128x1x128 .f32 :=
  concatenate S1x68x128x1x128 1 [⟨S1x4x128x1x128, (broadcastInDim S1x4x128x1x128 ![] bcast_S_S1x4x128x1x128
    (constant (F := Ideal) S_ .f32 0x00000000#32))⟩, ⟨S1x64x128x1x128, b⟩]
    concatenates_S1x4x128x1x128_S1x64x128x1x128_S1x68x128x1x128_d1

/-- A block of rows under the four blocks before it. -/
def windowR (b : Vec Ideal S1x64x128x1x128 .f32) : Vec Ideal S1x64x640x1x128 .f32 :=
  concatenate S1x64x640x1x128 2 [⟨S1x64x128x1x128, (extractStridedSlice S1x64x128x1x128 ![0, 0, 0, 0, 0] (padR b)
    slices_S1x68x128x1x128_S1x64x128x1x128_0_0_0_0_0)⟩, ⟨S1x64x128x1x128, (extractStridedSlice S1x64x128x1x128 ![0,
    1, 0, 0, 0] (padR b) slices_S1x68x128x1x128_S1x64x128x1x128_0_1_0_0_0)⟩, ⟨S1x64x128x1x128, (extractStridedSlice
    S1x64x128x1x128 ![0, 2, 0, 0, 0] (padR b) slices_S1x68x128x1x128_S1x64x128x1x128_0_2_0_0_0)⟩, ⟨S1x64x128x1x128,
    (extractStridedSlice S1x64x128x1x128 ![0, 3, 0, 0, 0] (padR b)
    slices_S1x68x128x1x128_S1x64x128x1x128_0_3_0_0_0)⟩, ⟨S1x64x128x1x128, (extractStridedSlice S1x64x128x1x128 ![0,
    4, 0, 0, 0] (padR b) slices_S1x68x128x1x128_S1x64x128x1x128_0_4_0_0_0)⟩]
    concatenates_S1x64x128x1x128_S1x64x128x1x128_S1x64x128x1x128_S1x64x128x1x128_S1x64x128x1x128_S1x64x640x1x128_d2

/-- The keys, block by block. -/
def keysR (m : (ℓ : Loc nD τ sig) → Buf (Elt Ideal) ℓ) (c : Dev nD) : Vec Ideal S1x64x128x1x128 .f32 :=
  shapeCast _ (broadcastInDim S1x8192x1x128 ![1, 2, 3] bcast_S8192x1x128_S1x8192x1x128_1_2_3 (transpose S8192x1x128
    [1, 0, 2] (extractStridedSlice S1x8192x128 ![40, 0, 0] (m ((c.tc : Thread nD τ).loc main_arg0))
    slices_S44x8192x128_S1x8192x128_40_0_0) transposes_S1x8192x128_S8192x1x128_1_0_2))
    shapeCasts_S1x8192x1x128_S1x64x128x1x128

/-- The values, block by block. -/
def valuesR (m : (ℓ : Loc nD τ sig) → Buf (Elt Ideal) ℓ) (c : Dev nD) : Vec Ideal S1x64x128x1x128 .f32 :=
  shapeCast _ (broadcastInDim S1x8192x1x128 ![1, 2, 3] bcast_S8192x1x128_S1x8192x1x128_1_2_3 (transpose S8192x1x128
    [1, 0, 2] (extractStridedSlice S1x8192x128 ![41, 0, 0] (m ((c.tc : Thread nD τ).loc main_arg0))
    slices_S44x8192x128_S1x8192x128_41_0_0) transposes_S1x8192x128_S8192x1x128_1_0_2))
    shapeCasts_S1x8192x1x128_S1x64x128x1x128

/-- The queries, block by block. -/
def queriesR (m : (ℓ : Loc nD τ sig) → Buf (Elt Ideal) ℓ) (c : Dev nD) : Vec Ideal S1x64x128x1x16x128 .f32 :=
  shapeCast _ (broadcastInDim S1x8192x16x128 ![1, 2, 3] bcast_S8192x16x128_S1x8192x16x128_1_2_3 (transpose
    S8192x16x128 [1, 0, 2] (extractStridedSlice S16x8192x128 ![16, 0, 0] (m ((c.tc : Thread nD τ).loc main_arg0))
    slices_S44x8192x128_S16x8192x128_16_0_0) transposes_S16x8192x128_S8192x16x128_1_0_2))
    shapeCasts_S1x8192x16x128_S1x64x128x1x16x128

/-- A window's keys times a block's queries. -/
def productsR (k : Vec Ideal S1x64x640x1x128 .f32) (q : Vec Ideal S1x64x128x1x16x128 .f32) : Vec Ideal S1x1x16x64x128x640 .f32 :=
  transpose S1x1x16x64x128x640 [0, 1, 5, 2, 4, 3] (Host.dotGeneral (F := Ideal) (φ₁ := .f32) (φ₂ := .f32)
    dot_S1x64x640x1x128_S1x64x128x1x16x128_S1x1x64x640x128x16_4_5_2_24_031_031 none k q)
    transposes_S1x1x64x640x128x16_S1x1x16x64x128x640_0_1_5_2_4_3

/-- The distances times the heads' slopes. -/
def biasR (m : (ℓ : Loc nD τ sig) → Buf (Elt Ideal) ℓ) (c : Dev nD) : Vec Ideal S1x1x16x64x128x640 .f32 :=
  broadcastInDim S1x1x16x64x128x640 ![0, 1, 2, 3, 4, 5] bcast_S1x1x16x1x128x640_S1x1x16x64x128x640_0_1_2_3_4_5
    (broadcastInDim S1x1x16x1x128x640 ![1, 2, 3, 4, 5] bcast_S1x16x1x128x640_S1x1x16x1x128x640_1_2_3_4_5 (mulf (F
    := Ideal) (φ := .f32) (broadcastInDim S1x16x1x128x640 ![0, 1, 2, 3, 4]
    bcast_S1x16x1x1x1_S1x16x1x128x640_0_1_2_3_4 (Host.negf (shapeCast _ (m ((c.tc : Thread nD τ).loc main_arg1))
    shapeCasts_S16_S1x16x1x1x1))) (broadcastInDim S1x16x1x128x640 ![0, 1, 2, 3, 4]
    bcast_S1x1x1x128x640_S1x16x1x128x640_0_1_2_3_4 (broadcastInDim S1x1x1x128x640 ![3, 4]
    bcast_S128x640_S1x1x1x128x640_3_4 (sitofp .f32 (subi (broadcastInDim S128x640 ![0, 1] bcast_S128x1_S128x640_0_1
    (addi (broadcastInDim S128x1 ![] bcast_S_S128x1 (constantI S_ 32 512#32)) (broadcastInDim S128x1 ![0]
    bcast_S128_S128x1_0 (iotaInDim S128 32 0)))) (broadcastInDim S128x640 ![0, 1] bcast_S1x640_S128x640_0_1
    (broadcastInDim S1x640 ![1] bcast_S640_S1x640_1 (iotaInDim S640 32 0)))))))))

/-- The masked scores. -/
def scoreR (m : (ℓ : Loc nD τ sig) → Buf (Elt Ideal) ℓ) (c : Dev nD) : Vec Ideal S1x1x16x64x128x640 .f32 :=
  select (broadcastInDim S1x1x16x64x128x640 ![3, 4, 5] bcast_S64x128x640_S1x1x16x64x128x640_3_4_5 maskR) (addf
    (Host.divf (productsR (windowR (keysR m c)) (queriesR m c)) (broadcastInDim S1x1x16x64x128x640 ![]
    bcast_S_S1x1x16x64x128x640 (Host.sqrt (constant (F := Ideal) S_ .f32 0x43000000#32)))) (biasR m c))
    (broadcastInDim S1x1x16x64x128x640 ![] bcast_S_S1x1x16x64x128x640 (id (constant (F := Ideal) S_ .f32
    0xFF800000#32)))

/-- A row's largest score. -/
def topR (u : Vec Ideal S1x1x16x64x128x640 .f32) : Vec Ideal S1x1x16x64x128 .f32 :=
  Host.reduce (FloatOps.maximumf (F := Ideal) (φ := .f32)) u (constant (F := Ideal) S_ .f32 0xFF800000#32)
    reducesTo_S1x1x16x64x128x640_S1x1x16x64x128_d5 h_S_

/-- The logarithm of a row's sum of exponentials. -/
def lseR (u : Vec Ideal S1x1x16x64x128x640 .f32) : Vec Ideal S1x1x16x64x128 .f32 :=
  addf (topR u) (Host.log (Host.reduceAdd (Host.exp (subf u (broadcastInDim S1x1x16x64x128x640 ![0, 1, 2, 3, 4, 5]
    bcast_S1x1x16x64x128x1_S1x1x16x64x128x640_0_1_2_3_4_5 (broadcastInDim S1x1x16x64x128x1 ![0, 1, 2, 3, 4]
    bcast_S1x1x16x64x128_S1x1x16x64x128x1_0_1_2_3_4 (topR u))))) (constant (F := Ideal) S_ .f32 0x00000000#32)
    reducesTo_S1x1x16x64x128x640_S1x1x16x64x128_d5 h_S_))

/-- The gates of the branch. -/
def gateR (m : (ℓ : Loc nD τ sig) → Buf (Elt Ideal) ℓ) (c : Dev nD) : Vec Ideal S1x8192x16x1 .f32 :=
  extractStridedSlice S1x8192x16x1 ![0, 0, 0, 2] (Host.divf (broadcastInDim S1x8192x16x3 ![] bcast_S_S1x8192x16x3
    (constant (F := Ideal) S_ .f32 0x3F800000#32)) (addf (broadcastInDim S1x8192x16x3 ![] bcast_S_S1x8192x16x3
    (constant (F := Ideal) S_ .f32 0x3F800000#32)) (Host.exp (Host.negf (shapeCast _ (shapeCast _
    (extractStridedSlice S1x8192x48 ![42, 0, 0] (m ((c.tc : Thread nD τ).loc main_arg0))
    slices_S44x8192x128_S1x8192x48_42_0_0) shapeCasts_S1x8192x48_S8192x48) shapeCasts_S8192x48_S1x8192x16x3)))))
    slices_S1x8192x16x3_S1x8192x16x1_0_0_0_2

/-- The values mixed. -/
def mixR (v : Vec Ideal S1x64x640x1x128 .f32) (u : Vec Ideal S1x1x16x64x128x640 .f32) (L : Vec Ideal S1x1x16x64x128 .f32) : Vec Ideal S1x8192x16x128 .f32 :=
  shapeCast _ (transpose S1x64x128x1x16x128 [0, 1, 5, 2, 4, 3] (Host.dotGeneral (F := Ideal) (φ₁ := .f32) (φ₂ :=
    .f32) dot_S1x64x640x1x128_S1x1x16x64x128x640_S1x64x1x128x16x128_2_5_4_24_013_031 none v (Host.exp (subf u
    (broadcastInDim S1x1x16x64x128x640 ![0, 1, 2, 3, 4, 5] bcast_S1x1x16x64x128x1_S1x1x16x64x128x640_0_1_2_3_4_5
    (broadcastInDim S1x1x16x64x128x1 ![0, 1, 2, 3, 4] bcast_S1x1x16x64x128_S1x1x16x64x128x1_0_1_2_3_4 L)))))
    transposes_S1x64x1x128x16x128_S1x64x128x1x16x128_0_1_5_2_4_3) shapeCasts_S1x64x128x1x16x128_S1x8192x16x128

set_option maxHeartbeats 4000000 in
/-- The reference's result is the last step. -/
theorem res_eq (m : (ℓ : Loc nD τ sig) → Buf (Elt Ideal) ℓ) (c : Dev nD) : Value.res_main_v110 m c =
  truncf (F := Ideal) .bf16 (transpose S16x8192x128 [1, 0, 2] (shapeCast _ (addf (F := Ideal) (φ := .f32) (broadcastInDim S1x8192x16x128 ![1, 2, 3] bcast_S8192x16x128_S1x8192x16x128_1_2_3 (transpose S8192x16x128 [1, 0, 2] (m ((c.tc : Thread nD τ).loc main_arg2)) transposes_S16x8192x128_S8192x16x128_1_0_2)) (mulf (F := Ideal) (φ := .f32) (broadcastInDim S1x8192x16x128 ![0, 1, 2, 3] bcast_S1x8192x16x1_S1x8192x16x128_0_1_2_3 (gateR m c)) (mixR (windowR (valuesR m c)) (scoreR m c) (lseR (scoreR m c))))) shapeCasts_S1x8192x16x128_S8192x16x128) transposes_S8192x16x128_S16x8192x128_1_0_2) bitsLt_bf16_f32 := by
  unfold Value.res_main_v110
  rfl

end Cert.WinRefIdeal.Win
-- ==== Proof.WinRef.lean ====
/- The reference's steps at an index. -/
module

public import proofs.«01_k».proof.Proof.WinRefSteps
public import proofs.«01_k».proof.Proof.Rank6

@[expose] public section

set_option maxRecDepth 16384

noncomputable section

namespace Cert.WinRefIdeal.Win

open Idealize.ShloMosaic Idealize.ShloMosaic.TcCoe Idealize.ShloMosaic.Tactic Cert.WinRefIdeal

theorem topR_at (u : Vec Ideal S1x1x16x64x128x640 .f32) (a : Fin 1) (k : Fin 1) (g : Fin 16) (n : Fin 64)
    (r : Fin 128) : topR u (ix5 a k g n r) = Finset.univ.fold max ⊥ (fun j : Fin 640 => (u (ix6 a k g n r j) : EReal)) := by
  unfold topR
  clean_types
  rw [Host.reduce_eq_fold]
  have h := Shape.ReducesTo.fold6 (n0 := 1) (n1 := 1) (n2 := 16) (n3 := 64) (n4 := 128) (n5 := 640)
    Gen.reducesTo_S1x1x16x64x128x640_S1x1x16x64x128_d5 (ix5 a k g n r) (max : EReal → EReal → EReal) (⊥ : EReal) u
  pointwise
  rw [Cert.Consts.ofBits_bot]
  exact h

/-- The exponentials of the scores less `M`. -/
def expR (u : Vec Ideal S1x1x16x64x128x640 .f32) (M : Vec Ideal S1x1x16x64x128 .f32) :
    FVec Ideal S1x1x16x64x128x640 .f32 :=
  Host.exp (subf u (broadcastInDim S1x1x16x64x128x640 ![0, 1, 2, 3, 4, 5]
    Gen.bcast_S1x1x16x64x128x1_S1x1x16x64x128x640_0_1_2_3_4_5 (broadcastInDim S1x1x16x64x128x1 ![0, 1, 2, 3, 4]
    Gen.bcast_S1x1x16x64x128_S1x1x16x64x128x1_0_1_2_3_4 M)))

theorem expR_at (u : Vec Ideal S1x1x16x64x128x640 .f32) (M : Vec Ideal S1x1x16x64x128 .f32) (k : Fin 1)
    (g : Fin 16) (n : Fin 64) (r : Fin 128) (j : Fin 640) :
    expR u M (ix6 0 k g n r j) = Ideal.exp (u (ix6 0 k g n r j) - M (ix5 0 k g n r)) := by
  obtain rfl := Subsingleton.elim k 0
  unfold expR
  clean_types
  pointwise

/-- The sums of a row's entries. -/
def sumR (x : FVec Ideal S1x1x16x64x128x640 .f32) : FVec Ideal S1x1x16x64x128 .f32 :=
  Host.reduceAdd x (constant (F := Ideal) S_ .f32 0x00000000#32)
    Gen.reducesTo_S1x1x16x64x128x640_S1x1x16x64x128_d5 Gen.h_S_

theorem sumR_at (x : FVec Ideal S1x1x16x64x128x640 .f32) (k : Fin 1) (g : Fin 16) (n : Fin 64) (r : Fin 128) :
    (sumR x (ix5 0 k g n r) : EReal)
      = Ideal.ofBits .f32 0x00000000#32 + ∑ j : Fin 640, (x (ix6 0 k g n r j) : EReal) :=
  Host.reduceAdd6 (n0 := 1) (n1 := 1) (n2 := 16) (n3 := 64) (n4 := 128) (n5 := 640)
    Gen.reducesTo_S1x1x16x64x128x640_S1x1x16x64x128_d5 (u := S_) x
    (constant (F := Ideal) S_ .f32 0x00000000#32) Gen.h_S_ (ix5 0 k g n r)

theorem add_log_at (a b : FVec Ideal S1x1x16x64x128 .f32) (i : S1x1x16x64x128.Idx) :
    (addf a (Host.log b) i : EReal) = a i + Ideal.log (b i) := rfl

theorem lseR_eq (u : Vec Ideal S1x1x16x64x128x640 .f32) :
    lseR u = addf (F := Ideal) (φ := .f32) (topR u) (Host.log (sumR (expR u (topR u)))) := by
  unfold lseR sumR expR
  with_reducible rfl

theorem lseR_at (u : Vec Ideal S1x1x16x64x128x640 .f32) (k : Fin 1) (g : Fin 16) (n : Fin 64)
    (r : Fin 128) : (lseR u (ix5 0 k g n r) : EReal) = topR u (ix5 0 k g n r) + Ideal.log (∑ j : Fin 640,
      Ideal.exp (u (ix6 0 k g n r j) - topR u (ix5 0 k g n r))) := by
  obtain rfl := Subsingleton.elim k 0
  rw [lseR_eq]
  refine (add_log_at _ _ _).trans ?_
  rw [sumR_at, Ideal.ofBits_zero, zero_add]
  simp only [expR_at]

theorem mixR_at (v : Vec Ideal S1x64x640x1x128 .f32) (u : Vec Ideal S1x1x16x64x128x640 .f32)
    (L : Vec Ideal S1x1x16x64x128 .f32) (l : Fin 8192) (h : Fin 16) (d : Fin 128) :
    mixR v u L (ix4 0 l h d) = ∑ j : Fin 640, v (ix5 0 ⟨l / 128, by omega⟩ j 0 d) *
      Ideal.exp (u (ix6 0 0 h ⟨l / 128, by omega⟩ ⟨l % 128, by omega⟩ j)
        - L (ix5 0 0 h ⟨l / 128, by omega⟩ ⟨l % 128, by omega⟩)) := by
  unfold mixR
  clean_types
  pointwise

theorem productsR_at (k : Vec Ideal S1x64x640x1x128 .f32) (q : Vec Ideal S1x64x128x1x16x128 .f32)
    (v : Fin 1) (g : Fin 16) (n : Fin 64) (r : Fin 128) (j : Fin 640) :
    productsR k q (ix6 0 v g n r j) = ∑ e : Fin 128, k (ix5 0 n j v e) * q (ix6 0 n r v g e) := by
  obtain rfl := Subsingleton.elim v 0
  unfold productsR
  clean_types
  pointwise

end Cert.WinRefIdeal.Win
-- ==== Proof.WinRefRead.lean ====
/- The reference's inputs, mask and bias at an index. -/
module

public import proofs.«01_k».proof.Proof.WinRef

@[expose] public section

set_option maxRecDepth 16384

noncomputable section

namespace Cert.WinRefIdeal.Win

open Idealize.ShloMosaic Idealize.ShloMosaic.TcCoe Idealize.ShloMosaic.Tactic Cert.WinRefIdeal

theorem dist_toInt (r j : Nat) (hr : r < 128) (hj : j < 640) :
    (IntOp.subi (IntOp.addi (512#32) (BitVec.ofNat 32 r)) (BitVec.ofNat 32 j)).toInt = 512 + (r : ℤ) - j := by
  show (512#32 + BitVec.ofNat 32 r - BitVec.ofNat 32 j).toInt = _
  rw [BitVec.toInt_sub, BitVec.toInt_add, BitVec.toInt_ofNat', BitVec.toInt_ofNat', BitVec.toInt_ofNat']
  simp only [Int.bmod]
  omega

theorem pos_toInt (n j : Nat) (hn : n < 64) (hj : j < 640) :
    (IntOp.addi (IntOp.muli (IntOp.subi (BitVec.ofNat 32 n) 4#32) 128#32) (BitVec.ofNat 32 j)).toInt
      = ((n : ℤ) - 4) * 128 + j := by
  have h : (IntOp.muli (IntOp.subi (BitVec.ofNat 32 n) 4#32) 128#32).toInt = ((n : ℤ) - 4) * 128 := by
    interval_cases n <;> rfl
  show (IntOp.muli (IntOp.subi (BitVec.ofNat 32 n) 4#32) 128#32 + BitVec.ofNat 32 j).toInt = _
  rw [BitVec.toInt_add, h, BitVec.toInt_ofNat']
  simp only [Int.bmod]
  omega

theorem padR_at (b : Vec Ideal S1x64x128x1x128 .f32) (n : Fin 68) (r : Fin 128) (v : Fin 1) (d : Fin 128) (h : 4 ≤ n.val) :
    padR b (ix5 0 n r v d) = b (ix5 0 ⟨n.val - 4, by omega⟩ r v d) := by
  obtain rfl := Subsingleton.elim v 0
  unfold padR
  clean_types
  pointwise
  rw [dif_neg (by omega)]

theorem windowR_pad (b : Vec Ideal S1x64x128x1x128 .f32) (n : Fin 64) (j : Fin 640) (v : Fin 1) (d : Fin 128) :
    windowR b (ix5 0 n j v d) = padR b (ix5 0 ⟨n.val + j.val / 128, by omega⟩ ⟨j.val % 128, by omega⟩ v d) := by
  obtain rfl := Subsingleton.elim v 0
  unfold windowR
  generalize padR b = p
  clean_types
  pointwise
  have hn := n.isLt
  have hj := j.isLt
  split <;> [skip; split <;> [skip; split <;> [skip; split]]] <;>
    (congr 2 <;> (apply Fin.ext; dsimp only; omega))

theorem windowR_at (b : Vec Ideal S1x64x128x1x128 .f32) (n : Fin 64) (j : Fin 640) (v : Fin 1) (d : Fin 128)
    (h : 512 ≤ n.val * 128 + j.val) :
    windowR b (ix5 0 n j v d) = b (ix5 0 ⟨(n.val * 128 + j.val - 512) / 128, by omega⟩
      ⟨(n.val * 128 + j.val - 512) % 128, by omega⟩ v d) := by
  obtain rfl := Subsingleton.elim v 0
  rw [windowR_pad, padR_at _ _ _ _ _ (by dsimp only; omega)]
  congr 2
  · apply Fin.ext; dsimp only; omega
  · apply Fin.ext; dsimp only; omega

variable (m : (ℓ : Loc nD τ sig) → Buf (Elt Ideal) ℓ) (c : Dev nD)

/-- The projection's columns, by head, row and column. -/
def proj (h : Fin 44) (l : Fin 8192) (d : Fin 128) : EReal :=
  (m ((c.tc : Thread nD τ).loc main_arg0) : Vec Ideal S44x8192x128 .f32) (ix3 h l d)
/-- The heads' slopes. -/
def slope (h : Fin 16) : EReal := (m ((c.tc : Thread nD τ).loc main_arg1) : Vec Ideal S16 .f32) (ix1 h)
/-- The sum of the other branches, by head, row and column. -/
def rest (h : Fin 16) (l : Fin 8192) (d : Fin 128) : EReal :=
  (m ((c.tc : Thread nD τ).loc main_arg2) : Vec Ideal S16x8192x128 .f32) (ix3 h l d)

theorem keysR_at (n : Fin 64) (r : Fin 128) (v : Fin 1) (d : Fin 128) :
    keysR m c (ix5 0 n r v d) = proj m c 40 ⟨n.val * 128 + r.val, by omega⟩ d := by
  obtain rfl := Subsingleton.elim v 0
  unfold keysR proj
  clean_types
  pointwise

theorem valuesR_at (n : Fin 64) (r : Fin 128) (v : Fin 1) (d : Fin 128) :
    valuesR m c (ix5 0 n r v d) = proj m c 41 ⟨n.val * 128 + r.val, by omega⟩ d := by
  obtain rfl := Subsingleton.elim v 0
  unfold valuesR proj
  clean_types
  pointwise

theorem queriesR_at (n : Fin 64) (r : Fin 128) (v : Fin 1) (g : Fin 16) (d : Fin 128) :
    queriesR m c (ix6 0 n r v g d) = proj m c ⟨16 + g.val, by omega⟩ ⟨n.val * 128 + r.val, by omega⟩ d := by
  obtain rfl := Subsingleton.elim v 0
  unfold queriesR proj
  clean_types
  pointwise

theorem maskR_at (n : Fin 64) (r : Fin 128) (j : Fin 640) :
    maskR (ix3 n r j) = BitVec.ofBool (decide (r.val < j.val ∧ j.val ≤ r.val + 512 ∧ 512 ≤ n.val * 128 + j.val)) := by
  unfold maskR
  clean_types
  pointwise
  have hd := dist_toInt r.val j.val r.isLt j.isLt
  have hs := pos_toInt n.val j.val n.isLt j.isLt
  simp only [IntOp.cmpi, BitVec.sle, BitVec.slt, hd, hs, IntOp.andi, BitVec.ofBool_and_ofBool]
  congr 1
  rw [Bool.eq_iff_iff]
  simp
  omega

theorem biasR_at (v : Fin 1) (g : Fin 16) (n : Fin 64) (r : Fin 128) (j : Fin 640) :
    biasR m c (ix6 0 v g n r j) = - slope m c g * ((((512 + r.val - j.val : ℤ)) : ℝ) : EReal) := by
  obtain rfl := Subsingleton.elim v 0
  unfold biasR slope
  clean_types
  pointwise
  rw [← dist_toInt r.val j.val r.isLt j.isLt]
  rfl

theorem scoreR_at (v : Fin 1) (g : Fin 16) (n : Fin 64) (r : Fin 128) (j : Fin 640) :
    scoreR m c (ix6 0 v g n r j) = Scalar.select (maskR (ix3 n r j))
      (Ideal.div (productsR (windowR (keysR m c)) (queriesR m c) (ix6 0 v g n r j)) (Ideal.sqrt (Ideal.ofBits .f32 0x43000000#32))
        + biasR m c (ix6 0 v g n r j)) ⊥ := by
  obtain rfl := Subsingleton.elim v 0
  unfold scoreR
  clean_types
  pointwise
  congr 1

theorem gateR_at (l : Fin 8192) (h : Fin 16) :
    gateR m c (ix4 0 l h 0) = Ideal.div 1 (1 + Ideal.exp (- proj m c 42 l ⟨h.val * 3 + 2, by omega⟩)) := by
  unfold gateR proj
  clean_types
  pointwise

theorem res_at (h : Fin 16) (l : Fin 8192) (d : Fin 128) :
    (Value.res_main_v110 m c : Vec Ideal S16x8192x128 .bf16) (ix3 h l d)
      = rest m c h l d + gateR m c (ix4 0 l h 0) *
        mixR (windowR (valuesR m c)) (scoreR m c) (lseR (scoreR m c)) (ix4 0 l h d) := by
  rw [res_eq]
  unfold rest
  clean_types
  pointwise

end Cert.WinRefIdeal.Win
-- ==== Proof.WinSoftmax.lean ====
/- A row of attention, its exponentials taken to the base two after a shift, is the row of the softmax. -/
module

public import proofs.«01_k».proof.Proof.WinTripValue
public import proofs.«01_k».proof.Proof.Consts

@[expose] public section

noncomputable section

namespace Cert.WinSoftmax

open Idealize.ShloMosaic Cert.WinIdeal.Win

/-- The logarithm of a row's sum of exponentials, its largest entry taken out. -/
def lse (u : Fin 640 → EReal) : EReal := top u + Ideal.log (∑ j, Ideal.exp (u j - top u))

/-- The softmax row mixed with `w`. -/
def mixed (u : Fin 640 → EReal) (w : Fin 640 → EReal) : EReal :=
  ∑ j, w j * Ideal.exp (u j - lse u)

variable {P : Fin 640 → Prop} [DecidablePred P]

/-- A row with a real entry and otherwise real entries or minus infinity has a real maximum. -/
theorem top_real (hP : ∃ j, P j) (s : Fin 640 → ℝ) (t : Fin 640 → EReal)
    (ht : ∀ j, t j = if P j then ((s j : ℝ) : EReal) else ⊥) : ∃ M : ℝ, top t = (M : EReal) := by
  obtain ⟨j0, h0⟩ := hP
  have hlt : top t < ⊤ := by
    refine (Finset.fold_max_lt _).2 ⟨bot_lt_top, fun j _ => ?_⟩
    rw [ht]
    split
    · exact EReal.coe_lt_top _
    · exact bot_lt_top
  have hle : ((s j0 : ℝ) : EReal) ≤ top t :=
    (Finset.le_fold_max _).2 (Or.inr ⟨j0, Finset.mem_univ _, by rw [ht, if_pos h0]⟩)
  refine ⟨(top t).toReal, (EReal.coe_toReal hlt.ne ?_).symm⟩
  intro hb
  rw [hb] at hle
  exact absurd (le_bot_iff.1 hle) (EReal.coe_ne_bot _)

theorem coe_sum (f : Fin 640 → ℝ) : ((∑ j, f j : ℝ) : EReal) = ∑ j, ((f j : ℝ) : EReal) := by
  induction (Finset.univ : Finset (Fin 640)) using Finset.induction_on with
  | empty => simp
  | insert a s ha ih => rw [Finset.sum_insert ha, Finset.sum_insert ha, EReal.coe_add, ih]

theorem exp2_real (x : ℝ) : Ideal.exp2 (x : EReal) = ((Real.exp (Real.log 2 * x) : ℝ) : EReal) := by
  rw [Ideal.exp2_coe]
  exact congrArg _ (Real.rpow_def_of_pos (by norm_num) x)

theorem core (hP : ∃ j, P j) (s x : Fin 640 → ℝ) (t u v w : Fin 640 → EReal)
    (ht : ∀ j, t j = if P j then ((s j / Real.log 2 : ℝ) : EReal) else ⊥)
    (hu : ∀ j, u j = if P j then ((s j : ℝ) : EReal) else ⊥)
    (hv : ∀ j, P j → v j = ((x j : ℝ) : EReal)) (hw : ∀ j, P j → w j = ((x j : ℝ) : EReal)) :
    cell t v = mixed u w := by
  obtain ⟨M, hM⟩ := top_real hP _ t ht
  obtain ⟨B, hB⟩ := top_real hP _ u hu
  have hl : Real.log 2 ≠ 0 := (Real.log_pos (by norm_num)).ne'
  obtain ⟨j0, h0⟩ := hP
  -- the kernel's exponentials
  have e1 : ∀ j, Ideal.exp2 (t j - top t)
      = (((if P j then Real.exp (s j - Real.log 2 * M) else 0 : ℝ)) : EReal) := by
    intro j
    rw [ht, hM]
    split
    · rw [← EReal.coe_sub, exp2_real]
      congr 2
      field_simp
    · rw [EReal.bot_sub, Ideal.exp2_bot, EReal.coe_zero]
  have e3 : ∀ j, Ideal.exp2 (t j - top t) * v j
      = (((if P j then Real.exp (s j - Real.log 2 * M) * x j else 0 : ℝ)) : EReal) := by
    intro j
    rw [e1]
    split
    · next h => rw [hv j h, EReal.coe_mul]
    · rw [EReal.coe_zero, zero_mul]
  -- the reference's
  have f1 : ∀ (y : ℝ) j, Ideal.exp (u j - (y : EReal))
      = (((if P j then Real.exp (s j - y) else 0 : ℝ)) : EReal) := by
    intro y j
    rw [hu]
    split
    · rw [← EReal.coe_sub, Ideal.exp_coe]
    · rw [EReal.bot_sub, Ideal.exp_bot, EReal.coe_zero]
  have pos : ∀ y : ℝ, 0 < ∑ j, (if P j then Real.exp (s j - y) else 0 : ℝ) := by
    intro y
    refine Finset.sum_pos' (fun j _ => ?_) ⟨j0, Finset.mem_univ _, ?_⟩
    · split
      · exact (Real.exp_pos _).le
      · exact le_rfl
    · rw [if_pos h0]; exact Real.exp_pos _
  have fac : ∀ y : ℝ, ∑ j, (if P j then Real.exp (s j - y) else 0 : ℝ)
      = Real.exp (-y) * ∑ j, (if P j then Real.exp (s j) else 0 : ℝ) := by
    intro y
    rw [Finset.mul_sum]
    refine Finset.sum_congr rfl fun j _ => ?_
    split
    · rw [← Real.exp_add]; congr 1; ring
    · rw [mul_zero]
  have facx : ∀ y : ℝ, ∑ j, (if P j then Real.exp (s j - y) * x j else 0 : ℝ)
      = Real.exp (-y) * ∑ j, (if P j then Real.exp (s j) * x j else 0 : ℝ) := by
    intro y
    rw [Finset.mul_sum]
    refine Finset.sum_congr rfl fun j _ => ?_
    split
    · rw [← mul_assoc, ← Real.exp_add]; congr 2; ring
    · rw [mul_zero]
  set Z := ∑ j, (if P j then Real.exp (s j) else 0 : ℝ) with hZ
  set X := ∑ j, (if P j then Real.exp (s j) * x j else 0 : ℝ) with hX
  have Zpos : 0 < Z := by have := pos 0; rw [fac] at this; simpa using this
  have hL : lse u = ((Real.log Z : ℝ) : EReal) := by
    unfold lse
    simp only [hB, f1]
    rw [← coe_sum, Ideal.log_coe, if_neg (not_le.2 (pos B)), ← EReal.coe_add, fac,
      Real.log_mul (Real.exp_ne_zero _) Zpos.ne', Real.log_exp]
    congr 1
    ring
  have f3 : ∀ j, w j * Ideal.exp (u j - lse u)
      = (((if P j then Real.exp (s j - Real.log Z) * x j else 0 : ℝ)) : EReal) := by
    intro j
    rw [hL, f1]
    split
    · next h => rw [hw j h, ← EReal.coe_mul, mul_comm]
    · rw [EReal.coe_zero, mul_zero]
  unfold cell mixed
  simp only [e3, f3]
  simp only [e1]
  rw [← coe_sum, ← coe_sum, ← coe_sum, fac, facx, facx]
  have hp := Real.exp_pos (-(Real.log 2 * M))
  rw [Ideal.div_coe (by positivity), ← EReal.coe_mul]
  congr 1
  rw [Real.exp_neg (Real.log Z), Real.exp_log Zpos]
  field_simp

end Cert.WinSoftmax
-- ==== Proof.WinRefValue.lean ====
/- The reference's result as the gated softmax rows added to the other branches. -/
module

public import proofs.«01_k».proof.Proof.WinRefRead
public import proofs.«01_k».proof.Proof.WinSoftmax
public import proofs.«01_k».proof.Proof.WinPieces

@[expose] public section

set_option maxRecDepth 16384

noncomputable section

namespace Cert.WinRefIdeal.Win

open Idealize.ShloMosaic Idealize.ShloMosaic.TcCoe Idealize.ShloMosaic.Tactic Cert.WinRefIdeal

variable (m : (ℓ : Loc nD τ sig) → Buf (Elt Ideal) ℓ) (c : Dev nD)

theorem lseR_lse (g : Fin 16) (n : Fin 64) (r : Fin 128) (u : Vec Ideal S1x1x16x64x128x640 .f32) :
    (lseR u (ix5 0 0 g n r) : EReal) = Cert.WinSoftmax.lse (fun j => u (ix6 0 0 g n r j)) := by
  rw [lseR_at, topR_at]
  rfl

theorem res_mixed (h : Fin 16) (l : Fin 8192) (d : Fin 128) :
    (Value.res_main_v110 m c : Vec Ideal S16x8192x128 .bf16) (ix3 h l d)
      = rest m c h l d + Cert.WinIdeal.Win.gated (proj m c 42 l (Cert.WinIdeal.Win.gateCol h)) (Cert.WinSoftmax.mixed
        (fun j => scoreR m c (ix6 0 0 h ⟨l / 128, by omega⟩ ⟨l % 128, by omega⟩ j))
        (fun j => windowR (valuesR m c) (ix5 0 ⟨l / 128, by omega⟩ j 0 d))) := by
  rw [res_at, mixR_at, gateR_at, lseR_lse]
  rfl

end Cert.WinRefIdeal.Win
-- ==== Proof.WinFinite.lean ====
/- The precondition read back: projection and slopes hold real numbers. -/
module

public import proofs.«01_k».proof.Proof.WinHost
public import proofs.«01_k».proof.Proof.Finite
public import proofs.«01_k».proof.Proof.Consts
public import proofs.«01_k».proof.Defs
public import proofs.«01_k».proof.Proof.Gen.Pre_win_finite
public import Idealize.ShloMosaic.Lib.ReduceAll
public import Idealize.ShloMosaic.Lib.IdealHost

@[expose] public section

set_option maxRecDepth 16384

noncomputable section

namespace Cert.WinIdeal.Win

open Idealize.ShloMosaic Idealize.ShloMosaic.TcCoe Cert.WinIdeal
open Cert.KernelIdeal.Band (real_of_abs)

instance : Subsingleton Cert.Pre_win_finite.S_.Idx := ⟨fun a b => funext fun i => i.elim0⟩

variable (m : (ℓ : Loc nD τ sig) → Buf (Elt Ideal) ℓ) (c : Dev nD)

/-- Projection and slopes hold real numbers. -/
def AllReal : Prop := (∀ a l d, ∃ y : ℝ, proj m c a l d = (y : EReal)) ∧ (∀ a, ∃ y : ℝ, slope m c a = (y : EReal))

theorem reals (h : Pre_WinIdeal_win_finite (hPre_win_finite := Cert.Pre_win_finite.Gen.facts) m) :
    AllReal m c := by
  obtain ⟨h0, h1⟩ := h c
  unfold Cert.Pre_win_finite.fn at h0 h1
  dsimp only at h0 h1
  have k0 := fun i => Host.reduce_andi_all _ _ _ _ _ (congrFun h0 ix0) i
  have k1 := fun i => Host.reduce_andi_all _ _ _ _ _ (congrFun h1 ix0) i
  exact ⟨fun a l d => real_of_abs _ (k0 (ix3 a l d)), fun a => real_of_abs _ (k1 (ix1 a))⟩

end Cert.WinIdeal.Win
-- ==== Proof.WinEqual.lean ====
/- Kernel and reference of the window branch give the same array. -/
module

public import proofs.«01_k».proof.Proof.WinArray
public import proofs.«01_k».proof.Proof.WinRefValue
public import proofs.«01_k».proof.Proof.WinFinite
public import proofs.«01_k».proof.Proof.Equal

@[expose] public section

set_option maxRecDepth 16384

noncomputable section

namespace Cert.WinEqual

open Idealize.ShloMosaic Idealize.ShloMosaic.TcCoe Cert.WinSoftmax
open Cert.WinIdeal.Win (cell score keyRow gated gateCol)
open Cert.KernelIdeal.Band (qScale bScale)
open Cert.Equal (select_mask reference_score bScale_real)

/-- One score of the kernel, over the reals. -/
theorem kernel_score (P : Prop) [Decidable P] (q k : Fin 128 → ℝ) (sl : ℝ) (dd : ℤ) :
    score (BitVec.ofBool (decide P)) (∑ e, ((q e : ℝ) : EReal) * qScale * ((k e : ℝ) : EReal))
        (((sl : ℝ) : EReal) * bScale) (((dd : ℤ) : ℝ) : EReal)
      = if P then ((((∑ e, q e * k e) / √128 - sl * (dd : ℝ)) / Real.log 2 : ℝ) : EReal) else ⊥ :=
  Cert.Equal.kernel_score P q k sl dd

variable (m : (ℓ : Loc Cert.WinIdeal.nD Cert.WinIdeal.τ Cert.WinIdeal.sig) → Buf (Elt Ideal) ℓ)
  (m' : (ℓ : Loc Cert.WinRefIdeal.nD Cert.WinRefIdeal.τ Cert.WinRefIdeal.sig) → Buf (Elt Ideal) ℓ)
  (c : Dev Cert.WinIdeal.nD)

open Cert.WinRefIdeal.Win in
/-- One row of attention in the two results. -/
theorem element (pr : Fin 44 → Fin 8192 → Fin 128 → ℝ) (sl : Fin 16 → ℝ)
    (hp : ∀ a l d, Cert.WinIdeal.Win.proj m c a l d = ((pr a l d : ℝ) : EReal))
    (hs : ∀ a, Cert.WinIdeal.Win.slope m c a = ((sl a : ℝ) : EReal))
    (hp' : ∀ a l d, proj m' c a l d = ((pr a l d : ℝ) : EReal))
    (hs' : ∀ a, slope m' c a = ((sl a : ℝ) : EReal))
    (h : Fin 16) (n : Fin 64) (r d : Fin 128) :
    cell (fun j => score (BitVec.ofBool (decide (r.val < j.val ∧ j.val ≤ r.val + 512 ∧ 512 ≤ n.val * 128 + j.val)))
        (∑ e : Fin 128, Cert.WinIdeal.Win.proj m c ⟨16 + h.val, by omega⟩ ⟨n.val * 128 + r.val, by omega⟩ e * qScale * Cert.WinIdeal.Win.proj m c 40 (keyRow n j) e)
        (Cert.WinIdeal.Win.slope m c h * bScale) (((512 + r.val - j.val : ℤ) : ℝ) : EReal))
      (fun j => Cert.WinIdeal.Win.proj m c 41 (keyRow n j) d)
      = mixed (fun j => scoreR m' c (ix6 0 0 h n r j)) (fun j => windowR (valuesR m' c) (ix5 0 n j 0 d)) := by
  have hn := n.isLt
  have hr := r.isLt
  have row : ∀ j : Fin 640, (512 ≤ n.val * 128 + j.val) → ∀ h1 h2 h3,
      (⟨(⟨(n.val * 128 + j.val - 512) / 128, h1⟩ : Fin 64).val * 128
        + (⟨(n.val * 128 + j.val - 512) % 128, h2⟩ : Fin 128).val, h3⟩ : Fin 8192) = keyRow n j := by
    intro j hj h1 h2 h3
    unfold keyRow
    rw [dif_neg (by omega)]
    apply Fin.ext
    dsimp only
    omega
  refine core (P := fun j : Fin 640 => r.val < j.val ∧ j.val ≤ r.val + 512 ∧ 512 ≤ n.val * 128 + j.val)
    ⟨⟨r.val + 512, by omega⟩, by dsimp only; omega⟩
    (fun j => (∑ e, pr ⟨16 + h.val, by omega⟩ ⟨n.val * 128 + r.val, by omega⟩ e
      * pr 40 (keyRow n j) e) / √128 - sl h * (((512 + r.val - j.val : ℤ)) : ℝ))
    (fun j => pr 41 (keyRow n j) d) _ _ _ _ (fun j => ?_) (fun j => ?_)
    (fun j _ => hp _ _ _) (fun j hj => ?_)
  · simp only [hp, hs]
    exact kernel_score (r.val < j.val ∧ j.val ≤ r.val + 512 ∧ 512 ≤ n.val * 128 + j.val) _ _ _ _
  · rw [scoreR_at, maskR_at, select_mask]
    split
    · next hj =>
      rw [productsR_at, biasR_at, hs']
      simp only [windowR_at _ _ _ _ _ hj.2.2, keysR_at, queriesR_at, hp', row j hj.2.2]
      rw [reference_score]
    · rfl
  · rw [windowR_at _ _ _ _ _ hj.2.2, valuesR_at, hp', row j hj.2.2]

/-- The two result arrays. -/
theorem result_eq (hm : Cert.WinIdeal.Win.AllReal m c)
    (h0 : m' ((c.tc : Thread Cert.WinRefIdeal.nD Cert.WinRefIdeal.τ).loc Cert.WinRefIdeal.main_arg0)
      = m ((c.tc : Thread Cert.WinIdeal.nD Cert.WinIdeal.τ).loc Cert.WinIdeal.main_arg0))
    (h1 : m' ((c.tc : Thread Cert.WinRefIdeal.nD Cert.WinRefIdeal.τ).loc Cert.WinRefIdeal.main_arg1)
      = m ((c.tc : Thread Cert.WinIdeal.nD Cert.WinIdeal.τ).loc Cert.WinIdeal.main_arg1))
    (h2 : m' ((c.tc : Thread Cert.WinRefIdeal.nD Cert.WinRefIdeal.τ).loc Cert.WinRefIdeal.main_arg2)
      = m ((c.tc : Thread Cert.WinIdeal.nD Cert.WinIdeal.τ).loc Cert.WinIdeal.main_arg2)) :
    (Cert.WinRefIdeal.Value.res_main_v110 m' c : Vec Ideal Cert.WinRefIdeal.S16x8192x128 .bf16)
      = Cert.WinIdeal.Win.resultV m c := by
  obtain ⟨hp, hs⟩ := hm
  choose pr hp using hp
  choose sl hs using hs
  have e0 : ∀ a l d, Cert.WinRefIdeal.Win.proj m' c a l d = Cert.WinIdeal.Win.proj m c a l d := fun a l d => congrFun h0 _
  have hs' : ∀ a, Cert.WinRefIdeal.Win.slope m' c a = ((sl a : ℝ) : EReal) := fun a => by
    rw [← hs]; exact congrFun h1 _
  have e2 : ∀ a l d, Cert.WinRefIdeal.Win.rest m' c a l d = Cert.WinIdeal.Win.rest m c a l d := fun a l d => congrFun h2 _
  funext x
  obtain ⟨h, l, d, rfl⟩ : ∃ (h : Fin 16) (l : Fin 8192) (d : Fin 128), x = ix3 h l d := ⟨x 0, x 1, x 2, eq_ix3 x⟩
  have hl : l = ⟨l.val / 128 * 128 + l.val % 128, by omega⟩ := Fin.ext (by dsimp only; omega)
  rw [Cert.WinRefIdeal.Win.res_mixed, e0, e2]
  rw [Cert.WinIdeal.Win.resultV_at m c h ⟨l.val / 128, by omega⟩ ⟨l.val % 128, by omega⟩ d _ rfl (congrArg Fin.val hl) rfl]
  unfold Cert.WinIdeal.Win.result
  refine congrArg₂ _ (congrArg (fun x => Cert.WinIdeal.Win.rest m c h x d) hl) (congrArg₂ _ (congrArg (fun x => Cert.WinIdeal.Win.proj m c 42 x (gateCol h)) hl) ?_)
  exact (element m m' c pr sl hp hs (fun a l d => (e0 a l d).trans (hp a l d)) hs' h ⟨l.val / 128, by omega⟩ ⟨l.val % 128, by omega⟩ d).symm

end Cert.WinEqual
-- ==== Proof.CmpBlock.lean ====
/- The compression of mixer B: the result array of the launch, from the program's arguments. -/
module

public import proofs.«01_k».proof.Proof.Gen.CmpIdeal.Value
public import Idealize.ShloMosaic.Lib.Pipeline.ValueKit
public import Idealize.ShloMosaic.Lib.Tactic.WordOmega

@[expose] public section

set_option maxRecDepth 16384

noncomputable section

namespace Cert.CmpIdeal.Cmp

open Idealize.ShloMosaic Idealize.ShloMosaic.TcCoe Idealize.ShloMosaic.Tactic Cert.CmpIdeal Cert.CmpIdeal.Gen

/-- The block after a block; after the last comes the first. -/
def next (r : Fin 512) : Fin 512 := ⟨(r.val + 1) % 512, by omega⟩

def gelu (x : EReal) : EReal :=
  x * (Ideal.ofBits .f32 0x3F000000#32 * (Ideal.ofBits .f32 0x3F800000#32 + FloatOps.tanh (F := Ideal) (φ := .f32)
    (Ideal.ofBits .f32 0x3F4C422A#32 * (x + Ideal.ofBits .f32 0x3D372713#32 * (x * (x * x))))))

/-- A block's hidden columns before the activation. -/
def pre (v0 : Vec Ideal S1x512x2048 .bf16) (v2 v5 : Vec Ideal S1x2048x256 .bf16) (v9 : Vec Ideal S1x1x4096 .bf16)
    (v13 : Vec Ideal S1x4096x256 .bf16) (v20 : Vec Ideal S1x1x256 .f32) (r : Fin 512) (h : Fin 256) : EReal :=
  (∑ k : Fin 2048, v0 (ix3 0 r k) * v2 (ix3 0 k h)) + (∑ k : Fin 2048, v0 (ix3 0 (next r) k) * v5 (ix3 0 k h))
    + (∑ k : Fin 4096, v9 (ix3 0 0 k) * v13 (ix3 0 k h)) + v20 (ix3 0 0 h)

theorem pay2_apply (v0 : Vec Ideal S1x512x2048 .bf16) (v2 v5 : Vec Ideal S1x2048x256 .bf16) (v9 : Vec Ideal S1x1x4096 .bf16)
    (v13 : Vec Ideal S1x4096x256 .bf16) (v20 : Vec Ideal S1x1x256 .f32) (r : Fin 512) (h : Fin 256) :
    k0_pay2 (F := Ideal) v0 v2 v5 v9 v13 v20 (ix2 r h) = pre v0 v2 v5 v9 v13 v20 r h := by
  have e : r.val + 512 - 511 = r.val + 1 := by omega
  unfold pre next
  pointwise [k0_pay2]
  simp only [e]

theorem pay1_apply (v0 : Vec Ideal S1x512x2048 .bf16) (v2 v5 : Vec Ideal S1x2048x256 .bf16) (v9 : Vec Ideal S1x1x4096 .bf16)
    (v13 : Vec Ideal S1x4096x256 .bf16) (v20 : Vec Ideal S1x1x256 .f32) (v38 : Vec Ideal S1x256x128 .bf16) (v41 : Vec Ideal S1x1x128 .f32) (z : Fin 1) (r : Fin 512) (d : Fin 128) :
    k0_pay1 (F := Ideal) (k0_pay2 v0 v2 v5 v9 v13 v20) (k0_pay3 v0 v2 v5 v9 v13 v20) v38 v41 (ix3 z r d)
      = (∑ h : Fin 256, gelu (pre v0 v2 v5 v9 v13 v20 r h) * v38 (ix3 0 h d)) + v41 (ix3 0 0 d) := by
  simp only [← pay2_apply]
  generalize hp : k0_pay2 (F := Ideal) v0 v2 v5 v9 v13 v20 = p
  have h3 : ∀ r h, k0_pay3 (F := Ideal) v0 v2 v5 v9 v13 v20 (ix2 r h) = Ideal.ofBits .f32 0x3F800000#32 + FloatOps.tanh (F := Ideal) (φ := .f32)
    (Ideal.ofBits .f32 0x3F4C422A#32 * (p (ix2 r h) + Ideal.ofBits .f32 0x3D372713#32 * (p (ix2 r h) * (p (ix2 r h) * p (ix2 r h))))) := by
    intro r h
    subst hp
    pointwise [k0_pay3]
  generalize k0_pay3 (F := Ideal) v0 v2 v5 v9 v13 v20 = p3 at h3
  unfold gelu
  simp only [← h3]
  pointwise [k0_pay1]

theorem out_apply (x0 : Vec Ideal S1x512x2048 .bf16) (x1 : Vec Ideal S1x1x4096 .bf16) (x2 : Vec Ideal S1x4096x256 .bf16) (x3 : Vec Ideal S1x1x256 .f32)
    (x4 : Vec Ideal S1x256x128 .bf16) (x5 : Vec Ideal S1x1x128 .f32) (z : Fin 1) (r : Fin 512) (d : Fin 128) :
    out0_6 x0 x1 x2 x3 x4 x5 (ix3 z r d)
      = (∑ h : Fin 256, gelu (pre x0 (View.ld x2 r0_1) (View.ld x2 r0_2) x1 x2 x3 r h) * x4 (ix3 0 h d)) + x5 (ix3 0 0 d) := by
  unfold out0_6
  rw [View.canon_cons_unit_lit _ _ _ (by decide)]
  rw [View.ld_unit_lit _ x0 (by decide), View.ld_unit_lit _ x1 (by decide), View.ld_unit_lit _ x3 (by decide), View.ld_unit_lit _ x4 (by decide), View.ld_unit_lit _ x5 (by decide)]
  have e : View.ld x2 r0_4 = x2 := View.ld_unit_lit _ x2 (by decide)
  rw [e]
  exact pay1_apply _ _ _ _ _ _ _ _ z r d

theorem first_apply (x2 : Vec Ideal S1x4096x256 .bf16) (k : Fin 2048) (h : Fin 256) :
    (View.ld x2 r0_1 : Vec Ideal S1x2048x256 .bf16) (ix3 0 k h) = x2 (ix3 0 ⟨k.val, by omega⟩ h) :=
  congrArg x2 (by funext a; fin_cases a <;> exact Fin.ext (by simp [r0_1, ix3]))

theorem second_apply (x2 : Vec Ideal S1x4096x256 .bf16) (k : Fin 2048) (h : Fin 256) :
    (View.ld x2 r0_2 : Vec Ideal S1x2048x256 .bf16) (ix3 0 k h) = x2 (ix3 0 ⟨2048 + k.val, by omega⟩ h) :=
  congrArg x2 (by funext a; fin_cases a <;> exact Fin.ext (by simp [r0_2, ix3]))

variable (m : (ℓ : Loc nD τ sig) → Buf (Elt Ideal) ℓ) (c : Dev nD)

/-- The tokens' keys and values. -/
def kv (a : Fin 2) (l : Fin 8192) (d : Fin 128) : EReal := (m ((c : Thread nD τ).loc main_arg0) : Vec Ideal S2x8192x128 .bf16) (ix3 a l d)
/-- The positions' embedding. -/
def pos (a : Fin 2) (j : Fin 32) (d : Fin 128) : EReal := (m ((c : Thread nD τ).loc main_arg1) : Vec Ideal S2x32x128 .f32) (ix3 a j d)
def w1 (a : Fin 2) (k : Fin 4096) (h : Fin 256) : EReal := (m ((c : Thread nD τ).loc main_arg2) : Vec Ideal S2x4096x256 .f32) (ix3 a k h)
def b1 (a : Fin 2) (h : Fin 256) : EReal := (m ((c : Thread nD τ).loc main_arg3) : Vec Ideal S2x256 .f32) (ix2 a h)
def w2 (a : Fin 2) (h : Fin 256) (d : Fin 128) : EReal := (m ((c : Thread nD τ).loc main_arg4) : Vec Ideal S2x256x128 .f32) (ix3 a h d)
def b2 (a : Fin 2) (d : Fin 128) : EReal := (m ((c : Thread nD τ).loc main_arg5) : Vec Ideal S2x128 .f32) (ix2 a d)

theorem V_kv (a : Fin 2) (n : Fin 512) (k : Fin 2048) :
    (V m c main_v0 : Vec Ideal S2x512x2048 .bf16) (ix3 a n k)
      = kv m c a ⟨n.val * 16 + k.val / 128, by omega⟩ ⟨k.val % 128, by omega⟩ := by
  unfold kv
  entry_read
  pointwise

theorem V_pos (a : Fin 2) (z : Fin 1) (k : Fin 4096) :
    (V m c main_v2 : Vec Ideal S2x1x4096 .bf16) (ix3 a z k)
      = pos m c a ⟨k.val / 128, by omega⟩ ⟨k.val % 128, by omega⟩ := by
  unfold pos
  entry_read
  pointwise

theorem V_w1 (a : Fin 2) (k : Fin 4096) (h : Fin 256) :
    (V m c main_v3 : Vec Ideal S2x4096x256 .bf16) (ix3 a k h) = w1 m c a k h := by
  unfold w1
  entry_read
  pointwise

theorem V_b1 (a : Fin 2) (z : Fin 1) (h : Fin 256) :
    (V m c main_v4 : Vec Ideal S2x1x256 .f32) (ix3 a z h) = b1 m c a h := by
  unfold b1
  entry_read
  pointwise

theorem V_w2 (a : Fin 2) (h : Fin 256) (d : Fin 128) :
    (V m c main_v5 : Vec Ideal S2x256x128 .bf16) (ix3 a h d) = w2 m c a h d := by
  unfold w2
  entry_read
  pointwise

theorem V_b2 (a : Fin 2) (z : Fin 1) (d : Fin 128) :
    (V m c main_v6 : Vec Ideal S2x1x128 .f32) (ix3 a z d) = b2 m c a d := by
  unfold b2
  entry_read
  pointwise

theorem idx0 : ∀ t : Fin grid0.N, win0_0.index t = ![(grid0.coords t 0).val, 0, 0] := by decide +kernel
theorem idx1 : ∀ t : Fin grid0.N, win0_1.index t = ![(grid0.coords t 0).val, 0, 0] := by decide +kernel
theorem idx2 : ∀ t : Fin grid0.N, win0_2.index t = ![(grid0.coords t 0).val, 0, 0] := by decide +kernel
theorem idx3 : ∀ t : Fin grid0.N, win0_3.index t = ![(grid0.coords t 0).val, 0, 0] := by decide +kernel
theorem idx4 : ∀ t : Fin grid0.N, win0_4.index t = ![(grid0.coords t 0).val, 0, 0] := by decide +kernel
theorem idx5 : ∀ t : Fin grid0.N, win0_5.index t = ![(grid0.coords t 0).val, 0, 0] := by decide +kernel
theorem idx6 : ∀ t : Fin grid0.N, win0_6.index t = ![(grid0.coords t 0).val, 0, 0] := by decide +kernel

/-- Which of keys and values a grid point compresses. -/
def part (t : Fin cfg0.N) : Fin 2 := ⟨(grid0.coords t 0).val, (grid0.coords t 0).isLt⟩

theorem blk0 (t : Fin cfg0.N) (n : Fin 512) (k : Fin 2048) :
    (iblk m c 0 t : Vec Ideal S1x512x2048 .bf16) (ix3 0 n k)
      = kv m c (part t) ⟨n.val * 16 + k.val / 128, by omega⟩ ⟨k.val % 128, by omega⟩ := by
  refine Eq.trans ?_ (V_kv m c (part t) n k)
  unfold part
  blk_ext [iblk, idx0 t]

theorem blk1 (t : Fin cfg0.N) (k : Fin 4096) :
    (iblk m c 1 t : Vec Ideal S1x1x4096 .bf16) (ix3 0 0 k) = pos m c (part t) ⟨k.val / 128, by omega⟩ ⟨k.val % 128, by omega⟩ := by
  refine Eq.trans ?_ (V_pos m c (part t) 0 k)
  unfold part
  blk_ext [iblk, idx1 t]

theorem blk2 (t : Fin cfg0.N) (k : Fin 4096) (h : Fin 256) :
    (iblk m c 2 t : Vec Ideal S1x4096x256 .bf16) (ix3 0 k h) = w1 m c (part t) k h := by
  refine Eq.trans ?_ (V_w1 m c (part t) k h)
  unfold part
  blk_ext [iblk, idx2 t]

theorem blk3 (t : Fin cfg0.N) (h : Fin 256) :
    (iblk m c 3 t : Vec Ideal S1x1x256 .f32) (ix3 0 0 h) = b1 m c (part t) h := by
  refine Eq.trans ?_ (V_b1 m c (part t) 0 h)
  unfold part
  blk_ext [iblk, idx3 t]

theorem blk4 (t : Fin cfg0.N) (h : Fin 256) (d : Fin 128) :
    (iblk m c 4 t : Vec Ideal S1x256x128 .bf16) (ix3 0 h d) = w2 m c (part t) h d := by
  refine Eq.trans ?_ (V_w2 m c (part t) h d)
  unfold part
  blk_ext [iblk, idx4 t]

theorem blk5 (t : Fin cfg0.N) (d : Fin 128) :
    (iblk m c 5 t : Vec Ideal S1x1x128 .f32) (ix3 0 0 d) = b2 m c (part t) d := by
  refine Eq.trans ?_ (V_b2 m c (part t) 0 d)
  unfold part
  blk_ext [iblk, idx5 t]

/-- A block's hidden columns before the activation, from the program's arguments. -/
def hid (a : Fin 2) (n : Fin 512) (h : Fin 256) : EReal :=
  (∑ k : Fin 2048, kv m c a ⟨n.val * 16 + k.val / 128, by omega⟩ ⟨k.val % 128, by omega⟩ * w1 m c a ⟨k.val, by omega⟩ h)
    + (∑ k : Fin 2048, kv m c a ⟨(next n).val * 16 + k.val / 128, by omega⟩ ⟨k.val % 128, by omega⟩ * w1 m c a ⟨2048 + k.val, by omega⟩ h)
    + (∑ k : Fin 4096, pos m c a ⟨k.val / 128, by omega⟩ ⟨k.val % 128, by omega⟩ * w1 m c a k h) + b1 m c a h

/-- The launch's result, from the program's arguments. -/
def resultV : Vec Ideal S2x512x128 .bf16 := fun y =>
  (∑ h : Fin 256, gelu (hid m c (y 0) (y 1) h) * w2 m c (y 0) h (y 2)) + b2 m c (y 0) (y 2)

theorem resultV_at (a : Fin 2) (n : Fin 512) (d : Fin 128) (y : S2x512x128.Idx) (e0 : (y 0).val = a.val) (e1 : (y 1).val = n.val) (e2 : (y 2).val = d.val) :
    resultV m c y = (∑ h : Fin 256, gelu (hid m c a n h) * w2 m c a h d) + b2 m c a d := by
  have e0 : y 0 = a := Fin.ext e0
  have e1 : y 1 = n := Fin.ext e1
  have e2 : y 2 = d := Fin.ext e2
  unfold resultV
  rw [e0, e1, e2]

theorem arr_eq : (dats m 0 c).arrAt 6 cfg0.N = resultV m c := by
  refine (dats m 0 c).arrAt_eq_of_covers 6 _ (by decide +kernel) fun t hf y => ?_
  have h0 : (grid0.coords t 0).val < 2 := (grid0.coords t 0).isLt
  have hi := idx6 t
  obtain ⟨z, r, d, rfl⟩ : ∃ (z : Fin 1) (r : Fin 512) (d : Fin 128), y = (ix3 z r d : S1x512x128.Idx) := ⟨y 0, y 1, y 2, eq_ix3 (y : S1x512x128.Idx)⟩
  obtain rfl := Subsingleton.elim z 0
  blk_simp
  rw [after0_6]
  refine Eq.trans (out_apply _ _ _ _ _ _ 0 r d) ?_
  refine Eq.trans ?_ (resultV_at m c (part t) r d _ ?_ ?_ ?_).symm
  · refine congrArg₂ (· + ·) (Finset.sum_congr rfl fun h _ => congrArg₂ (· * ·) (congrArg gelu ?_) (blk4 m c t h d)) (blk5 m c t d)
    unfold pre hid
    refine congrArg₂ (· + ·) (congrArg₂ (· + ·) (congrArg₂ (· + ·) ?_ ?_) ?_) (blk3 m c t h)
    · exact Finset.sum_congr rfl fun k _ => congrArg₂ (· * ·) (blk0 m c t r k) ((first_apply _ k h).trans (blk2 m c t _ h))
    · exact Finset.sum_congr rfl fun k _ => congrArg₂ (· * ·) (blk0 m c t (next r) k) ((second_apply _ k h).trans (blk2 m c t _ h))
    · exact Finset.sum_congr rfl fun k _ => congrArg₂ (· * ·) (blk1 m c t k) (blk2 m c t k h)
  · blk_simp [hi]
    rfl
  · blk_simp [hi]
  · blk_simp [hi]

end Cert.CmpIdeal.Cmp

end
-- ==== Proof.CmpRef.lean ====
/- The compression of mixer B: the reference at an index. -/
module

public import proofs.«01_k».proof.Proof.Gen.CmpRefIdeal.Run
public import proofs.«01_k».proof.Proof.CmpBlock
public import Idealize.ShloMosaic.Lib.Pointwise
public import Idealize.ShloMosaic.Lib.Tactic.CleanTypes

@[expose] public section

set_option maxRecDepth 16384

noncomputable section

namespace Cert.CmpRefIdeal.Cmp

open Idealize.ShloMosaic Idealize.ShloMosaic.TcCoe Idealize.ShloMosaic.Tactic Cert.CmpRefIdeal Cert.CmpRefIdeal.Gen Idealize.ShloMosaic.StableHlo
open Cert.CmpIdeal.Cmp (next gelu)

/-- The tokens from the seventeenth on, the first sixteen at the end. -/
def afterR (x0 : Vec Ideal S2x8192x128 .bf16) : Vec Ideal S2x8192x128 .f32 :=
  concatenate S2x8192x128 1 [⟨S2x8176x128, (extractStridedSlice S2x8176x128 ![0, 16, 0] (extf (F := Ideal) .f32 x0 bitsLt_bf16_f32) slices_S2x8192x128_S2x8176x128_0_16_0)⟩, ⟨S2x16x128, (extractStridedSlice S2x16x128 ![0, 0, 0] (extf (F := Ideal) .f32 x0 bitsLt_bf16_f32) slices_S2x8192x128_S2x16x128_0_0_0)⟩] concatenates_S2x8176x128_S2x16x128_S2x8192x128_d1

/-- The blocks of 32 tokens. -/
def blocksR (x0 : Vec Ideal S2x8192x128 .bf16) : Vec Ideal S2x512x32x128 .f32 :=
  concatenate S2x512x32x128 2 [⟨S2x512x16x128, (shapeCast S2x512x16x128 (extf (F := Ideal) .f32 x0 bitsLt_bf16_f32) shapeCasts_S2x8192x128_S2x512x16x128)⟩, ⟨S2x512x16x128, (shapeCast S2x512x16x128 (afterR x0) shapeCasts_S2x8192x128_S2x512x16x128)⟩] concatenates_S2x512x16x128_S2x512x16x128_S2x512x32x128_d2

/-- The blocks with their positions' embedding, flat. -/
def flatR (x0 : Vec Ideal S2x8192x128 .bf16) (x1 : Vec Ideal S2x32x128 .f32) : Vec Ideal S2x512x4096 .f32 :=
  shapeCast S2x512x4096 (addf (F := Ideal) (φ := .f32) (blocksR x0 : FVec Ideal S2x512x32x128 .f32) (broadcastInDim S2x512x32x128 ![0, 1, 2, 3] bcast_S2x1x32x128_S2x512x32x128_0_1_2_3 (broadcastInDim S2x1x32x128 ![0, 2, 3] bcast_S2x32x128_S2x1x32x128_0_2_3 x1))) shapeCasts_S2x512x32x128_S2x512x4096

/-- The hidden columns before the activation. -/
def preR (f : Vec Ideal S2x512x4096 .f32) (x2 : Vec Ideal S2x4096x256 .f32) (x3 : Vec Ideal S2x256 .f32) : FVec Ideal S2x512x256 .f32 :=
  addf (F := Ideal) (Host.dotGeneral (F := Ideal) (φ₁ := .f32) (φ₂ := .f32) dot_S2x512x4096_S2x4096x256_S2x512x256_2_1_1_2_0_0 none f x2) (broadcastInDim S2x512x256 ![0, 1, 2] bcast_S2x1x256_S2x512x256_0_1_2 (broadcastInDim S2x1x256 ![0, 2] bcast_S2x256_S2x1x256_0_2 x3))

/-- The activation. -/
def geluR (p : FVec Ideal S2x512x256 .f32) : FVec Ideal S2x512x256 .f32 :=
  mulf p (mulf (broadcastInDim S2x512x256 ![] bcast_S_S2x512x256 (constant (F := Ideal) S_ .f32 0x3F000000#32)) (addf (broadcastInDim S2x512x256 ![] bcast_S_S2x512x256 (constant (F := Ideal) S_ .f32 0x3F800000#32)) (Host.tanh (F := Ideal) (mulf (broadcastInDim S2x512x256 ![] bcast_S_S2x512x256 (constant (F := Ideal) S_ .f32 0x3F4C422A#32)) (addf p (mulf (broadcastInDim S2x512x256 ![] bcast_S_S2x512x256 (constant (F := Ideal) S_ .f32 0x3D372713#32)) (mulf (mulf p p) p)))))))

/-- The second product. -/
def outR (h : FVec Ideal S2x512x256 .f32) (x4 : Vec Ideal S2x256x128 .f32) (x5 : Vec Ideal S2x128 .f32) : FVec Ideal S2x512x128 .bf16 :=
  truncf (F := Ideal) .bf16 (addf (F := Ideal) (Host.dotGeneral (F := Ideal) (φ₁ := .f32) (φ₂ := .f32) dot_S2x512x256_S2x256x128_S2x512x128_2_1_1_2_0_0 none h x4) (broadcastInDim S2x512x128 ![0, 1, 2] bcast_S2x1x128_S2x512x128_0_1_2 (broadcastInDim S2x1x128 ![0, 2] bcast_S2x128_S2x1x128_0_2 x5))) bitsLt_bf16_f32

theorem afterR_at (x0 : Vec Ideal S2x8192x128 .bf16) (a : Fin 2) (l : Fin 8192) (d : Fin 128) :
    afterR x0 (ix3 a l d) = x0 (ix3 a ⟨(l.val + 16) % 8192, by omega⟩ d) := by
  unfold afterR
  pointwise
  split
  · refine congrArg (fun x => x0 (ix3 a x d)) (Fin.ext ?_)
    dsimp only
    omega
  · refine congrArg (fun x => x0 (ix3 a x d)) (Fin.ext ?_)
    dsimp only
    omega

theorem blocksR_at (x0 : Vec Ideal S2x8192x128 .bf16) (a : Fin 2) (n : Fin 512) (j : Fin 32) (d : Fin 128) :
    blocksR x0 (ix4 a n j d) = x0 (ix3 a ⟨(n.val * 16 + j.val) % 8192, by omega⟩ d) := by
  have e := afterR_at x0
  generalize hy : afterR x0 = y at e
  unfold blocksR
  rw [hy]
  pointwise
  split
  · refine congrArg (fun x => x0 (ix3 a x d)) (Fin.ext ?_)
    dsimp only
    omega
  · rw [e]
    refine congrArg (fun x => x0 (ix3 a x d)) (Fin.ext ?_)
    dsimp only
    omega

theorem flatR_at (x0 : Vec Ideal S2x8192x128 .bf16) (x1 : Vec Ideal S2x32x128 .f32) (a : Fin 2) (n : Fin 512) (k : Fin 4096) :
    flatR x0 x1 (ix3 a n k) = x0 (ix3 a ⟨(n.val * 16 + k.val / 128) % 8192, by omega⟩ ⟨k.val % 128, by omega⟩)
      + x1 (ix3 a ⟨k.val / 128, by omega⟩ ⟨k.val % 128, by omega⟩) := by
  have e := blocksR_at x0
  generalize hy : blocksR x0 = y at e
  unfold flatR
  rw [hy]
  pointwise
  rw [e]

theorem preR_at (f : Vec Ideal S2x512x4096 .f32) (x2 : Vec Ideal S2x4096x256 .f32) (x3 : Vec Ideal S2x256 .f32) (a : Fin 2) (n : Fin 512) (h : Fin 256) :
    preR f x2 x3 (ix3 a n h) = (∑ k : Fin 4096, f (ix3 a n k) * x2 (ix3 a k h)) + x3 (ix2 a h) := by
  unfold preR
  pointwise

theorem geluR_at (p : FVec Ideal S2x512x256 .f32) (a : Fin 2) (n : Fin 512) (h : Fin 256) :
    geluR p (ix3 a n h) = gelu (p (ix3 a n h)) := by
  unfold geluR gelu
  pointwise
  rw [mul_comm (p (ix3 a n h) * p (ix3 a n h)) (p (ix3 a n h))]

theorem outR_at (p : FVec Ideal S2x512x256 .f32) (x4 : Vec Ideal S2x256x128 .f32) (x5 : Vec Ideal S2x128 .f32) (a : Fin 2) (n : Fin 512) (d : Fin 128) :
    outR p x4 x5 (ix3 a n d) = (∑ h : Fin 256, p (ix3 a n h) * x4 (ix3 a h d)) + x5 (ix2 a d) := by
  unfold outR
  pointwise

theorem res_eq (m : (ℓ : Loc nD τ sig) → Buf (Elt Ideal) ℓ) (c : Dev nD) :
    (Cert.CmpRefIdeal.Value.res_main_v32 m c : FVec Ideal S2x512x128 .bf16)
      = outR (geluR (preR (flatR (m ((c.tc : Thread nD τ).loc main_arg0)) (m ((c.tc : Thread nD τ).loc main_arg1))) (m ((c.tc : Thread nD τ).loc main_arg2)) (m ((c.tc : Thread nD τ).loc main_arg3)))) (m ((c.tc : Thread nD τ).loc main_arg4)) (m ((c.tc : Thread nD τ).loc main_arg5)) := rfl

end Cert.CmpRefIdeal.Cmp

end
-- ==== Proof.CmpFinite.lean ====
/- The precondition read back: tokens, positions' embedding and the first weights hold real numbers. -/
module

public import proofs.«01_k».proof.Proof.CmpBlock
public import proofs.«01_k».proof.Proof.Finite
public import proofs.«01_k».proof.Defs
public import proofs.«01_k».proof.Proof.Gen.Pre_cmp_finite
public import Idealize.ShloMosaic.Lib.ReduceAll
public import Idealize.ShloMosaic.Lib.IdealHost

@[expose] public section

set_option maxRecDepth 16384

noncomputable section

namespace Cert.CmpIdeal.Cmp

open Idealize.ShloMosaic Idealize.ShloMosaic.TcCoe Cert.CmpIdeal
open Cert.KernelIdeal.Band (real_of_abs)

instance : Subsingleton Cert.Pre_cmp_finite.S_.Idx := ⟨fun a b => funext fun i => i.elim0⟩

theorem bf16_top : Ideal.ofBits .bf16 0x7F80#16 = (⊤ : EReal) := by
  simp [Ideal.ofBits, Ideal.ieee, -EReal.coe_mul] <;> norm_num

/-- An extended real whose absolute value is below bfloat16's top is a real number. -/
theorem real_of_abs_bf16 (x : EReal)
    (h : FloatOps.cmpf (F := Ideal) (φ := .bf16) .olt (FloatOps.hostAbsf (F := Ideal) (φ := .bf16) x)
      (Ideal.ofBits .bf16 0x7F80#16) = 1#1) :
    ∃ y : ℝ, x = (y : EReal) := by
  have h' : BitVec.ofBool (decide (max x (-x) < Ideal.ofBits .bf16 0x7F80#16)) = 1#1 := h
  rw [bf16_top] at h'
  induction x using EReal.rec with
  | bot => simp at h'
  | top => simp at h'
  | coe y => exact ⟨y, rfl⟩

variable (m : (ℓ : Loc nD τ sig) → Buf (Elt Ideal) ℓ) (c : Dev nD)

/-- Tokens, positions' embedding and the first weights hold real numbers. -/
def AllReal : Prop := (∀ a l d, ∃ y : ℝ, kv m c a l d = (y : EReal)) ∧ (∀ a j d, ∃ y : ℝ, pos m c a j d = (y : EReal))
  ∧ (∀ a k h, ∃ y : ℝ, w1 m c a k h = (y : EReal))

theorem reals (h : Pre_CmpIdeal_cmp_finite (hPre_cmp_finite := Cert.Pre_cmp_finite.Gen.facts) m) :
    AllReal m c := by
  obtain ⟨h0, h1, h2⟩ := h c
  unfold Cert.Pre_cmp_finite.fn at h0 h1 h2
  dsimp only at h0 h1 h2
  have k0 := fun i => Host.reduce_andi_all _ _ _ _ _ (congrFun h0 ix0) i
  have k1 := fun i => Host.reduce_andi_all _ _ _ _ _ (congrFun h1 ix0) i
  have k2 := fun i => Host.reduce_andi_all _ _ _ _ _ (congrFun h2 ix0) i
  exact ⟨fun a l d => real_of_abs_bf16 _ (k0 (ix3 a l d)), fun a j d => real_of_abs _ (k1 (ix3 a j d)),
    fun a k h => real_of_abs _ (k2 (ix3 a k h))⟩

end Cert.CmpIdeal.Cmp
-- ==== Proof.CmpEqual.lean ====
/- Kernel and reference of the compression give the same array. -/
module

public import proofs.«01_k».proof.Proof.CmpRef
public import proofs.«01_k».proof.Proof.CmpFinite

@[expose] public section

set_option maxRecDepth 16384

noncomputable section

namespace Cert.CmpEqual

open Idealize.ShloMosaic Idealize.ShloMosaic.TcCoe
open Cert.CmpIdeal.Cmp (next gelu hid)

/-- A sum over two ranges, one after the other. -/
theorem sum_two {a b n : ℕ} (e : a + b = n) (f : Fin n → EReal) :
    (∑ k, f k) = (∑ k : Fin a, f ⟨k.val, by omega⟩) + ∑ k : Fin b, f ⟨a + k.val, by omega⟩ := by
  subst e
  exact Fin.sum_univ_add f

/-- Tokens and embedding multiplied together are the two halves of the tokens and the embedding multiplied apart. -/
theorem split (t p w : Fin 4096 → ℝ) :
    (∑ k : Fin 4096, ((t k : EReal) + (p k : EReal)) * (w k : EReal))
      = (∑ k : Fin 2048, (t ⟨k.val, by omega⟩ : EReal) * (w ⟨k.val, by omega⟩ : EReal))
        + (∑ k : Fin 2048, (t ⟨2048 + k.val, by omega⟩ : EReal) * (w ⟨2048 + k.val, by omega⟩ : EReal))
        + (∑ k : Fin 4096, (p k : EReal) * (w k : EReal)) := by
  have e : ∀ k : Fin 4096, ((t k : EReal) + (p k : EReal)) * (w k : EReal) = (t k : EReal) * (w k : EReal) + (p k : EReal) * (w k : EReal) := fun k => by
    rw [← EReal.coe_add, ← EReal.coe_mul, ← EReal.coe_mul, ← EReal.coe_mul, ← EReal.coe_add, add_mul]
  rw [Finset.sum_congr rfl fun k _ => e k, Finset.sum_add_distrib,
    sum_two (a := 2048) (b := 2048) rfl fun k : Fin 4096 => (t k : EReal) * (w k : EReal)]

variable (m : (ℓ : Loc Cert.CmpIdeal.nD Cert.CmpIdeal.τ Cert.CmpIdeal.sig) → Buf (Elt Ideal) ℓ)
  (m' : (ℓ : Loc Cert.CmpRefIdeal.nD Cert.CmpRefIdeal.τ Cert.CmpRefIdeal.sig) → Buf (Elt Ideal) ℓ)
  (c : Dev Cert.CmpIdeal.nD)

/-- A block's hidden column before the activation. -/
theorem hid_eq (hm : Cert.CmpIdeal.Cmp.AllReal m c) (a : Fin 2) (n : Fin 512) (h : Fin 256) :
    (∑ k : Fin 4096, (Cert.CmpIdeal.Cmp.kv m c a ⟨(n.val * 16 + k.val / 128) % 8192, by omega⟩ ⟨k.val % 128, by omega⟩
        + Cert.CmpIdeal.Cmp.pos m c a ⟨k.val / 128, by omega⟩ ⟨k.val % 128, by omega⟩) * Cert.CmpIdeal.Cmp.w1 m c a k h)
      + Cert.CmpIdeal.Cmp.b1 m c a h = hid m c a n h := by
  obtain ⟨hk, hp, hw⟩ := hm
  choose kv hk using hk
  choose ps hp using hp
  choose w hw using hw
  have hn := n.isLt
  unfold hid next
  simp only [hk, hp, hw]
  rw [split (fun k => kv a ⟨(n.val * 16 + k.val / 128) % 8192, by omega⟩ ⟨k.val % 128, by omega⟩)
    (fun k => ps a ⟨k.val / 128, by omega⟩ ⟨k.val % 128, by omega⟩) (fun k => w a k h)]
  refine congrArg₂ (· + ·) (congrArg₂ (· + ·) (congrArg₂ (· + ·) ?_ ?_) rfl) rfl
  · refine Finset.sum_congr rfl fun k _ => congrArg (fun x : ℝ => (x : EReal) * _) ?_
    have hk := k.isLt
    refine congrArg (fun l => kv a l _) (Fin.ext ?_)
    dsimp only
    omega
  · refine Finset.sum_congr rfl fun k _ => congrArg (fun x : ℝ => (x : EReal) * _) ?_
    have hk := k.isLt
    refine congrArg₂ (kv a) (Fin.ext ?_) (Fin.ext ?_)
    · dsimp only
      omega
    · dsimp only
      omega

/-- The two result arrays. -/
theorem result_eq (hm : Cert.CmpIdeal.Cmp.AllReal m c)
    (h0 : m' ((c.tc : Thread Cert.CmpRefIdeal.nD Cert.CmpRefIdeal.τ).loc Cert.CmpRefIdeal.main_arg0)
      = m ((c.tc : Thread Cert.CmpIdeal.nD Cert.CmpIdeal.τ).loc Cert.CmpIdeal.main_arg0))
    (h1 : m' ((c.tc : Thread Cert.CmpRefIdeal.nD Cert.CmpRefIdeal.τ).loc Cert.CmpRefIdeal.main_arg1)
      = m ((c.tc : Thread Cert.CmpIdeal.nD Cert.CmpIdeal.τ).loc Cert.CmpIdeal.main_arg1))
    (h2 : m' ((c.tc : Thread Cert.CmpRefIdeal.nD Cert.CmpRefIdeal.τ).loc Cert.CmpRefIdeal.main_arg2)
      = m ((c.tc : Thread Cert.CmpIdeal.nD Cert.CmpIdeal.τ).loc Cert.CmpIdeal.main_arg2))
    (h3 : m' ((c.tc : Thread Cert.CmpRefIdeal.nD Cert.CmpRefIdeal.τ).loc Cert.CmpRefIdeal.main_arg3)
      = m ((c.tc : Thread Cert.CmpIdeal.nD Cert.CmpIdeal.τ).loc Cert.CmpIdeal.main_arg3))
    (h4 : m' ((c.tc : Thread Cert.CmpRefIdeal.nD Cert.CmpRefIdeal.τ).loc Cert.CmpRefIdeal.main_arg4)
      = m ((c.tc : Thread Cert.CmpIdeal.nD Cert.CmpIdeal.τ).loc Cert.CmpIdeal.main_arg4))
    (h5 : m' ((c.tc : Thread Cert.CmpRefIdeal.nD Cert.CmpRefIdeal.τ).loc Cert.CmpRefIdeal.main_arg5)
      = m ((c.tc : Thread Cert.CmpIdeal.nD Cert.CmpIdeal.τ).loc Cert.CmpIdeal.main_arg5)) :
    (Cert.CmpRefIdeal.Value.res_main_v32 m' c : Vec Ideal Cert.CmpRefIdeal.S2x512x128 .bf16)
      = Cert.CmpIdeal.Cmp.resultV m c := by
  funext x
  obtain ⟨a, n, d, rfl⟩ : ∃ (a : Fin 2) (n : Fin 512) (d : Fin 128), x = ix3 a n d := ⟨x 0, x 1, x 2, eq_ix3 x⟩
  rw [Cert.CmpIdeal.Cmp.resultV_at m c a n d _ rfl rfl rfl]
  refine (congrFun (Cert.CmpRefIdeal.Cmp.res_eq m' c) _).trans ((Cert.CmpRefIdeal.Cmp.outR_at _ _ _ a n d).trans ?_)
  refine congrArg₂ (· + ·) (Finset.sum_congr rfl fun h _ => congrArg₂ (· * ·) ?_ (congrFun h4 (ix3 a h d))) (congrFun h5 (ix2 a d))
  refine (Cert.CmpRefIdeal.Cmp.geluR_at _ a n h).trans (congrArg gelu ((Cert.CmpRefIdeal.Cmp.preR_at _ _ _ a n h).trans ?_))
  refine Eq.trans (congrArg₂ (· + ·) (Finset.sum_congr rfl fun k _ => congrArg₂ (· * ·)
    ((Cert.CmpRefIdeal.Cmp.flatR_at _ _ a n k).trans (congrArg₂ (· + ·) (congrFun h0 _) (congrFun h1 _))) (congrFun h2 (ix3 a k h)))
    (congrFun h3 (ix2 a h))) (hid_eq m c hm a n h)

end Cert.CmpEqual
-- ==== Proof.CastInBlock.lean ====
/- The cast of the input weights: a grid point's output block at an index, and the result array. -/
module

public import proofs.«01_k».proof.Proof.Gen.CastInIdeal.Value
public import Idealize.ShloMosaic.Lib.Pipeline.ValueKit
public import Idealize.ShloMosaic.Lib.Pointwise

@[expose] public section

set_option maxRecDepth 16384

noncomputable section

namespace Cert.CastInIdeal.Cast

open Idealize.ShloMosaic Idealize.ShloMosaic.TcCoe Idealize.ShloMosaic.Tactic Cert.CastInIdeal Cert.CastInIdeal.Gen

/-- The queries' scale. -/
def scale : EReal := (((Real.sqrt 128)⁻¹ * (Real.log 2)⁻¹ : ℝ) : EReal)

/-- A row of the weights with its columns in the new order. -/
def ordered (row : Fin 5424 → EReal) (n : Fin 5632) : EReal :=
  if h : n.val < 2048 then row ⟨n.val, by omega⟩ * scale
  else if h : n.val < 4096 then row ⟨n.val + 512, by omega⟩ * scale
  else if h : n.val < 4608 then row ⟨n.val - 2048, by omega⟩
  else if h : n.val < 5424 then row ⟨n.val, h⟩
  else 0

/-- The output block of a grid point. -/
def blockOut (x0 : Vec Ideal S1x256x5424 .f32) : Vec Ideal S256x5632 .bf16 := fun y => ordered (fun k => x0 (ix3 0 (y 0) k)) (y 1)

theorem blockOut_at (x0 : Vec Ideal S1x256x5424 .f32) (r : Fin 256) (n : Fin 5632) (y : S256x5632.Idx) (h0 : (y 0).val = r.val) (h1 : (y 1).val = n.val) :
    blockOut x0 y = ordered (fun k => x0 (ix3 0 r k)) n := by
  have e0 : y 0 = r := Fin.ext h0
  have e1 : y 1 = n := Fin.ext h1
  unfold blockOut
  rw [e0, e1]

theorem cols_read (arg1 : Memref sig .tc .vmem S1x256x5424 .f32) (harg1 : arg1.IsWhole) (x0 : Vec Ideal S1x256x5424 .f32) (o n : ℕ)
    (hin : ∀ a, (![0, 0, o] : Fin 3 → ℕ) a + (![1, 256, n] : Fin 3 → ℕ) a ≤ S1x256x5424.size a) (r : Fin 256) (d : Fin n) (k : Fin 5424) (hk : k.val = o + d.val) :
    View.readAt (Elt Ideal) arg1.view (Rect.unit (s := S1x256x5424) ![0, 0, o] ![1, 256, n] hin).toLoadRect (harg1.unread x0) (ix3 0 r d)
      = x0 (ix3 0 r k) := by
  rw [View.readAt_eq_ld, harg1.read_unread]
  refine View.ld_unit_apply_of _ _ _ _ _ _ fun a => ?_
  fin_cases a <;> simp [ix3, hk]

theorem named_scale : (Named.named κ "q_scale" 0x3E0293EE#32 : Ideal .f32) = scale := rfl

set_option maxHeartbeats 1000000 in
/-- What a grid point leaves in its output block. -/
theorem out_eq (c : Dev nD) (i : grid0.Coords) (arg1 : Memref sig .tc .vmem S1x256x5424 .f32) (harg1 : arg1.IsWhole) (arg2 : Memref sig .tc .vmem S256x5632 .bf16) (harg2 : arg2.IsWhole)
    (x0 : Vec Ideal S1x256x5424 .f32) : out0_A_1 c i arg1 harg1 arg2 harg2 x0 = blockOut x0 := by
  funext y
  have hc := cover0_A_1 c i arg1 harg1 arg2 harg2 x0 y
  unfold out0_A_1
  refine View.read_writes_apply_of_pieces _ _ _ _ ?_ y hc
  unfold kernelRun0_A
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩
  · intro x
    obtain ⟨r, d, rfl⟩ : ∃ (r : Fin 256) (d : Fin 208), x = ix2 r d := ⟨x 0, x 1, eq_ix2 x⟩
    refine Eq.trans ?_ (blockOut_at x0 r ⟨5424 + d.val, by omega⟩ _ ?_ ?_).symm
    · unfold ordered
      rw [dif_neg (by dsimp only; omega), dif_neg (by dsimp only; omega), dif_neg (by dsimp only; omega), dif_neg (by dsimp only; omega)]
      pointwise [k0_pay6]
    · simp [ix2]
    · simp [ix2]
  · intro x
    obtain ⟨r, d, rfl⟩ : ∃ (r : Fin 256) (d : Fin 48), x = ix2 r d := ⟨x 0, x 1, eq_ix2 x⟩
    refine Eq.trans ?_ (blockOut_at x0 r ⟨5376 + d.val, by omega⟩ _ ?_ ?_).symm
    · unfold ordered
      rw [dif_neg (by dsimp only; omega), dif_neg (by dsimp only; omega), dif_neg (by dsimp only; omega), dif_pos (by dsimp only; omega)]
      pointwise [k0_pay5]
      exact cols_read arg1 harg1 x0 5376 48 _ r d _ rfl
    · simp [ix2]
    · simp [ix2]
  · intro x
    obtain ⟨r, d, rfl⟩ : ∃ (r : Fin 256) (d : Fin 768), x = ix2 r d := ⟨x 0, x 1, eq_ix2 x⟩
    refine Eq.trans ?_ (blockOut_at x0 r ⟨4608 + d.val, by omega⟩ _ ?_ ?_).symm
    · unfold ordered
      rw [dif_neg (by dsimp only; omega), dif_neg (by dsimp only; omega), dif_neg (by dsimp only; omega), dif_pos (by dsimp only; omega)]
      pointwise [k0_pay4]
      exact cols_read arg1 harg1 x0 4608 768 _ r d _ rfl
    · simp [ix2]
    · simp [ix2]
  · intro x
    obtain ⟨r, d, rfl⟩ : ∃ (r : Fin 256) (d : Fin 512), x = ix2 r d := ⟨x 0, x 1, eq_ix2 x⟩
    refine Eq.trans ?_ (blockOut_at x0 r ⟨4096 + d.val, by omega⟩ _ ?_ ?_).symm
    · unfold ordered
      rw [dif_neg (by dsimp only; omega), dif_neg (by dsimp only; omega), dif_pos (by dsimp only; omega)]
      pointwise [k0_pay3]
      exact cols_read arg1 harg1 x0 2048 512 _ r d _ (by dsimp only; omega)
    · simp [ix2]
    · simp [ix2]
  · intro x
    obtain ⟨r, d, rfl⟩ : ∃ (r : Fin 256) (d : Fin 2048), x = ix2 r d := ⟨x 0, x 1, eq_ix2 x⟩
    refine Eq.trans ?_ (blockOut_at x0 r ⟨2048 + d.val, by omega⟩ _ ?_ ?_).symm
    · unfold ordered
      rw [dif_neg (by dsimp only; omega), dif_pos (by dsimp only; omega)]
      pointwise [k0_pay2]
      rw [named_scale]
      exact congrArg (· * scale) (cols_read arg1 harg1 x0 2560 2048 _ r d _ (by dsimp only; omega))
    · simp [ix2]
    · simp [ix2]
  · intro x
    obtain ⟨r, d, rfl⟩ : ∃ (r : Fin 256) (d : Fin 2048), x = ix2 r d := ⟨x 0, x 1, eq_ix2 x⟩
    refine Eq.trans ?_ (blockOut_at x0 r ⟨d.val, by omega⟩ _ ?_ ?_).symm
    · unfold ordered
      rw [dif_pos (by dsimp only; omega)]
      pointwise [k0_pay1]
      rw [named_scale]
      exact congrArg (· * scale) (cols_read arg1 harg1 x0 0 2048 _ r d _ (by dsimp only; omega))
    · simp [ix2]
    · simp [ix2]

variable (m : (ℓ : Loc nD τ sig) → Buf (Elt Ideal) ℓ) (c : Dev nD)

theorem idx0 : ∀ t : Fin grid0.N, win0_0.index t = ![1, (grid0.coords t 0).val, 0] := by decide +kernel
theorem idx1 : ∀ t : Fin grid0.N, win0_1.index t = ![(grid0.coords t 0).val, 0] := by decide +kernel

/-- The layer's weights. -/
def wgt (k : Fin 4096) (n : Fin 5424) : EReal := (m ((c : Thread nD τ).loc main_arg0) : Vec Ideal S2x4096x5424 .f32) (ix3 1 k n)

theorem blk0 (t : Fin cfg0.N) (r : Fin 256) (n : Fin 5424) :
    (iblk m c 0 t : Vec Ideal S1x256x5424 .f32) (ix3 0 r n)
      = wgt m c ⟨(grid0.coords t 0).val * 256 + r.val, by have : (grid0.coords t 0).val < 16 := (grid0.coords t 0).isLt; omega⟩ n := by
  unfold wgt
  blk_ext [iblk, idx0 t]

/-- The launch's result, from the program's argument. -/
def resultV : Vec Ideal S4096x5632 .bf16 := fun y => ordered (wgt m c (y 0)) (y 1)

theorem resultV_at (k : Fin 4096) (n : Fin 5632) (y : S4096x5632.Idx) (e0 : (y 0).val = k.val) (e1 : (y 1).val = n.val) :
    resultV m c y = ordered (wgt m c k) n := by
  have e0 : y 0 = k := Fin.ext e0
  have e1 : y 1 = n := Fin.ext e1
  unfold resultV
  rw [e0, e1]

theorem arr_eq : (dats m 0 c).arrAt 1 cfg0.N = resultV m c := by
  refine (dats m 0 c).arrAt_eq_of_covers 1 _ (by decide +kernel) fun t hf y => ?_
  have h0 : (grid0.coords t 0).val < 16 := (grid0.coords t 0).isLt
  have hi := idx1 t
  obtain ⟨r, n, rfl⟩ : ∃ (r : Fin 256) (n : Fin 5632), y = (ix2 r n : S256x5632.Idx) := ⟨y 0, y 1, eq_ix2 (y : S256x5632.Idx)⟩
  blk_simp
  rw [after0_1]
  unfold outsAt0
  rw [out_eq]
  refine (blockOut_at _ r n _ rfl rfl).trans (Eq.trans ?_ (resultV_at m c ⟨(grid0.coords t 0).val * 256 + r.val, by omega⟩ n _ ?_ ?_).symm)
  · exact congrArg (fun f => ordered f n) (funext fun k => blk0 m c t r k)
  · blk_simp [hi]
  · blk_simp [hi]

end Cert.CastInIdeal.Cast

end
-- ==== Proof.CastInRef.lean ====
/- The cast of the input weights: kernel and reference give the same array. -/
module

public import proofs.«01_k».proof.Proof.Gen.CastInRefIdeal.Run
public import proofs.«01_k».proof.Proof.CastInBlock
public import proofs.«01_k».proof.Proof.QkvRef
public import Idealize.ShloMosaic.Lib.Pointwise
public import Idealize.ShloMosaic.Lib.Tactic.CleanTypes

@[expose] public section

set_option maxRecDepth 16384

noncomputable section

namespace Cert.CastInRefIdeal.Cast

open Idealize.ShloMosaic Idealize.ShloMosaic.TcCoe Idealize.ShloMosaic.Tactic Cert.CastInRefIdeal Cert.CastInRefIdeal.Gen Idealize.ShloMosaic.StableHlo
open Cert.CastInIdeal.Cast (ordered scale)

/-- The scale, everywhere. -/
def scaleR : FVec Ideal S4096x2048 .f32 :=
  broadcastInDim S4096x2048 ![] bcast_S_S4096x2048 (Host.divf (F := Ideal) (φ := .f32) (constant S_ .f32 0x3F800000#32) (mulf (F := Ideal) (φ := .f32) (Host.sqrt (F := Ideal) (φ := .f32) (constant S_ .f32 0x43000000#32)) (Host.log (F := Ideal) (φ := .f32) (constant S_ .f32 0x40000000#32))))

/-- The reference's result. -/
def resultR (w : Vec Ideal S2x4096x5424 .f32) : FVec Ideal S4096x5632 .bf16 :=
  truncf (F := Ideal) .bf16 (concatenate S4096x5632 1 [⟨S4096x2048, (mulf (F := Ideal) (φ := .f32) (shapeCast S4096x2048 (extractStridedSlice S1x4096x2048 ![1, 0, 0] w slices_S2x4096x5424_S1x4096x2048_1_0_0) shapeCasts_S1x4096x2048_S4096x2048) scaleR)⟩, ⟨S4096x2048, (mulf (F := Ideal) (φ := .f32) (shapeCast S4096x2048 (extractStridedSlice S1x4096x2048 ![1, 0, 2560] w slices_S2x4096x5424_S1x4096x2048_1_0_2560) shapeCasts_S1x4096x2048_S4096x2048) scaleR)⟩, ⟨S4096x512, (shapeCast S4096x512 (extractStridedSlice S1x4096x512 ![1, 0, 2048] w slices_S2x4096x5424_S1x4096x512_1_0_2048) shapeCasts_S1x4096x512_S4096x512)⟩, ⟨S4096x816, (shapeCast S4096x816 (extractStridedSlice S1x4096x816 ![1, 0, 4608] w slices_S2x4096x5424_S1x4096x816_1_0_4608) shapeCasts_S1x4096x816_S4096x816)⟩, ⟨S4096x208, (broadcastInDim S4096x208 ![] bcast_S_S4096x208 (constant (F := Ideal) S_ .f32 0x00000000#32))⟩] concatenates_S4096x2048_S4096x2048_S4096x512_S4096x816_S4096x208_S4096x5632_d1 : FVec Ideal S4096x5632 .f32) bitsLt_bf16_f32

theorem scaleR_at (k : Fin 4096) (n : Fin 2048) : scaleR (ix2 k n) = scale := by
  unfold scale
  rw [← Cert.QkvRefIdeal.Band.scale_eq]
  unfold scaleR
  pointwise

theorem resultR_at (w : Vec Ideal S2x4096x5424 .f32) (k : Fin 4096) (n : Fin 5632) :
    resultR w (ix2 k n) = ordered (fun n => w (ix3 1 k n)) n := by
  have hs := scaleR_at
  unfold resultR
  generalize scaleR = s at hs
  unfold ordered
  pointwise
  simp only [hs]
  by_cases h1 : n.val < 2048
  · simp only [h1, dite_true]
  · by_cases h2 : n.val < 4096
    · have h2' : n.val - 2048 < 2048 := by omega
      simp only [h1, h2, h2', dite_true, dite_false]
      exact congrArg (fun j => w (ix3 1 k j) * scale) (Fin.ext (by simp only []; omega))
    · have h2' : ¬ n.val - 2048 < 2048 := by omega
      by_cases h3 : n.val < 4608
      · have h3' : n.val - 2048 - 2048 < 512 := by omega
        simp only [h1, h2, h2', h3, h3', dite_true, dite_false]
        exact congrArg (fun j => w (ix3 1 k j)) (Fin.ext (by simp only []; omega))
      · have h3' : ¬ n.val - 2048 - 2048 < 512 := by omega
        by_cases h4 : n.val < 5424
        · have h4' : n.val - 2048 - 2048 - 512 < 816 := by omega
          simp only [h1, h2, h2', h3, h3', h4, h4', dite_true, dite_false]
          exact congrArg (fun j => w (ix3 1 k j)) (Fin.ext (by simp only []; omega))
        · have h4' : ¬ n.val - 2048 - 2048 - 512 < 816 := by omega
          simp only [h1, h2, h2', h3, h3', h4, h4', dite_false]

end Cert.CastInRefIdeal.Cast

namespace Cert.CastInEqual

open Idealize.ShloMosaic Idealize.ShloMosaic.TcCoe Idealize.ShloMosaic.Tactic Cert.CastInIdeal

theorem value_eq (m : (ℓ : Loc nD τ sig) → Buf (Elt Ideal) ℓ) (c : Dev nD) :
    Cert.CastInRefIdeal.Cast.resultR (m ((c : Thread nD τ).loc main_arg0)) = Cert.CastInIdeal.Cast.resultV m c := by
  funext y
  obtain ⟨k, n, rfl⟩ : ∃ (k : Fin 4096) (n : Fin 5632), y = ix2 k n := ⟨y 0, y 1, eq_ix2 y⟩
  exact (Cert.CastInRefIdeal.Cast.resultR_at _ k n).trans (Cert.CastInIdeal.Cast.resultV_at m c k n _ rfl rfl).symm

end Cert.CastInEqual

end
-- ==== Proof.CastOutBlock.lean ====
/- The cast of the output weights: the result array. -/
module

public import proofs.«01_k».proof.Proof.Gen.CastOutIdeal.Value
public import Idealize.ShloMosaic.Lib.Pipeline.ValueKit
public import Idealize.ShloMosaic.Lib.Pointwise

@[expose] public section

set_option maxRecDepth 16384

noncomputable section

namespace Cert.CastOutIdeal.Cast

open Idealize.ShloMosaic Idealize.ShloMosaic.TcCoe Idealize.ShloMosaic.Tactic Cert.CastOutIdeal Cert.CastOutIdeal.Gen

variable (m : (ℓ : Loc nD τ sig) → Buf (Elt Ideal) ℓ) (c : Dev nD)

theorem idx0 : ∀ t : Fin grid0.N, win0_0.index t = ![1, (grid0.coords t 0).val, 0] := by decide +kernel
theorem idx1 : ∀ t : Fin grid0.N, win0_1.index t = ![(grid0.coords t 0).val, 0] := by decide +kernel

/-- The layer's weights. -/
def wgt (k n : Fin 4096) : EReal := (m ((c : Thread nD τ).loc main_arg0) : Vec Ideal S2x4096x4096 .f32) (ix3 1 k n)

theorem out_apply (x0 : Vec Ideal S1x256x4096 .f32) (r : Fin 256) (n : Fin 4096) : out0_1 x0 (ix2 r n) = x0 (ix3 0 r n) := by
  unfold out0_1
  rw [View.ld_unit_zero (by decide), View.canon_unit_zero (by decide)]
  pointwise [k0_pay1]

theorem blk0 (t : Fin cfg0.N) (r : Fin 256) (n : Fin 4096) :
    (iblk m c 0 t : Vec Ideal S1x256x4096 .f32) (ix3 0 r n)
      = wgt m c ⟨(grid0.coords t 0).val * 256 + r.val, by have : (grid0.coords t 0).val < 16 := (grid0.coords t 0).isLt; omega⟩ n := by
  unfold wgt
  blk_ext [iblk, idx0 t]

/-- The launch's result, from the program's argument. -/
def resultV : Vec Ideal S4096x4096 .bf16 := fun y => wgt m c (y 0) (y 1)

theorem resultV_at (k n : Fin 4096) (y : S4096x4096.Idx) (e0 : (y 0).val = k.val) (e1 : (y 1).val = n.val) : resultV m c y = wgt m c k n := by
  have e0 : y 0 = k := Fin.ext e0
  have e1 : y 1 = n := Fin.ext e1
  unfold resultV
  rw [e0, e1]

theorem arr_eq : (dats m 0 c).arrAt 1 cfg0.N = resultV m c := by
  refine (dats m 0 c).arrAt_eq_of_covers 1 _ (by decide +kernel) fun t hf y => ?_
  have h0 : (grid0.coords t 0).val < 16 := (grid0.coords t 0).isLt
  have hi := idx1 t
  obtain ⟨r, n, rfl⟩ : ∃ (r : Fin 256) (n : Fin 4096), y = (ix2 r n : S256x4096.Idx) := ⟨y 0, y 1, eq_ix2 (y : S256x4096.Idx)⟩
  blk_simp
  rw [after0_1]
  refine (out_apply _ r n).trans ((blk0 m c t r n).trans (resultV_at m c _ n _ ?_ ?_).symm)
  · blk_simp [hi]
  · blk_simp [hi]

end Cert.CastOutIdeal.Cast

end
-- ==== Proof.CastOutRef.lean ====
/- The cast of the output weights: kernel and reference give the same array. -/
module

public import proofs.«01_k».proof.Proof.Gen.CastOutRefIdeal.Run
public import proofs.«01_k».proof.Proof.CastOutBlock
public import Idealize.ShloMosaic.Lib.Pointwise
public import Idealize.ShloMosaic.Lib.Tactic.CleanTypes

@[expose] public section

set_option maxRecDepth 16384

noncomputable section

namespace Cert.CastOutRefIdeal.Cast

open Idealize.ShloMosaic Idealize.ShloMosaic.TcCoe Idealize.ShloMosaic.Tactic Cert.CastOutRefIdeal Cert.CastOutRefIdeal.Gen Idealize.ShloMosaic.StableHlo

/-- The reference's result. -/
def resultR (w : Vec Ideal S2x4096x4096 .f32) : FVec Ideal S4096x4096 .bf16 :=
  truncf (F := Ideal) .bf16 (shapeCast S4096x4096 (extractStridedSlice S1x4096x4096 ![1, 0, 0] w slices_S2x4096x4096_S1x4096x4096_1_0_0) shapeCasts_S1x4096x4096_S4096x4096 : FVec Ideal S4096x4096 .f32) bitsLt_bf16_f32

theorem resultR_at (w : Vec Ideal S2x4096x4096 .f32) (k n : Fin 4096) : resultR w (ix2 k n) = w (ix3 1 k n) := by
  unfold resultR
  pointwise

end Cert.CastOutRefIdeal.Cast

namespace Cert.CastOutEqual

open Idealize.ShloMosaic Idealize.ShloMosaic.TcCoe Idealize.ShloMosaic.Tactic Cert.CastOutIdeal

theorem value_eq (m : (ℓ : Loc nD τ sig) → Buf (Elt Ideal) ℓ) (c : Dev nD) :
    Cert.CastOutRefIdeal.Cast.resultR (m ((c : Thread nD τ).loc main_arg0)) = Cert.CastOutIdeal.Cast.resultV m c := by
  funext y
  obtain ⟨k, n, rfl⟩ : ∃ k n : Fin 4096, y = ix2 k n := ⟨y 0, y 1, eq_ix2 y⟩
  exact (Cert.CastOutRefIdeal.Cast.resultR_at _ k n).trans (Cert.CastOutIdeal.Cast.resultV_at m c k n _ rfl rfl).symm

end Cert.CastOutEqual

end
-- ==== Proof.LnBlock.lean ====
/- The norm after a mixer: the call's first two result arrays. -/
module

public import proofs.«01_k».proof.Proof.Gen.LnIdeal.Value
public import Idealize.ShloMosaic.Lib.Pipeline.ValueKit
public import Idealize.ShloMosaic.Lib.Pointwise

@[expose] public section

set_option maxRecDepth 16384

noncomputable section

namespace Cert.LnIdeal.Norm

open Idealize.ShloMosaic Idealize.ShloMosaic.TcCoe Idealize.ShloMosaic.Tactic Cert.LnIdeal Cert.LnIdeal.Gen

/-- A mean along a row. -/
def mean (z : Fin 4096 → EReal) : EReal := Ideal.div (∑ n, z n) (Ideal.ofBits .f32 0x45800000#32)

/-- A row's norm. -/
def rowNorm (z : Fin 4096 → EReal) (g b : EReal) (n : Fin 4096) : EReal :=
  (z n - mean z) * Ideal.rsqrt (mean (fun k => (z k - mean z) * (z k - mean z)) + Ideal.ofBits .f32 0x3727C5AC#32) * g + b

theorem pay10_apply (v0 v3 : Vec Ideal S256x4096 .f32) (v5 v7 : Vec Ideal S1x4096 .f32) (r : Fin 256) (n : Fin 4096) :
    k0_pay10 (F := Ideal) v0 v3 v5 v7 (ix2 r n)
      = rowNorm (fun k => Ideal.ofBits .f32 0x3FD744FD#32 * v0 (ix2 r k) + v3 (ix2 r k)) (v5 (ix2 0 n)) (v7 (ix2 0 n)) n := by
  unfold rowNorm mean
  pointwise [k0_pay10]

theorem out6_apply (x0 x1 : Vec Ideal S256x4096 .f32) (x2 x3 : Vec Ideal S1x4096 .f32) (x4 : Vec Ideal S16x4096 .f32) (x5 : Vec Ideal S16x1 .f32) (r : Fin 256) (n : Fin 4096) :
    out0_6 x0 x1 x2 x3 x4 x5 (ix2 r n)
      = rowNorm (fun k => Ideal.ofBits .f32 0x3FD744FD#32 * x1 (ix2 r k) + x0 (ix2 r k)) (x2 (ix2 0 n)) (x3 (ix2 0 n)) n := by
  unfold out0_6
  rw [View.canon_unit_zero (by decide), View.ld_unit_zero (by decide), View.ld_unit_zero (by decide), View.ld_unit_zero (by decide), View.ld_unit_zero (by decide)]
  exact pay10_apply x1 x0 x2 x3 r n

theorem out7_apply (x0 x1 : Vec Ideal S256x4096 .f32) (x2 x3 : Vec Ideal S1x4096 .f32) (x4 : Vec Ideal S16x4096 .f32) (x5 : Vec Ideal S16x1 .f32) (r : Fin 256) (n : Fin 4096) :
    out0_7 x0 x1 x2 x3 x4 x5 (ix2 r n)
      = rowNorm (fun k => Ideal.ofBits .f32 0x3FD744FD#32 * x1 (ix2 r k) + x0 (ix2 r k)) (x2 (ix2 0 n)) (x3 (ix2 0 n)) n := by
  unfold out0_7
  rw [View.canon_unit_zero (by decide), View.ld_unit_zero (by decide), View.ld_unit_zero (by decide), View.ld_unit_zero (by decide), View.ld_unit_zero (by decide)]
  exact pay10_apply x1 x0 x2 x3 r n

variable (m : (ℓ : Loc nD τ sig) → Buf (Elt Ideal) ℓ) (c : Dev nD)

/-- The mixer's rows, and the rows that went into it. -/
def mix (l : Fin 8192) (n : Fin 4096) : EReal := (m ((c : Thread nD τ).loc main_arg0) : Vec Ideal S8192x4096 .f32) (ix2 l n)
def res (l : Fin 8192) (n : Fin 4096) : EReal := (m ((c : Thread nD τ).loc main_arg1) : Vec Ideal S8192x4096 .f32) (ix2 l n)
def gain (n : Fin 4096) : EReal := (m ((c : Thread nD τ).loc main_arg2) : Vec Ideal S4096 .f32) (ix1 n)
def bias (n : Fin 4096) : EReal := (m ((c : Thread nD τ).loc main_arg3) : Vec Ideal S4096 .f32) (ix1 n)

theorem V_gain (z : Fin 1) (n : Fin 4096) : (V m c main_v0 : Vec Ideal S1x4096 .f32) (ix2 z n) = gain m c n := by
  unfold gain
  entry_read
  pointwise

theorem V_bias (z : Fin 1) (n : Fin 4096) : (V m c main_v1 : Vec Ideal S1x4096 .f32) (ix2 z n) = bias m c n := by
  unfold bias
  entry_read
  pointwise

theorem idx0 : ∀ t : Fin grid0.N, win0_0.index t = ![(grid0.coords t 0).val, 0] := by decide +kernel
theorem idx1 : ∀ t : Fin grid0.N, win0_1.index t = ![(grid0.coords t 0).val, 0] := by decide +kernel
theorem idx2 : ∀ t : Fin grid0.N, win0_2.index t = ![0, 0] := by decide +kernel
theorem idx3 : ∀ t : Fin grid0.N, win0_3.index t = ![0, 0] := by decide +kernel
theorem idx6 : ∀ t : Fin grid0.N, win0_6.index t = ![(grid0.coords t 0).val, 0] := by decide +kernel
theorem idx7 : ∀ t : Fin grid0.N, win0_7.index t = ![(grid0.coords t 0).val, 0] := by decide +kernel

/-- A block's row among all rows. -/
def at_ (t : Fin cfg0.N) (r : Fin 256) : Fin 8192 :=
  ⟨(grid0.coords t 0).val * 256 + r.val, by have : (grid0.coords t 0).val < 32 := (grid0.coords t 0).isLt; omega⟩

theorem blk0 (t : Fin cfg0.N) (r : Fin 256) (n : Fin 4096) : (iblk m c 0 t : Vec Ideal S256x4096 .f32) (ix2 r n) = mix m c (at_ t r) n := by
  unfold mix at_
  blk_ext [iblk, idx0 t]

theorem blk1 (t : Fin cfg0.N) (r : Fin 256) (n : Fin 4096) : (iblk m c 1 t : Vec Ideal S256x4096 .f32) (ix2 r n) = res m c (at_ t r) n := by
  unfold res at_
  blk_ext [iblk, idx1 t]

theorem blk2 (t : Fin cfg0.N) (n : Fin 4096) : (iblk m c 2 t : Vec Ideal S1x4096 .f32) (ix2 0 n) = gain m c n := by
  refine Eq.trans ?_ (V_gain m c 0 n)
  blk_ext [iblk, idx2 t]

theorem blk3 (t : Fin cfg0.N) (n : Fin 4096) : (iblk m c 3 t : Vec Ideal S1x4096 .f32) (ix2 0 n) = bias m c n := by
  refine Eq.trans ?_ (V_bias m c 0 n)
  blk_ext [iblk, idx3 t]

/-- A normed row, from the program's arguments. -/
def val (l : Fin 8192) (n : Fin 4096) : EReal :=
  rowNorm (fun k => Ideal.ofBits .f32 0x3FD744FD#32 * res m c l k + mix m c l k) (gain m c n) (bias m c n) n

theorem blk_val (t : Fin cfg0.N) (r : Fin 256) (n : Fin 4096) :
    rowNorm (fun k => Ideal.ofBits .f32 0x3FD744FD#32 * (iblk m c 1 t : Vec Ideal S256x4096 .f32) (ix2 r k) + (iblk m c 0 t : Vec Ideal S256x4096 .f32) (ix2 r k))
      ((iblk m c 2 t : Vec Ideal S1x4096 .f32) (ix2 0 n)) ((iblk m c 3 t : Vec Ideal S1x4096 .f32) (ix2 0 n)) n = val m c (at_ t r) n := by
  unfold val
  rw [blk2, blk3]
  congr 1
  funext k
  rw [blk0, blk1]

/-- The launch's first two results, from the program's arguments. -/
def resultV : Vec Ideal S8192x4096 .f32 := fun y => val m c (y 0) (y 1)
def resultV' : Vec Ideal S8192x4096 .bf16 := fun y => val m c (y 0) (y 1)

theorem val_at (l : Fin 8192) (n : Fin 4096) (y : S8192x4096.Idx) (e0 : (y 0).val = l.val) (e1 : (y 1).val = n.val) : val m c (y 0) (y 1) = val m c l n := by
  have e0 : y 0 = l := Fin.ext e0
  have e1 : y 1 = n := Fin.ext e1
  rw [e0, e1]

theorem arr_eq : (dats m 0 c).arrAt 6 cfg0.N = resultV m c := by
  refine (dats m 0 c).arrAt_eq_of_covers 6 _ (by decide +kernel) fun t hf y => ?_
  have hi := idx6 t
  obtain ⟨r, n, rfl⟩ : ∃ (r : Fin 256) (n : Fin 4096), y = (ix2 r n : S256x4096.Idx) := ⟨y 0, y 1, eq_ix2 (y : S256x4096.Idx)⟩
  blk_simp
  rw [after0_6]
  refine (out6_apply _ _ _ _ _ _ r n).trans ((blk_val m c t r n).trans (val_at m c _ n _ ?_ ?_).symm)
  · unfold at_
    blk_simp [hi]
  · blk_simp [hi]

theorem arr_eq' : (dats m 0 c).arrAt 7 cfg0.N = resultV' m c := by
  refine (dats m 0 c).arrAt_eq_of_covers 7 _ (by decide +kernel) fun t hf y => ?_
  have hi := idx7 t
  obtain ⟨r, n, rfl⟩ : ∃ (r : Fin 256) (n : Fin 4096), y = (ix2 r n : S256x4096.Idx) := ⟨y 0, y 1, eq_ix2 (y : S256x4096.Idx)⟩
  blk_simp
  rw [after0_7]
  refine (out7_apply _ _ _ _ _ _ r n).trans ((blk_val m c t r n).trans (val_at m c _ n _ ?_ ?_).symm)
  · unfold at_
    blk_simp [hi]
  · blk_simp [hi]

end Cert.LnIdeal.Norm

end
-- ==== Proof.LnRef.lean ====
/- The norm after a mixer: kernel and reference give the same arrays. -/
module

public import proofs.«01_k».proof.Proof.Gen.LnRefIdeal.Run
public import proofs.«01_k».proof.Proof.LnBlock
public import Idealize.ShloMosaic.Lib.Pointwise
public import Idealize.ShloMosaic.Lib.Tactic.CleanTypes

@[expose] public section

set_option maxRecDepth 16384

noncomputable section

namespace Cert.LnRefIdeal.Norm

open Idealize.ShloMosaic Idealize.ShloMosaic.TcCoe Idealize.ShloMosaic.Tactic Cert.LnRefIdeal Cert.LnRefIdeal.Gen Idealize.ShloMosaic.StableHlo
open Cert.LnIdeal.Norm (mean rowNorm)

/-- The rows before the norm. -/
def sumR (y x : FVec Ideal S8192x4096 .f32) : FVec Ideal S8192x4096 .f32 :=
  addf (F := Ideal) (φ := .f32) (mulf (F := Ideal) (φ := .f32) (broadcastInDim S8192x4096 ![] bcast_S_S8192x4096 (constant (F := Ideal) S_ .f32 0x3FD744FD#32)) x) y

/-- A mean along a row. -/
def meanR (z : FVec Ideal S8192x4096 .f32) : FVec Ideal S8192x1 .f32 :=
  Host.divf (F := Ideal) (φ := .f32) (broadcastInDim S8192x1 ![0] bcast_S8192_S8192x1_0 (Host.reduceAdd (F := Ideal) (φ := .f32) z (constant (F := Ideal) S_ .f32 0x00000000#32) reducesTo_S8192x4096_S8192_d1 h_S_)) (broadcastInDim S8192x1 ![] bcast_S_S8192x1 (constant (F := Ideal) S_ .f32 0x45800000#32))

/-- The distances to the mean. -/
def distR (z : FVec Ideal S8192x4096 .f32) : FVec Ideal S8192x4096 .f32 :=
  subf (F := Ideal) (φ := .f32) z (broadcastInDim S8192x4096 ![0, 1] bcast_S8192x1_S8192x4096_0_1 (meanR z))

/-- The norm. -/
def normR (z : FVec Ideal S8192x4096 .f32) (g b : FVec Ideal S4096 .f32) : FVec Ideal S8192x4096 .f32 :=
  addf (F := Ideal) (φ := .f32) (mulf (F := Ideal) (φ := .f32) (mulf (F := Ideal) (φ := .f32) (distR z) (broadcastInDim S8192x4096 ![0, 1] bcast_S8192x1_S8192x4096_0_1 (Host.rsqrt (F := Ideal) (φ := .f32) (addf (F := Ideal) (φ := .f32) (meanR (mulf (F := Ideal) (φ := .f32) (distR z) (distR z))) (broadcastInDim S8192x1 ![] bcast_S_S8192x1 (constant (F := Ideal) S_ .f32 0x3727C5AC#32)))))) (broadcastInDim S8192x4096 ![0, 1] bcast_S1x4096_S8192x4096_0_1 (broadcastInDim S1x4096 ![1] bcast_S4096_S1x4096_1 g))) (broadcastInDim S8192x4096 ![0, 1] bcast_S1x4096_S8192x4096_0_1 (broadcastInDim S1x4096 ![1] bcast_S4096_S1x4096_1 b))

def resultR (y x : Vec Ideal S8192x4096 .f32) (g b : Vec Ideal S4096 .f32) : FVec Ideal S8192x4096 .f32 := normR (sumR y x) g b

def resultR' (y x : Vec Ideal S8192x4096 .f32) (g b : Vec Ideal S4096 .f32) : FVec Ideal S8192x4096 .bf16 :=
  truncf (F := Ideal) .bf16 (resultR y x g b) bitsLt_bf16_f32

theorem sumR_at (y x : FVec Ideal S8192x4096 .f32) (l : Fin 8192) (n : Fin 4096) :
    sumR y x (ix2 l n) = Ideal.ofBits .f32 0x3FD744FD#32 * x (ix2 l n) + y (ix2 l n) := by
  unfold sumR
  pointwise

theorem meanR_at (z : FVec Ideal S8192x4096 .f32) (l : Fin 8192) (i : Fin 1) :
    meanR z (ix2 l i) = mean (fun k => z (ix2 l k)) := by
  unfold meanR mean
  pointwise

theorem distR_at (z : FVec Ideal S8192x4096 .f32) (l : Fin 8192) (n : Fin 4096) :
    distR z (ix2 l n) = z (ix2 l n) - mean (fun k => z (ix2 l k)) := by
  rw [← meanR_at z l 0]
  unfold distR
  pointwise

theorem normR_at (z : FVec Ideal S8192x4096 .f32) (g b : FVec Ideal S4096 .f32) (l : Fin 8192) (n : Fin 4096) :
    normR z g b (ix2 l n) = rowNorm (fun k => z (ix2 l k)) (g (ix1 n)) (b (ix1 n)) n := by
  have hd := distR_at z l
  unfold rowNorm
  simp only [← hd]
  unfold normR
  generalize distR z = d
  have hm := meanR_at (mulf (F := Ideal) (φ := .f32) d d) l 0
  generalize meanR (mulf (F := Ideal) (φ := .f32) d d) = u at hm
  have hm' : u (ix2 l 0) = mean (fun k => d (ix2 l k) * d (ix2 l k)) := hm
  rw [← hm']
  pointwise

theorem resultR_at (y x : Vec Ideal S8192x4096 .f32) (g b : Vec Ideal S4096 .f32) (l : Fin 8192) (n : Fin 4096) :
    resultR y x g b (ix2 l n)
      = rowNorm (fun k => Ideal.ofBits .f32 0x3FD744FD#32 * x (ix2 l k) + y (ix2 l k)) (g (ix1 n)) (b (ix1 n)) n := by
  unfold resultR
  rw [normR_at]
  simp only [sumR_at]

end Cert.LnRefIdeal.Norm

namespace Cert.LnEqual

open Idealize.ShloMosaic Idealize.ShloMosaic.TcCoe Idealize.ShloMosaic.Tactic Cert.LnIdeal

variable (m : (ℓ : Loc nD τ sig) → Buf (Elt Ideal) ℓ) (c : Dev nD)

theorem value_eq : Cert.LnRefIdeal.Norm.resultR (m ((c : Thread nD τ).loc main_arg0)) (m ((c : Thread nD τ).loc main_arg1))
    (m ((c : Thread nD τ).loc main_arg2)) (m ((c : Thread nD τ).loc main_arg3)) = Cert.LnIdeal.Norm.resultV m c := by
  funext y
  obtain ⟨l, n, rfl⟩ : ∃ (l : Fin 8192) (n : Fin 4096), y = ix2 l n := ⟨y 0, y 1, eq_ix2 y⟩
  exact Cert.LnRefIdeal.Norm.resultR_at _ _ _ _ l n

theorem value_eq' : Cert.LnRefIdeal.Norm.resultR' (m ((c : Thread nD τ).loc main_arg0)) (m ((c : Thread nD τ).loc main_arg1))
    (m ((c : Thread nD τ).loc main_arg2)) (m ((c : Thread nD τ).loc main_arg3)) = Cert.LnIdeal.Norm.resultV' m c :=
  value_eq m c

end Cert.LnEqual

end
-- ==== Proof.lean ====
module

public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Win
public import proofs.«01_k».proof.Proof.Gen.Win.Skeleton
public import proofs.«01_k».proof.Proof.Gen.Win.Loops
public import proofs.«01_k».proof.Proof.Gen.Win.Launch
public import proofs.«01_k».proof.Proof.Gen.Win.Points
public import proofs.«01_k».proof.Proof.Gen.Win.Frame
public import proofs.«01_k».proof.Proof.Gen.WinIdeal
public import proofs.«01_k».proof.Proof.Gen.WinIdeal.Skeleton
public import proofs.«01_k».proof.Proof.Gen.WinIdeal.Loops
public import proofs.«01_k».proof.Proof.Gen.WinIdeal.Launch
public import proofs.«01_k».proof.Proof.Gen.WinIdeal.Points
public import proofs.«01_k».proof.Proof.Gen.WinIdeal.Frame
public import proofs.«01_k».proof.Proof.Gen.WinIdeal.Value
public import proofs.«01_k».proof.Proof.Gen.WinRefIdeal
public import proofs.«01_k».proof.Proof.Gen.WinRefIdeal.Run
public import proofs.«01_k».proof.Proof.Gen.Pre_win_finite
public import proofs.«01_k».proof.Proof.Gen.Cmp
public import proofs.«01_k».proof.Proof.Gen.Cmp.Frame
public import proofs.«01_k».proof.Proof.Gen.CmpIdeal
public import proofs.«01_k».proof.Proof.Gen.CmpIdeal.Frame
public import proofs.«01_k».proof.Proof.Gen.CmpIdeal.Value
public import proofs.«01_k».proof.Proof.Gen.CmpRefIdeal
public import proofs.«01_k».proof.Proof.Gen.CmpRefIdeal.Run
public import proofs.«01_k».proof.Proof.Gen.Pre_cmp_finite
public import proofs.«01_k».proof.Proof.Gen.CastIn
public import proofs.«01_k».proof.Proof.Gen.CastIn.Frame
public import proofs.«01_k».proof.Proof.Gen.CastInIdeal
public import proofs.«01_k».proof.Proof.Gen.CastInIdeal.Frame
public import proofs.«01_k».proof.Proof.Gen.CastInIdeal.Value
public import proofs.«01_k».proof.Proof.Gen.CastInRefIdeal
public import proofs.«01_k».proof.Proof.Gen.CastInRefIdeal.Run
public import proofs.«01_k».proof.Proof.Gen.CastOut
public import proofs.«01_k».proof.Proof.Gen.CastOut.Frame
public import proofs.«01_k».proof.Proof.Gen.CastOutIdeal
public import proofs.«01_k».proof.Proof.Gen.CastOutIdeal.Frame
public import proofs.«01_k».proof.Proof.Gen.CastOutIdeal.Value
public import proofs.«01_k».proof.Proof.Gen.CastOutRefIdeal
public import proofs.«01_k».proof.Proof.Gen.CastOutRefIdeal.Run
public import proofs.«01_k».proof.Proof.Gen.Ln
public import proofs.«01_k».proof.Proof.Gen.Ln.Frame
public import proofs.«01_k».proof.Proof.Gen.LnIdeal
public import proofs.«01_k».proof.Proof.Gen.LnIdeal.Frame
public import proofs.«01_k».proof.Proof.Gen.LnIdeal.Value
public import proofs.«01_k».proof.Proof.Gen.LnRefIdeal
public import proofs.«01_k».proof.Proof.Gen.LnRefIdeal.Run
public import proofs.«01_k».proof.Proof.Gen.Qkv
public import proofs.«01_k».proof.Proof.Gen.Qkv.Frame
public import proofs.«01_k».proof.Proof.Gen.QkvIdeal
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.Gen.Up
public import proofs.«01_k».proof.Proof.Gen.Up.Launch
public import proofs.«01_k».proof.Proof.Gen.Up.Skeleton
public import proofs.«01_k».proof.Proof.Gen.UpIdeal
public import proofs.«01_k».proof.Proof.Gen.UpIdeal.Launch
public import proofs.«01_k».proof.Proof.Gen.UpIdeal.Skeleton
public import proofs.«01_k».proof.Proof.Gen.UpRefIdeal
public import proofs.«01_k».proof.Proof.Gen.UpRefIdeal.Run
public import proofs.«01_k».proof.Proof.Gen.Pre_experts_in_range
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutAb
public import proofs.«01_k».proof.Proof.Gen.OutAb.Frame
public import proofs.«01_k».proof.Proof.Gen.OutAbIdeal
public import proofs.«01_k».proof.Proof.Gen.OutAbIdeal.Frame
public import proofs.«01_k».proof.Proof.Gen.OutAbIdeal.Value
public import proofs.«01_k».proof.Proof.Gen.OutAbRefIdeal
public import proofs.«01_k».proof.Proof.Gen.OutAbRefIdeal.Run
public import proofs.«01_k».proof.Proof.Gen.Ab
public import proofs.«01_k».proof.Proof.Gen.Ab.Frame
public import proofs.«01_k».proof.Proof.Gen.AbIdeal
public import proofs.«01_k».proof.Proof.Gen.AbIdeal.Frame
public import proofs.«01_k».proof.Proof.Gen.AbIdeal.Value
public import proofs.«01_k».proof.Proof.Gen.AbRefIdeal
public import proofs.«01_k».proof.Proof.Gen.AbRefIdeal.Run
public import proofs.«01_k».proof.Proof.Gen.Down
public import proofs.«01_k».proof.Proof.Gen.Down.Launch
public import proofs.«01_k».proof.Proof.Gen.Down.Skeleton
public import proofs.«01_k».proof.Proof.Gen.DownIdeal
public import proofs.«01_k».proof.Proof.Gen.DownIdeal.Launch
public import proofs.«01_k».proof.Proof.Gen.DownIdeal.Skeleton
public import proofs.«01_k».proof.Proof.Gen.DownRefIdeal
public import proofs.«01_k».proof.Proof.Gen.DownRefIdeal.Run
public import proofs.«01_k».proof.Proof.Gen.Pre_down_experts_in_range
public import proofs.«01_k».proof.Proof.Equal
public import proofs.«01_k».proof.Proof.QkvEqual
public import proofs.«01_k».proof.Proof.UpOk
public import proofs.«01_k».proof.Proof.UpEqual
public import proofs.«01_k».proof.Proof.DownFrame
public import proofs.«01_k».proof.Proof.DownOk
public import proofs.«01_k».proof.Proof.DownIdealOk
public import proofs.«01_k».proof.Proof.DownEqual
public import proofs.«01_k».proof.Proof.OutEqual
public import proofs.«01_k».proof.Proof.OutAbEqual
public import proofs.«01_k».proof.Proof.AbEqual
public import proofs.«01_k».proof.Proof.WinEqual
public import proofs.«01_k».proof.Proof.CmpEqual
public import proofs.«01_k».proof.Proof.CastInRef
public import proofs.«01_k».proof.Proof.CastOutRef
public import proofs.«01_k».proof.Proof.LnRef
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's frame. -/
theorem frame_reference : Cert.quiescent_ReferenceIdeal (hReferenceIdeal := Cert.ReferenceIdeal.Gen.facts) :=
  fun m g _ => (θ_run (Cert.ReferenceIdeal.defs (F := Ideal)) _ _).mono
    (fun r h => And.intro (fun c => (h c).2) (sem_eq_zero_of_no_sems rfl r.2))
    (Cert.ReferenceIdeal.Value.run (F := Ideal) m g)

/-- The second reference's frame. -/
theorem frame_qkvRef : Cert.quiescent_QkvRefIdeal (hQkvRefIdeal := Cert.QkvRefIdeal.Gen.facts) :=
  fun m g _ => (θ_run (Cert.QkvRefIdeal.defs (F := Ideal)) _ _).mono
    (fun r h => And.intro (fun c => (h c).2) (sem_eq_zero_of_no_sems rfl r.2))
    (Cert.QkvRefIdeal.Value.run (F := Ideal) m g)

/-- The third reference's frame. -/
theorem frame_upRef : Cert.quiescent_UpRefIdeal (hUpRefIdeal := Cert.UpRefIdeal.Gen.facts) :=
  fun m g _ => (θ_run (Cert.UpRefIdeal.defs (F := Ideal)) _ _).mono
    (fun r h => And.intro (fun c => (h c).2) (sem_eq_zero_of_no_sems rfl r.2))
    (Cert.UpRefIdeal.Value.run (F := Ideal) m g)

/-- The fourth reference's frame. -/
theorem frame_downRef : Cert.quiescent_DownRefIdeal (hDownRefIdeal := Cert.DownRefIdeal.Gen.facts) :=
  fun m g _ => (θ_run (Cert.DownRefIdeal.defs (F := Ideal)) _ _).mono
    (fun r h => And.intro (fun c => (h c).2) (sem_eq_zero_of_no_sems rfl r.2))
    (Cert.DownRefIdeal.Value.run (F := Ideal) m g)

/-- The fifth reference's frame. -/
theorem frame_outRef : Cert.quiescent_OutRefIdeal (hOutRefIdeal := Cert.OutRefIdeal.Gen.facts) :=
  fun m g _ => (θ_run (Cert.OutRefIdeal.defs (F := Ideal)) _ _).mono
    (fun r h => And.intro (fun c => (h c).2) (sem_eq_zero_of_no_sems rfl r.2))
    (Cert.OutRefIdeal.Value.run (F := Ideal) m g)

/-- The sixth reference's frame. -/
theorem frame_outAbRef : Cert.quiescent_OutAbRefIdeal (hOutAbRefIdeal := Cert.OutAbRefIdeal.Gen.facts) :=
  fun m g _ => (θ_run (Cert.OutAbRefIdeal.defs (F := Ideal)) _ _).mono
    (fun r h => And.intro (fun c => (h c).2) (sem_eq_zero_of_no_sems rfl r.2))
    (Cert.OutAbRefIdeal.Value.run (F := Ideal) m g)

/-- The seventh reference's frame. -/
theorem frame_abRef : Cert.quiescent_AbRefIdeal (hAbRefIdeal := Cert.AbRefIdeal.Gen.facts) :=
  fun m g _ => (θ_run (Cert.AbRefIdeal.defs (F := Ideal)) _ _).mono
    (fun r h => And.intro (fun c => (h c).2) (sem_eq_zero_of_no_sems rfl r.2))
    (Cert.AbRefIdeal.Value.run (F := Ideal) m g)

/-- The eighth reference's frame. -/
theorem frame_winRef : Cert.quiescent_WinRefIdeal (hWinRefIdeal := Cert.WinRefIdeal.Gen.facts) :=
  fun m g _ => (θ_run (Cert.WinRefIdeal.defs (F := Ideal)) _ _).mono
    (fun r h => And.intro (fun c => (h c).2) (sem_eq_zero_of_no_sems rfl r.2))
    (Cert.WinRefIdeal.Value.run (F := Ideal) m g)

/-- The ninth reference's frame. -/
theorem frame_cmpRef : Cert.quiescent_CmpRefIdeal (hCmpRefIdeal := Cert.CmpRefIdeal.Gen.facts) :=
  fun m g _ => (θ_run (Cert.CmpRefIdeal.defs (F := Ideal)) _ _).mono
    (fun r h => And.intro (fun c => (h c).2) (sem_eq_zero_of_no_sems rfl r.2))
    (Cert.CmpRefIdeal.Value.run (F := Ideal) m g)

/-- The tenth reference's frame. -/
theorem frame_castInRef : Cert.quiescent_CastInRefIdeal (hCastInRefIdeal := Cert.CastInRefIdeal.Gen.facts) :=
  fun m g _ => (θ_run (Cert.CastInRefIdeal.defs (F := Ideal)) _ _).mono
    (fun r h => And.intro (fun c => (h c).2) (sem_eq_zero_of_no_sems rfl r.2))
    (Cert.CastInRefIdeal.Value.run (F := Ideal) m g)

/-- The eleventh reference's frame. -/
theorem frame_castOutRef : Cert.quiescent_CastOutRefIdeal (hCastOutRefIdeal := Cert.CastOutRefIdeal.Gen.facts) :=
  fun m g _ => (θ_run (Cert.CastOutRefIdeal.defs (F := Ideal)) _ _).mono
    (fun r h => And.intro (fun c => (h c).2) (sem_eq_zero_of_no_sems rfl r.2))
    (Cert.CastOutRefIdeal.Value.run (F := Ideal) m g)

/-- The twelfth reference's frame. -/
theorem frame_lnRef : Cert.quiescent_LnRefIdeal (hLnRefIdeal := Cert.LnRefIdeal.Gen.facts) :=
  fun m g _ => (θ_run (Cert.LnRefIdeal.defs (F := Ideal)) _ _).mono
    (fun r h => And.intro (fun c => (h c).2.2) (sem_eq_zero_of_no_sems rfl r.2))
    (Cert.LnRefIdeal.Value.run (F := Ideal) m g)

/-- The attention's results are equal. -/
theorem algebraic_kernel : Cert.algebraic_KernelIdeal_ReferenceIdeal_pre_finite (hKernelIdeal := Cert.KernelIdeal.Gen.facts)
    (hReferenceIdeal := Cert.ReferenceIdeal.Gen.facts) (hPre_finite := Cert.Pre_finite.Gen.facts) := fun m g m' g' hpre hargs => by
  refine ⟨fun c => Cert.KernelIdeal.Band.resultV m c, ?_, ?_⟩
  · exact (θ_run _ _ _).mono (fun r h c => ⟨(h c).1.trans (Cert.KernelIdeal.Band.arr_eq m c), (h c).2⟩)
      (Cert.KernelIdeal.Value.run_blocks (F := Ideal) m g)
  · exact (θ_run _ _ _).mono (fun r h c => ⟨(h c).1.trans (Cert.Equal.result_eq m m' c
      (Cert.KernelIdeal.Band.reals m c hpre) (hargs c).1 (hargs c).2.1 (hargs c).2.2), (h c).2⟩)
      (Cert.ReferenceIdeal.Value.run (F := Ideal) m' g')

/-- The projection's results are equal. -/
theorem algebraic_qkv : Cert.algebraic_QkvIdeal_QkvRefIdeal (hQkvIdeal := Cert.QkvIdeal.Gen.facts)
    (hQkvRefIdeal := Cert.QkvRefIdeal.Gen.facts) := fun m g m' g' _ hargs => by
  refine ⟨fun c => Cert.QkvIdeal.Band.resultV m c, ?_, ?_⟩
  · exact (θ_run _ _ _).mono (fun r h c => ⟨(h c).1.trans (Cert.QkvIdeal.Band.arr_eq m c), (h c).2⟩)
      (Cert.QkvIdeal.Value.run_blocks (F := Ideal) m g)
  · refine (θ_run _ _ _).mono (fun r h c => ⟨(h c).1.trans ?_, (h c).2⟩)
      (Cert.QkvRefIdeal.Value.run (F := Ideal) m' g')
    rw [(hargs c).1, (hargs c).2]
    exact Cert.QkvEqual.value_eq m c

/-- The gated up-projection's results are equal. -/
theorem algebraic_up : Cert.algebraic_UpIdeal_UpRefIdeal (hUpIdeal := Cert.UpIdeal.Gen.facts)
    (hUpRefIdeal := Cert.UpRefIdeal.Gen.facts) (hPre_experts_in_range := Cert.Pre_experts_in_range.Gen.facts) := fun m g m' g' hpre hargs => by
  have hr := Cert.UpIdeal.Up.experts_lt m hpre
  have hO := Cert.UpIdeal.Up.ok_of m hr
  refine ⟨fun c => Cert.UpIdeal.Up.resultV m c hr, ?_, ?_⟩
  · exact (θ_run _ _ _).mono (fun r h c => ⟨((h.1 c).1 3).trans (Cert.UpIdeal.Up.arr_eq m hO c hr), h.2 c⟩)
      (θ_run_and (Cert.UpIdeal.Up.run_main m g hO) (Cert.UpIdeal.Up.unchanged m g hO))
  · refine (θ_run _ _ _).mono (fun r h c => ⟨(h c).1.trans ?_, (h c).2⟩)
      (Cert.UpRefIdeal.Value.run (F := Ideal) m' g')
    rw [(hargs c).1, (hargs c).2.1, (hargs c).2.2.1, (hargs c).2.2.2.1, (hargs c).2.2.2.2]
    exact Cert.UpEqual.value_eq m c hr

/-- The down-projection's results are equal. -/
theorem algebraic_down : Cert.algebraic_DownIdeal_DownRefIdeal (hDownIdeal := Cert.DownIdeal.Gen.facts)
    (hDownRefIdeal := Cert.DownRefIdeal.Gen.facts) (hPre_down_experts_in_range := Cert.Pre_down_experts_in_range.Gen.facts) := fun m g m' g' hpre hargs => by
  have hr := Cert.DownIdeal.Down.experts_lt m hpre
  have hO := Cert.DownIdeal.Down.ok_of m hr
  refine ⟨fun c => Cert.DownIdeal.Down.resultV m c hr, ?_, ?_⟩
  · exact (θ_run _ _ _).mono (fun r h c => ⟨((h.1 c).1 2).trans (Cert.DownIdeal.Down.arr_eq m hO c hr), h.2 c⟩)
      (θ_run_and (Cert.DownIdeal.Down.run_main m g hO) (Cert.DownIdeal.Down.unchanged m g hO))
  · refine (θ_run _ _ _).mono (fun r h c => ⟨(h c).1.trans ?_, (h c).2⟩)
      (Cert.DownRefIdeal.Value.run (F := Ideal) m' g')
    rw [(hargs c).1, (hargs c).2.1, (hargs c).2.2.1, (hargs c).2.2.2]
    exact Cert.DownEqual.value_eq m c hr

/-- The third mixer's output projection's results are equal. -/
theorem algebraic_out : Cert.algebraic_OutIdeal_OutRefIdeal (hOutIdeal := Cert.OutIdeal.Gen.facts)
    (hOutRefIdeal := Cert.OutRefIdeal.Gen.facts) := fun m g m' g' _ hargs => by
  refine ⟨fun c => Cert.OutIdeal.Heads.resultV m c, ?_, ?_⟩
  · exact (θ_run _ _ _).mono (fun r h c => ⟨(h c).1.trans (Cert.OutIdeal.Heads.arr_eq m c), (h c).2⟩)
      (Cert.OutIdeal.Value.run_blocks (F := Ideal) m g)
  · refine (θ_run _ _ _).mono (fun r h c => ⟨(h c).1.trans ?_, (h c).2⟩)
      (Cert.OutRefIdeal.Value.run (F := Ideal) m' g')
    rw [(hargs c).1, (hargs c).2]
    exact Cert.OutEqual.value_eq m c

/-- The first two mixers' output projection's results are equal. -/
theorem algebraic_outAb : Cert.algebraic_OutAbIdeal_OutAbRefIdeal (hOutAbIdeal := Cert.OutAbIdeal.Gen.facts)
    (hOutAbRefIdeal := Cert.OutAbRefIdeal.Gen.facts) := fun m g m' g' _ hargs => by
  refine ⟨fun c => Cert.OutAbIdeal.Heads.resultV m c, ?_, ?_⟩
  · exact (θ_run _ _ _).mono (fun r h c => ⟨(h c).1.trans (Cert.OutAbIdeal.Heads.arr_eq m c), (h c).2⟩)
      (Cert.OutAbIdeal.Value.run_blocks (F := Ideal) m g)
  · refine (θ_run _ _ _).mono (fun r h c => ⟨(h c).1.trans ?_, (h c).2⟩)
      (Cert.OutAbRefIdeal.Value.run (F := Ideal) m' g')
    rw [(hargs c).1, (hargs c).2.1, (hargs c).2.2]
    exact Cert.OutAbEqual.value_eq m c

/-- The first two mixers' input projection's results are equal. -/
theorem algebraic_ab : Cert.algebraic_AbIdeal_AbRefIdeal (hAbIdeal := Cert.AbIdeal.Gen.facts)
    (hAbRefIdeal := Cert.AbRefIdeal.Gen.facts) := fun m g m' g' _ hargs => by
  refine ⟨fun c => Cert.AbIdeal.Heads.resultV m c, ?_, ?_⟩
  · exact (θ_run _ _ _).mono (fun r h c => ⟨(h c).1.trans (Cert.AbIdeal.Heads.arr_eq m c), (h c).2⟩)
      (Cert.AbIdeal.Value.run_blocks (F := Ideal) m g)
  · refine (θ_run _ _ _).mono (fun r h c => ⟨(h c).1.trans ?_, (h c).2⟩)
      (Cert.AbRefIdeal.Value.run (F := Ideal) m' g')
    rw [(hargs c).1, (hargs c).2]
    exact Cert.AbEqual.value_eq m c

/-- The window branch's results are equal. -/
theorem algebraic_win : Cert.algebraic_WinIdeal_WinRefIdeal_pre_win_finite (hWinIdeal := Cert.WinIdeal.Gen.facts)
    (hWinRefIdeal := Cert.WinRefIdeal.Gen.facts) (hPre_win_finite := Cert.Pre_win_finite.Gen.facts) := fun m g m' g' hpre hargs => by
  refine ⟨fun c => Cert.WinIdeal.Win.resultV m c, ?_, ?_⟩
  · exact (θ_run _ _ _).mono (fun r h c => ⟨(h c).1.trans (Cert.WinIdeal.Win.arr_eq m c), (h c).2⟩)
      (Cert.WinIdeal.Value.run_blocks (F := Ideal) m g)
  · exact (θ_run _ _ _).mono (fun r h c => ⟨(h c).1.trans (Cert.WinEqual.result_eq m m' c
      (Cert.WinIdeal.Win.reals m c hpre) (hargs c).1 (hargs c).2.1 (hargs c).2.2), (h c).2⟩)
      (Cert.WinRefIdeal.Value.run (F := Ideal) m' g')

/-- The compression's results are equal. -/
theorem algebraic_cmp : Cert.algebraic_CmpIdeal_CmpRefIdeal_pre_cmp_finite (hCmpIdeal := Cert.CmpIdeal.Gen.facts)
    (hCmpRefIdeal := Cert.CmpRefIdeal.Gen.facts) (hPre_cmp_finite := Cert.Pre_cmp_finite.Gen.facts) := fun m g m' g' hpre hargs => by
  refine ⟨fun c => Cert.CmpIdeal.Cmp.resultV m c, ?_, ?_⟩
  · exact (θ_run _ _ _).mono (fun r h c => ⟨(h c).1.trans (Cert.CmpIdeal.Cmp.arr_eq m c), (h c).2⟩)
      (Cert.CmpIdeal.Value.run_blocks (F := Ideal) m g)
  · exact (θ_run _ _ _).mono (fun r h c => ⟨(h c).1.trans (Cert.CmpEqual.result_eq m m' c
      (Cert.CmpIdeal.Cmp.reals m c hpre) (hargs c).1 (hargs c).2.1 (hargs c).2.2.1 (hargs c).2.2.2.1
      (hargs c).2.2.2.2.1 (hargs c).2.2.2.2.2), (h c).2⟩)
      (Cert.CmpRefIdeal.Value.run (F := Ideal) m' g')

/-- The results of the cast of the input weights are equal. -/
theorem algebraic_castIn : Cert.algebraic_CastInIdeal_CastInRefIdeal (hCastInIdeal := Cert.CastInIdeal.Gen.facts)
    (hCastInRefIdeal := Cert.CastInRefIdeal.Gen.facts) := fun m g m' g' _ hargs => by
  refine ⟨fun c => Cert.CastInIdeal.Cast.resultV m c, ?_, ?_⟩
  · exact (θ_run _ _ _).mono (fun r h c => ⟨(h c).1.trans (Cert.CastInIdeal.Cast.arr_eq m c), (h c).2⟩)
      (Cert.CastInIdeal.Value.run_blocks (F := Ideal) m g)
  · refine (θ_run _ _ _).mono (fun r h c => ⟨(h c).1.trans ?_, (h c).2⟩)
      (Cert.CastInRefIdeal.Value.run (F := Ideal) m' g')
    rw [hargs c]
    exact Cert.CastInEqual.value_eq m c

/-- The results of the cast of the output weights are equal. -/
theorem algebraic_castOut : Cert.algebraic_CastOutIdeal_CastOutRefIdeal (hCastOutIdeal := Cert.CastOutIdeal.Gen.facts)
    (hCastOutRefIdeal := Cert.CastOutRefIdeal.Gen.facts) := fun m g m' g' _ hargs => by
  refine ⟨fun c => Cert.CastOutIdeal.Cast.resultV m c, ?_, ?_⟩
  · exact (θ_run _ _ _).mono (fun r h c => ⟨(h c).1.trans (Cert.CastOutIdeal.Cast.arr_eq m c), (h c).2⟩)
      (Cert.CastOutIdeal.Value.run_blocks (F := Ideal) m g)
  · refine (θ_run _ _ _).mono (fun r h c => ⟨(h c).1.trans ?_, (h c).2⟩)
      (Cert.CastOutRefIdeal.Value.run (F := Ideal) m' g')
    rw [hargs c]
    exact Cert.CastOutEqual.value_eq m c

/-- The norm's results are equal. -/
theorem algebraic_ln : Cert.algebraic_LnIdeal_LnRefIdeal (hLnIdeal := Cert.LnIdeal.Gen.facts)
    (hLnRefIdeal := Cert.LnRefIdeal.Gen.facts) := fun m g m' g' _ hargs => by
  refine ⟨fun c => Cert.LnIdeal.Norm.resultV m c, fun c => Cert.LnIdeal.Norm.resultV' m c, ?_, ?_⟩
  · exact (θ_run _ _ _).mono (fun r h c => ⟨(h c).1.trans (Cert.LnIdeal.Norm.arr_eq m c),
      (h c).2.1.trans (Cert.LnIdeal.Norm.arr_eq' m c), (h c).2.2.2.2⟩)
      (Cert.LnIdeal.Value.run_blocks (F := Ideal) m g)
  · refine (θ_run _ _ _).mono (fun r h c => ⟨(h c).1.trans ?_, (h c).2.1.trans ?_, (h c).2.2⟩)
      (Cert.LnRefIdeal.Value.run (F := Ideal) m' g')
    · rw [(hargs c).1, (hargs c).2.1, (hargs c).2.2.1, (hargs c).2.2.2.1]
      exact Cert.LnEqual.value_eq m c
    · rw [(hargs c).1, (hargs c).2.1, (hargs c).2.2.1, (hargs c).2.2.2.1]
      exact Cert.LnEqual.value_eq' m c

theorem claim : Cert.Claim := ⟨Cert.Kernel.Gen.facts, Cert.KernelIdeal.Gen.facts, Cert.ReferenceIdeal.Gen.facts,
  Cert.Qkv.Gen.facts, Cert.QkvIdeal.Gen.facts, Cert.QkvRefIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.Out.Gen.facts, Cert.OutIdeal.Gen.facts, Cert.OutRefIdeal.Gen.facts,
  Cert.OutAb.Gen.facts, Cert.OutAbIdeal.Gen.facts, Cert.OutAbRefIdeal.Gen.facts,
  Cert.Ab.Gen.facts, Cert.AbIdeal.Gen.facts, Cert.AbRefIdeal.Gen.facts,
  Cert.Win.Gen.facts, Cert.WinIdeal.Gen.facts, Cert.WinRefIdeal.Gen.facts,
  Cert.Cmp.Gen.facts, Cert.CmpIdeal.Gen.facts, Cert.CmpRefIdeal.Gen.facts,
  Cert.CastIn.Gen.facts, Cert.CastInIdeal.Gen.facts, Cert.CastInRefIdeal.Gen.facts,
  Cert.CastOut.Gen.facts, Cert.CastOutIdeal.Gen.facts, Cert.CastOutRefIdeal.Gen.facts,
  Cert.Ln.Gen.facts, Cert.LnIdeal.Gen.facts, Cert.LnRefIdeal.Gen.facts,
  Cert.Pre_finite.Gen.facts, Cert.Pre_experts_in_range.Gen.facts, Cert.Pre_down_experts_in_range.Gen.facts, Cert.Pre_win_finite.Gen.facts, Cert.Pre_cmp_finite.Gen.facts,
  fun m g _ => Cert.Kernel.Gen.frame m g, fun m g _ => Cert.KernelIdeal.Gen.frame m g,
  fun m g _ => Cert.KernelIdeal.Gen.frame m g, frame_reference, fun m g _ => frame_reference m g trivial,
  fun m g _ => Cert.Qkv.Gen.frame m g, fun m g _ => Cert.QkvIdeal.Gen.frame m g, frame_qkvRef,
  fun m g h => Cert.Up.Up.frame m g (Cert.Up.Up.ok_of m (Cert.Up.Up.experts_lt m h)),
  fun m g h => Cert.UpIdeal.Up.frame m g (Cert.UpIdeal.Up.ok_of m (Cert.UpIdeal.Up.experts_lt m h)),
  frame_upRef, fun m g _ => frame_upRef m g trivial,
  fun m g h => Cert.Down.Down.frame m g (Cert.Down.Down.ok_of m (Cert.Down.Down.experts_lt m h)),
  fun m g h => Cert.DownIdeal.Down.frame m g (Cert.DownIdeal.Down.ok_of m (Cert.DownIdeal.Down.experts_lt m h)),
  frame_downRef, fun m g _ => frame_downRef m g trivial,
  fun m g _ => Cert.Out.Gen.frame m g, fun m g _ => Cert.OutIdeal.Gen.frame m g, frame_outRef,
  fun m g _ => Cert.OutAb.Gen.frame m g, fun m g _ => Cert.OutAbIdeal.Gen.frame m g, frame_outAbRef,
  fun m g _ => Cert.Ab.Gen.frame m g, fun m g _ => Cert.AbIdeal.Gen.frame m g, frame_abRef,
  fun m g _ => Cert.Win.Gen.frame m g, fun m g _ => Cert.WinIdeal.Gen.frame m g,
  fun m g _ => Cert.WinIdeal.Gen.frame m g, frame_winRef, fun m g _ => frame_winRef m g trivial,
  fun m g _ => Cert.Cmp.Gen.frame m g, fun m g _ => Cert.CmpIdeal.Gen.frame m g,
  fun m g _ => Cert.CmpIdeal.Gen.frame m g, frame_cmpRef, fun m g _ => frame_cmpRef m g trivial,
  fun m g _ => Cert.CastIn.Gen.frame m g, fun m g _ => Cert.CastInIdeal.Gen.frame m g, frame_castInRef,
  fun m g _ => Cert.CastOut.Gen.frame m g, fun m g _ => Cert.CastOutIdeal.Gen.frame m g, frame_castOutRef,
  fun m g _ => Cert.Ln.Gen.frame m g, fun m g _ => Cert.LnIdeal.Gen.frame m g, frame_lnRef,
  IdealRules.named_const.statement _ _ _ _ _ rfl, algebraic_kernel,
  IdealRules.named_const.statement _ _ _ _ _ rfl, algebraic_qkv,
  trivial, algebraic_up,
  trivial, algebraic_down,
  trivial, algebraic_out,
  trivial, algebraic_outAb,
  trivial, algebraic_ab,
  IdealRules.named_const.statement _ _ _ _ _ rfl, algebraic_win,
  trivial, algebraic_cmp,
  IdealRules.named_const.statement _ _ _ _ _ rfl, algebraic_castIn,
  trivial, algebraic_castOut,
  trivial, algebraic_ln⟩

end Cert.Proof

end
